-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x10496 : Shape := ⟨3, ![48, 1, 10496]⟩
abbrev S10496x1296 : Shape := ⟨2, ![10496, 1296]⟩
abbrev S82x1296 : Shape := ⟨2, ![82, 1296]⟩
abbrev S82x10368 : Shape := ⟨2, ![82, 10368]⟩
abbrev S10496 : Shape := ⟨1, ![10496]⟩
abbrev S4 : Shape := ⟨1, ![4]⟩
abbrev S1x1x10496 : Shape := ⟨3, ![1, 1, 10496]⟩
abbrev S48x41x256 : Shape := ⟨3, ![48, 41, 256]⟩
abbrev S41x48x256 : Shape := ⟨3, ![41, 48, 256]⟩
abbrev S82x1296x8 : Shape := ⟨3, ![82, 1296, 8]⟩
abbrev S_ : Shape := ⟨0, ![]⟩
abbrev S4x1 : Shape := ⟨2, ![4, 1]⟩
abbrev S82x1296x4 : Shape := ⟨3, ![82, 1296, 4]⟩
abbrev S82x5184 : Shape := ⟨2, ![82, 5184]⟩
abbrev S82x1296x1 : Shape := ⟨3, ![82, 1296, 1]⟩
abbrev S82x5120 : Shape := ⟨2, ![82, 5120]⟩
abbrev S82x64 : Shape := ⟨2, ![82, 64]⟩
abbrev S82x5248 : Shape := ⟨2, ![82, 5248]⟩
abbrev S82x1x5248 : Shape := ⟨3, ![82, 1, 5248]⟩
abbrev S82x4x5248 : Shape := ⟨3, ![82, 4, 5248]⟩
abbrev S1296x10496 : Shape := ⟨2, ![1296, 10496]⟩
abbrev S48x10240 : Shape := ⟨2, ![48, 10240]⟩
abbrev S48x128 : Shape := ⟨2, ![48, 128]⟩
abbrev S6x1296x256 : Shape := ⟨3, ![6, 1296, 256]⟩
abbrev S41x2x32x128 : Shape := ⟨4, ![41, 2, 32, 128]⟩
abbrev S6 : Shape := ⟨1, ![6]⟩
abbrev S1 : Shape := ⟨1, ![1]⟩
abbrev S1x1296x256 : Shape := ⟨3, ![1, 1296, 256]⟩
abbrev S1296x256 : Shape := ⟨2, ![1296, 256]⟩
abbrev S32x128 : Shape := ⟨2, ![32, 128]⟩
abbrev S1x32x128 : Shape := ⟨3, ![1, 32, 128]⟩
abbrev S128x128 : Shape := ⟨2, ![128, 128]⟩
abbrev S1x1x32x128 : Shape := ⟨4, ![1, 1, 32, 128]⟩
abbrev S1x16x128 : Shape := ⟨3, ![1, 16, 128]⟩
abbrev S16x128 : Shape := ⟨2, ![16, 128]⟩
abbrev S1x48x256 : Shape := ⟨3, ![1, 48, 256]⟩
abbrev S48x256 : Shape := ⟨2, ![48, 256]⟩
abbrev S1x1x128 : Shape := ⟨3, ![1, 1, 128]⟩
abbrev S1x128 : Shape := ⟨2, ![1, 128]⟩
abbrev S8x16x128 : Shape := ⟨3, ![8, 16, 128]⟩
abbrev S128x256 : Shape := ⟨2, ![128, 256]⟩
abbrev S256x256 : Shape := ⟨2, ![256, 256]⟩
abbrev S48x40x2x32x4 : Shape := ⟨5, ![48, 40, 2, 32, 4]⟩
abbrev S48x2x16x4 : Shape := ⟨4, ![48, 2, 16, 4]⟩
abbrev S48x40x1x32x1 : Shape := ⟨5, ![48, 40, 1, 32, 1]⟩
abbrev S48x40x32 : Shape := ⟨3, ![48, 40, 32]⟩
abbrev S48x40x32x1 : Shape := ⟨4, ![48, 40, 32, 1]⟩
abbrev S48x40x32x8 : Shape := ⟨4, ![48, 40, 32, 8]⟩
abbrev S48x1x16x1 : Shape := ⟨4, ![48, 1, 16, 1]⟩
abbrev S48x16 : Shape := ⟨2, ![48, 16]⟩
abbrev S48x16x1 : Shape := ⟨3, ![48, 16, 1]⟩
abbrev S48x16x8 : Shape := ⟨3, ![48, 16, 8]⟩
abbrev S48x10368 : Shape := ⟨2, ![48, 10368]⟩
abbrev S48x1x10368 : Shape := ⟨3, ![48, 1, 10368]⟩

abbrev nBuf : Space → Nat
  | .hbm => 195
  | .vmem => 6
  | .smem => 0
  | _ => 0

abbrev hbmTy0_0 (i : Nat) : BufTy := match i % 128 with
  | 0 => ⟨S48x1x10496, .bf16⟩
  | 1 => ⟨S10496x1296, .i32⟩
  | 2 => ⟨S82x1296, .i32⟩
  | 3 => ⟨S82x10368, .bf16⟩
  | 4 => ⟨S10496, .bf16⟩
  | 5 => ⟨S4, .i32⟩
  | 6 => ⟨S48x1x10496, .f32⟩
  | 7 => ⟨S10496, .f32⟩
  | 8 => ⟨S1x1x10496, .f32⟩
  | 9 => ⟨S48x1x10496, .f32⟩
  | 10 => ⟨S48x1x10496, .f32⟩
  | 11 => ⟨S48x1x10496, .bf16⟩
  | 12 => ⟨S48x41x256, .bf16⟩
  | 13 => ⟨S41x48x256, .bf16⟩
  | 14 => ⟨S82x1296x8, .bf16⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S4x1, .i32⟩
  | 23 => ⟨S82x1296x4, .bf16⟩
  | 24 => ⟨S82x5184, .bf16⟩
  | 25 => ⟨S_, .i32⟩
  | 26 => ⟨S4, .i32⟩
  | 27 => ⟨S4, .i32⟩
  | 28 => ⟨S_, .i32⟩
  | 29 => ⟨S4, .i32⟩
  | 30 => ⟨S4, .i1⟩
  | 31 => ⟨S_, .i32⟩
  | 32 => ⟨S4, .i32⟩
  | 33 => ⟨S4, .i32⟩
  | 34 => ⟨S4, .i32⟩
  | 35 => ⟨S4x1, .i32⟩
  | 36 => ⟨S82x1296x4, .bf16⟩
  | 37 => ⟨S_, .bf16⟩
  | 38 => ⟨S82x1296x4, .bf16⟩
  | 39 => ⟨S82x1296x4, .bf16⟩
  | 40 => ⟨S82x5184, .bf16⟩
  | 41 => ⟨S_, .i32⟩
  | 42 => ⟨S82x1296, .i32⟩
  | 43 => ⟨S82x1296, .i32⟩
  | 44 => ⟨S_, .i32⟩
  | 45 => ⟨S82x1296, .i32⟩
  | 46 => ⟨S82x1296, .i32⟩
  | 47 => ⟨S_, .i32⟩
  | 48 => ⟨S82x1296, .i32⟩
  | 49 => ⟨S82x1296, .i32⟩
  | 50 => ⟨S_, .i32⟩
  | 51 => ⟨S82x1296, .i32⟩
  | 52 => ⟨S82x1296, .i32⟩
  | 53 => ⟨S_, .i32⟩
  | 54 => ⟨S82x1296, .i32⟩
  | 55 => ⟨S82x1296, .i32⟩
  | 56 => ⟨S_, .i32⟩
  | 57 => ⟨S82x1296, .i32⟩
  | 58 => ⟨S82x1296, .i32⟩
  | 59 => ⟨S_, .i32⟩
  | 60 => ⟨S82x1296, .i32⟩
  | 61 => ⟨S82x1296, .i32⟩
  | 62 => ⟨S_, .i32⟩
  | 63 => ⟨S82x1296, .i32⟩
  | 64 => ⟨S82x1296, .i32⟩
  | 65 => ⟨S82x1296x1, .i32⟩
  | 66 => ⟨S82x1296x1, .i32⟩
  | 67 => ⟨S82x1296x1, .i32⟩
  | 68 => ⟨S82x1296x1, .i32⟩
  | 69 => ⟨S82x1296x4, .i32⟩
  | 70 => ⟨S82x5184, .i32⟩
  | 71 => ⟨S_, .i32⟩
  | 72 => ⟨S82x1296, .i32⟩
  | 73 => ⟨S82x1296, .i32⟩
  | 74 => ⟨S_, .i32⟩
  | 75 => ⟨S82x1296, .i32⟩
  | 76 => ⟨S82x1296, .i32⟩
  | 77 => ⟨S_, .i32⟩
  | 78 => ⟨S82x1296, .i32⟩
  | 79 => ⟨S82x1296, .i32⟩
  | 80 => ⟨S_, .i32⟩
  | 81 => ⟨S82x1296, .i32⟩
  | 82 => ⟨S82x1296, .i32⟩
  | 83 => ⟨S_, .i32⟩
  | 84 => ⟨S82x1296, .i32⟩
  | 85 => ⟨S82x1296, .i32⟩
  | 86 => ⟨S_, .i32⟩
  | 87 => ⟨S82x1296, .i32⟩
  | 88 => ⟨S82x1296, .i32⟩
  | 89 => ⟨S_, .i32⟩
  | 90 => ⟨S82x1296, .i32⟩
  | 91 => ⟨S82x1296, .i32⟩
  | 92 => ⟨S_, .i32⟩
  | 93 => ⟨S82x1296, .i32⟩
  | 94 => ⟨S82x1296, .i32⟩
  | 95 => ⟨S_, .i32⟩
  | 96 => ⟨S82x1296, .i32⟩
  | 97 => ⟨S82x1296, .i32⟩
  | 98 => ⟨S_, .i32⟩
  | 99 => ⟨S82x1296, .i32⟩
  | 100 => ⟨S82x1296, .i32⟩
  | 101 => ⟨S_, .i32⟩
  | 102 => ⟨S82x1296, .i32⟩
  | 103 => ⟨S82x1296, .i32⟩
  | 104 => ⟨S_, .i32⟩
  | 105 => ⟨S82x1296, .i32⟩
  | 106 => ⟨S82x1296, .i32⟩
  | 107 => ⟨S82x1296x1, .i32⟩
  | 108 => ⟨S82x1296x1, .i32⟩
  | 109 => ⟨S82x1296x1, .i32⟩
  | 110 => ⟨S82x1296x1, .i32⟩
  | 111 => ⟨S82x1296x4, .i32⟩
  | 112 => ⟨S82x5184, .i32⟩
  | 113 => ⟨S82x5184, .bf16⟩
  | 114 => ⟨S82x5184, .bf16⟩
  | 115 => ⟨S82x5120, .bf16⟩
  | 116 => ⟨S82x64, .bf16⟩
  | 117 => ⟨S82x64, .bf16⟩
  | 118 => ⟨S82x5248, .bf16⟩
  | 119 => ⟨S82x5120, .bf16⟩
  | 120 => ⟨S82x64, .bf16⟩
  | 121 => ⟨S82x64, .bf16⟩
  | 122 => ⟨S82x5248, .bf16⟩
  | 123 => ⟨S82x5120, .bf16⟩
  | 124 => ⟨S82x64, .bf16⟩
  | 125 => ⟨S82x64, .bf16⟩
  | 126 => ⟨S82x5248, .bf16⟩
  | 127 => ⟨S82x5120, .bf16⟩
  | _ => ⟨S48x1x10496, .bf16⟩

abbrev hbmTy0_1 (i : Nat) : BufTy := match i % 128 with
  | 0 => ⟨S82x64, .bf16⟩
  | 1 => ⟨S82x64, .bf16⟩
  | 2 => ⟨S82x5248, .bf16⟩
  | 3 => ⟨S82x1x5248, .bf16⟩
  | 4 => ⟨S82x1x5248, .bf16⟩
  | 5 => ⟨S82x1x5248, .bf16⟩
  | 6 => ⟨S82x1x5248, .bf16⟩
  | 7 => ⟨S82x4x5248, .bf16⟩
  | 8 => ⟨S1296x10496, .i32⟩
  | 9 => ⟨S48x10240, .bf16⟩
  | 10 => ⟨S48x128, .bf16⟩
  | 11 => ⟨S48x40x2x32x4, .bf16⟩
  | 12 => ⟨S48x2x16x4, .bf16⟩
  | 13 => ⟨S48x40x1x32x1, .bf16⟩
  | 14 => ⟨S48x40x32, .bf16⟩
  | 15 => ⟨S48x40x1x32x1, .bf16⟩
  | 16 => ⟨S48x40x32, .bf16⟩
  | 17 => ⟨S48x40x1x32x1, .bf16⟩
  | 18 => ⟨S48x40x32, .bf16⟩
  | 19 => ⟨S48x40x1x32x1, .bf16⟩
  | 20 => ⟨S48x40x32, .bf16⟩
  | 21 => ⟨S48x40x1x32x1, .bf16⟩
  | 22 => ⟨S48x40x32, .bf16⟩
  | 23 => ⟨S48x40x1x32x1, .bf16⟩
  | 24 => ⟨S48x40x32, .bf16⟩
  | 25 => ⟨S48x40x1x32x1, .bf16⟩
  | 26 => ⟨S48x40x32, .bf16⟩
  | 27 => ⟨S48x40x1x32x1, .bf16⟩
  | 28 => ⟨S48x40x32, .bf16⟩
  | 29 => ⟨S48x40x32x1, .bf16⟩
  | 30 => ⟨S48x40x32x1, .bf16⟩
  | 31 => ⟨S48x40x32x1, .bf16⟩
  | 32 => ⟨S48x40x32x1, .bf16⟩
  | 33 => ⟨S48x40x32x1, .bf16⟩
  | 34 => ⟨S48x40x32x1, .bf16⟩
  | 35 => ⟨S48x40x32x1, .bf16⟩
  | 36 => ⟨S48x40x32x1, .bf16⟩
  | 37 => ⟨S48x40x32x8, .bf16⟩
  | 38 => ⟨S48x10240, .bf16⟩
  | 39 => ⟨S48x1x16x1, .bf16⟩
  | 40 => ⟨S48x16, .bf16⟩
  | 41 => ⟨S48x1x16x1, .bf16⟩
  | 42 => ⟨S48x16, .bf16⟩
  | 43 => ⟨S48x1x16x1, .bf16⟩
  | 44 => ⟨S48x16, .bf16⟩
  | 45 => ⟨S48x1x16x1, .bf16⟩
  | 46 => ⟨S48x16, .bf16⟩
  | 47 => ⟨S48x1x16x1, .bf16⟩
  | 48 => ⟨S48x16, .bf16⟩
  | 49 => ⟨S48x1x16x1, .bf16⟩
  | 50 => ⟨S48x16, .bf16⟩
  | 51 => ⟨S48x1x16x1, .bf16⟩
  | 52 => ⟨S48x16, .bf16⟩
  | 53 => ⟨S48x1x16x1, .bf16⟩
  | 54 => ⟨S48x16, .bf16⟩
  | 55 => ⟨S48x16x1, .bf16⟩
  | 56 => ⟨S48x16x1, .bf16⟩
  | 57 => ⟨S48x16x1, .bf16⟩
  | 58 => ⟨S48x16x1, .bf16⟩
  | 59 => ⟨S48x16x1, .bf16⟩
  | 60 => ⟨S48x16x1, .bf16⟩
  | 61 => ⟨S48x16x1, .bf16⟩
  | 62 => ⟨S48x16x1, .bf16⟩
  | 63 => ⟨S48x16x8, .bf16⟩
  | 64 => ⟨S48x128, .bf16⟩
  | 65 => ⟨S48x10368, .bf16⟩
  | 66 => ⟨S48x1x10368, .bf16⟩
  | _ => ⟨S48x1x10496, .bf16⟩

abbrev hbmTy (i : Nat) : BufTy := match i / 128 with
  | 0 => hbmTy0_0 i
  | 1 => hbmTy0_1 i
  | _ => ⟨S48x1x10496, .bf16⟩

abbrev bufTy : (tb : Table) → Fin (tcTables nBuf tb) → BufTy
  | .hbm, ⟨i, _⟩ => hbmTy i
  | .local _ .vmem, ⟨0, _⟩ => ⟨S82x4x5248, .bf16⟩
  | .local _ .vmem, ⟨1, _⟩ => ⟨S41x48x256, .bf16⟩
  | .local _ .vmem, ⟨2, _⟩ => ⟨S48x10240, .bf16⟩
  | .local _ .vmem, ⟨3, _⟩ => ⟨S48x128, .bf16⟩
  | .local _ .vmem, ⟨4, _⟩ => ⟨S6x1296x256, .i32⟩
  | .local _ .vmem, ⟨5, _⟩ => ⟨S41x2x32x128, .i32⟩
  | _, _ => ⟨S48x1x10496, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_13 : Ref sig .tc := ⟨.hbm, 71, rfl⟩
abbrev main_v51 : Ref sig .tc := ⟨.hbm, 72, rfl⟩
abbrev main_v52 : Ref sig .tc := ⟨.hbm, 73, rfl⟩
abbrev main_c_14 : Ref sig .tc := ⟨.hbm, 74, rfl⟩
abbrev main_v53 : Ref sig .tc := ⟨.hbm, 75, rfl⟩
abbrev main_v54 : Ref sig .tc := ⟨.hbm, 76, rfl⟩
abbrev main_c_15 : Ref sig .tc := ⟨.hbm, 77, rfl⟩
abbrev main_v55 : Ref sig .tc := ⟨.hbm, 78, rfl⟩
abbrev main_v56 : Ref sig .tc := ⟨.hbm, 79, rfl⟩
abbrev main_c_16 : Ref sig .tc := ⟨.hbm, 80, rfl⟩
abbrev main_v57 : Ref sig .tc := ⟨.hbm, 81, rfl⟩
abbrev main_v58 : Ref sig .tc := ⟨.hbm, 82, rfl⟩
abbrev main_c_17 : Ref sig .tc := ⟨.hbm, 83, rfl⟩
abbrev main_v59 : Ref sig .tc := ⟨.hbm, 84, rfl⟩
abbrev main_v60 : Ref sig .tc := ⟨.hbm, 85, rfl⟩
abbrev main_c_18 : Ref sig .tc := ⟨.hbm, 86, rfl⟩
abbrev main_v61 : Ref sig .tc := ⟨.hbm, 87, rfl⟩
abbrev main_v62 : Ref sig .tc := ⟨.hbm, 88, rfl⟩
abbrev main_c_19 : Ref sig .tc := ⟨.hbm, 89, rfl⟩
abbrev main_v63 : Ref sig .tc := ⟨.hbm, 90, rfl⟩
abbrev main_v64 : Ref sig .tc := ⟨.hbm, 91, rfl⟩
abbrev main_c_20 : Ref sig .tc := ⟨.hbm, 92, rfl⟩
abbrev main_v65 : Ref sig .tc := ⟨.hbm, 93, rfl⟩
abbrev main_v66 : Ref sig .tc := ⟨.hbm, 94, rfl⟩
abbrev main_c_21 : Ref sig .tc := ⟨.hbm, 95, rfl⟩
abbrev main_v67 : Ref sig .tc := ⟨.hbm, 96, rfl⟩
abbrev main_v68 : Ref sig .tc := ⟨.hbm, 97, rfl⟩
abbrev main_c_22 : Ref sig .tc := ⟨.hbm, 98, rfl⟩
abbrev main_v69 : Ref sig .tc := ⟨.hbm, 99, rfl⟩
abbrev main_v70 : Ref sig .tc := ⟨.hbm, 100, rfl⟩
abbrev main_c_23 : Ref sig .tc := ⟨.hbm, 101, rfl⟩
abbrev main_v71 : Ref sig .tc := ⟨.hbm, 102, rfl⟩
abbrev main_v72 : Ref sig .tc := ⟨.hbm, 103, rfl⟩
abbrev main_c_24 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105_0 : Ref sig .tc := ⟨.hbm, 137, rfl⟩
abbrev main_v105_1 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c0_i32_25_r0 : BitVec 32 := 0#32
  c0_i32_25_r0
@[reducible] def k0_t1_loop : Scf.Loop 32 :=
  let c1_i32_526_r0 : BitVec 32 := 1#32
  let c41_i32_r0 : BitVec 32 := 41#32
  let v706_r0 : BitVec 32 := Scalar.addi c1_i32_526_r0 c41_i32_r0
  let c1_i32_527_r0 : BitVec 32 := 1#32
  ⟨c1_i32_526_r0, v706_r0, c1_i32_527_r0⟩
def k0_cond1 (k0_t1 : Fin k0_t1_loop.trips) : BitVec 1 :=
  let c1_i32_526_r0 : BitVec 32 := 1#32
  let c1_i32_527_r0 : BitVec 32 := 1#32
  let arg8_r0 : BitVec 32 := Scf.iv c1_i32_526_r0 c1_i32_527_r0 k0_t1
  let c2_i32_578_r0 : BitVec 32 := 2#32
  let v832_r0 : BitVec 1 := Scalar.cmpi .sge arg8_r0 c2_i32_578_r0
  let c6_i32_r0 : BitVec 32 := 6#32
  let v833_r0 : BitVec 32 := Scalar.addi arg8_r0 c6_i32_r0
  let c2_i32_579_r0 : BitVec 32 := 2#32
  let v834_r0 : BitVec 32 := Scalar.subi v833_r0 c2_i32_579_r0
  let c41_i32_580_r0 : BitVec 32 := 41#32
  let v835_r0 : BitVec 1 := Scalar.cmpi .slt v834_r0 c41_i32_580_r0
  let v836_r0 : BitVec 1 := Scalar.andi v832_r0 v835_r0
  let v837_r0 : BitVec 32 := Scalar.extui v836_r0
  let c0_i32_581_r0 : BitVec 32 := 0#32
  let v838_r0 : BitVec 1 := Scalar.cmpi .ne v837_r0 c0_i32_581_r0
  v838_r0

def k0_mult8 (k0_t1 : Fin k0_t1_loop.trips) : BitVec 32 :=
  let c1_i32_526_r0 : BitVec 32 := 1#32
  let c1_i32_527_r0 : BitVec 32 := 1#32
  let arg8_r0 : BitVec 32 := Scf.iv c1_i32_526_r0 c1_i32_527_r0 k0_t1
  let c6_i32_2365_r0 : BitVec 32 := 6#32
  let v5602_r0 : BitVec 32 := Scalar.addi arg8_r0 c6_i32_2365_r0
  let c2_i32_2366_r0 : BitVec 32 := 2#32
  let v5603_r0 : BitVec 32 := Scalar.subi v5602_r0 c2_i32_2366_r0
  let c256_i32_2370_r0 : BitVec 32 := 256#32
  let v5607_r0 : BitVec 32 := Scalar.muli v5603_r0 c256_i32_2370_r0
  v5607_r0
def k0_off1 (k0_t1 : Fin k0_t1_loop.trips) : Fin 1 → Nat :=
  let c1_i32_526_r0 : BitVec 32 := 1#32
  let c1_i32_527_r0 : BitVec 32 := 1#32
  let arg8_r0 : BitVec 32 := Scf.iv c1_i32_526_r0 c1_i32_527_r0 k0_t1
  let c6_i32_2367_r0 : BitVec 32 := 6#32
  let v5604_r0 : BitVec 32 := Scalar.addi arg8_r0 c6_i32_2367_r0
  let c2_i32_2368_r0 : BitVec 32 := 2#32
  let v5605_r0 : BitVec 32 := Scalar.subi v5604_r0 c2_i32_2368_r0
  let c6_i32_2369_r0 : BitVec 32 := 6#32
  let v5606_r0 : BitVec 32 := Scalar.remsi v5605_r0 c6_i32_2369_r0
  ![v5606_r0.toNat]
def k0_off2 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c6_i32_2367_r0 : BitVec 32 := 6#32
  let v5604_r0 : BitVec 32 := Scalar.addi arg8_r0 c6_i32_2367_r0
  let c2_i32_2368_r0 : BitVec 32 := 2#32
  let v5605_r0 : BitVec 32 := Scalar.subi v5604_r0 c2_i32_2368_r0
  let c6_i32_2369_r0 : BitVec 32 := 6#32
  let v5606_r0 : BitVec 32 := Scalar.remsi v5605_r0 c6_i32_2369_r0
  let c0_i32_2371_r0 : BitVec 32 := 0#32
  let c0_i32_2372_r0 : BitVec 32 := 0#32
  ![v5606_r0.toNat, 0, 0]
def k0_off3 (k0_t1 : Fin k0_t1_loop.trips) : Fin 2 → Nat :=
  let c0_i32_2373_r0 : BitVec 32 := 0#32
  let c1_i32_526_r0 : BitVec 32 := 1#32
  let c1_i32_527_r0 : BitVec 32 := 1#32
  let arg8_r0 : BitVec 32 := Scf.iv c1_i32_526_r0 c1_i32_527_r0 k0_t1
  let c6_i32_2365_r0 : BitVec 32 := 6#32
  let v5602_r0 : BitVec 32 := Scalar.addi arg8_r0 c6_i32_2365_r0
  let c2_i32_2366_r0 : BitVec 32 := 2#32
  let v5603_r0 : BitVec 32 := Scalar.subi v5602_r0 c2_i32_2366_r0
  let c256_i32_2370_r0 : BitVec 32 := 256#32
  let v5607_r0 : BitVec 32 := Scalar.muli v5603_r0 c256_i32_2370_r0
  let v5608_r0 : BitVec 32 := v5607_r0
  ![0, v5608_r0.toNat]
def k0_cond2 (k0_t1 : Fin k0_t1_loop.trips) : BitVec 1 :=
  let c1_i32_526_r0 : BitVec 32 := 1#32
  let c1_i32_527_r0 : BitVec 32 := 1#32
  let arg8_r0 : BitVec 32 := Scf.iv c1_i32_526_r0 c1_i32_527_r0 k0_t1
  let c41_i32_583_r0 : BitVec 32 := 41#32
  let v841_r0 : BitVec 1 := Scalar.cmpi .slt arg8_r0 c41_i32_583_r0
  let v842_r0 : BitVec 32 := Scalar.extui v841_r0
  let c0_i32_584_r0 : BitVec 32 := 0#32
  let v843_r0 : BitVec 1 := Scalar.cmpi .ne v842_r0 c0_i32_584_r0
  v843_r0

def k0_mult9 (k0_t1 : Fin k0_t1_loop.trips) : BitVec 32 :=
  let c1_i32_526_r0 : BitVec 32 := 1#32
  let c1_i32_527_r0 : BitVec 32 := 1#32
  let arg8_r0 : BitVec 32 := Scf.iv c1_i32_526_r0 c1_i32_527_r0 k0_t1
  let c256_i32_2365_r0 : BitVec 32 := 256#32
  let v5602_r0 : BitVec 32 := Scalar.muli arg8_r0 c256_i32_2365_r0
  v5602_r0
def k0_off4 (k0_t1 : Fin k0_t1_loop.trips) : Fin 1 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  ![v840_r0.toNat]
def k0_off5 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let c0_i32_2366_r0 : BitVec 32 := 0#32
  let c0_i32_2367_r0 : BitVec 32 := 0#32
  ![v840_r0.toNat, 0, 0]
def k0_off6 (k0_t1 : Fin k0_t1_loop.trips) : Fin 2 → Nat :=
  let c0_i32_2368_r0 : BitVec 32 := 0#32
  let c1_i32_526_r0 : BitVec 32 := 1#32
  let c1_i32_527_r0 : BitVec 32 := 1#32
  let arg8_r0 : BitVec 32 := Scf.iv c1_i32_526_r0 c1_i32_527_r0 k0_t1
  let c256_i32_2365_r0 : BitVec 32 := 256#32
  let v5602_r0 : BitVec 32 := Scalar.muli arg8_r0 c256_i32_2365_r0
  let v5603_r0 : BitVec 32 := v5602_r0
  ![0, v5603_r0.toNat]
def k0_off7 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let v844_r0 : Index := Scalar.indexCast v831_r0
  let c0_585_r0 : Index := 0#32
  let c0_586_r0 : Index := 0#32
  ![v844_r0.toNat, 0, 0]
def k0_off8 (k0_t1 : Fin k0_t1_loop.trips) (c0_i32_588_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_587_r0 : BitVec 32 := 2#32
  let v847_r0 : BitVec 32 := Scalar.muli v831_r0 c2_i32_587_r0
  let v848_r0 : BitVec 32 := Scalar.addi v847_r0 c0_i32_588_r0
  let v851_r0 : Index := Scalar.indexCast v848_r0
  let c0_593_r0 : Index := 0#32
  let c0_594_r0 : Index := 0#32
  ![v851_r0.toNat, 0, 0]
def k0_off9 (k0_t1 : Fin k0_t1_loop.trips) (c0_i32_588_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_587_r0 : BitVec 32 := 2#32
  let v847_r0 : BitVec 32 := Scalar.muli v831_r0 c2_i32_587_r0
  let v848_r0 : BitVec 32 := Scalar.addi v847_r0 c0_i32_588_r0
  let v857_r0 : Index := Scalar.indexCast v848_r0
  let c2_595_r0 : Index := 2#32
  let c0_596_r0 : Index := 0#32
  ![v857_r0.toNat, 2, 0]
def k0_off10 (k0_t1 : Fin k0_t1_loop.trips) (c0_i32_588_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_587_r0 : BitVec 32 := 2#32
  let v847_r0 : BitVec 32 := Scalar.muli v831_r0 c2_i32_587_r0
  let v848_r0 : BitVec 32 := Scalar.addi v847_r0 c0_i32_588_r0
  let v873_r0 : Index := Scalar.indexCast v848_r0
  let c1_598_r0 : Index := 1#32
  let c0_599_r0 : Index := 0#32
  ![v873_r0.toNat, 1, 0]
def k0_off11 (k0_t1 : Fin k0_t1_loop.trips) (c0_i32_588_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_587_r0 : BitVec 32 := 2#32
  let v847_r0 : BitVec 32 := Scalar.muli v831_r0 c2_i32_587_r0
  let v848_r0 : BitVec 32 := Scalar.addi v847_r0 c0_i32_588_r0
  let v879_r0 : Index := Scalar.indexCast v848_r0
  let c3_600_r0 : Index := 3#32
  let c0_601_r0 : Index := 0#32
  ![v879_r0.toNat, 3, 0]
def k0_off12 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v896_r0 : Index := Scalar.indexCast v840_r0
  let c0_603_r0 : Index := 0#32
  let c0_604_r0 : Index := 0#32
  ![v896_r0.toNat, 0, 0]
def k0_off13 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v954_r0 : Index := Scalar.indexCast v840_r0
  let c0_625_r0 : Index := 0#32
  let c128_626_r0 : Index := 128#32
  ![v954_r0.toNat, 0, 128]
def k0_off14 (k0_t1 : Fin k0_t1_loop.trips) (c0_i32_632_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_631_r0 : BitVec 32 := 2#32
  let v964_r0 : BitVec 32 := Scalar.muli v831_r0 c2_i32_631_r0
  let v965_r0 : BitVec 32 := Scalar.addi v964_r0 c0_i32_632_r0
  let v968_r0 : Index := Scalar.indexCast v965_r0
  let c0_637_r0 : Index := 0#32
  let c128_638_r0 : Index := 128#32
  ![v968_r0.toNat, 0, 128]
def k0_off15 (k0_t1 : Fin k0_t1_loop.trips) (c0_i32_632_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_631_r0 : BitVec 32 := 2#32
  let v964_r0 : BitVec 32 := Scalar.muli v831_r0 c2_i32_631_r0
  let v965_r0 : BitVec 32 := Scalar.addi v964_r0 c0_i32_632_r0
  let v974_r0 : Index := Scalar.indexCast v965_r0
  let c2_639_r0 : Index := 2#32
  let c128_640_r0 : Index := 128#32
  ![v974_r0.toNat, 2, 128]
def k0_off16 (k0_t1 : Fin k0_t1_loop.trips) (c0_i32_632_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_631_r0 : BitVec 32 := 2#32
  let v964_r0 : BitVec 32 := Scalar.muli v831_r0 c2_i32_631_r0
  let v965_r0 : BitVec 32 := Scalar.addi v964_r0 c0_i32_632_r0
  let v990_r0 : Index := Scalar.indexCast v965_r0
  let c1_642_r0 : Index := 1#32
  let c128_643_r0 : Index := 128#32
  ![v990_r0.toNat, 1, 128]
def k0_off17 (k0_t1 : Fin k0_t1_loop.trips) (c0_i32_632_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_631_r0 : BitVec 32 := 2#32
  let v964_r0 : BitVec 32 := Scalar.muli v831_r0 c2_i32_631_r0
  let v965_r0 : BitVec 32 := Scalar.addi v964_r0 c0_i32_632_r0
  let v996_r0 : Index := Scalar.indexCast v965_r0
  let c3_644_r0 : Index := 3#32
  let c128_645_r0 : Index := 128#32
  ![v996_r0.toNat, 3, 128]
def k0_off18 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1013_r0 : Index := Scalar.indexCast v840_r0
  let c32_647_r0 : Index := 32#32
  let c0_648_r0 : Index := 0#32
  ![v1013_r0.toNat, 32, 0]
def k0_off19 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1071_r0 : Index := Scalar.indexCast v840_r0
  let c32_669_r0 : Index := 32#32
  let c128_670_r0 : Index := 128#32
  ![v1071_r0.toNat, 32, 128]
def k0_off20 (k0_t1 : Fin k0_t1_loop.trips) (c0_i32_676_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_675_r0 : BitVec 32 := 2#32
  let v1081_r0 : BitVec 32 := Scalar.muli v831_r0 c2_i32_675_r0
  let v1082_r0 : BitVec 32 := Scalar.addi v1081_r0 c0_i32_676_r0
  let v1085_r0 : Index := Scalar.indexCast v1082_r0
  let c0_681_r0 : Index := 0#32
  let c256_682_r0 : Index := 256#32
  ![v1085_r0.toNat, 0, 256]
def k0_off21 (k0_t1 : Fin k0_t1_loop.trips) (c0_i32_676_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_675_r0 : BitVec 32 := 2#32
  let v1081_r0 : BitVec 32 := Scalar.muli v831_r0 c2_i32_675_r0
  let v1082_r0 : BitVec 32 := Scalar.addi v1081_r0 c0_i32_676_r0
  let v1091_r0 : Index := Scalar.indexCast v1082_r0
  let c2_683_r0 : Index := 2#32
  let c256_684_r0 : Index := 256#32
  ![v1091_r0.toNat, 2, 256]
def k0_off22 (k0_t1 : Fin k0_t1_loop.trips) (c0_i32_676_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_675_r0 : BitVec 32 := 2#32
  let v1081_r0 : BitVec 32 := Scalar.muli v831_r0 c2_i32_675_r0
  let v1082_r0 : BitVec 32 := Scalar.addi v1081_r0 c0_i32_676_r0
  let v1107_r0 : Index := Scalar.indexCast v1082_r0
  let c1_686_r0 : Index := 1#32
  let c256_687_r0 : Index := 256#32
  ![v1107_r0.toNat, 1, 256]
def k0_off23 (k0_t1 : Fin k0_t1_loop.trips) (c0_i32_676_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_675_r0 : BitVec 32 := 2#32
  let v1081_r0 : BitVec 32 := Scalar.muli v831_r0 c2_i32_675_r0
  let v1082_r0 : BitVec 32 := Scalar.addi v1081_r0 c0_i32_676_r0
  let v1113_r0 : Index := Scalar.indexCast v1082_r0
  let c3_688_r0 : Index := 3#32
  let c256_689_r0 : Index := 256#32
  ![v1113_r0.toNat, 3, 256]
def k0_off24 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1130_r0 : Index := Scalar.indexCast v840_r0
  let c64_691_r0 : Index := 64#32
  let c0_692_r0 : Index := 0#32
  ![v1130_r0.toNat, 64, 0]
def k0_off25 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1188_r0 : Index := Scalar.indexCast v840_r0
  let c64_713_r0 : Index := 64#32
  let c128_714_r0 : Index := 128#32
  ![v1188_r0.toNat, 64, 128]
def k0_off26 (k0_t1 : Fin k0_t1_loop.trips) (c0_i32_720_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_719_r0 : BitVec 32 := 2#32
  let v1198_r0 : BitVec 32 := Scalar.muli v831_r0 c2_i32_719_r0
  let v1199_r0 : BitVec 32 := Scalar.addi v1198_r0 c0_i32_720_r0
  let v1202_r0 : Index := Scalar.indexCast v1199_r0
  let c0_725_r0 : Index := 0#32
  let c384_726_r0 : Index := 384#32
  ![v1202_r0.toNat, 0, 384]
def k0_off27 (k0_t1 : Fin k0_t1_loop.trips) (c0_i32_720_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_719_r0 : BitVec 32 := 2#32
  let v1198_r0 : BitVec 32 := Scalar.muli v831_r0 c2_i32_719_r0
  let v1199_r0 : BitVec 32 := Scalar.addi v1198_r0 c0_i32_720_r0
  let v1208_r0 : Index := Scalar.indexCast v1199_r0
  let c2_727_r0 : Index := 2#32
  let c384_728_r0 : Index := 384#32
  ![v1208_r0.toNat, 2, 384]
def k0_off28 (k0_t1 : Fin k0_t1_loop.trips) (c0_i32_720_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_719_r0 : BitVec 32 := 2#32
  let v1198_r0 : BitVec 32 := Scalar.muli v831_r0 c2_i32_719_r0
  let v1199_r0 : BitVec 32 := Scalar.addi v1198_r0 c0_i32_720_r0
  let v1224_r0 : Index := Scalar.indexCast v1199_r0
  let c1_730_r0 : Index := 1#32
  let c384_731_r0 : Index := 384#32
  ![v1224_r0.toNat, 1, 384]
def k0_off29 (k0_t1 : Fin k0_t1_loop.trips) (c0_i32_720_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_719_r0 : BitVec 32 := 2#32
  let v1198_r0 : BitVec 32 := Scalar.muli v831_r0 c2_i32_719_r0
  let v1199_r0 : BitVec 32 := Scalar.addi v1198_r0 c0_i32_720_r0
  let v1230_r0 : Index := Scalar.indexCast v1199_r0
  let c3_732_r0 : Index := 3#32
  let c384_733_r0 : Index := 384#32
  ![v1230_r0.toNat, 3, 384]
def k0_off30 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1247_r0 : Index := Scalar.indexCast v840_r0
  let c96_735_r0 : Index := 96#32
  let c0_736_r0 : Index := 0#32
  ![v1247_r0.toNat, 96, 0]
def k0_off31 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1305_r0 : Index := Scalar.indexCast v840_r0
  let c96_757_r0 : Index := 96#32
  let c128_758_r0 : Index := 128#32
  ![v1305_r0.toNat, 96, 128]
def k0_off32 (k0_t1 : Fin k0_t1_loop.trips) (c0_i32_764_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_763_r0 : BitVec 32 := 2#32
  let v1315_r0 : BitVec 32 := Scalar.muli v831_r0 c2_i32_763_r0
  let v1316_r0 : BitVec 32 := Scalar.addi v1315_r0 c0_i32_764_r0
  let v1319_r0 : Index := Scalar.indexCast v1316_r0
  let c0_769_r0 : Index := 0#32
  let c512_770_r0 : Index := 512#32
  ![v1319_r0.toNat, 0, 512]
def k0_off33 (k0_t1 : Fin k0_t1_loop.trips) (c0_i32_764_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_763_r0 : BitVec 32 := 2#32
  let v1315_r0 : BitVec 32 := Scalar.muli v831_r0 c2_i32_763_r0
  let v1316_r0 : BitVec 32 := Scalar.addi v1315_r0 c0_i32_764_r0
  let v1325_r0 : Index := Scalar.indexCast v1316_r0
  let c2_771_r0 : Index := 2#32
  let c512_772_r0 : Index := 512#32
  ![v1325_r0.toNat, 2, 512]
def k0_off34 (k0_t1 : Fin k0_t1_loop.trips) (c0_i32_764_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_763_r0 : BitVec 32 := 2#32
  let v1315_r0 : BitVec 32 := Scalar.muli v831_r0 c2_i32_763_r0
  let v1316_r0 : BitVec 32 := Scalar.addi v1315_r0 c0_i32_764_r0
  let v1341_r0 : Index := Scalar.indexCast v1316_r0
  let c1_774_r0 : Index := 1#32
  let c512_775_r0 : Index := 512#32
  ![v1341_r0.toNat, 1, 512]
def k0_off35 (k0_t1 : Fin k0_t1_loop.trips) (c0_i32_764_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_763_r0 : BitVec 32 := 2#32
  let v1315_r0 : BitVec 32 := Scalar.muli v831_r0 c2_i32_763_r0
  let v1316_r0 : BitVec 32 := Scalar.addi v1315_r0 c0_i32_764_r0
  let v1347_r0 : Index := Scalar.indexCast v1316_r0
  let c3_776_r0 : Index := 3#32
  let c512_777_r0 : Index := 512#32
  ![v1347_r0.toNat, 3, 512]
def k0_off36 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1364_r0 : Index := Scalar.indexCast v840_r0
  let c128_779_r0 : Index := 128#32
  let c0_780_r0 : Index := 0#32
  ![v1364_r0.toNat, 128, 0]
def k0_off37 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1422_r0 : Index := Scalar.indexCast v840_r0
  let c128_801_r0 : Index := 128#32
  let c128_802_r0 : Index := 128#32
  ![v1422_r0.toNat, 128, 128]
def k0_off38 (k0_t1 : Fin k0_t1_loop.trips) (c0_i32_808_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_807_r0 : BitVec 32 := 2#32
  let v1432_r0 : BitVec 32 := Scalar.muli v831_r0 c2_i32_807_r0
  let v1433_r0 : BitVec 32 := Scalar.addi v1432_r0 c0_i32_808_r0
  let v1436_r0 : Index := Scalar.indexCast v1433_r0
  let c0_813_r0 : Index := 0#32
  let c640_814_r0 : Index := 640#32
  ![v1436_r0.toNat, 0, 640]
def k0_off39 (k0_t1 : Fin k0_t1_loop.trips) (c0_i32_808_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_807_r0 : BitVec 32 := 2#32
  let v1432_r0 : BitVec 32 := Scalar.muli v831_r0 c2_i32_807_r0
  let v1433_r0 : BitVec 32 := Scalar.addi v1432_r0 c0_i32_808_r0
  let v1442_r0 : Index := Scalar.indexCast v1433_r0
  let c2_815_r0 : Index := 2#32
  let c640_816_r0 : Index := 640#32
  ![v1442_r0.toNat, 2, 640]
def k0_off40 (k0_t1 : Fin k0_t1_loop.trips) (c0_i32_808_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_807_r0 : BitVec 32 := 2#32
  let v1432_r0 : BitVec 32 := Scalar.muli v831_r0 c2_i32_807_r0
  let v1433_r0 : BitVec 32 := Scalar.addi v1432_r0 c0_i32_808_r0
  let v1458_r0 : Index := Scalar.indexCast v1433_r0
  let c1_818_r0 : Index := 1#32
  let c640_819_r0 : Index := 640#32
  ![v1458_r0.toNat, 1, 640]
def k0_off41 (k0_t1 : Fin k0_t1_loop.trips) (c0_i32_808_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_807_r0 : BitVec 32 := 2#32
  let v1432_r0 : BitVec 32 := Scalar.muli v831_r0 c2_i32_807_r0
  let v1433_r0 : BitVec 32 := Scalar.addi v1432_r0 c0_i32_808_r0
  let v1464_r0 : Index := Scalar.indexCast v1433_r0
  let c3_820_r0 : Index := 3#32
  let c640_821_r0 : Index := 640#32
  ![v1464_r0.toNat, 3, 640]
def k0_off42 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1481_r0 : Index := Scalar.indexCast v840_r0
  let c160_823_r0 : Index := 160#32
  let c0_824_r0 : Index := 0#32
  ![v1481_r0.toNat, 160, 0]
def k0_off43 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1539_r0 : Index := Scalar.indexCast v840_r0
  let c160_845_r0 : Index := 160#32
  let c128_846_r0 : Index := 128#32
  ![v1539_r0.toNat, 160, 128]
def k0_off44 (k0_t1 : Fin k0_t1_loop.trips) (c0_i32_852_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_851_r0 : BitVec 32 := 2#32
  let v1549_r0 : BitVec 32 := Scalar.muli v831_r0 c2_i32_851_r0
  let v1550_r0 : BitVec 32 := Scalar.addi v1549_r0 c0_i32_852_r0
  let v1553_r0 : Index := Scalar.indexCast v1550_r0
  let c0_857_r0 : Index := 0#32
  let c768_858_r0 : Index := 768#32
  ![v1553_r0.toNat, 0, 768]
def k0_off45 (k0_t1 : Fin k0_t1_loop.trips) (c0_i32_852_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_851_r0 : BitVec 32 := 2#32
  let v1549_r0 : BitVec 32 := Scalar.muli v831_r0 c2_i32_851_r0
  let v1550_r0 : BitVec 32 := Scalar.addi v1549_r0 c0_i32_852_r0
  let v1559_r0 : Index := Scalar.indexCast v1550_r0
  let c2_859_r0 : Index := 2#32
  let c768_860_r0 : Index := 768#32
  ![v1559_r0.toNat, 2, 768]
def k0_off46 (k0_t1 : Fin k0_t1_loop.trips) (c0_i32_852_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_851_r0 : BitVec 32 := 2#32
  let v1549_r0 : BitVec 32 := Scalar.muli v831_r0 c2_i32_851_r0
  let v1550_r0 : BitVec 32 := Scalar.addi v1549_r0 c0_i32_852_r0
  let v1575_r0 : Index := Scalar.indexCast v1550_r0
  let c1_862_r0 : Index := 1#32
  let c768_863_r0 : Index := 768#32
  ![v1575_r0.toNat, 1, 768]
def k0_off47 (k0_t1 : Fin k0_t1_loop.trips) (c0_i32_852_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_851_r0 : BitVec 32 := 2#32
  let v1549_r0 : BitVec 32 := Scalar.muli v831_r0 c2_i32_851_r0
  let v1550_r0 : BitVec 32 := Scalar.addi v1549_r0 c0_i32_852_r0
  let v1581_r0 : Index := Scalar.indexCast v1550_r0
  let c3_864_r0 : Index := 3#32
  let c768_865_r0 : Index := 768#32
  ![v1581_r0.toNat, 3, 768]
def k0_off48 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1598_r0 : Index := Scalar.indexCast v840_r0
  let c192_867_r0 : Index := 192#32
  let c0_868_r0 : Index := 0#32
  ![v1598_r0.toNat, 192, 0]
def k0_off49 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1656_r0 : Index := Scalar.indexCast v840_r0
  let c192_889_r0 : Index := 192#32
  let c128_890_r0 : Index := 128#32
  ![v1656_r0.toNat, 192, 128]
def k0_off50 (k0_t1 : Fin k0_t1_loop.trips) (c0_i32_896_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_895_r0 : BitVec 32 := 2#32
  let v1666_r0 : BitVec 32 := Scalar.muli v831_r0 c2_i32_895_r0
  let v1667_r0 : BitVec 32 := Scalar.addi v1666_r0 c0_i32_896_r0
  let v1670_r0 : Index := Scalar.indexCast v1667_r0
  let c0_901_r0 : Index := 0#32
  let c896_902_r0 : Index := 896#32
  ![v1670_r0.toNat, 0, 896]
def k0_off51 (k0_t1 : Fin k0_t1_loop.trips) (c0_i32_896_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_895_r0 : BitVec 32 := 2#32
  let v1666_r0 : BitVec 32 := Scalar.muli v831_r0 c2_i32_895_r0
  let v1667_r0 : BitVec 32 := Scalar.addi v1666_r0 c0_i32_896_r0
  let v1676_r0 : Index := Scalar.indexCast v1667_r0
  let c2_903_r0 : Index := 2#32
  let c896_904_r0 : Index := 896#32
  ![v1676_r0.toNat, 2, 896]
def k0_off52 (k0_t1 : Fin k0_t1_loop.trips) (c0_i32_896_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_895_r0 : BitVec 32 := 2#32
  let v1666_r0 : BitVec 32 := Scalar.muli v831_r0 c2_i32_895_r0
  let v1667_r0 : BitVec 32 := Scalar.addi v1666_r0 c0_i32_896_r0
  let v1692_r0 : Index := Scalar.indexCast v1667_r0
  let c1_906_r0 : Index := 1#32
  let c896_907_r0 : Index := 896#32
  ![v1692_r0.toNat, 1, 896]
def k0_off53 (k0_t1 : Fin k0_t1_loop.trips) (c0_i32_896_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_895_r0 : BitVec 32 := 2#32
  let v1666_r0 : BitVec 32 := Scalar.muli v831_r0 c2_i32_895_r0
  let v1667_r0 : BitVec 32 := Scalar.addi v1666_r0 c0_i32_896_r0
  let v1698_r0 : Index := Scalar.indexCast v1667_r0
  let c3_908_r0 : Index := 3#32
  let c896_909_r0 : Index := 896#32
  ![v1698_r0.toNat, 3, 896]
def k0_off54 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1715_r0 : Index := Scalar.indexCast v840_r0
  let c224_911_r0 : Index := 224#32
  let c0_912_r0 : Index := 0#32
  ![v1715_r0.toNat, 224, 0]
def k0_off55 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1773_r0 : Index := Scalar.indexCast v840_r0
  let c224_933_r0 : Index := 224#32
  let c128_934_r0 : Index := 128#32
  ![v1773_r0.toNat, 224, 128]
def k0_off56 (k0_t1 : Fin k0_t1_loop.trips) (c0_i32_940_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_939_r0 : BitVec 32 := 2#32
  let v1783_r0 : BitVec 32 := Scalar.muli v831_r0 c2_i32_939_r0
  let v1784_r0 : BitVec 32 := Scalar.addi v1783_r0 c0_i32_940_r0
  let v1787_r0 : Index := Scalar.indexCast v1784_r0
  let c0_945_r0 : Index := 0#32
  let c1024_946_r0 : Index := 1024#32
  ![v1787_r0.toNat, 0, 1024]
def k0_off57 (k0_t1 : Fin k0_t1_loop.trips) (c0_i32_940_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_939_r0 : BitVec 32 := 2#32
  let v1783_r0 : BitVec 32 := Scalar.muli v831_r0 c2_i32_939_r0
  let v1784_r0 : BitVec 32 := Scalar.addi v1783_r0 c0_i32_940_r0
  let v1793_r0 : Index := Scalar.indexCast v1784_r0
  let c2_947_r0 : Index := 2#32
  let c1024_948_r0 : Index := 1024#32
  ![v1793_r0.toNat, 2, 1024]
def k0_off58 (k0_t1 : Fin k0_t1_loop.trips) (c0_i32_940_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_939_r0 : BitVec 32 := 2#32
  let v1783_r0 : BitVec 32 := Scalar.muli v831_r0 c2_i32_939_r0
  let v1784_r0 : BitVec 32 := Scalar.addi v1783_r0 c0_i32_940_r0
  let v1809_r0 : Index := Scalar.indexCast v1784_r0
  let c1_950_r0 : Index := 1#32
  let c1024_951_r0 : Index := 1024#32
  ![v1809_r0.toNat, 1, 1024]
def k0_off59 (k0_t1 : Fin k0_t1_loop.trips) (c0_i32_940_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_939_r0 : BitVec 32 := 2#32
  let v1783_r0 : BitVec 32 := Scalar.muli v831_r0 c2_i32_939_r0
  let v1784_r0 : BitVec 32 := Scalar.addi v1783_r0 c0_i32_940_r0
  let v1815_r0 : Index := Scalar.indexCast v1784_r0
  let c3_952_r0 : Index := 3#32
  let c1024_953_r0 : Index := 1024#32
  ![v1815_r0.toNat, 3, 1024]
def k0_off60 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1832_r0 : Index := Scalar.indexCast v840_r0
  let c256_955_r0 : Index := 256#32
  let c0_956_r0 : Index := 0#32
  ![v1832_r0.toNat, 256, 0]
def k0_off61 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1890_r0 : Index := Scalar.indexCast v840_r0
  let c256_977_r0 : Index := 256#32
  let c128_978_r0 : Index := 128#32
  ![v1890_r0.toNat, 256, 128]
def k0_off62 (k0_t1 : Fin k0_t1_loop.trips) (c0_i32_984_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_983_r0 : BitVec 32 := 2#32
  let v1900_r0 : BitVec 32 := Scalar.muli v831_r0 c2_i32_983_r0
  let v1901_r0 : BitVec 32 := Scalar.addi v1900_r0 c0_i32_984_r0
  let v1904_r0 : Index := Scalar.indexCast v1901_r0
  let c0_989_r0 : Index := 0#32
  let c1152_990_r0 : Index := 1152#32
  ![v1904_r0.toNat, 0, 1152]
def k0_off63 (k0_t1 : Fin k0_t1_loop.trips) (c0_i32_984_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_983_r0 : BitVec 32 := 2#32
  let v1900_r0 : BitVec 32 := Scalar.muli v831_r0 c2_i32_983_r0
  let v1901_r0 : BitVec 32 := Scalar.addi v1900_r0 c0_i32_984_r0
  let v1910_r0 : Index := Scalar.indexCast v1901_r0
  let c2_991_r0 : Index := 2#32
  let c1152_992_r0 : Index := 1152#32
  ![v1910_r0.toNat, 2, 1152]
def k0_off64 (k0_t1 : Fin k0_t1_loop.trips) (c0_i32_984_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_983_r0 : BitVec 32 := 2#32
  let v1900_r0 : BitVec 32 := Scalar.muli v831_r0 c2_i32_983_r0
  let v1901_r0 : BitVec 32 := Scalar.addi v1900_r0 c0_i32_984_r0
  let v1926_r0 : Index := Scalar.indexCast v1901_r0
  let c1_994_r0 : Index := 1#32
  let c1152_995_r0 : Index := 1152#32
  ![v1926_r0.toNat, 1, 1152]
def k0_off65 (k0_t1 : Fin k0_t1_loop.trips) (c0_i32_984_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_983_r0 : BitVec 32 := 2#32
  let v1900_r0 : BitVec 32 := Scalar.muli v831_r0 c2_i32_983_r0
  let v1901_r0 : BitVec 32 := Scalar.addi v1900_r0 c0_i32_984_r0
  let v1932_r0 : Index := Scalar.indexCast v1901_r0
  let c3_996_r0 : Index := 3#32
  let c1152_997_r0 : Index := 1152#32
  ![v1932_r0.toNat, 3, 1152]
def k0_off66 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v1949_r0 : Index := Scalar.indexCast v840_r0
  let c288_999_r0 : Index := 288#32
  let c0_1000_r0 : Index := 0#32
  ![v1949_r0.toNat, 288, 0]
def k0_off67 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2007_r0 : Index := Scalar.indexCast v840_r0
  let c288_1021_r0 : Index := 288#32
  let c128_1022_r0 : Index := 128#32
  ![v2007_r0.toNat, 288, 128]
def k0_off68 (k0_t1 : Fin k0_t1_loop.trips) (c0_i32_1028_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1027_r0 : BitVec 32 := 2#32
  let v2017_r0 : BitVec 32 := Scalar.muli v831_r0 c2_i32_1027_r0
  let v2018_r0 : BitVec 32 := Scalar.addi v2017_r0 c0_i32_1028_r0
  let v2021_r0 : Index := Scalar.indexCast v2018_r0
  let c0_1033_r0 : Index := 0#32
  let c1280_1034_r0 : Index := 1280#32
  ![v2021_r0.toNat, 0, 1280]
def k0_off69 (k0_t1 : Fin k0_t1_loop.trips) (c0_i32_1028_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1027_r0 : BitVec 32 := 2#32
  let v2017_r0 : BitVec 32 := Scalar.muli v831_r0 c2_i32_1027_r0
  let v2018_r0 : BitVec 32 := Scalar.addi v2017_r0 c0_i32_1028_r0
  let v2027_r0 : Index := Scalar.indexCast v2018_r0
  let c2_1035_r0 : Index := 2#32
  let c1280_1036_r0 : Index := 1280#32
  ![v2027_r0.toNat, 2, 1280]
def k0_off70 (k0_t1 : Fin k0_t1_loop.trips) (c0_i32_1028_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1027_r0 : BitVec 32 := 2#32
  let v2017_r0 : BitVec 32 := Scalar.muli v831_r0 c2_i32_1027_r0
  let v2018_r0 : BitVec 32 := Scalar.addi v2017_r0 c0_i32_1028_r0
  let v2043_r0 : Index := Scalar.indexCast v2018_r0
  let c1_1038_r0 : Index := 1#32
  let c1280_1039_r0 : Index := 1280#32
  ![v2043_r0.toNat, 1, 1280]
def k0_off71 (k0_t1 : Fin k0_t1_loop.trips) (c0_i32_1028_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1027_r0 : BitVec 32 := 2#32
  let v2017_r0 : BitVec 32 := Scalar.muli v831_r0 c2_i32_1027_r0
  let v2018_r0 : BitVec 32 := Scalar.addi v2017_r0 c0_i32_1028_r0
  let v2049_r0 : Index := Scalar.indexCast v2018_r0
  let c3_1040_r0 : Index := 3#32
  let c1280_1041_r0 : Index := 1280#32
  ![v2049_r0.toNat, 3, 1280]
def k0_off72 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2066_r0 : Index := Scalar.indexCast v840_r0
  let c320_1043_r0 : Index := 320#32
  let c0_1044_r0 : Index := 0#32
  ![v2066_r0.toNat, 320, 0]
def k0_off73 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2124_r0 : Index := Scalar.indexCast v840_r0
  let c320_1065_r0 : Index := 320#32
  let c128_1066_r0 : Index := 128#32
  ![v2124_r0.toNat, 320, 128]
def k0_off74 (k0_t1 : Fin k0_t1_loop.trips) (c0_i32_1072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1071_r0 : BitVec 32 := 2#32
  let v2134_r0 : BitVec 32 := Scalar.muli v831_r0 c2_i32_1071_r0
  let v2135_r0 : BitVec 32 := Scalar.addi v2134_r0 c0_i32_1072_r0
  let v2138_r0 : Index := Scalar.indexCast v2135_r0
  let c0_1077_r0 : Index := 0#32
  let c1408_r0 : Index := 1408#32
  ![v2138_r0.toNat, 0, 1408]
def k0_off75 (k0_t1 : Fin k0_t1_loop.trips) (c0_i32_1072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1071_r0 : BitVec 32 := 2#32
  let v2134_r0 : BitVec 32 := Scalar.muli v831_r0 c2_i32_1071_r0
  let v2135_r0 : BitVec 32 := Scalar.addi v2134_r0 c0_i32_1072_r0
  let v2144_r0 : Index := Scalar.indexCast v2135_r0
  let c2_1078_r0 : Index := 2#32
  let c1408_1079_r0 : Index := 1408#32
  ![v2144_r0.toNat, 2, 1408]
def k0_off76 (k0_t1 : Fin k0_t1_loop.trips) (c0_i32_1072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1071_r0 : BitVec 32 := 2#32
  let v2134_r0 : BitVec 32 := Scalar.muli v831_r0 c2_i32_1071_r0
  let v2135_r0 : BitVec 32 := Scalar.addi v2134_r0 c0_i32_1072_r0
  let v2160_r0 : Index := Scalar.indexCast v2135_r0
  let c1_1081_r0 : Index := 1#32
  let c1408_1082_r0 : Index := 1408#32
  ![v2160_r0.toNat, 1, 1408]
def k0_off77 (k0_t1 : Fin k0_t1_loop.trips) (c0_i32_1072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1071_r0 : BitVec 32 := 2#32
  let v2134_r0 : BitVec 32 := Scalar.muli v831_r0 c2_i32_1071_r0
  let v2135_r0 : BitVec 32 := Scalar.addi v2134_r0 c0_i32_1072_r0
  let v2166_r0 : Index := Scalar.indexCast v2135_r0
  let c3_1083_r0 : Index := 3#32
  let c1408_1084_r0 : Index := 1408#32
  ![v2166_r0.toNat, 3, 1408]
def k0_off78 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2183_r0 : Index := Scalar.indexCast v840_r0
  let c352_1086_r0 : Index := 352#32
  let c0_1087_r0 : Index := 0#32
  ![v2183_r0.toNat, 352, 0]
def k0_off79 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2241_r0 : Index := Scalar.indexCast v840_r0
  let c352_1108_r0 : Index := 352#32
  let c128_1109_r0 : Index := 128#32
  ![v2241_r0.toNat, 352, 128]
def k0_off80 (k0_t1 : Fin k0_t1_loop.trips) (c0_i32_1115_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1114_r0 : BitVec 32 := 2#32
  let v2251_r0 : BitVec 32 := Scalar.muli v831_r0 c2_i32_1114_r0
  let v2252_r0 : BitVec 32 := Scalar.addi v2251_r0 c0_i32_1115_r0
  let v2255_r0 : Index := Scalar.indexCast v2252_r0
  let c0_1120_r0 : Index := 0#32
  let c1536_1121_r0 : Index := 1536#32
  ![v2255_r0.toNat, 0, 1536]
def k0_off81 (k0_t1 : Fin k0_t1_loop.trips) (c0_i32_1115_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1114_r0 : BitVec 32 := 2#32
  let v2251_r0 : BitVec 32 := Scalar.muli v831_r0 c2_i32_1114_r0
  let v2252_r0 : BitVec 32 := Scalar.addi v2251_r0 c0_i32_1115_r0
  let v2261_r0 : Index := Scalar.indexCast v2252_r0
  let c2_1122_r0 : Index := 2#32
  let c1536_1123_r0 : Index := 1536#32
  ![v2261_r0.toNat, 2, 1536]
def k0_off82 (k0_t1 : Fin k0_t1_loop.trips) (c0_i32_1115_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1114_r0 : BitVec 32 := 2#32
  let v2251_r0 : BitVec 32 := Scalar.muli v831_r0 c2_i32_1114_r0
  let v2252_r0 : BitVec 32 := Scalar.addi v2251_r0 c0_i32_1115_r0
  let v2277_r0 : Index := Scalar.indexCast v2252_r0
  let c1_1125_r0 : Index := 1#32
  let c1536_1126_r0 : Index := 1536#32
  ![v2277_r0.toNat, 1, 1536]
def k0_off83 (k0_t1 : Fin k0_t1_loop.trips) (c0_i32_1115_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1114_r0 : BitVec 32 := 2#32
  let v2251_r0 : BitVec 32 := Scalar.muli v831_r0 c2_i32_1114_r0
  let v2252_r0 : BitVec 32 := Scalar.addi v2251_r0 c0_i32_1115_r0
  let v2283_r0 : Index := Scalar.indexCast v2252_r0
  let c3_1127_r0 : Index := 3#32
  let c1536_1128_r0 : Index := 1536#32
  ![v2283_r0.toNat, 3, 1536]
def k0_off84 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2300_r0 : Index := Scalar.indexCast v840_r0
  let c384_1130_r0 : Index := 384#32
  let c0_1131_r0 : Index := 0#32
  ![v2300_r0.toNat, 384, 0]
def k0_off85 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2358_r0 : Index := Scalar.indexCast v840_r0
  let c384_1152_r0 : Index := 384#32
  let c128_1153_r0 : Index := 128#32
  ![v2358_r0.toNat, 384, 128]
def k0_off86 (k0_t1 : Fin k0_t1_loop.trips) (c0_i32_1159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1158_r0 : BitVec 32 := 2#32
  let v2368_r0 : BitVec 32 := Scalar.muli v831_r0 c2_i32_1158_r0
  let v2369_r0 : BitVec 32 := Scalar.addi v2368_r0 c0_i32_1159_r0
  let v2372_r0 : Index := Scalar.indexCast v2369_r0
  let c0_1164_r0 : Index := 0#32
  let c1664_r0 : Index := 1664#32
  ![v2372_r0.toNat, 0, 1664]
def k0_off87 (k0_t1 : Fin k0_t1_loop.trips) (c0_i32_1159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1158_r0 : BitVec 32 := 2#32
  let v2368_r0 : BitVec 32 := Scalar.muli v831_r0 c2_i32_1158_r0
  let v2369_r0 : BitVec 32 := Scalar.addi v2368_r0 c0_i32_1159_r0
  let v2378_r0 : Index := Scalar.indexCast v2369_r0
  let c2_1165_r0 : Index := 2#32
  let c1664_1166_r0 : Index := 1664#32
  ![v2378_r0.toNat, 2, 1664]
def k0_off88 (k0_t1 : Fin k0_t1_loop.trips) (c0_i32_1159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1158_r0 : BitVec 32 := 2#32
  let v2368_r0 : BitVec 32 := Scalar.muli v831_r0 c2_i32_1158_r0
  let v2369_r0 : BitVec 32 := Scalar.addi v2368_r0 c0_i32_1159_r0
  let v2394_r0 : Index := Scalar.indexCast v2369_r0
  let c1_1168_r0 : Index := 1#32
  let c1664_1169_r0 : Index := 1664#32
  ![v2394_r0.toNat, 1, 1664]
def k0_off89 (k0_t1 : Fin k0_t1_loop.trips) (c0_i32_1159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1158_r0 : BitVec 32 := 2#32
  let v2368_r0 : BitVec 32 := Scalar.muli v831_r0 c2_i32_1158_r0
  let v2369_r0 : BitVec 32 := Scalar.addi v2368_r0 c0_i32_1159_r0
  let v2400_r0 : Index := Scalar.indexCast v2369_r0
  let c3_1170_r0 : Index := 3#32
  let c1664_1171_r0 : Index := 1664#32
  ![v2400_r0.toNat, 3, 1664]
def k0_off90 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2417_r0 : Index := Scalar.indexCast v840_r0
  let c416_1173_r0 : Index := 416#32
  let c0_1174_r0 : Index := 0#32
  ![v2417_r0.toNat, 416, 0]
def k0_off91 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2475_r0 : Index := Scalar.indexCast v840_r0
  let c416_1195_r0 : Index := 416#32
  let c128_1196_r0 : Index := 128#32
  ![v2475_r0.toNat, 416, 128]
def k0_off92 (k0_t1 : Fin k0_t1_loop.trips) (c0_i32_1202_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1201_r0 : BitVec 32 := 2#32
  let v2485_r0 : BitVec 32 := Scalar.muli v831_r0 c2_i32_1201_r0
  let v2486_r0 : BitVec 32 := Scalar.addi v2485_r0 c0_i32_1202_r0
  let v2489_r0 : Index := Scalar.indexCast v2486_r0
  let c0_1207_r0 : Index := 0#32
  let c1792_1208_r0 : Index := 1792#32
  ![v2489_r0.toNat, 0, 1792]
def k0_off93 (k0_t1 : Fin k0_t1_loop.trips) (c0_i32_1202_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1201_r0 : BitVec 32 := 2#32
  let v2485_r0 : BitVec 32 := Scalar.muli v831_r0 c2_i32_1201_r0
  let v2486_r0 : BitVec 32 := Scalar.addi v2485_r0 c0_i32_1202_r0
  let v2495_r0 : Index := Scalar.indexCast v2486_r0
  let c2_1209_r0 : Index := 2#32
  let c1792_1210_r0 : Index := 1792#32
  ![v2495_r0.toNat, 2, 1792]
def k0_off94 (k0_t1 : Fin k0_t1_loop.trips) (c0_i32_1202_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1201_r0 : BitVec 32 := 2#32
  let v2485_r0 : BitVec 32 := Scalar.muli v831_r0 c2_i32_1201_r0
  let v2486_r0 : BitVec 32 := Scalar.addi v2485_r0 c0_i32_1202_r0
  let v2511_r0 : Index := Scalar.indexCast v2486_r0
  let c1_1212_r0 : Index := 1#32
  let c1792_1213_r0 : Index := 1792#32
  ![v2511_r0.toNat, 1, 1792]
def k0_off95 (k0_t1 : Fin k0_t1_loop.trips) (c0_i32_1202_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1201_r0 : BitVec 32 := 2#32
  let v2485_r0 : BitVec 32 := Scalar.muli v831_r0 c2_i32_1201_r0
  let v2486_r0 : BitVec 32 := Scalar.addi v2485_r0 c0_i32_1202_r0
  let v2517_r0 : Index := Scalar.indexCast v2486_r0
  let c3_1214_r0 : Index := 3#32
  let c1792_1215_r0 : Index := 1792#32
  ![v2517_r0.toNat, 3, 1792]
def k0_off96 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2534_r0 : Index := Scalar.indexCast v840_r0
  let c448_1217_r0 : Index := 448#32
  let c0_1218_r0 : Index := 0#32
  ![v2534_r0.toNat, 448, 0]
def k0_off97 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2592_r0 : Index := Scalar.indexCast v840_r0
  let c448_1239_r0 : Index := 448#32
  let c128_1240_r0 : Index := 128#32
  ![v2592_r0.toNat, 448, 128]
def k0_off98 (k0_t1 : Fin k0_t1_loop.trips) (c0_i32_1246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1245_r0 : BitVec 32 := 2#32
  let v2602_r0 : BitVec 32 := Scalar.muli v831_r0 c2_i32_1245_r0
  let v2603_r0 : BitVec 32 := Scalar.addi v2602_r0 c0_i32_1246_r0
  let v2606_r0 : Index := Scalar.indexCast v2603_r0
  let c0_1251_r0 : Index := 0#32
  let c1920_r0 : Index := 1920#32
  ![v2606_r0.toNat, 0, 1920]
def k0_off99 (k0_t1 : Fin k0_t1_loop.trips) (c0_i32_1246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1245_r0 : BitVec 32 := 2#32
  let v2602_r0 : BitVec 32 := Scalar.muli v831_r0 c2_i32_1245_r0
  let v2603_r0 : BitVec 32 := Scalar.addi v2602_r0 c0_i32_1246_r0
  let v2612_r0 : Index := Scalar.indexCast v2603_r0
  let c2_1252_r0 : Index := 2#32
  let c1920_1253_r0 : Index := 1920#32
  ![v2612_r0.toNat, 2, 1920]
def k0_off100 (k0_t1 : Fin k0_t1_loop.trips) (c0_i32_1246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1245_r0 : BitVec 32 := 2#32
  let v2602_r0 : BitVec 32 := Scalar.muli v831_r0 c2_i32_1245_r0
  let v2603_r0 : BitVec 32 := Scalar.addi v2602_r0 c0_i32_1246_r0
  let v2628_r0 : Index := Scalar.indexCast v2603_r0
  let c1_1255_r0 : Index := 1#32
  let c1920_1256_r0 : Index := 1920#32
  ![v2628_r0.toNat, 1, 1920]
def k0_off101 (k0_t1 : Fin k0_t1_loop.trips) (c0_i32_1246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1245_r0 : BitVec 32 := 2#32
  let v2602_r0 : BitVec 32 := Scalar.muli v831_r0 c2_i32_1245_r0
  let v2603_r0 : BitVec 32 := Scalar.addi v2602_r0 c0_i32_1246_r0
  let v2634_r0 : Index := Scalar.indexCast v2603_r0
  let c3_1257_r0 : Index := 3#32
  let c1920_1258_r0 : Index := 1920#32
  ![v2634_r0.toNat, 3, 1920]
def k0_off102 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2651_r0 : Index := Scalar.indexCast v840_r0
  let c480_1260_r0 : Index := 480#32
  let c0_1261_r0 : Index := 0#32
  ![v2651_r0.toNat, 480, 0]
def k0_off103 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2709_r0 : Index := Scalar.indexCast v840_r0
  let c480_1282_r0 : Index := 480#32
  let c128_1283_r0 : Index := 128#32
  ![v2709_r0.toNat, 480, 128]
def k0_off104 (k0_t1 : Fin k0_t1_loop.trips) (c0_i32_1289_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1288_r0 : BitVec 32 := 2#32
  let v2719_r0 : BitVec 32 := Scalar.muli v831_r0 c2_i32_1288_r0
  let v2720_r0 : BitVec 32 := Scalar.addi v2719_r0 c0_i32_1289_r0
  let v2723_r0 : Index := Scalar.indexCast v2720_r0
  let c0_1294_r0 : Index := 0#32
  let c2048_1295_r0 : Index := 2048#32
  ![v2723_r0.toNat, 0, 2048]
def k0_off105 (k0_t1 : Fin k0_t1_loop.trips) (c0_i32_1289_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1288_r0 : BitVec 32 := 2#32
  let v2719_r0 : BitVec 32 := Scalar.muli v831_r0 c2_i32_1288_r0
  let v2720_r0 : BitVec 32 := Scalar.addi v2719_r0 c0_i32_1289_r0
  let v2729_r0 : Index := Scalar.indexCast v2720_r0
  let c2_1296_r0 : Index := 2#32
  let c2048_1297_r0 : Index := 2048#32
  ![v2729_r0.toNat, 2, 2048]
def k0_off106 (k0_t1 : Fin k0_t1_loop.trips) (c0_i32_1289_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1288_r0 : BitVec 32 := 2#32
  let v2719_r0 : BitVec 32 := Scalar.muli v831_r0 c2_i32_1288_r0
  let v2720_r0 : BitVec 32 := Scalar.addi v2719_r0 c0_i32_1289_r0
  let v2745_r0 : Index := Scalar.indexCast v2720_r0
  let c1_1299_r0 : Index := 1#32
  let c2048_1300_r0 : Index := 2048#32
  ![v2745_r0.toNat, 1, 2048]
def k0_off107 (k0_t1 : Fin k0_t1_loop.trips) (c0_i32_1289_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1288_r0 : BitVec 32 := 2#32
  let v2719_r0 : BitVec 32 := Scalar.muli v831_r0 c2_i32_1288_r0
  let v2720_r0 : BitVec 32 := Scalar.addi v2719_r0 c0_i32_1289_r0
  let v2751_r0 : Index := Scalar.indexCast v2720_r0
  let c3_1301_r0 : Index := 3#32
  let c2048_1302_r0 : Index := 2048#32
  ![v2751_r0.toNat, 3, 2048]
def k0_off108 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2768_r0 : Index := Scalar.indexCast v840_r0
  let c512_1304_r0 : Index := 512#32
  let c0_1305_r0 : Index := 0#32
  ![v2768_r0.toNat, 512, 0]
def k0_off109 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2826_r0 : Index := Scalar.indexCast v840_r0
  let c512_1326_r0 : Index := 512#32
  let c128_1327_r0 : Index := 128#32
  ![v2826_r0.toNat, 512, 128]
def k0_off110 (k0_t1 : Fin k0_t1_loop.trips) (c0_i32_1333_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1332_r0 : BitVec 32 := 2#32
  let v2836_r0 : BitVec 32 := Scalar.muli v831_r0 c2_i32_1332_r0
  let v2837_r0 : BitVec 32 := Scalar.addi v2836_r0 c0_i32_1333_r0
  let v2840_r0 : Index := Scalar.indexCast v2837_r0
  let c0_1338_r0 : Index := 0#32
  let c2176_r0 : Index := 2176#32
  ![v2840_r0.toNat, 0, 2176]
def k0_off111 (k0_t1 : Fin k0_t1_loop.trips) (c0_i32_1333_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1332_r0 : BitVec 32 := 2#32
  let v2836_r0 : BitVec 32 := Scalar.muli v831_r0 c2_i32_1332_r0
  let v2837_r0 : BitVec 32 := Scalar.addi v2836_r0 c0_i32_1333_r0
  let v2846_r0 : Index := Scalar.indexCast v2837_r0
  let c2_1339_r0 : Index := 2#32
  let c2176_1340_r0 : Index := 2176#32
  ![v2846_r0.toNat, 2, 2176]
def k0_off112 (k0_t1 : Fin k0_t1_loop.trips) (c0_i32_1333_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1332_r0 : BitVec 32 := 2#32
  let v2836_r0 : BitVec 32 := Scalar.muli v831_r0 c2_i32_1332_r0
  let v2837_r0 : BitVec 32 := Scalar.addi v2836_r0 c0_i32_1333_r0
  let v2862_r0 : Index := Scalar.indexCast v2837_r0
  let c1_1342_r0 : Index := 1#32
  let c2176_1343_r0 : Index := 2176#32
  ![v2862_r0.toNat, 1, 2176]
def k0_off113 (k0_t1 : Fin k0_t1_loop.trips) (c0_i32_1333_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1332_r0 : BitVec 32 := 2#32
  let v2836_r0 : BitVec 32 := Scalar.muli v831_r0 c2_i32_1332_r0
  let v2837_r0 : BitVec 32 := Scalar.addi v2836_r0 c0_i32_1333_r0
  let v2868_r0 : Index := Scalar.indexCast v2837_r0
  let c3_1344_r0 : Index := 3#32
  let c2176_1345_r0 : Index := 2176#32
  ![v2868_r0.toNat, 3, 2176]
def k0_off114 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2885_r0 : Index := Scalar.indexCast v840_r0
  let c544_1347_r0 : Index := 544#32
  let c0_1348_r0 : Index := 0#32
  ![v2885_r0.toNat, 544, 0]
def k0_off115 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v2943_r0 : Index := Scalar.indexCast v840_r0
  let c544_1369_r0 : Index := 544#32
  let c128_1370_r0 : Index := 128#32
  ![v2943_r0.toNat, 544, 128]
def k0_off116 (k0_t1 : Fin k0_t1_loop.trips) (c0_i32_1376_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1375_r0 : BitVec 32 := 2#32
  let v2953_r0 : BitVec 32 := Scalar.muli v831_r0 c2_i32_1375_r0
  let v2954_r0 : BitVec 32 := Scalar.addi v2953_r0 c0_i32_1376_r0
  let v2957_r0 : Index := Scalar.indexCast v2954_r0
  let c0_1381_r0 : Index := 0#32
  let c2304_1382_r0 : Index := 2304#32
  ![v2957_r0.toNat, 0, 2304]
def k0_off117 (k0_t1 : Fin k0_t1_loop.trips) (c0_i32_1376_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1375_r0 : BitVec 32 := 2#32
  let v2953_r0 : BitVec 32 := Scalar.muli v831_r0 c2_i32_1375_r0
  let v2954_r0 : BitVec 32 := Scalar.addi v2953_r0 c0_i32_1376_r0
  let v2963_r0 : Index := Scalar.indexCast v2954_r0
  let c2_1383_r0 : Index := 2#32
  let c2304_1384_r0 : Index := 2304#32
  ![v2963_r0.toNat, 2, 2304]
def k0_off118 (k0_t1 : Fin k0_t1_loop.trips) (c0_i32_1376_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1375_r0 : BitVec 32 := 2#32
  let v2953_r0 : BitVec 32 := Scalar.muli v831_r0 c2_i32_1375_r0
  let v2954_r0 : BitVec 32 := Scalar.addi v2953_r0 c0_i32_1376_r0
  let v2979_r0 : Index := Scalar.indexCast v2954_r0
  let c1_1386_r0 : Index := 1#32
  let c2304_1387_r0 : Index := 2304#32
  ![v2979_r0.toNat, 1, 2304]
def k0_off119 (k0_t1 : Fin k0_t1_loop.trips) (c0_i32_1376_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1375_r0 : BitVec 32 := 2#32
  let v2953_r0 : BitVec 32 := Scalar.muli v831_r0 c2_i32_1375_r0
  let v2954_r0 : BitVec 32 := Scalar.addi v2953_r0 c0_i32_1376_r0
  let v2985_r0 : Index := Scalar.indexCast v2954_r0
  let c3_1388_r0 : Index := 3#32
  let c2304_1389_r0 : Index := 2304#32
  ![v2985_r0.toNat, 3, 2304]
def k0_off120 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3002_r0 : Index := Scalar.indexCast v840_r0
  let c576_1391_r0 : Index := 576#32
  let c0_1392_r0 : Index := 0#32
  ![v3002_r0.toNat, 576, 0]
def k0_off121 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3060_r0 : Index := Scalar.indexCast v840_r0
  let c576_1413_r0 : Index := 576#32
  let c128_1414_r0 : Index := 128#32
  ![v3060_r0.toNat, 576, 128]
def k0_off122 (k0_t1 : Fin k0_t1_loop.trips) (c0_i32_1420_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1419_r0 : BitVec 32 := 2#32
  let v3070_r0 : BitVec 32 := Scalar.muli v831_r0 c2_i32_1419_r0
  let v3071_r0 : BitVec 32 := Scalar.addi v3070_r0 c0_i32_1420_r0
  let v3074_r0 : Index := Scalar.indexCast v3071_r0
  let c0_1425_r0 : Index := 0#32
  let c2432_r0 : Index := 2432#32
  ![v3074_r0.toNat, 0, 2432]
def k0_off123 (k0_t1 : Fin k0_t1_loop.trips) (c0_i32_1420_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1419_r0 : BitVec 32 := 2#32
  let v3070_r0 : BitVec 32 := Scalar.muli v831_r0 c2_i32_1419_r0
  let v3071_r0 : BitVec 32 := Scalar.addi v3070_r0 c0_i32_1420_r0
  let v3080_r0 : Index := Scalar.indexCast v3071_r0
  let c2_1426_r0 : Index := 2#32
  let c2432_1427_r0 : Index := 2432#32
  ![v3080_r0.toNat, 2, 2432]
def k0_off124 (k0_t1 : Fin k0_t1_loop.trips) (c0_i32_1420_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1419_r0 : BitVec 32 := 2#32
  let v3070_r0 : BitVec 32 := Scalar.muli v831_r0 c2_i32_1419_r0
  let v3071_r0 : BitVec 32 := Scalar.addi v3070_r0 c0_i32_1420_r0
  let v3096_r0 : Index := Scalar.indexCast v3071_r0
  let c1_1429_r0 : Index := 1#32
  let c2432_1430_r0 : Index := 2432#32
  ![v3096_r0.toNat, 1, 2432]
def k0_off125 (k0_t1 : Fin k0_t1_loop.trips) (c0_i32_1420_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1419_r0 : BitVec 32 := 2#32
  let v3070_r0 : BitVec 32 := Scalar.muli v831_r0 c2_i32_1419_r0
  let v3071_r0 : BitVec 32 := Scalar.addi v3070_r0 c0_i32_1420_r0
  let v3102_r0 : Index := Scalar.indexCast v3071_r0
  let c3_1431_r0 : Index := 3#32
  let c2432_1432_r0 : Index := 2432#32
  ![v3102_r0.toNat, 3, 2432]
def k0_off126 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3119_r0 : Index := Scalar.indexCast v840_r0
  let c608_1434_r0 : Index := 608#32
  let c0_1435_r0 : Index := 0#32
  ![v3119_r0.toNat, 608, 0]
def k0_off127 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3177_r0 : Index := Scalar.indexCast v840_r0
  let c608_1456_r0 : Index := 608#32
  let c128_1457_r0 : Index := 128#32
  ![v3177_r0.toNat, 608, 128]
def k0_off128 (k0_t1 : Fin k0_t1_loop.trips) (c0_i32_1463_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1462_r0 : BitVec 32 := 2#32
  let v3187_r0 : BitVec 32 := Scalar.muli v831_r0 c2_i32_1462_r0
  let v3188_r0 : BitVec 32 := Scalar.addi v3187_r0 c0_i32_1463_r0
  let v3191_r0 : Index := Scalar.indexCast v3188_r0
  let c0_1468_r0 : Index := 0#32
  let c2560_1469_r0 : Index := 2560#32
  ![v3191_r0.toNat, 0, 2560]
def k0_off129 (k0_t1 : Fin k0_t1_loop.trips) (c0_i32_1463_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1462_r0 : BitVec 32 := 2#32
  let v3187_r0 : BitVec 32 := Scalar.muli v831_r0 c2_i32_1462_r0
  let v3188_r0 : BitVec 32 := Scalar.addi v3187_r0 c0_i32_1463_r0
  let v3197_r0 : Index := Scalar.indexCast v3188_r0
  let c2_1470_r0 : Index := 2#32
  let c2560_1471_r0 : Index := 2560#32
  ![v3197_r0.toNat, 2, 2560]
def k0_off130 (k0_t1 : Fin k0_t1_loop.trips) (c0_i32_1463_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1462_r0 : BitVec 32 := 2#32
  let v3187_r0 : BitVec 32 := Scalar.muli v831_r0 c2_i32_1462_r0
  let v3188_r0 : BitVec 32 := Scalar.addi v3187_r0 c0_i32_1463_r0
  let v3213_r0 : Index := Scalar.indexCast v3188_r0
  let c1_1473_r0 : Index := 1#32
  let c2560_1474_r0 : Index := 2560#32
  ![v3213_r0.toNat, 1, 2560]
def k0_off131 (k0_t1 : Fin k0_t1_loop.trips) (c0_i32_1463_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1462_r0 : BitVec 32 := 2#32
  let v3187_r0 : BitVec 32 := Scalar.muli v831_r0 c2_i32_1462_r0
  let v3188_r0 : BitVec 32 := Scalar.addi v3187_r0 c0_i32_1463_r0
  let v3219_r0 : Index := Scalar.indexCast v3188_r0
  let c3_1475_r0 : Index := 3#32
  let c2560_1476_r0 : Index := 2560#32
  ![v3219_r0.toNat, 3, 2560]
def k0_off132 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3236_r0 : Index := Scalar.indexCast v840_r0
  let c640_1478_r0 : Index := 640#32
  let c0_1479_r0 : Index := 0#32
  ![v3236_r0.toNat, 640, 0]
def k0_off133 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3294_r0 : Index := Scalar.indexCast v840_r0
  let c640_1500_r0 : Index := 640#32
  let c128_1501_r0 : Index := 128#32
  ![v3294_r0.toNat, 640, 128]
def k0_off134 (k0_t1 : Fin k0_t1_loop.trips) (c0_i32_1507_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1506_r0 : BitVec 32 := 2#32
  let v3304_r0 : BitVec 32 := Scalar.muli v831_r0 c2_i32_1506_r0
  let v3305_r0 : BitVec 32 := Scalar.addi v3304_r0 c0_i32_1507_r0
  let v3308_r0 : Index := Scalar.indexCast v3305_r0
  let c0_1512_r0 : Index := 0#32
  let c2688_r0 : Index := 2688#32
  ![v3308_r0.toNat, 0, 2688]
def k0_off135 (k0_t1 : Fin k0_t1_loop.trips) (c0_i32_1507_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1506_r0 : BitVec 32 := 2#32
  let v3304_r0 : BitVec 32 := Scalar.muli v831_r0 c2_i32_1506_r0
  let v3305_r0 : BitVec 32 := Scalar.addi v3304_r0 c0_i32_1507_r0
  let v3314_r0 : Index := Scalar.indexCast v3305_r0
  let c2_1513_r0 : Index := 2#32
  let c2688_1514_r0 : Index := 2688#32
  ![v3314_r0.toNat, 2, 2688]
def k0_off136 (k0_t1 : Fin k0_t1_loop.trips) (c0_i32_1507_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1506_r0 : BitVec 32 := 2#32
  let v3304_r0 : BitVec 32 := Scalar.muli v831_r0 c2_i32_1506_r0
  let v3305_r0 : BitVec 32 := Scalar.addi v3304_r0 c0_i32_1507_r0
  let v3330_r0 : Index := Scalar.indexCast v3305_r0
  let c1_1516_r0 : Index := 1#32
  let c2688_1517_r0 : Index := 2688#32
  ![v3330_r0.toNat, 1, 2688]
def k0_off137 (k0_t1 : Fin k0_t1_loop.trips) (c0_i32_1507_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1506_r0 : BitVec 32 := 2#32
  let v3304_r0 : BitVec 32 := Scalar.muli v831_r0 c2_i32_1506_r0
  let v3305_r0 : BitVec 32 := Scalar.addi v3304_r0 c0_i32_1507_r0
  let v3336_r0 : Index := Scalar.indexCast v3305_r0
  let c3_1518_r0 : Index := 3#32
  let c2688_1519_r0 : Index := 2688#32
  ![v3336_r0.toNat, 3, 2688]
def k0_off138 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3353_r0 : Index := Scalar.indexCast v840_r0
  let c672_1521_r0 : Index := 672#32
  let c0_1522_r0 : Index := 0#32
  ![v3353_r0.toNat, 672, 0]
def k0_off139 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3411_r0 : Index := Scalar.indexCast v840_r0
  let c672_1543_r0 : Index := 672#32
  let c128_1544_r0 : Index := 128#32
  ![v3411_r0.toNat, 672, 128]
def k0_off140 (k0_t1 : Fin k0_t1_loop.trips) (c0_i32_1550_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1549_r0 : BitVec 32 := 2#32
  let v3421_r0 : BitVec 32 := Scalar.muli v831_r0 c2_i32_1549_r0
  let v3422_r0 : BitVec 32 := Scalar.addi v3421_r0 c0_i32_1550_r0
  let v3425_r0 : Index := Scalar.indexCast v3422_r0
  let c0_1555_r0 : Index := 0#32
  let c2816_1556_r0 : Index := 2816#32
  ![v3425_r0.toNat, 0, 2816]
def k0_off141 (k0_t1 : Fin k0_t1_loop.trips) (c0_i32_1550_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1549_r0 : BitVec 32 := 2#32
  let v3421_r0 : BitVec 32 := Scalar.muli v831_r0 c2_i32_1549_r0
  let v3422_r0 : BitVec 32 := Scalar.addi v3421_r0 c0_i32_1550_r0
  let v3431_r0 : Index := Scalar.indexCast v3422_r0
  let c2_1557_r0 : Index := 2#32
  let c2816_1558_r0 : Index := 2816#32
  ![v3431_r0.toNat, 2, 2816]
def k0_off142 (k0_t1 : Fin k0_t1_loop.trips) (c0_i32_1550_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1549_r0 : BitVec 32 := 2#32
  let v3421_r0 : BitVec 32 := Scalar.muli v831_r0 c2_i32_1549_r0
  let v3422_r0 : BitVec 32 := Scalar.addi v3421_r0 c0_i32_1550_r0
  let v3447_r0 : Index := Scalar.indexCast v3422_r0
  let c1_1560_r0 : Index := 1#32
  let c2816_1561_r0 : Index := 2816#32
  ![v3447_r0.toNat, 1, 2816]
def k0_off143 (k0_t1 : Fin k0_t1_loop.trips) (c0_i32_1550_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1549_r0 : BitVec 32 := 2#32
  let v3421_r0 : BitVec 32 := Scalar.muli v831_r0 c2_i32_1549_r0
  let v3422_r0 : BitVec 32 := Scalar.addi v3421_r0 c0_i32_1550_r0
  let v3453_r0 : Index := Scalar.indexCast v3422_r0
  let c3_1562_r0 : Index := 3#32
  let c2816_1563_r0 : Index := 2816#32
  ![v3453_r0.toNat, 3, 2816]
def k0_off144 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3470_r0 : Index := Scalar.indexCast v840_r0
  let c704_1565_r0 : Index := 704#32
  let c0_1566_r0 : Index := 0#32
  ![v3470_r0.toNat, 704, 0]
def k0_off145 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3528_r0 : Index := Scalar.indexCast v840_r0
  let c704_1587_r0 : Index := 704#32
  let c128_1588_r0 : Index := 128#32
  ![v3528_r0.toNat, 704, 128]
def k0_off146 (k0_t1 : Fin k0_t1_loop.trips) (c0_i32_1594_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1593_r0 : BitVec 32 := 2#32
  let v3538_r0 : BitVec 32 := Scalar.muli v831_r0 c2_i32_1593_r0
  let v3539_r0 : BitVec 32 := Scalar.addi v3538_r0 c0_i32_1594_r0
  let v3542_r0 : Index := Scalar.indexCast v3539_r0
  let c0_1599_r0 : Index := 0#32
  let c2944_r0 : Index := 2944#32
  ![v3542_r0.toNat, 0, 2944]
def k0_off147 (k0_t1 : Fin k0_t1_loop.trips) (c0_i32_1594_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1593_r0 : BitVec 32 := 2#32
  let v3538_r0 : BitVec 32 := Scalar.muli v831_r0 c2_i32_1593_r0
  let v3539_r0 : BitVec 32 := Scalar.addi v3538_r0 c0_i32_1594_r0
  let v3548_r0 : Index := Scalar.indexCast v3539_r0
  let c2_1600_r0 : Index := 2#32
  let c2944_1601_r0 : Index := 2944#32
  ![v3548_r0.toNat, 2, 2944]
def k0_off148 (k0_t1 : Fin k0_t1_loop.trips) (c0_i32_1594_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1593_r0 : BitVec 32 := 2#32
  let v3538_r0 : BitVec 32 := Scalar.muli v831_r0 c2_i32_1593_r0
  let v3539_r0 : BitVec 32 := Scalar.addi v3538_r0 c0_i32_1594_r0
  let v3564_r0 : Index := Scalar.indexCast v3539_r0
  let c1_1603_r0 : Index := 1#32
  let c2944_1604_r0 : Index := 2944#32
  ![v3564_r0.toNat, 1, 2944]
def k0_off149 (k0_t1 : Fin k0_t1_loop.trips) (c0_i32_1594_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1593_r0 : BitVec 32 := 2#32
  let v3538_r0 : BitVec 32 := Scalar.muli v831_r0 c2_i32_1593_r0
  let v3539_r0 : BitVec 32 := Scalar.addi v3538_r0 c0_i32_1594_r0
  let v3570_r0 : Index := Scalar.indexCast v3539_r0
  let c3_1605_r0 : Index := 3#32
  let c2944_1606_r0 : Index := 2944#32
  ![v3570_r0.toNat, 3, 2944]
def k0_off150 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3587_r0 : Index := Scalar.indexCast v840_r0
  let c736_1608_r0 : Index := 736#32
  let c0_1609_r0 : Index := 0#32
  ![v3587_r0.toNat, 736, 0]
def k0_off151 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3645_r0 : Index := Scalar.indexCast v840_r0
  let c736_1630_r0 : Index := 736#32
  let c128_1631_r0 : Index := 128#32
  ![v3645_r0.toNat, 736, 128]
def k0_off152 (k0_t1 : Fin k0_t1_loop.trips) (c0_i32_1637_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1636_r0 : BitVec 32 := 2#32
  let v3655_r0 : BitVec 32 := Scalar.muli v831_r0 c2_i32_1636_r0
  let v3656_r0 : BitVec 32 := Scalar.addi v3655_r0 c0_i32_1637_r0
  let v3659_r0 : Index := Scalar.indexCast v3656_r0
  let c0_1642_r0 : Index := 0#32
  let c3072_1643_r0 : Index := 3072#32
  ![v3659_r0.toNat, 0, 3072]
def k0_off153 (k0_t1 : Fin k0_t1_loop.trips) (c0_i32_1637_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1636_r0 : BitVec 32 := 2#32
  let v3655_r0 : BitVec 32 := Scalar.muli v831_r0 c2_i32_1636_r0
  let v3656_r0 : BitVec 32 := Scalar.addi v3655_r0 c0_i32_1637_r0
  let v3665_r0 : Index := Scalar.indexCast v3656_r0
  let c2_1644_r0 : Index := 2#32
  let c3072_1645_r0 : Index := 3072#32
  ![v3665_r0.toNat, 2, 3072]
def k0_off154 (k0_t1 : Fin k0_t1_loop.trips) (c0_i32_1637_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1636_r0 : BitVec 32 := 2#32
  let v3655_r0 : BitVec 32 := Scalar.muli v831_r0 c2_i32_1636_r0
  let v3656_r0 : BitVec 32 := Scalar.addi v3655_r0 c0_i32_1637_r0
  let v3681_r0 : Index := Scalar.indexCast v3656_r0
  let c1_1647_r0 : Index := 1#32
  let c3072_1648_r0 : Index := 3072#32
  ![v3681_r0.toNat, 1, 3072]
def k0_off155 (k0_t1 : Fin k0_t1_loop.trips) (c0_i32_1637_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1636_r0 : BitVec 32 := 2#32
  let v3655_r0 : BitVec 32 := Scalar.muli v831_r0 c2_i32_1636_r0
  let v3656_r0 : BitVec 32 := Scalar.addi v3655_r0 c0_i32_1637_r0
  let v3687_r0 : Index := Scalar.indexCast v3656_r0
  let c3_1649_r0 : Index := 3#32
  let c3072_1650_r0 : Index := 3072#32
  ![v3687_r0.toNat, 3, 3072]
def k0_off156 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3704_r0 : Index := Scalar.indexCast v840_r0
  let c768_1652_r0 : Index := 768#32
  let c0_1653_r0 : Index := 0#32
  ![v3704_r0.toNat, 768, 0]
def k0_off157 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3762_r0 : Index := Scalar.indexCast v840_r0
  let c768_1674_r0 : Index := 768#32
  let c128_1675_r0 : Index := 128#32
  ![v3762_r0.toNat, 768, 128]
def k0_off158 (k0_t1 : Fin k0_t1_loop.trips) (c0_i32_1681_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1680_r0 : BitVec 32 := 2#32
  let v3772_r0 : BitVec 32 := Scalar.muli v831_r0 c2_i32_1680_r0
  let v3773_r0 : BitVec 32 := Scalar.addi v3772_r0 c0_i32_1681_r0
  let v3776_r0 : Index := Scalar.indexCast v3773_r0
  let c0_1686_r0 : Index := 0#32
  let c3200_r0 : Index := 3200#32
  ![v3776_r0.toNat, 0, 3200]
def k0_off159 (k0_t1 : Fin k0_t1_loop.trips) (c0_i32_1681_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1680_r0 : BitVec 32 := 2#32
  let v3772_r0 : BitVec 32 := Scalar.muli v831_r0 c2_i32_1680_r0
  let v3773_r0 : BitVec 32 := Scalar.addi v3772_r0 c0_i32_1681_r0
  let v3782_r0 : Index := Scalar.indexCast v3773_r0
  let c2_1687_r0 : Index := 2#32
  let c3200_1688_r0 : Index := 3200#32
  ![v3782_r0.toNat, 2, 3200]
def k0_off160 (k0_t1 : Fin k0_t1_loop.trips) (c0_i32_1681_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1680_r0 : BitVec 32 := 2#32
  let v3772_r0 : BitVec 32 := Scalar.muli v831_r0 c2_i32_1680_r0
  let v3773_r0 : BitVec 32 := Scalar.addi v3772_r0 c0_i32_1681_r0
  let v3798_r0 : Index := Scalar.indexCast v3773_r0
  let c1_1690_r0 : Index := 1#32
  let c3200_1691_r0 : Index := 3200#32
  ![v3798_r0.toNat, 1, 3200]
def k0_off161 (k0_t1 : Fin k0_t1_loop.trips) (c0_i32_1681_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1680_r0 : BitVec 32 := 2#32
  let v3772_r0 : BitVec 32 := Scalar.muli v831_r0 c2_i32_1680_r0
  let v3773_r0 : BitVec 32 := Scalar.addi v3772_r0 c0_i32_1681_r0
  let v3804_r0 : Index := Scalar.indexCast v3773_r0
  let c3_1692_r0 : Index := 3#32
  let c3200_1693_r0 : Index := 3200#32
  ![v3804_r0.toNat, 3, 3200]
def k0_off162 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3821_r0 : Index := Scalar.indexCast v840_r0
  let c800_1695_r0 : Index := 800#32
  let c0_1696_r0 : Index := 0#32
  ![v3821_r0.toNat, 800, 0]
def k0_off163 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3879_r0 : Index := Scalar.indexCast v840_r0
  let c800_1717_r0 : Index := 800#32
  let c128_1718_r0 : Index := 128#32
  ![v3879_r0.toNat, 800, 128]
def k0_off164 (k0_t1 : Fin k0_t1_loop.trips) (c0_i32_1724_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1723_r0 : BitVec 32 := 2#32
  let v3889_r0 : BitVec 32 := Scalar.muli v831_r0 c2_i32_1723_r0
  let v3890_r0 : BitVec 32 := Scalar.addi v3889_r0 c0_i32_1724_r0
  let v3893_r0 : Index := Scalar.indexCast v3890_r0
  let c0_1729_r0 : Index := 0#32
  let c3328_1730_r0 : Index := 3328#32
  ![v3893_r0.toNat, 0, 3328]
def k0_off165 (k0_t1 : Fin k0_t1_loop.trips) (c0_i32_1724_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1723_r0 : BitVec 32 := 2#32
  let v3889_r0 : BitVec 32 := Scalar.muli v831_r0 c2_i32_1723_r0
  let v3890_r0 : BitVec 32 := Scalar.addi v3889_r0 c0_i32_1724_r0
  let v3899_r0 : Index := Scalar.indexCast v3890_r0
  let c2_1731_r0 : Index := 2#32
  let c3328_1732_r0 : Index := 3328#32
  ![v3899_r0.toNat, 2, 3328]
def k0_off166 (k0_t1 : Fin k0_t1_loop.trips) (c0_i32_1724_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1723_r0 : BitVec 32 := 2#32
  let v3889_r0 : BitVec 32 := Scalar.muli v831_r0 c2_i32_1723_r0
  let v3890_r0 : BitVec 32 := Scalar.addi v3889_r0 c0_i32_1724_r0
  let v3915_r0 : Index := Scalar.indexCast v3890_r0
  let c1_1734_r0 : Index := 1#32
  let c3328_1735_r0 : Index := 3328#32
  ![v3915_r0.toNat, 1, 3328]
def k0_off167 (k0_t1 : Fin k0_t1_loop.trips) (c0_i32_1724_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1723_r0 : BitVec 32 := 2#32
  let v3889_r0 : BitVec 32 := Scalar.muli v831_r0 c2_i32_1723_r0
  let v3890_r0 : BitVec 32 := Scalar.addi v3889_r0 c0_i32_1724_r0
  let v3921_r0 : Index := Scalar.indexCast v3890_r0
  let c3_1736_r0 : Index := 3#32
  let c3328_1737_r0 : Index := 3328#32
  ![v3921_r0.toNat, 3, 3328]
def k0_off168 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3938_r0 : Index := Scalar.indexCast v840_r0
  let c832_1739_r0 : Index := 832#32
  let c0_1740_r0 : Index := 0#32
  ![v3938_r0.toNat, 832, 0]
def k0_off169 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v3996_r0 : Index := Scalar.indexCast v840_r0
  let c832_1761_r0 : Index := 832#32
  let c128_1762_r0 : Index := 128#32
  ![v3996_r0.toNat, 832, 128]
def k0_off170 (k0_t1 : Fin k0_t1_loop.trips) (c0_i32_1768_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1767_r0 : BitVec 32 := 2#32
  let v4006_r0 : BitVec 32 := Scalar.muli v831_r0 c2_i32_1767_r0
  let v4007_r0 : BitVec 32 := Scalar.addi v4006_r0 c0_i32_1768_r0
  let v4010_r0 : Index := Scalar.indexCast v4007_r0
  let c0_1773_r0 : Index := 0#32
  let c3456_r0 : Index := 3456#32
  ![v4010_r0.toNat, 0, 3456]
def k0_off171 (k0_t1 : Fin k0_t1_loop.trips) (c0_i32_1768_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1767_r0 : BitVec 32 := 2#32
  let v4006_r0 : BitVec 32 := Scalar.muli v831_r0 c2_i32_1767_r0
  let v4007_r0 : BitVec 32 := Scalar.addi v4006_r0 c0_i32_1768_r0
  let v4016_r0 : Index := Scalar.indexCast v4007_r0
  let c2_1774_r0 : Index := 2#32
  let c3456_1775_r0 : Index := 3456#32
  ![v4016_r0.toNat, 2, 3456]
def k0_off172 (k0_t1 : Fin k0_t1_loop.trips) (c0_i32_1768_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1767_r0 : BitVec 32 := 2#32
  let v4006_r0 : BitVec 32 := Scalar.muli v831_r0 c2_i32_1767_r0
  let v4007_r0 : BitVec 32 := Scalar.addi v4006_r0 c0_i32_1768_r0
  let v4032_r0 : Index := Scalar.indexCast v4007_r0
  let c1_1777_r0 : Index := 1#32
  let c3456_1778_r0 : Index := 3456#32
  ![v4032_r0.toNat, 1, 3456]
def k0_off173 (k0_t1 : Fin k0_t1_loop.trips) (c0_i32_1768_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1767_r0 : BitVec 32 := 2#32
  let v4006_r0 : BitVec 32 := Scalar.muli v831_r0 c2_i32_1767_r0
  let v4007_r0 : BitVec 32 := Scalar.addi v4006_r0 c0_i32_1768_r0
  let v4038_r0 : Index := Scalar.indexCast v4007_r0
  let c3_1779_r0 : Index := 3#32
  let c3456_1780_r0 : Index := 3456#32
  ![v4038_r0.toNat, 3, 3456]
def k0_off174 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4055_r0 : Index := Scalar.indexCast v840_r0
  let c864_1782_r0 : Index := 864#32
  let c0_1783_r0 : Index := 0#32
  ![v4055_r0.toNat, 864, 0]
def k0_off175 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4113_r0 : Index := Scalar.indexCast v840_r0
  let c864_1804_r0 : Index := 864#32
  let c128_1805_r0 : Index := 128#32
  ![v4113_r0.toNat, 864, 128]
def k0_off176 (k0_t1 : Fin k0_t1_loop.trips) (c0_i32_1811_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1810_r0 : BitVec 32 := 2#32
  let v4123_r0 : BitVec 32 := Scalar.muli v831_r0 c2_i32_1810_r0
  let v4124_r0 : BitVec 32 := Scalar.addi v4123_r0 c0_i32_1811_r0
  let v4127_r0 : Index := Scalar.indexCast v4124_r0
  let c0_1816_r0 : Index := 0#32
  let c3584_1817_r0 : Index := 3584#32
  ![v4127_r0.toNat, 0, 3584]
def k0_off177 (k0_t1 : Fin k0_t1_loop.trips) (c0_i32_1811_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1810_r0 : BitVec 32 := 2#32
  let v4123_r0 : BitVec 32 := Scalar.muli v831_r0 c2_i32_1810_r0
  let v4124_r0 : BitVec 32 := Scalar.addi v4123_r0 c0_i32_1811_r0
  let v4133_r0 : Index := Scalar.indexCast v4124_r0
  let c2_1818_r0 : Index := 2#32
  let c3584_1819_r0 : Index := 3584#32
  ![v4133_r0.toNat, 2, 3584]
def k0_off178 (k0_t1 : Fin k0_t1_loop.trips) (c0_i32_1811_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1810_r0 : BitVec 32 := 2#32
  let v4123_r0 : BitVec 32 := Scalar.muli v831_r0 c2_i32_1810_r0
  let v4124_r0 : BitVec 32 := Scalar.addi v4123_r0 c0_i32_1811_r0
  let v4149_r0 : Index := Scalar.indexCast v4124_r0
  let c1_1821_r0 : Index := 1#32
  let c3584_1822_r0 : Index := 3584#32
  ![v4149_r0.toNat, 1, 3584]
def k0_off179 (k0_t1 : Fin k0_t1_loop.trips) (c0_i32_1811_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1810_r0 : BitVec 32 := 2#32
  let v4123_r0 : BitVec 32 := Scalar.muli v831_r0 c2_i32_1810_r0
  let v4124_r0 : BitVec 32 := Scalar.addi v4123_r0 c0_i32_1811_r0
  let v4155_r0 : Index := Scalar.indexCast v4124_r0
  let c3_1823_r0 : Index := 3#32
  let c3584_1824_r0 : Index := 3584#32
  ![v4155_r0.toNat, 3, 3584]
def k0_off180 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4172_r0 : Index := Scalar.indexCast v840_r0
  let c896_1826_r0 : Index := 896#32
  let c0_1827_r0 : Index := 0#32
  ![v4172_r0.toNat, 896, 0]
def k0_off181 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4230_r0 : Index := Scalar.indexCast v840_r0
  let c896_1848_r0 : Index := 896#32
  let c128_1849_r0 : Index := 128#32
  ![v4230_r0.toNat, 896, 128]
def k0_off182 (k0_t1 : Fin k0_t1_loop.trips) (c0_i32_1855_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1854_r0 : BitVec 32 := 2#32
  let v4240_r0 : BitVec 32 := Scalar.muli v831_r0 c2_i32_1854_r0
  let v4241_r0 : BitVec 32 := Scalar.addi v4240_r0 c0_i32_1855_r0
  let v4244_r0 : Index := Scalar.indexCast v4241_r0
  let c0_1860_r0 : Index := 0#32
  let c3712_r0 : Index := 3712#32
  ![v4244_r0.toNat, 0, 3712]
def k0_off183 (k0_t1 : Fin k0_t1_loop.trips) (c0_i32_1855_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1854_r0 : BitVec 32 := 2#32
  let v4240_r0 : BitVec 32 := Scalar.muli v831_r0 c2_i32_1854_r0
  let v4241_r0 : BitVec 32 := Scalar.addi v4240_r0 c0_i32_1855_r0
  let v4250_r0 : Index := Scalar.indexCast v4241_r0
  let c2_1861_r0 : Index := 2#32
  let c3712_1862_r0 : Index := 3712#32
  ![v4250_r0.toNat, 2, 3712]
def k0_off184 (k0_t1 : Fin k0_t1_loop.trips) (c0_i32_1855_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1854_r0 : BitVec 32 := 2#32
  let v4240_r0 : BitVec 32 := Scalar.muli v831_r0 c2_i32_1854_r0
  let v4241_r0 : BitVec 32 := Scalar.addi v4240_r0 c0_i32_1855_r0
  let v4266_r0 : Index := Scalar.indexCast v4241_r0
  let c1_1864_r0 : Index := 1#32
  let c3712_1865_r0 : Index := 3712#32
  ![v4266_r0.toNat, 1, 3712]
def k0_off185 (k0_t1 : Fin k0_t1_loop.trips) (c0_i32_1855_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1854_r0 : BitVec 32 := 2#32
  let v4240_r0 : BitVec 32 := Scalar.muli v831_r0 c2_i32_1854_r0
  let v4241_r0 : BitVec 32 := Scalar.addi v4240_r0 c0_i32_1855_r0
  let v4272_r0 : Index := Scalar.indexCast v4241_r0
  let c3_1866_r0 : Index := 3#32
  let c3712_1867_r0 : Index := 3712#32
  ![v4272_r0.toNat, 3, 3712]
def k0_off186 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4289_r0 : Index := Scalar.indexCast v840_r0
  let c928_1869_r0 : Index := 928#32
  let c0_1870_r0 : Index := 0#32
  ![v4289_r0.toNat, 928, 0]
def k0_off187 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4347_r0 : Index := Scalar.indexCast v840_r0
  let c928_1891_r0 : Index := 928#32
  let c128_1892_r0 : Index := 128#32
  ![v4347_r0.toNat, 928, 128]
def k0_off188 (k0_t1 : Fin k0_t1_loop.trips) (c0_i32_1898_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1897_r0 : BitVec 32 := 2#32
  let v4357_r0 : BitVec 32 := Scalar.muli v831_r0 c2_i32_1897_r0
  let v4358_r0 : BitVec 32 := Scalar.addi v4357_r0 c0_i32_1898_r0
  let v4361_r0 : Index := Scalar.indexCast v4358_r0
  let c0_1903_r0 : Index := 0#32
  let c3840_1904_r0 : Index := 3840#32
  ![v4361_r0.toNat, 0, 3840]
def k0_off189 (k0_t1 : Fin k0_t1_loop.trips) (c0_i32_1898_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1897_r0 : BitVec 32 := 2#32
  let v4357_r0 : BitVec 32 := Scalar.muli v831_r0 c2_i32_1897_r0
  let v4358_r0 : BitVec 32 := Scalar.addi v4357_r0 c0_i32_1898_r0
  let v4367_r0 : Index := Scalar.indexCast v4358_r0
  let c2_1905_r0 : Index := 2#32
  let c3840_1906_r0 : Index := 3840#32
  ![v4367_r0.toNat, 2, 3840]
def k0_off190 (k0_t1 : Fin k0_t1_loop.trips) (c0_i32_1898_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1897_r0 : BitVec 32 := 2#32
  let v4357_r0 : BitVec 32 := Scalar.muli v831_r0 c2_i32_1897_r0
  let v4358_r0 : BitVec 32 := Scalar.addi v4357_r0 c0_i32_1898_r0
  let v4383_r0 : Index := Scalar.indexCast v4358_r0
  let c1_1908_r0 : Index := 1#32
  let c3840_1909_r0 : Index := 3840#32
  ![v4383_r0.toNat, 1, 3840]
def k0_off191 (k0_t1 : Fin k0_t1_loop.trips) (c0_i32_1898_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1897_r0 : BitVec 32 := 2#32
  let v4357_r0 : BitVec 32 := Scalar.muli v831_r0 c2_i32_1897_r0
  let v4358_r0 : BitVec 32 := Scalar.addi v4357_r0 c0_i32_1898_r0
  let v4389_r0 : Index := Scalar.indexCast v4358_r0
  let c3_1910_r0 : Index := 3#32
  let c3840_1911_r0 : Index := 3840#32
  ![v4389_r0.toNat, 3, 3840]
def k0_off192 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4406_r0 : Index := Scalar.indexCast v840_r0
  let c960_1913_r0 : Index := 960#32
  let c0_1914_r0 : Index := 0#32
  ![v4406_r0.toNat, 960, 0]
def k0_off193 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4464_r0 : Index := Scalar.indexCast v840_r0
  let c960_1935_r0 : Index := 960#32
  let c128_1936_r0 : Index := 128#32
  ![v4464_r0.toNat, 960, 128]
def k0_off194 (k0_t1 : Fin k0_t1_loop.trips) (c0_i32_1942_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1941_r0 : BitVec 32 := 2#32
  let v4474_r0 : BitVec 32 := Scalar.muli v831_r0 c2_i32_1941_r0
  let v4475_r0 : BitVec 32 := Scalar.addi v4474_r0 c0_i32_1942_r0
  let v4478_r0 : Index := Scalar.indexCast v4475_r0
  let c0_1947_r0 : Index := 0#32
  let c3968_r0 : Index := 3968#32
  ![v4478_r0.toNat, 0, 3968]
def k0_off195 (k0_t1 : Fin k0_t1_loop.trips) (c0_i32_1942_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1941_r0 : BitVec 32 := 2#32
  let v4474_r0 : BitVec 32 := Scalar.muli v831_r0 c2_i32_1941_r0
  let v4475_r0 : BitVec 32 := Scalar.addi v4474_r0 c0_i32_1942_r0
  let v4484_r0 : Index := Scalar.indexCast v4475_r0
  let c2_1948_r0 : Index := 2#32
  let c3968_1949_r0 : Index := 3968#32
  ![v4484_r0.toNat, 2, 3968]
def k0_off196 (k0_t1 : Fin k0_t1_loop.trips) (c0_i32_1942_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1941_r0 : BitVec 32 := 2#32
  let v4474_r0 : BitVec 32 := Scalar.muli v831_r0 c2_i32_1941_r0
  let v4475_r0 : BitVec 32 := Scalar.addi v4474_r0 c0_i32_1942_r0
  let v4500_r0 : Index := Scalar.indexCast v4475_r0
  let c1_1951_r0 : Index := 1#32
  let c3968_1952_r0 : Index := 3968#32
  ![v4500_r0.toNat, 1, 3968]
def k0_off197 (k0_t1 : Fin k0_t1_loop.trips) (c0_i32_1942_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1941_r0 : BitVec 32 := 2#32
  let v4474_r0 : BitVec 32 := Scalar.muli v831_r0 c2_i32_1941_r0
  let v4475_r0 : BitVec 32 := Scalar.addi v4474_r0 c0_i32_1942_r0
  let v4506_r0 : Index := Scalar.indexCast v4475_r0
  let c3_1953_r0 : Index := 3#32
  let c3968_1954_r0 : Index := 3968#32
  ![v4506_r0.toNat, 3, 3968]
def k0_off198 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4523_r0 : Index := Scalar.indexCast v840_r0
  let c992_1956_r0 : Index := 992#32
  let c0_1957_r0 : Index := 0#32
  ![v4523_r0.toNat, 992, 0]
def k0_off199 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4581_r0 : Index := Scalar.indexCast v840_r0
  let c992_1978_r0 : Index := 992#32
  let c128_1979_r0 : Index := 128#32
  ![v4581_r0.toNat, 992, 128]
def k0_off200 (k0_t1 : Fin k0_t1_loop.trips) (c0_i32_1985_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1984_r0 : BitVec 32 := 2#32
  let v4591_r0 : BitVec 32 := Scalar.muli v831_r0 c2_i32_1984_r0
  let v4592_r0 : BitVec 32 := Scalar.addi v4591_r0 c0_i32_1985_r0
  let v4595_r0 : Index := Scalar.indexCast v4592_r0
  let c0_1990_r0 : Index := 0#32
  let c4096_1991_r0 : Index := 4096#32
  ![v4595_r0.toNat, 0, 4096]
def k0_off201 (k0_t1 : Fin k0_t1_loop.trips) (c0_i32_1985_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1984_r0 : BitVec 32 := 2#32
  let v4591_r0 : BitVec 32 := Scalar.muli v831_r0 c2_i32_1984_r0
  let v4592_r0 : BitVec 32 := Scalar.addi v4591_r0 c0_i32_1985_r0
  let v4601_r0 : Index := Scalar.indexCast v4592_r0
  let c2_1992_r0 : Index := 2#32
  let c4096_1993_r0 : Index := 4096#32
  ![v4601_r0.toNat, 2, 4096]
def k0_off202 (k0_t1 : Fin k0_t1_loop.trips) (c0_i32_1985_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1984_r0 : BitVec 32 := 2#32
  let v4591_r0 : BitVec 32 := Scalar.muli v831_r0 c2_i32_1984_r0
  let v4592_r0 : BitVec 32 := Scalar.addi v4591_r0 c0_i32_1985_r0
  let v4617_r0 : Index := Scalar.indexCast v4592_r0
  let c1_1995_r0 : Index := 1#32
  let c4096_1996_r0 : Index := 4096#32
  ![v4617_r0.toNat, 1, 4096]
def k0_off203 (k0_t1 : Fin k0_t1_loop.trips) (c0_i32_1985_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_1984_r0 : BitVec 32 := 2#32
  let v4591_r0 : BitVec 32 := Scalar.muli v831_r0 c2_i32_1984_r0
  let v4592_r0 : BitVec 32 := Scalar.addi v4591_r0 c0_i32_1985_r0
  let v4623_r0 : Index := Scalar.indexCast v4592_r0
  let c3_1997_r0 : Index := 3#32
  let c4096_1998_r0 : Index := 4096#32
  ![v4623_r0.toNat, 3, 4096]
def k0_off204 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4640_r0 : Index := Scalar.indexCast v840_r0
  let c1024_2000_r0 : Index := 1024#32
  let c0_2001_r0 : Index := 0#32
  ![v4640_r0.toNat, 1024, 0]
def k0_off205 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4698_r0 : Index := Scalar.indexCast v840_r0
  let c1024_2022_r0 : Index := 1024#32
  let c128_2023_r0 : Index := 128#32
  ![v4698_r0.toNat, 1024, 128]
def k0_off206 (k0_t1 : Fin k0_t1_loop.trips) (c0_i32_2029_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2028_r0 : BitVec 32 := 2#32
  let v4708_r0 : BitVec 32 := Scalar.muli v831_r0 c2_i32_2028_r0
  let v4709_r0 : BitVec 32 := Scalar.addi v4708_r0 c0_i32_2029_r0
  let v4712_r0 : Index := Scalar.indexCast v4709_r0
  let c0_2034_r0 : Index := 0#32
  let c4224_r0 : Index := 4224#32
  ![v4712_r0.toNat, 0, 4224]
def k0_off207 (k0_t1 : Fin k0_t1_loop.trips) (c0_i32_2029_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2028_r0 : BitVec 32 := 2#32
  let v4708_r0 : BitVec 32 := Scalar.muli v831_r0 c2_i32_2028_r0
  let v4709_r0 : BitVec 32 := Scalar.addi v4708_r0 c0_i32_2029_r0
  let v4718_r0 : Index := Scalar.indexCast v4709_r0
  let c2_2035_r0 : Index := 2#32
  let c4224_2036_r0 : Index := 4224#32
  ![v4718_r0.toNat, 2, 4224]
def k0_off208 (k0_t1 : Fin k0_t1_loop.trips) (c0_i32_2029_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2028_r0 : BitVec 32 := 2#32
  let v4708_r0 : BitVec 32 := Scalar.muli v831_r0 c2_i32_2028_r0
  let v4709_r0 : BitVec 32 := Scalar.addi v4708_r0 c0_i32_2029_r0
  let v4734_r0 : Index := Scalar.indexCast v4709_r0
  let c1_2038_r0 : Index := 1#32
  let c4224_2039_r0 : Index := 4224#32
  ![v4734_r0.toNat, 1, 4224]
def k0_off209 (k0_t1 : Fin k0_t1_loop.trips) (c0_i32_2029_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2028_r0 : BitVec 32 := 2#32
  let v4708_r0 : BitVec 32 := Scalar.muli v831_r0 c2_i32_2028_r0
  let v4709_r0 : BitVec 32 := Scalar.addi v4708_r0 c0_i32_2029_r0
  let v4740_r0 : Index := Scalar.indexCast v4709_r0
  let c3_2040_r0 : Index := 3#32
  let c4224_2041_r0 : Index := 4224#32
  ![v4740_r0.toNat, 3, 4224]
def k0_off210 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4757_r0 : Index := Scalar.indexCast v840_r0
  let c1056_2043_r0 : Index := 1056#32
  let c0_2044_r0 : Index := 0#32
  ![v4757_r0.toNat, 1056, 0]
def k0_off211 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4815_r0 : Index := Scalar.indexCast v840_r0
  let c1056_2065_r0 : Index := 1056#32
  let c128_2066_r0 : Index := 128#32
  ![v4815_r0.toNat, 1056, 128]
def k0_off212 (k0_t1 : Fin k0_t1_loop.trips) (c0_i32_2072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2071_r0 : BitVec 32 := 2#32
  let v4825_r0 : BitVec 32 := Scalar.muli v831_r0 c2_i32_2071_r0
  let v4826_r0 : BitVec 32 := Scalar.addi v4825_r0 c0_i32_2072_r0
  let v4829_r0 : Index := Scalar.indexCast v4826_r0
  let c0_2077_r0 : Index := 0#32
  let c4352_2078_r0 : Index := 4352#32
  ![v4829_r0.toNat, 0, 4352]
def k0_off213 (k0_t1 : Fin k0_t1_loop.trips) (c0_i32_2072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2071_r0 : BitVec 32 := 2#32
  let v4825_r0 : BitVec 32 := Scalar.muli v831_r0 c2_i32_2071_r0
  let v4826_r0 : BitVec 32 := Scalar.addi v4825_r0 c0_i32_2072_r0
  let v4835_r0 : Index := Scalar.indexCast v4826_r0
  let c2_2079_r0 : Index := 2#32
  let c4352_2080_r0 : Index := 4352#32
  ![v4835_r0.toNat, 2, 4352]
def k0_off214 (k0_t1 : Fin k0_t1_loop.trips) (c0_i32_2072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2071_r0 : BitVec 32 := 2#32
  let v4825_r0 : BitVec 32 := Scalar.muli v831_r0 c2_i32_2071_r0
  let v4826_r0 : BitVec 32 := Scalar.addi v4825_r0 c0_i32_2072_r0
  let v4851_r0 : Index := Scalar.indexCast v4826_r0
  let c1_2082_r0 : Index := 1#32
  let c4352_2083_r0 : Index := 4352#32
  ![v4851_r0.toNat, 1, 4352]
def k0_off215 (k0_t1 : Fin k0_t1_loop.trips) (c0_i32_2072_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2071_r0 : BitVec 32 := 2#32
  let v4825_r0 : BitVec 32 := Scalar.muli v831_r0 c2_i32_2071_r0
  let v4826_r0 : BitVec 32 := Scalar.addi v4825_r0 c0_i32_2072_r0
  let v4857_r0 : Index := Scalar.indexCast v4826_r0
  let c3_2084_r0 : Index := 3#32
  let c4352_2085_r0 : Index := 4352#32
  ![v4857_r0.toNat, 3, 4352]
def k0_off216 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4874_r0 : Index := Scalar.indexCast v840_r0
  let c1088_2087_r0 : Index := 1088#32
  let c0_2088_r0 : Index := 0#32
  ![v4874_r0.toNat, 1088, 0]
def k0_off217 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4932_r0 : Index := Scalar.indexCast v840_r0
  let c1088_2109_r0 : Index := 1088#32
  let c128_2110_r0 : Index := 128#32
  ![v4932_r0.toNat, 1088, 128]
def k0_off218 (k0_t1 : Fin k0_t1_loop.trips) (c0_i32_2116_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2115_r0 : BitVec 32 := 2#32
  let v4942_r0 : BitVec 32 := Scalar.muli v831_r0 c2_i32_2115_r0
  let v4943_r0 : BitVec 32 := Scalar.addi v4942_r0 c0_i32_2116_r0
  let v4946_r0 : Index := Scalar.indexCast v4943_r0
  let c0_2121_r0 : Index := 0#32
  let c4480_r0 : Index := 4480#32
  ![v4946_r0.toNat, 0, 4480]
def k0_off219 (k0_t1 : Fin k0_t1_loop.trips) (c0_i32_2116_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2115_r0 : BitVec 32 := 2#32
  let v4942_r0 : BitVec 32 := Scalar.muli v831_r0 c2_i32_2115_r0
  let v4943_r0 : BitVec 32 := Scalar.addi v4942_r0 c0_i32_2116_r0
  let v4952_r0 : Index := Scalar.indexCast v4943_r0
  let c2_2122_r0 : Index := 2#32
  let c4480_2123_r0 : Index := 4480#32
  ![v4952_r0.toNat, 2, 4480]
def k0_off220 (k0_t1 : Fin k0_t1_loop.trips) (c0_i32_2116_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2115_r0 : BitVec 32 := 2#32
  let v4942_r0 : BitVec 32 := Scalar.muli v831_r0 c2_i32_2115_r0
  let v4943_r0 : BitVec 32 := Scalar.addi v4942_r0 c0_i32_2116_r0
  let v4968_r0 : Index := Scalar.indexCast v4943_r0
  let c1_2125_r0 : Index := 1#32
  let c4480_2126_r0 : Index := 4480#32
  ![v4968_r0.toNat, 1, 4480]
def k0_off221 (k0_t1 : Fin k0_t1_loop.trips) (c0_i32_2116_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2115_r0 : BitVec 32 := 2#32
  let v4942_r0 : BitVec 32 := Scalar.muli v831_r0 c2_i32_2115_r0
  let v4943_r0 : BitVec 32 := Scalar.addi v4942_r0 c0_i32_2116_r0
  let v4974_r0 : Index := Scalar.indexCast v4943_r0
  let c3_2127_r0 : Index := 3#32
  let c4480_2128_r0 : Index := 4480#32
  ![v4974_r0.toNat, 3, 4480]
def k0_off222 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v4991_r0 : Index := Scalar.indexCast v840_r0
  let c1120_2130_r0 : Index := 1120#32
  let c0_2131_r0 : Index := 0#32
  ![v4991_r0.toNat, 1120, 0]
def k0_off223 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5049_r0 : Index := Scalar.indexCast v840_r0
  let c1120_2152_r0 : Index := 1120#32
  let c128_2153_r0 : Index := 128#32
  ![v5049_r0.toNat, 1120, 128]
def k0_off224 (k0_t1 : Fin k0_t1_loop.trips) (c0_i32_2159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2158_r0 : BitVec 32 := 2#32
  let v5059_r0 : BitVec 32 := Scalar.muli v831_r0 c2_i32_2158_r0
  let v5060_r0 : BitVec 32 := Scalar.addi v5059_r0 c0_i32_2159_r0
  let v5063_r0 : Index := Scalar.indexCast v5060_r0
  let c0_2164_r0 : Index := 0#32
  let c4608_2165_r0 : Index := 4608#32
  ![v5063_r0.toNat, 0, 4608]
def k0_off225 (k0_t1 : Fin k0_t1_loop.trips) (c0_i32_2159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2158_r0 : BitVec 32 := 2#32
  let v5059_r0 : BitVec 32 := Scalar.muli v831_r0 c2_i32_2158_r0
  let v5060_r0 : BitVec 32 := Scalar.addi v5059_r0 c0_i32_2159_r0
  let v5069_r0 : Index := Scalar.indexCast v5060_r0
  let c2_2166_r0 : Index := 2#32
  let c4608_2167_r0 : Index := 4608#32
  ![v5069_r0.toNat, 2, 4608]
def k0_off226 (k0_t1 : Fin k0_t1_loop.trips) (c0_i32_2159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2158_r0 : BitVec 32 := 2#32
  let v5059_r0 : BitVec 32 := Scalar.muli v831_r0 c2_i32_2158_r0
  let v5060_r0 : BitVec 32 := Scalar.addi v5059_r0 c0_i32_2159_r0
  let v5085_r0 : Index := Scalar.indexCast v5060_r0
  let c1_2169_r0 : Index := 1#32
  let c4608_2170_r0 : Index := 4608#32
  ![v5085_r0.toNat, 1, 4608]
def k0_off227 (k0_t1 : Fin k0_t1_loop.trips) (c0_i32_2159_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2158_r0 : BitVec 32 := 2#32
  let v5059_r0 : BitVec 32 := Scalar.muli v831_r0 c2_i32_2158_r0
  let v5060_r0 : BitVec 32 := Scalar.addi v5059_r0 c0_i32_2159_r0
  let v5091_r0 : Index := Scalar.indexCast v5060_r0
  let c3_2171_r0 : Index := 3#32
  let c4608_2172_r0 : Index := 4608#32
  ![v5091_r0.toNat, 3, 4608]
def k0_off228 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5108_r0 : Index := Scalar.indexCast v840_r0
  let c1152_2174_r0 : Index := 1152#32
  let c0_2175_r0 : Index := 0#32
  ![v5108_r0.toNat, 1152, 0]
def k0_off229 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5166_r0 : Index := Scalar.indexCast v840_r0
  let c1152_2196_r0 : Index := 1152#32
  let c128_2197_r0 : Index := 128#32
  ![v5166_r0.toNat, 1152, 128]
def k0_off230 (k0_t1 : Fin k0_t1_loop.trips) (c0_i32_2203_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2202_r0 : BitVec 32 := 2#32
  let v5176_r0 : BitVec 32 := Scalar.muli v831_r0 c2_i32_2202_r0
  let v5177_r0 : BitVec 32 := Scalar.addi v5176_r0 c0_i32_2203_r0
  let v5180_r0 : Index := Scalar.indexCast v5177_r0
  let c0_2208_r0 : Index := 0#32
  let c4736_r0 : Index := 4736#32
  ![v5180_r0.toNat, 0, 4736]
def k0_off231 (k0_t1 : Fin k0_t1_loop.trips) (c0_i32_2203_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2202_r0 : BitVec 32 := 2#32
  let v5176_r0 : BitVec 32 := Scalar.muli v831_r0 c2_i32_2202_r0
  let v5177_r0 : BitVec 32 := Scalar.addi v5176_r0 c0_i32_2203_r0
  let v5186_r0 : Index := Scalar.indexCast v5177_r0
  let c2_2209_r0 : Index := 2#32
  let c4736_2210_r0 : Index := 4736#32
  ![v5186_r0.toNat, 2, 4736]
def k0_off232 (k0_t1 : Fin k0_t1_loop.trips) (c0_i32_2203_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2202_r0 : BitVec 32 := 2#32
  let v5176_r0 : BitVec 32 := Scalar.muli v831_r0 c2_i32_2202_r0
  let v5177_r0 : BitVec 32 := Scalar.addi v5176_r0 c0_i32_2203_r0
  let v5202_r0 : Index := Scalar.indexCast v5177_r0
  let c1_2212_r0 : Index := 1#32
  let c4736_2213_r0 : Index := 4736#32
  ![v5202_r0.toNat, 1, 4736]
def k0_off233 (k0_t1 : Fin k0_t1_loop.trips) (c0_i32_2203_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2202_r0 : BitVec 32 := 2#32
  let v5176_r0 : BitVec 32 := Scalar.muli v831_r0 c2_i32_2202_r0
  let v5177_r0 : BitVec 32 := Scalar.addi v5176_r0 c0_i32_2203_r0
  let v5208_r0 : Index := Scalar.indexCast v5177_r0
  let c3_2214_r0 : Index := 3#32
  let c4736_2215_r0 : Index := 4736#32
  ![v5208_r0.toNat, 3, 4736]
def k0_off234 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5225_r0 : Index := Scalar.indexCast v840_r0
  let c1184_2217_r0 : Index := 1184#32
  let c0_2218_r0 : Index := 0#32
  ![v5225_r0.toNat, 1184, 0]
def k0_off235 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5283_r0 : Index := Scalar.indexCast v840_r0
  let c1184_2239_r0 : Index := 1184#32
  let c128_2240_r0 : Index := 128#32
  ![v5283_r0.toNat, 1184, 128]
def k0_off236 (k0_t1 : Fin k0_t1_loop.trips) (c0_i32_2246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2245_r0 : BitVec 32 := 2#32
  let v5293_r0 : BitVec 32 := Scalar.muli v831_r0 c2_i32_2245_r0
  let v5294_r0 : BitVec 32 := Scalar.addi v5293_r0 c0_i32_2246_r0
  let v5297_r0 : Index := Scalar.indexCast v5294_r0
  let c0_2251_r0 : Index := 0#32
  let c4864_2252_r0 : Index := 4864#32
  ![v5297_r0.toNat, 0, 4864]
def k0_off237 (k0_t1 : Fin k0_t1_loop.trips) (c0_i32_2246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2245_r0 : BitVec 32 := 2#32
  let v5293_r0 : BitVec 32 := Scalar.muli v831_r0 c2_i32_2245_r0
  let v5294_r0 : BitVec 32 := Scalar.addi v5293_r0 c0_i32_2246_r0
  let v5303_r0 : Index := Scalar.indexCast v5294_r0
  let c2_2253_r0 : Index := 2#32
  let c4864_2254_r0 : Index := 4864#32
  ![v5303_r0.toNat, 2, 4864]
def k0_off238 (k0_t1 : Fin k0_t1_loop.trips) (c0_i32_2246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2245_r0 : BitVec 32 := 2#32
  let v5293_r0 : BitVec 32 := Scalar.muli v831_r0 c2_i32_2245_r0
  let v5294_r0 : BitVec 32 := Scalar.addi v5293_r0 c0_i32_2246_r0
  let v5319_r0 : Index := Scalar.indexCast v5294_r0
  let c1_2256_r0 : Index := 1#32
  let c4864_2257_r0 : Index := 4864#32
  ![v5319_r0.toNat, 1, 4864]
def k0_off239 (k0_t1 : Fin k0_t1_loop.trips) (c0_i32_2246_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2245_r0 : BitVec 32 := 2#32
  let v5293_r0 : BitVec 32 := Scalar.muli v831_r0 c2_i32_2245_r0
  let v5294_r0 : BitVec 32 := Scalar.addi v5293_r0 c0_i32_2246_r0
  let v5325_r0 : Index := Scalar.indexCast v5294_r0
  let c3_2258_r0 : Index := 3#32
  let c4864_2259_r0 : Index := 4864#32
  ![v5325_r0.toNat, 3, 4864]
def k0_off240 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5342_r0 : Index := Scalar.indexCast v840_r0
  let c1216_2261_r0 : Index := 1216#32
  let c0_2262_r0 : Index := 0#32
  ![v5342_r0.toNat, 1216, 0]
def k0_off241 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5400_r0 : Index := Scalar.indexCast v840_r0
  let c1216_2283_r0 : Index := 1216#32
  let c128_2284_r0 : Index := 128#32
  ![v5400_r0.toNat, 1216, 128]
def k0_off242 (k0_t1 : Fin k0_t1_loop.trips) (c0_i32_2290_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2289_r0 : BitVec 32 := 2#32
  let v5410_r0 : BitVec 32 := Scalar.muli v831_r0 c2_i32_2289_r0
  let v5411_r0 : BitVec 32 := Scalar.addi v5410_r0 c0_i32_2290_r0
  let v5414_r0 : Index := Scalar.indexCast v5411_r0
  let c0_2295_r0 : Index := 0#32
  let c4992_r0 : Index := 4992#32
  ![v5414_r0.toNat, 0, 4992]
def k0_off243 (k0_t1 : Fin k0_t1_loop.trips) (c0_i32_2290_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2289_r0 : BitVec 32 := 2#32
  let v5410_r0 : BitVec 32 := Scalar.muli v831_r0 c2_i32_2289_r0
  let v5411_r0 : BitVec 32 := Scalar.addi v5410_r0 c0_i32_2290_r0
  let v5420_r0 : Index := Scalar.indexCast v5411_r0
  let c2_2296_r0 : Index := 2#32
  let c4992_2297_r0 : Index := 4992#32
  ![v5420_r0.toNat, 2, 4992]
def k0_off244 (k0_t1 : Fin k0_t1_loop.trips) (c0_i32_2290_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2289_r0 : BitVec 32 := 2#32
  let v5410_r0 : BitVec 32 := Scalar.muli v831_r0 c2_i32_2289_r0
  let v5411_r0 : BitVec 32 := Scalar.addi v5410_r0 c0_i32_2290_r0
  let v5436_r0 : Index := Scalar.indexCast v5411_r0
  let c1_2299_r0 : Index := 1#32
  let c4992_2300_r0 : Index := 4992#32
  ![v5436_r0.toNat, 1, 4992]
def k0_off245 (k0_t1 : Fin k0_t1_loop.trips) (c0_i32_2290_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2289_r0 : BitVec 32 := 2#32
  let v5410_r0 : BitVec 32 := Scalar.muli v831_r0 c2_i32_2289_r0
  let v5411_r0 : BitVec 32 := Scalar.addi v5410_r0 c0_i32_2290_r0
  let v5442_r0 : Index := Scalar.indexCast v5411_r0
  let c3_2301_r0 : Index := 3#32
  let c4992_2302_r0 : Index := 4992#32
  ![v5442_r0.toNat, 3, 4992]
def k0_off246 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5459_r0 : Index := Scalar.indexCast v840_r0
  let c1248_2304_r0 : Index := 1248#32
  let c0_2305_r0 : Index := 0#32
  ![v5459_r0.toNat, 1248, 0]
def k0_off247 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5517_r0 : Index := Scalar.indexCast v840_r0
  let c1248_2326_r0 : Index := 1248#32
  let c128_2327_r0 : Index := 128#32
  ![v5517_r0.toNat, 1248, 128]
def k0_off248 (k0_t1 : Fin k0_t1_loop.trips) (c0_i32_2333_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2332_r0 : BitVec 32 := 2#32
  let v5527_r0 : BitVec 32 := Scalar.muli v831_r0 c2_i32_2332_r0
  let v5528_r0 : BitVec 32 := Scalar.addi v5527_r0 c0_i32_2333_r0
  let v5531_r0 : Index := Scalar.indexCast v5528_r0
  let c0_2338_r0 : Index := 0#32
  let c5120_2339_r0 : Index := 5120#32
  ![v5531_r0.toNat, 0, 5120]
def k0_off249 (k0_t1 : Fin k0_t1_loop.trips) (c0_i32_2333_r0 : BitVec 32) : Fin 3 → Nat :=
  let c1_i32_526_r0 : BitVec 32 := 1#32
  let c1_i32_527_r0 : BitVec 32 := 1#32
  let arg8_r0 : BitVec 32 := Scf.iv c1_i32_526_r0 c1_i32_527_r0 k0_t1
  let c1_i32_577_r0 : BitVec 32 := 1#32
  let v831_r0 : BitVec 32 := Scalar.subi arg8_r0 c1_i32_577_r0
  let c2_i32_2332_r0 : BitVec 32 := 2#32
  let v5527_r0 : BitVec 32 := Scalar.muli v831_r0 c2_i32_2332_r0
  let v5528_r0 : BitVec 32 := Scalar.addi v5527_r0 c0_i32_2333_r0
  let v5537_r0 : Index := Scalar.indexCast v5528_r0
  let c2_2340_r0 : Index := 2#32
  let c5120_2341_r0 : Index := 5120#32
  ![v5537_r0.toNat, 2, 5120]
def k0_off250 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5554_r0 : Index := Scalar.indexCast v840_r0
  let c1280_2342_r0 : Index := 1280#32
  let c0_2343_r0 : Index := 0#32
  ![v5554_r0.toNat, 1280, 0]
def k0_off251 (k0_t1 : Fin k0_t1_loop.trips) : Fin 3 → Nat :=
  let c1_i32_526_r0 : BitVec 32 := 1#32
  let c1_i32_527_r0 : BitVec 32 := 1#32
  let arg8_r0 : BitVec 32 := Scf.iv c1_i32_526_r0 c1_i32_527_r0 k0_t1
  let c40_i32_r0 : BitVec 32 := 40#32
  let v839_r0 : BitVec 32 := Scalar.minsi arg8_r0 c40_i32_r0
  let c6_i32_582_r0 : BitVec 32 := 6#32
  let v840_r0 : BitVec 32 := Scalar.remsi v839_r0 c6_i32_582_r0
  let v5591_r0 : Index := Scalar.indexCast v840_r0
  let c1280_2359_r0 : Index := 1280#32
  let c128_2360_r0 : Index := 128#32
  ![v5591_r0.toNat, 1280, 128]
abbrev stage0_0 : Fin 1 → Memref sig .tc .vmem S82x4x5248 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S41x48x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S48x1x10496 : Shape := ⟨3, ![48, 1, 10496]⟩
abbrev S10496x1296 : Shape := ⟨2, ![10496, 1296]⟩
abbrev S82x1296 : Shape := ⟨2, ![82, 1296]⟩
abbrev S82x10368 : Shape := ⟨2, ![82, 10368]⟩
abbrev S10496 : Shape := ⟨1, ![10496]⟩
abbrev S1x1x10496 : Shape := ⟨3, ![1, 1, 10496]⟩
abbrev S_ : Shape := ⟨0, ![]⟩
abbrev S82x128x1296 : Shape := ⟨3, ![82, 128, 1296]⟩
abbrev S82x1x1296 : Shape := ⟨3, ![82, 1, 1296]⟩
abbrev S48x1x1296 : Shape := ⟨3, ![48, 1, 1296]⟩
abbrev S48x1x1296x1 : Shape := ⟨4, ![48, 1, 1296, 1]⟩
abbrev S48x1x1296x8 : Shape := ⟨4, ![48, 1, 1296, 8]⟩
abbrev S48x1x10368 : Shape := ⟨3, ![48, 1, 10368]⟩

abbrev nBuf : Space → Nat
  | .hbm => 214
  | .vmem => 0
  | .smem => 0
  | _ => 0

abbrev hbmTy0_0 (i : Nat) : BufTy := match i % 128 with
  | 0 => ⟨S48x1x10496, .bf16⟩
  | 1 => ⟨S10496x1296, .i32⟩
  | 2 => ⟨S82x1296, .i32⟩
  | 3 => ⟨S82x10368, .bf16⟩
  | 4 => ⟨S10496, .bf16⟩
  | 5 => ⟨S48x1x10496, .f32⟩
  | 6 => ⟨S10496, .f32⟩
  | 7 => ⟨S1x1x10496, .f32⟩
  | 8 => ⟨S48x1x10496, .f32⟩
  | 9 => ⟨S48x1x10496, .f32⟩
  | 10 => ⟨S48x1x10496, .bf16⟩
  | 11 => ⟨S_, .i32⟩
  | 12 => ⟨S10496x1296, .i32⟩
  | 13 => ⟨S10496x1296, .i32⟩
  | 14 => ⟨S_, .i32⟩
  | 15 => ⟨S10496x1296, .i32⟩
  | 16 => ⟨S10496x1296, .i32⟩
  | 17 => ⟨S10496x1296, .bf16⟩
  | 18 => ⟨S82x128x1296, .bf16⟩
  | 19 => ⟨S_, .i32⟩
  | 20 => ⟨S82x1296, .i32⟩
  | 21 => ⟨S82x1296, .i32⟩
  | 22 => ⟨S_, .i32⟩
  | 23 => ⟨S82x1296, .i32⟩
  | 24 => ⟨S82x1296, .i32⟩
  | 25 => ⟨S82x1296, .bf16⟩
  | 26 => ⟨S82x1x1296, .bf16⟩
  | 27 => ⟨S82x1296, .bf16⟩
  | 28 => ⟨S82x1x1296, .bf16⟩
  | 29 => ⟨S82x128x1296, .bf16⟩
  | 30 => ⟨S82x128x1296, .bf16⟩
  | 31 => ⟨S82x128x1296, .bf16⟩
  | 32 => ⟨S82x128x1296, .bf16⟩
  | 33 => ⟨S10496x1296, .bf16⟩
  | 34 => ⟨S48x1x1296, .f32⟩
  | 35 => ⟨S_, .i32⟩
  | 36 => ⟨S10496x1296, .i32⟩
  | 37 => ⟨S10496x1296, .i32⟩
  | 38 => ⟨S_, .i32⟩
  | 39 => ⟨S10496x1296, .i32⟩
  | 40 => ⟨S10496x1296, .i32⟩
  | 41 => ⟨S10496x1296, .bf16⟩
  | 42 => ⟨S82x128x1296, .bf16⟩
  | 43 => ⟨S_, .i32⟩
  | 44 => ⟨S82x1296, .i32⟩
  | 45 => ⟨S82x1296, .i32⟩
  | 46 => ⟨S_, .i32⟩
  | 47 => ⟨S82x1296, .i32⟩
  | 48 => ⟨S82x1296, .i32⟩
  | 49 => ⟨S82x1296, .bf16⟩
  | 50 => ⟨S82x1x1296, .bf16⟩
  | 51 => ⟨S82x1296, .bf16⟩
  | 52 => ⟨S82x1x1296, .bf16⟩
  | 53 => ⟨S82x128x1296, .bf16⟩
  | 54 => ⟨S82x128x1296, .bf16⟩
  | 55 => ⟨S82x128x1296, .bf16⟩
  | 56 => ⟨S82x128x1296, .bf16⟩
  | 57 => ⟨S10496x1296, .bf16⟩
  | 58 => ⟨S48x1x1296, .f32⟩
  | 59 => ⟨S_, .i32⟩
  | 60 => ⟨S10496x1296, .i32⟩
  | 61 => ⟨S10496x1296, .i32⟩
  | 62 => ⟨S_, .i32⟩
  | 63 => ⟨S10496x1296, .i32⟩
  | 64 => ⟨S10496x1296, .i32⟩
  | 65 => ⟨S10496x1296, .bf16⟩
  | 66 => ⟨S82x128x1296, .bf16⟩
  | 67 => ⟨S_, .i32⟩
  | 68 => ⟨S82x1296, .i32⟩
  | 69 => ⟨S82x1296, .i32⟩
  | 70 => ⟨S_, .i32⟩
  | 71 => ⟨S82x1296, .i32⟩
  | 72 => ⟨S82x1296, .i32⟩
  | 73 => ⟨S82x1296, .bf16⟩
  | 74 => ⟨S82x1x1296, .bf16⟩
  | 75 => ⟨S82x1296, .bf16⟩
  | 76 => ⟨S82x1x1296, .bf16⟩
  | 77 => ⟨S82x128x1296, .bf16⟩
  | 78 => ⟨S82x128x1296, .bf16⟩
  | 79 => ⟨S82x128x1296, .bf16⟩
  | 80 => ⟨S82x128x1296, .bf16⟩
  | 81 => ⟨S10496x1296, .bf16⟩
  | 82 => ⟨S48x1x1296, .f32⟩
  | 83 => ⟨S_, .i32⟩
  | 84 => ⟨S10496x1296, .i32⟩
  | 85 => ⟨S10496x1296, .i32⟩
  | 86 => ⟨S_, .i32⟩
  | 87 => ⟨S10496x1296, .i32⟩
  | 88 => ⟨S10496x1296, .i32⟩
  | 89 => ⟨S10496x1296, .bf16⟩
  | 90 => ⟨S82x128x1296, .bf16⟩
  | 91 => ⟨S_, .i32⟩
  | 92 => ⟨S82x1296, .i32⟩
  | 93 => ⟨S82x1296, .i32⟩
  | 94 => ⟨S_, .i32⟩
  | 95 => ⟨S82x1296, .i32⟩
  | 96 => ⟨S82x1296, .i32⟩
  | 97 => ⟨S82x1296, .bf16⟩
  | 98 => ⟨S82x1x1296, .bf16⟩
  | 99 => ⟨S82x1296, .bf16⟩
  | 100 => ⟨S82x1x1296, .bf16⟩
  | 101 => ⟨S82x128x1296, .bf16⟩
  | 102 => ⟨S82x128x1296, .bf16⟩
  | 103 => ⟨S82x128x1296, .bf16⟩
  | 104 => ⟨S82x128x1296, .bf16⟩
  | 105 => ⟨S10496x1296, .bf16⟩
  | 106 => ⟨S48x1x1296, .f32⟩
  | 107 => ⟨S_, .i32⟩
  | 108 => ⟨S10496x1296, .i32⟩
  | 109 => ⟨S10496x1296, .i32⟩
  | 110 => ⟨S_, .i32⟩
  | 111 => ⟨S10496x1296, .i32⟩
  | 112 => ⟨S10496x1296, .i32⟩
  | 113 => ⟨S10496x1296, .bf16⟩
  | 114 => ⟨S82x128x1296, .bf16⟩
  | 115 => ⟨S_, .i32⟩
  | 116 => ⟨S82x1296, .i32⟩
  | 117 => ⟨S82x1296, .i32⟩
  | 118 => ⟨S_, .i32⟩
  | 119 => ⟨S82x1296, .i32⟩
  | 120 => ⟨S82x1296, .i32⟩
  | 121 => ⟨S82x1296, .bf16⟩
  | 122 => ⟨S82x1x1296, .bf16⟩
  | 123 => ⟨S82x1296, .bf16⟩
  | 124 => ⟨S82x1x1296, .bf16⟩
  | 125 => ⟨S82x128x1296, .bf16⟩
  | 126 => ⟨S82x128x1296, .bf16⟩
  | 127 => ⟨S82x128x1296, .bf16⟩
  | _ => ⟨S48x1x10496, .bf16⟩

abbrev hbmTy0_1 (i : Nat) : BufTy := match i % 128 with
  | 0 => ⟨S82x128x1296, .bf16⟩
  | 1 => ⟨S10496x1296, .bf16⟩
  | 2 => ⟨S48x1x1296, .f32⟩
  | 3 => ⟨S_, .i32⟩
  | 4 => ⟨S10496x1296, .i32⟩
  | 5 => ⟨S10496x1296, .i32⟩
  | 6 => ⟨S_, .i32⟩
  | 7 => ⟨S10496x1296, .i32⟩
  | 8 => ⟨S10496x1296, .i32⟩
  | 9 => ⟨S10496x1296, .bf16⟩
  | 10 => ⟨S82x128x1296, .bf16⟩
  | 11 => ⟨S_, .i32⟩
  | 12 => ⟨S82x1296, .i32⟩
  | 13 => ⟨S82x1296, .i32⟩
  | 14 => ⟨S_, .i32⟩
  | 15 => ⟨S82x1296, .i32⟩
  | 16 => ⟨S82x1296, .i32⟩
  | 17 => ⟨S82x1296, .bf16⟩
  | 18 => ⟨S82x1x1296, .bf16⟩
  | 19 => ⟨S82x1296, .bf16⟩
  | 20 => ⟨S82x1x1296, .bf16⟩
  | 21 => ⟨S82x128x1296, .bf16⟩
  | 22 => ⟨S82x128x1296, .bf16⟩
  | 23 => ⟨S82x128x1296, .bf16⟩
  | 24 => ⟨S82x128x1296, .bf16⟩
  | 25 => ⟨S10496x1296, .bf16⟩
  | 26 => ⟨S48x1x1296, .f32⟩
  | 27 => ⟨S_, .i32⟩
  | 28 => ⟨S10496x1296, .i32⟩
  | 29 => ⟨S10496x1296, .i32⟩
  | 30 => ⟨S_, .i32⟩
  | 31 => ⟨S10496x1296, .i32⟩
  | 32 => ⟨S10496x1296, .i32⟩
  | 33 => ⟨S10496x1296, .bf16⟩
  | 34 => ⟨S82x128x1296, .bf16⟩
  | 35 => ⟨S_, .i32⟩
  | 36 => ⟨S82x1296, .i32⟩
  | 37 => ⟨S82x1296, .i32⟩
  | 38 => ⟨S_, .i32⟩
  | 39 => ⟨S82x1296, .i32⟩
  | 40 => ⟨S82x1296, .i32⟩
  | 41 => ⟨S82x1296, .bf16⟩
  | 42 => ⟨S82x1x1296, .bf16⟩
  | 43 => ⟨S82x1296, .bf16⟩
  | 44 => ⟨S82x1x1296, .bf16⟩
  | 45 => ⟨S82x128x1296, .bf16⟩
  | 46 => ⟨S82x128x1296, .bf16⟩
  | 47 => ⟨S82x128x1296, .bf16⟩
  | 48 => ⟨S82x128x1296, .bf16⟩
  | 49 => ⟨S10496x1296, .bf16⟩
  | 50 => ⟨S48x1x1296, .f32⟩
  | 51 => ⟨S_, .i32⟩
  | 52 => ⟨S10496x1296, .i32⟩
  | 53 => ⟨S10496x1296, .i32⟩
  | 54 => ⟨S_, .i32⟩
  | 55 => ⟨S10496x1296, .i32⟩
  | 56 => ⟨S10496x1296, .i32⟩
  | 57 => ⟨S10496x1296, .bf16⟩
  | 58 => ⟨S82x128x1296, .bf16⟩
  | 59 => ⟨S_, .i32⟩
  | 60 => ⟨S82x1296, .i32⟩
  | 61 => ⟨S82x1296, .i32⟩
  | 62 => ⟨S_, .i32⟩
  | 63 => ⟨S82x1296, .i32⟩
  | 64 => ⟨S82x1296, .i32⟩
  | 65 => ⟨S82x1296, .bf16⟩
  | 66 => ⟨S82x1x1296, .bf16⟩
  | 67 => ⟨S82x1296, .bf16⟩
  | 68 => ⟨S82x1x1296, .bf16⟩
  | 69 => ⟨S82x128x1296, .bf16⟩
  | 70 => ⟨S82x128x1296, .bf16⟩
  | 71 => ⟨S82x128x1296, .bf16⟩
  | 72 => ⟨S82x128x1296, .bf16⟩
  | 73 => ⟨S10496x1296, .bf16⟩
  | 74 => ⟨S48x1x1296, .f32⟩
  | 75 => ⟨S48x1x1296x1, .f32⟩
  | 76 => ⟨S48x1x1296x1, .f32⟩
  | 77 => ⟨S48x1x1296x1, .f32⟩
  | 78 => ⟨S48x1x1296x1, .f32⟩
  | 79 => ⟨S48x1x1296x1, .f32⟩
  | 80 => ⟨S48x1x1296x1, .f32⟩
  | 81 => ⟨S48x1x1296x1, .f32⟩
  | 82 => ⟨S48x1x1296x1, .f32⟩
  | 83 => ⟨S48x1x1296x8, .f32⟩
  | 84 => ⟨S48x1x10368, .f32⟩
  | 85 => ⟨S48x1x10368, .bf16⟩
  | _ => ⟨S48x1x10496, .bf16⟩

abbrev hbmTy (i : Nat) : BufTy := match i / 128 with
  | 0 => hbmTy0_0 i
  | 1 => hbmTy0_1 i
  | _ => ⟨S48x1x10496, .bf16⟩

abbrev bufTy : (tb : Table) → Fin (tcTables nBuf tb) → BufTy
  | .hbm, ⟨i, _⟩ => hbmTy i
  | _, _ => ⟨S48x1x10496, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_11 : Ref sig .tc := ⟨.hbm, 83, rfl⟩
abbrev main_v66 : Ref sig .tc := ⟨.hbm, 84, rfl⟩
abbrev main_v67 : Ref sig .tc := ⟨.hbm, 85, rfl⟩
abbrev main_c_12 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_13 : Ref sig .tc := ⟨.hbm, 91, rfl⟩
abbrev main_v72 : Ref sig .tc := ⟨.hbm, 92, rfl⟩
abbrev main_v73 : Ref sig .tc := ⟨.hbm, 93, rfl⟩
abbrev main_c_14 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_15 : Ref sig .tc := ⟨.hbm, 107, rfl⟩
abbrev main_v86 : Ref sig .tc := ⟨.hbm, 108, rfl⟩
abbrev main_v87 : Ref sig .tc := ⟨.hbm, 109, rfl⟩
abbrev main_c_16 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_17 : Ref sig .tc := ⟨.hbm, 115, rfl⟩
abbrev main_v92 : Ref sig .tc := ⟨.hbm, 116, rfl⟩
abbrev main_v93 : Ref sig .tc := ⟨.hbm, 117, rfl⟩
abbrev main_c_18 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_19 : Ref sig .tc := ⟨.hbm, 131, rfl⟩
abbrev main_v106 : Ref sig .tc := ⟨.hbm, 132, rfl⟩
abbrev main_v107 : Ref sig .tc := ⟨.hbm, 133, rfl⟩
abbrev main_c_20 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_21 : Ref sig .tc := ⟨.hbm, 139, rfl⟩
abbrev main_v112 : Ref sig .tc := ⟨.hbm, 140, rfl⟩
abbrev main_v113 : Ref sig .tc := ⟨.hbm, 141, rfl⟩
abbrev main_c_22 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_c_23 : Ref sig .tc := ⟨.hbm, 155, rfl⟩
abbrev main_v126 : Ref sig .tc := ⟨.hbm, 156, rfl⟩
abbrev main_v127 : Ref sig .tc := ⟨.hbm, 157, rfl⟩
abbrev main_c_24 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_c_25 : Ref sig .tc := ⟨.hbm, 163, rfl⟩
abbrev main_v132 : Ref sig .tc := ⟨.hbm, 164, rfl⟩
abbrev main_v133 : Ref sig .tc := ⟨.hbm, 165, rfl⟩
abbrev main_c_26 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_c_27 : Ref sig .tc := ⟨.hbm, 179, rfl⟩
abbrev main_v146 : Ref sig .tc := ⟨.hbm, 180, rfl⟩
abbrev main_v147 : Ref sig .tc := ⟨.hbm, 181, rfl⟩
abbrev main_c_28 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_c_29 : Ref sig .tc := ⟨.hbm, 187, rfl⟩
abbrev main_v152 : Ref sig .tc := ⟨.hbm, 188, rfl⟩
abbrev main_v153 : Ref sig .tc := ⟨.hbm, 189, rfl⟩
abbrev main_c_30 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩

abbrev nD : Nat := 1
abbrev τ : Topo := Topo.v7x

variable {F : FTy → Type} [FloatOps F]
-- ==== Proof.Kernel.Blocks.lean ====
module

public import proofs.«01_k».proof.Proof.Gen.Kernel.Skeleton

/-! The kernel's loop trip, written once per block. One trip works through forty blocks of 256 output columns and one
tail block. Each block has two halves of 128 rows of weights; a half reads the words staged for this trip, turns them
into a tile, and stages the words for the next trip in their place. -/

@[expose] public section

set_option maxRecDepth 65536

noncomputable section

namespace Cert.Kernel.Blocks

open Idealize.ShloMosaic Idealize.SL.Sem
open Cert.Kernel Cert.Kernel.Gen

variable {F : FTy → Type} [FloatOps F]

/-- Where a half's row of the table of zero points and scales starts: group `2 (trip) + gg`, row `r`, lane `lane`. -/
def offTab (t : Fin k0_t1_loop.trips) (gg : Fin 2) (r lane : ℕ) : Fin 3 → ℕ :=
  ![k0_off8 t (BitVec.ofNat 32 gg.val) 0, r, lane]

theorem offTab_inb (t : Fin k0_t1_loop.trips) (gg : Fin 2) (r lane : ℕ) (hr : r < 4) (hl : lane + 128 ≤ 5248) :
    ∀ a, offTab t gg r lane a + S1x1x128.size a ≤ S82x4x5248.size a := by
  intro a
  have h0 := k0_off8_inb t gg 0
  fin_cases a
  · exact h0
  · show r + 1 ≤ 4; omega
  · exact hl

/-- Where the words to stage for the next trip start in their slot of the ring. -/
def offRow (t : Fin k0_t1_loop.trips) (row : ℕ) (gg : Fin 2) : Fin 3 → ℕ :=
  ![k0_off12 t 0, row, gg.val * 128]

theorem offRow_inb (t : Fin k0_t1_loop.trips) (row : ℕ) (gg : Fin 2) (h : row + 32 ≤ 1296) :
    ∀ a, offRow t row gg a + S1x32x128.size a ≤ S6x1296x256.size a := by
  intro a
  have h0 := k0_off12_inb t 0
  have := gg.isLt
  fin_cases a
  · exact h0
  · exact h
  · show gg.val * 128 + 128 ≤ 256; omega

theorem offRow_inb16 (t : Fin k0_t1_loop.trips) (row : ℕ) (gg : Fin 2) (h : row + 16 ≤ 1296) :
    ∀ a, offRow t row gg a + S1x16x128.size a ≤ S6x1296x256.size a := by
  intro a
  have h0 := k0_off12_inb t 0
  have := gg.isLt
  fin_cases a
  · exact h0
  · exact h
  · show gg.val * 128 + 128 ≤ 256; omega

theorem offT_inb (b : ℕ) (gg : Fin 2) (h : b < 41) :
    ∀ a, (![b, gg.val, 0, 0] : Fin 4 → ℕ) a + S1x1x32x128.size a ≤ S41x2x32x128.size a := by
  intro a
  have := gg.isLt
  fin_cases a
  · show b + 1 ≤ 41; omega
  · show gg.val + 1 ≤ 2; omega
  · show 0 + 32 ≤ 32; omega
  · show 0 + 128 ≤ 128; omega

variable (arg0 : Memref sig .tc .hbm S1296x10496 .i32) (arg1 : Memref sig .tc .vmem S82x4x5248 .bf16)
  (arg2 : Memref sig .tc .vmem S41x48x256 .bf16) (arg5 : Memref sig .tc .vmem S6x1296x256 .i32)
  (arg6 : Memref sig .tc .vmem S41x2x32x128 .i32) (arg7 : DmaSems sig S6)

/-- Read the staged words of half `gg` of block `b`. -/
def ldT (b : ℕ) (gg : Fin 2) (h : b < 41) : Prog (TpuEff nD τ sig (Elt F) Λ₀ .tc) (Vec F S1x1x32x128 .i32) :=
  Prog.lift (.load arg6 (Rect.unit (s := S41x2x32x128) ![b, gg.val, 0, 0] S1x1x32x128.size (offT_inb b gg h)).toLoadRect
    (View.loadsAt_vmem h_S1x1x32x128))

/-- Stage words for half `gg` of block `b`. -/
def stT (b : ℕ) (gg : Fin 2) (h : b < 41) (w : IVec S1x1x32x128 32) :
    Prog (TpuEff nD τ sig (Elt F) Λ₀ .tc) PUnit :=
  Prog.lift (.store arg6 (Rect.unit (s := S41x2x32x128) ![b, gg.val, 0, 0] S1x1x32x128.size (offT_inb b gg h)) w
    Finset.univ (View.stores_vmem_bits_univ h_S1x1x32x128 rfl) (.inl rfl))

/-- Read a row of the table. -/
def ldTab (t : Fin k0_t1_loop.trips) (gg : Fin 2) (r lane : ℕ) (hr : r < 4) (hl : lane + 128 ≤ 5248) :
    Prog (TpuEff nD τ sig (Elt F) Λ₀ .tc) (Vec F S1x1x128 .bf16) :=
  Prog.lift (.load arg1 (Rect.unit (s := S82x4x5248) (offTab t gg r lane) S1x1x128.size
    (offTab_inb t gg r lane hr hl)).toLoadRect (View.loadsAt_vmem h_S1x1x128))

/-- Read 32 rows of words from the ring. -/
def ldRow (t : Fin k0_t1_loop.trips) (row : ℕ) (gg : Fin 2) (h : row + 32 ≤ 1296) :
    Prog (TpuEff nD τ sig (Elt F) Λ₀ .tc) (Vec F S1x32x128 .i32) :=
  Prog.lift (.load arg5 (Rect.unit (s := S6x1296x256) (offRow t row gg) S1x32x128.size (offRow_inb t row gg h)).toLoadRect
    (View.loadsAt_vmem h_S1x32x128))

/-- Read the last 16 rows of words from the ring. -/
def ldRow16 (t : Fin k0_t1_loop.trips) (row : ℕ) (gg : Fin 2) (h : row + 16 ≤ 1296) :
    Prog (TpuEff nD τ sig (Elt F) Λ₀ .tc) (Vec F S1x16x128 .i32) :=
  Prog.lift (.load arg5 (Rect.unit (s := S6x1296x256) (offRow t row gg) S1x16x128.size (offRow_inb16 t row gg h)).toLoadRect
    (View.loadsAt_vmem h_S1x16x128))

/-- One half of a block: the tile of the staged words, and the next trip's words staged in their place. -/
def halfP (t : Fin k0_t1_loop.trips) (b : ℕ) (hb : b < 40) (gg : Fin 2) :
    Prog (TpuEff nD τ sig (Elt F) Λ₀ .tc) (FVec F S128x256 .bf16) := do
  let w ← ldT arg6 b gg (by omega)
  let zl ← ldTab arg1 t gg 0 (128 * b) (by omega) (by omega)
  let sl ← ldTab arg1 t gg 2 (128 * b) (by omega) (by omega)
  let zh ← ldTab arg1 t gg 1 (128 * b) (by omega) (by omega)
  let sh ← ldTab arg1 t gg 3 (128 * b) (by omega) (by omega)
  let n ← ldRow arg5 t (32 * b) gg (by omega)
  let _ ← ldT arg6 b gg (by omega)
  stT arg6 b gg (by omega) (k0_pay13 n)
  pure (k0_pay12 w zl sl zh sh)

/-- One half of the tail block. -/
def halfTail (v41 : IVec S32x128 32) (t : Fin k0_t1_loop.trips) (gg : Fin 2) :
    Prog (TpuEff nD τ sig (Elt F) Λ₀ .tc) (FVec F S128x256 .bf16) := do
  let w ← ldT arg6 40 gg (by omega)
  let z ← ldTab arg1 t gg 0 5120 (by omega) (by omega)
  let s ← ldTab arg1 t gg 2 5120 (by omega) (by omega)
  let n ← ldRow16 arg5 t 1280 gg (by omega)
  let _ ← ldT arg6 40 gg (by omega)
  stT arg6 40 gg (by omega) (k0_pay410 n)
  pure (k0_pay412 (k0_pay411 v41 w z s))

theorem fitsBlk (b : ℕ) (hb : b < 40) : Mxu.Fits (12 * (b / 2)) 48 := by
  unfold Mxu.Fits; omega

/-- The matrix unit block `b` goes to. -/
def unitOf (b : ℕ) : Fin 2 := ⟨b % 2, Nat.mod_lt _ (by decide)⟩

/-- The staging register of block `b`. -/
def regOf (b : ℕ) : Fin 2 := ⟨b / 2 % 2, Nat.mod_lt _ (by decide)⟩

/-- One block: both halves, pushed to the matrix unit as one tile, and the pass of `x` by it. -/
def blkP (t : Fin k0_t1_loop.trips) (x : FVec F S48x256 .bf16) (b : ℕ) (hb : b < 40) (mx : Mxu F) :
    Prog (TpuEff nD τ sig (Elt F) Λ₀ .tc) (Mxu F) := do
  let h0 ← halfP arg1 arg5 arg6 t b hb 0
  let h1 ← halfP arg1 arg5 arg6 t b hb 1
  let mx' ← mx.pushRhs (unitOf b) (regOf b) false (k0_pay14 h0 h1)
  pure (mx'.accLhs (unitOf b) (regOf b) (12 * (b / 2)) x (fitsBlk b hb))

/-- Blocks `b, …, 39`. -/
def blksP (t : Fin k0_t1_loop.trips) (x : FVec F S48x256 .bf16) :
    (n b : ℕ) → (h : b + n ≤ 40) → Mxu F → Prog (TpuEff nD τ sig (Elt F) Λ₀ .tc) (Mxu F)
  | 0, _, _, mx => pure mx
  | n + 1, b, h, mx => do
    let mx' ← blkP arg1 arg5 arg6 t x b (by omega) mx
    blksP t x n (b + 1) (by omega) mx'

/-- The tail block. -/
def tailP (v41 : IVec S32x128 32) (t : Fin k0_t1_loop.trips) (x : FVec F S48x256 .bf16) (mx : Mxu F) :
    Prog (TpuEff nD τ sig (Elt F) Λ₀ .tc) (Mxu F) := do
  let h0 ← halfTail arg1 arg5 arg6 v41 t 0
  let h1 ← halfTail arg1 arg5 arg6 v41 t 1
  let mx' ← mx.pushRhs 1 0 false (k0_pay507 h0 h1)
  pure (mx'.accLhs 1 0 240 x fits_240_48)

/-- Start the copy a trip has to start, if any. -/
def startP (t : Fin k0_t1_loop.trips) : Prog (TpuEff nD τ sig (Elt F) Λ₀ .tc) PUnit :=
  if k0_h1 : k0_cond1 t = 1#1 then do
    Prog.lift (.enqueueDma (arg0.slice (Rect.unit (s := S1296x10496) (k0_off3 t) S1296x256.size (k0_off3_inb t k0_h1)) (fun _ => rfl))
      (.here ((arg5.slice (Rect.unit (s := S6x1296x256) (k0_off2 t) S1x1296x256.size (k0_off2_inb t k0_h1)) (fun _ => rfl)).squeeze
        S1296x256 squeezes_S1x1296x256_S1296x256))
      (.dma ((arg7.slice (Rect.unit (s := S6) (k0_off1 t) S1.size (k0_off1_inb t k0_h1))).squeeze S_ squeezes_S1_S_).sem)
      (View.wordExact_bits rfl) ((View.wordExact_bits rfl).reshape _ _) ⟨Or.inl rfl, trivial⟩)
    pure ⟨⟩
  else do
    pure ⟨⟩

/-- Wait for the copy a trip has to wait for, if any. -/
def waitP (t : Fin k0_t1_loop.trips) : Prog (TpuEff nD τ sig (Elt F) Λ₀ .tc) PUnit :=
  if k0_h2 : k0_cond2 t = 1#1 then do
    Prog.lift (.waitDma2 ((arg7.slice (Rect.unit (s := S6) (k0_off4 t) S1.size (k0_off4_inb t k0_h2))).squeeze S_ squeezes_S1_S_).sem
      (arg0.slice (Rect.unit (s := S1296x10496) (k0_off6 t) S1296x256.size (k0_off6_inb t k0_h2)) (fun _ => rfl))
      ((arg5.slice (Rect.unit (s := S6x1296x256) (k0_off5 t) S1x1296x256.size (k0_off5_inb t k0_h2)) (fun _ => rfl)).squeeze
        S1296x256 squeezes_S1x1296x256_S1296x256)
      (View.wordExact_bits rfl) ((View.wordExact_bits rfl).reshape _ _))
    pure ⟨⟩
  else do
    pure ⟨⟩

/-- Read the slab of activations of a trip. -/
def ldX (t : Fin k0_t1_loop.trips) : Prog (TpuEff nD τ sig (Elt F) Λ₀ .tc) (Vec F S1x48x256 .bf16) :=
  Prog.lift (.load arg2 (Rect.unit (s := S41x48x256) (k0_off7 t) S1x48x256.size (k0_off7_inb t)).toLoadRect
    (View.loadsAt_vmem h_S1x48x256))

/-- One trip of the kernel's loop. -/
def tripP (v41 : IVec S32x128 32) (t : Fin k0_t1_loop.trips) (mx : Mxu F) :
    Prog (TpuEff nD τ sig (Elt F) Λ₀ .tc) (Mxu F) := do
  startP arg0 arg5 arg7 t
  waitP arg0 arg5 arg7 t
  let x ← ldX arg2 t
  let mx' ← blksP arg1 arg5 arg6 t (k0_pay5 x) 40 0 (by omega) mx
  tailP arg1 arg5 arg6 v41 t (k0_pay5 x) mx'

end Cert.Kernel.Blocks
-- ==== Proof.Kernel.Whole.lean ====
module

public import proofs.«01_k».proof.Proof.Kernel.Blocks

/-! The kernel outside its loop: the first six copies and the first staging before it, the pops of the matrix unit
after it. -/

@[expose] public section

set_option maxRecDepth 65536

noncomputable section

namespace Cert.Kernel.Blocks

open Idealize.ShloMosaic Idealize.SL.Sem
open Cert.Kernel Cert.Kernel.Gen

variable {F : FTy → Type} [FloatOps F]

variable (arg0 : Memref sig .tc .hbm S1296x10496 .i32) (arg1 : Memref sig .tc .vmem S82x4x5248 .bf16)
  (arg2 : Memref sig .tc .vmem S41x48x256 .bf16) (arg3 : Memref sig .tc .vmem S48x10240 .bf16)
  (harg3 : arg3.IsWhole) (arg4 : Memref sig .tc .vmem S48x128 .bf16) (harg4 : arg4.IsWhole)
  (arg5 : Memref sig .tc .vmem S6x1296x256 .i32)
  (arg6 : Memref sig .tc .vmem S41x2x32x128 .i32) (arg7 : DmaSems sig S6)

theorem offSlot_inb (s : ℕ) (h : s < 6) : ∀ a, (![s, 0, 0] : Fin 3 → ℕ) a + S1x1296x256.size a ≤ S6x1296x256.size a := by
  intro a
  fin_cases a
  · show s + 1 ≤ 6; omega
  · show 0 + 1296 ≤ 1296; omega
  · show 0 + 256 ≤ 256; omega

theorem offSrc_inb (j : ℕ) (h : j < 41) : ∀ a, (![0, 256 * j] : Fin 2 → ℕ) a + S1296x256.size a ≤ S1296x10496.size a := by
  intro a
  fin_cases a
  · show 0 + 1296 ≤ 1296; omega
  · show 256 * j + 256 ≤ 10496; omega

theorem offSem_inb (s : ℕ) (h : s < 6) : ∀ a, (![s] : Fin 1 → ℕ) a + S1.size a ≤ S6.size a := by
  intro a
  fin_cases a
  show s + 1 ≤ 6; omega

/-- Slot `s` of the ring. -/
def slotM (s : ℕ) (h : s < 6) : Memref sig .tc .vmem S1296x256 .i32 :=
  (arg5.slice (Rect.unit (s := S6x1296x256) ![s, 0, 0] S1x1296x256.size (offSlot_inb s h)) (fun _ => rfl)).squeeze
    S1296x256 squeezes_S1x1296x256_S1296x256

/-- Column block `j` of the packed weights. -/
def srcM (j : ℕ) (h : j < 41) : Memref sig .tc .hbm S1296x256 .i32 :=
  arg0.slice (Rect.unit (s := S1296x10496) ![0, 256 * j] S1296x256.size (offSrc_inb j h)) (fun _ => rfl)

/-- Slot `s`'s semaphore. -/
def semM (s : ℕ) (h : s < 6) : DmaSem sig :=
  ((arg7.slice (Rect.unit (s := S6) ![s] S1.size (offSem_inb s h))).squeeze S_ squeezes_S1_S_).sem

/-- Start the copy of column block `j` into slot `s`. -/
def dmaP (j s : ℕ) (hj : j < 41) (h : s < 6) : Prog (TpuEff nD τ sig (Elt F) Λ₀ .tc) PUnit :=
  Prog.lift (.enqueueDma (srcM arg0 j hj) (.here (slotM arg5 s h)) (.dma (semM arg7 s h))
    (View.wordExact_bits rfl) ((View.wordExact_bits rfl).reshape _ _) ⟨Or.inl rfl, trivial⟩)

/-- Wait for the copy of column block `j` into slot `s`. -/
def dmaW (j s : ℕ) (hj : j < 41) (h : s < 6) : Prog (TpuEff nD τ sig (Elt F) Λ₀ .tc) PUnit :=
  Prog.lift (.waitDma2 (semM arg7 s h) (srcM arg0 j hj) (slotM arg5 s h)
    (View.wordExact_bits rfl) ((View.wordExact_bits rfl).reshape _ _))

theorem off0_inb (row : ℕ) (gg : Fin 2) (h : row + 32 ≤ 1296) :
    ∀ a, (![0, row, gg.val * 128] : Fin 3 → ℕ) a + S1x32x128.size a ≤ S6x1296x256.size a := by
  intro a
  have := gg.isLt
  fin_cases a
  · show 0 + 1 ≤ 6; omega
  · exact h
  · show gg.val * 128 + 128 ≤ 256; omega

theorem off0_inb16 (row : ℕ) (gg : Fin 2) (h : row + 16 ≤ 1296) :
    ∀ a, (![0, row, gg.val * 128] : Fin 3 → ℕ) a + S1x16x128.size a ≤ S6x1296x256.size a := by
  intro a
  have := gg.isLt
  fin_cases a
  · show 0 + 1 ≤ 6; omega
  · exact h
  · show gg.val * 128 + 128 ≤ 256; omega

/-- Stage half `gg` of block `b` of the first column block. -/
def fillP (b : ℕ) (hb : b < 40) (gg : Fin 2) : Prog (TpuEff nD τ sig (Elt F) Λ₀ .tc) PUnit := do
  let n ← (Prog.lift (.load arg5 (Rect.unit (s := S6x1296x256) ![0, 32 * b, gg.val * 128] S1x32x128.size
    (off0_inb (32 * b) gg (by omega))).toLoadRect (View.loadsAt_vmem h_S1x32x128)) :
      Prog (TpuEff nD τ sig (Elt F) Λ₀ .tc) (Vec F S1x32x128 .i32))
  let _ ← ldT (F := F) arg6 b gg (by omega)
  stT arg6 b gg (by omega) (k0_pay13 (F := F) n)

/-- Stage the tail's half `gg` of the first column block. -/
def fillTail (gg : Fin 2) : Prog (TpuEff nD τ sig (Elt F) Λ₀ .tc) PUnit := do
  let n ← (Prog.lift (.load arg5 (Rect.unit (s := S6x1296x256) ![0, 1280, gg.val * 128] S1x16x128.size
    (off0_inb16 1280 gg (by omega))).toLoadRect (View.loadsAt_vmem h_S1x16x128)) :
      Prog (TpuEff nD τ sig (Elt F) Λ₀ .tc) (Vec F S1x16x128 .i32))
  let _ ← ldT (F := F) arg6 40 gg (by omega)
  stT arg6 40 gg (by omega) (k0_pay410 (F := F) n)

/-- Stage blocks `b, …` of the first column block. -/
def fillsP : (n b : ℕ) → (h : b + n ≤ 40) → Prog (TpuEff nD τ sig (Elt F) Λ₀ .tc) PUnit
  | 0, _, _ => pure ⟨⟩
  | n + 1, b, h => do
    fillP arg5 arg6 b (by omega) 0
    fillP arg5 arg6 b (by omega) 1
    fillsP n (b + 1) (by omega)

theorem offOut_inb (b : ℕ) (h : b < 40) : ∀ a, (![0, 256 * b] : Fin 2 → ℕ) a + S48x256.size a ≤ S48x10240.size a := by
  intro a
  fin_cases a
  · show 0 + 48 ≤ 48; omega
  · show 256 * b + 256 ≤ 10240; omega

theorem packedOut' : ∀ b : Fin 40, (Rect.unit (s := S48x10240) ![0, 256 * b.val] S48x256.size
    (offOut_inb b.val b.isLt)).PackedRows (EltTy.packing .bf16) := by decide

theorem packedOut (b : ℕ) (h : b < 40) : (Rect.unit (s := S48x10240) ![0, 256 * b] S48x256.size
    (offOut_inb b h)).PackedRows (EltTy.packing .bf16) := packedOut' ⟨b, h⟩

/-- Take block `b`'s accumulator out of its matrix unit and store it. -/
def popP (b : ℕ) (hb : b < 40) (mx : Mxu F) : Prog (TpuEff nD τ sig (Elt F) Λ₀ .tc) (Mxu F) := do
  let _ ← (Prog.lift (.load arg3 (Rect.unit (s := S48x10240) ![0, 256 * b] S48x256.size (offOut_inb b hb)).toLoadRect
    (View.loadsAt_vmem h_S48x256)) : Prog (TpuEff nD τ sig (Elt F) Λ₀ .tc) (Vec F S48x256 .bf16))
  Prog.lift (.store arg3 (Rect.unit (s := S48x10240) ![0, 256 * b] S48x256.size (offOut_inb b hb))
    (k0_pay508 (mx.read (unitOf b) (12 * (b / 2)) (fitsBlk b hb))) Finset.univ
    (View.stores_vmem h_S48x256 (harg3.storeExact_slice rfl _ (packedOut b hb)) (fun _ => rfl)) (.inl rfl))
  pure (mx.pop (unitOf b) (12 * (b / 2)) 48 (fitsBlk b hb))

/-- The pops of blocks `b, …`. -/
def popsP : (n b : ℕ) → (h : b + n ≤ 40) → Mxu F → Prog (TpuEff nD τ sig (Elt F) Λ₀ .tc) (Mxu F)
  | 0, _, _, mx => pure mx
  | n + 1, b, h, mx => do
    let mx' ← popP arg3 harg3 b (by omega) mx
    popsP n (b + 1) (by omega) mx'

/-- The tail's pop. -/
def popTail (mx : Mxu F) : Prog (TpuEff nD τ sig (Elt F) Λ₀ .tc) (Mxu F) := do
  let _ ← (Prog.lift (.load arg4 (Rect.unit (s := S48x128) ![0, 0] S48x128.size inb_S48x128_S48x128_0_0).toLoadRect
    (View.loadsAt_vmem h_S48x128)) : Prog (TpuEff nD τ sig (Elt F) Λ₀ .tc) (Vec F S48x128 .bf16))
  Prog.lift (.store arg4 (Rect.unit (s := S48x128) ![0, 0] S48x128.size inb_S48x128_S48x128_0_0)
    (k0_pay4 (mx.read 1 240 fits_240_48)) Finset.univ
    (View.stores_vmem h_S48x128 (harg4.storeExact_slice rfl _ packedbf16_S48x128_S48x128_0_0) (fun _ => rfl)) (.inl rfl))
  pure (mx.pop 1 240 48 fits_240_48)

/-- What follows the loop. -/
def epiP (mx : Mxu F) : Prog (TpuEff nD τ sig (Elt F) Λ₀ .tc) PUnit := do
  let mx' ← popsP arg3 harg3 40 0 (by omega) mx
  let mx'' ← popTail arg4 harg4 mx'
  mx''.exit
  pure ⟨⟩

/-- What precedes the loop. -/
def proP : Prog (TpuEff nD τ sig (Elt F) Λ₀ .tc) PUnit := do
  dmaP arg0 arg5 arg7 0 0 (by omega) (by omega)
  dmaP arg0 arg5 arg7 1 1 (by omega) (by omega)
  dmaP arg0 arg5 arg7 2 2 (by omega) (by omega)
  dmaP arg0 arg5 arg7 3 3 (by omega) (by omega)
  dmaP arg0 arg5 arg7 4 4 (by omega) (by omega)
  dmaP arg0 arg5 arg7 5 5 (by omega) (by omega)
  dmaW arg0 arg5 arg7 0 0 (by omega) (by omega)
  fillsP arg5 arg6 40 0 (by omega)
  fillTail arg5 arg6 0
  fillTail arg5 arg6 1

/-- The whole kernel. -/
def wholeP : Prog (TpuEff nD τ sig (Elt F) Λ₀ .tc) PUnit := do
  proP arg0 arg5 arg6 arg7
  let mx ← Scf.Loop.for k0_t1_loop k0_t1_ok Mxu.init (fun t mx => tripP arg0 arg1 arg2 arg5 arg6 arg7 (k0_pay413) t mx)
  epiP arg3 harg3 arg4 harg4 mx

end Cert.Kernel.Blocks
-- ==== Proof.Kernel.Own.lean ====
module

public import proofs.«01_k».proof.Proof.Kernel.Whole
public import proofs.«01_k».proof.Proof.Gen.Kernel.Launch
public import proofs.«01_k».proof.Proof.Gen.Kernel.Points
public import Idealize.ShloMosaic.Lib.Pipeline.FrameBody
public import Idealize.ShloMosaic.Lib.Transfers
public import Idealize.ShloMosaic.Lib.Tactic

/-! Steps of a program over an owned memref: what a load reads, what a store leaves, and the copies between two memrefs.
Every rule takes the resource, gives it back to the continuation, and is used at the head of a program. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

/-- A program run on core `c` ends in `Q`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem WP_bind (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p (fun a => WP c (k a) Q) := Idealize.SL.Sem.wp_bind _ _ _ _ _ _

theorem WP_ret (c : Dev nD) {α : Type} (a : α) (Q : α → sProp 𝕄) : Q a ⊢ WP c (pure a) Q := fupd_intro

variable {s : Shape} {e : EltTy} {α : Type}

/-- A load reads the owned contents under its rectangle. -/
theorem own_load (c : Dev nD) (m : Memref sig .tc .vmem s e) (r : Rect s) {hl : m.view.LoadsAt r.toLoadRect}
    (q : PosShare TreeShare) (X : s.Idx → Elt F e)
    (k : (r.shape.Idx → Elt F e) → Prog (TpuEff nD τ sig (Elt F) Λ₀ .tc) α) (Q : α → sProp 𝕄) :
    (owns (c : Thread nD τ) m q X : sProp 𝕄)
      ⊢ iprop((owns (c : Thread nD τ) m q X -∗ WP c (k (fun i => X (r.emb i))) Q)
        -∗ WP c (Prog.lift (.load m r.toLoadRect hl) >>= k) Q) := by
  unfold owns
  iintro ⟨%f, %hf, H⟩ HK
  iapply (wp_load (Val := Elt F) (Λ := Λ₀) (cs := .vmem) (defs := defs₀) Variants.none (c : Thread nD τ) none Set.univ (m := m) (r := r.toLoadRect)
    (hl := hl) (m.view.setOn_subset_set _)) $$ H
  iintro H
  have hv : m.view.readAt (Elt F) r.toLoadRect f = fun i => X (r.emb i) := by
    subst hf; rfl
  rw [hv]
  iapply HK
  iexists f
  isplitr
  · ipureintro; exact hf
  · iexact H

/-- A store leaves its payload under its rectangle and the rest as it was. -/
theorem own_store (c : Dev nD) (m : Memref sig .tc .vmem s e) (r : Rect s) (w : r.shape.Idx → Elt F e)
    {hx : (m.access r).Stores Finset.univ} {hm : (Finset.univ : Finset r.shape.Idx) = Finset.univ ∨ ∀ a, r.stride a = 1}
    (X : s.Idx → Elt F e) (k : PUnit → Prog (TpuEff nD τ sig (Elt F) Λ₀ .tc) α) (Q : α → sProp 𝕄) :
    (owns (c : Thread nD τ) m fullShare X : sProp 𝕄)
      ⊢ iprop((owns (c : Thread nD τ) m fullShare (r.overlay X w) -∗ WP c (k ⟨⟩) Q)
        -∗ WP c (Prog.lift (.store m r w Finset.univ hx hm) >>= k) Q) := by
  unfold owns
  iintro ⟨%f, %hf, H⟩ HK
  iapply (wp_store (Val := Elt F) (Λ := Λ₀) (cs := .vmem) (defs := defs₀) Variants.none (c : Thread nD τ) none Set.univ (m := m) (r := r) (w := w)
    (hx := hx) (hm := hm) (S := m.view.set) (m.view.set_slice_subset r)) $$ H
  iintro H
  iapply HK
  iexists ((m.access r).write (Elt F) f w Finset.univ)
  isplitr
  · ipureintro
    subst hf
    funext j
    by_cases hj : j ∈ r.set
    · rw [← Rect.map_emb_univ, Finset.mem_map] at hj
      obtain ⟨i, -, rfl⟩ := hj
      rw [Rect.overlay_emb]
      have := congrFun (View.read_write_univ (Val := Elt F) (v := m.access r) f w) i
      exact this
    · rw [Rect.overlay_of_not_mem _ _ _ hj]
      have hn : m.view.emb j ∉ (m.access r).set := by
        intro h
        rw [show (m.access r).set = r.set.map m.view.emb from View.set_slice _ _, Finset.mem_map] at h
        obtain ⟨j', hj', h⟩ := h
        exact hj (m.view.emb.injective h ▸ hj')
      rw [View.read_apply, View.read_apply, View.write_of_not_mem _ _ _ hn]
  · iexact H

end Cert.Kernel.Blocks
-- ==== Proof.Kernel.Ring.lean ====
module

public import proofs.«01_k».proof.Proof.Kernel.Own

/-! The ring of six slots the packed weights are copied through. Each slot either holds a copy in flight or is idle with
known contents; every column block of the weights not being copied is held. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg5 : Memref sig .tc .vmem S6x1296x256 .i32)
  (arg7 : DmaSems sig S6) (c : Dev nD) (G : S1296x10496.Idx → Elt F .i32) {α : Type}

/-- Column block `j` of the packed weights `G`. -/
def srcV (j : Fin 41) : S1296x256.Idx → Elt F .i32 :=
  fun i => G ((Rect.unit (s := S1296x10496) ![0, 256 * j.val] S1296x256.size (offSrc_inb j.val j.isLt)).emb i)

/-- Column block `j` of the weights, owned. -/
def srcR (j : Fin 41) : sProp 𝕄 := owns (c : Thread nD τ) (srcM arg0 j.val j.isLt) fullShare (srcV G j)

/-- What is held of slot `s`: a copy in flight, or the slot at contents `X` and its semaphore at zero. -/
def slotR (s : Fin 6) (o : Option (Fin 41)) (X : S1296x256.Idx → Elt F .i32) : sProp 𝕄 :=
  match o with
  | some j => Transfers.Flight (countersEmb (U := Pipeline.UD sig nD τ)) (c : Thread nD τ) (.dma (semM arg7 s.val s.isLt)) ()
      (slotM arg5 s.val s.isLt).view.dmaCredit
      iprop(owns (c : Thread nD τ) (slotM arg5 s.val s.isLt) fullShare (srcV G j) ∗ srcR arg0 c G j)
  | none => iprop(owns (c : Thread nD τ) (slotM arg5 s.val s.isLt) fullShare X
      ∗ semVal ((c : Thread nD τ), SemLoc.dma (semM arg7 s.val s.isLt)) 0)

/-- The column block `j`, unless it is being copied. -/
def homeR (σ : Fin 6 → Option (Fin 41)) (j : Fin 41) : sProp 𝕄 :=
  if ∃ s, σ s = some j then iprop(emp) else srcR arg0 c G j

/-- The ring with copies `σ` in flight and idle slots at `X`. -/
def ringR (σ : Fin 6 → Option (Fin 41)) (X : Fin 6 → S1296x256.Idx → Elt F .i32) : sProp 𝕄 :=
  iprop(bigSep Finset.univ (fun s => slotR arg0 arg5 arg7 c G s (σ s) (X s))
    ∗ bigSep Finset.univ (fun j => homeR arg0 c G σ j))

theorem slotR_some (s : Fin 6) (j : Fin 41) (X : S1296x256.Idx → Elt F .i32) :
    slotR arg0 arg5 arg7 c G s (some j) X = Transfers.Flight (countersEmb (U := Pipeline.UD sig nD τ)) (c : Thread nD τ)
      (.dma (semM arg7 s.val s.isLt)) () (slotM arg5 s.val s.isLt).view.dmaCredit
      iprop(owns (c : Thread nD τ) (slotM arg5 s.val s.isLt) fullShare (srcV G j) ∗ srcR arg0 c G j) := rfl

theorem slotR_none (s : Fin 6) (X : S1296x256.Idx → Elt F .i32) :
    slotR arg0 arg5 arg7 c G s none X = iprop(owns (c : Thread nD τ) (slotM arg5 s.val s.isLt) fullShare X
      ∗ semVal ((c : Thread nD τ), SemLoc.dma (semM arg7 s.val s.isLt)) 0) := rfl

/-- One element of a finite family taken out. -/
theorem univ_split {I : Type} [Fintype I] [DecidableEq I] (Φ : I → sProp 𝕄) (i : I) :
    bigSep Finset.univ Φ = iprop(Φ i ∗ bigSep (Finset.univ.erase i) Φ) := bigSep_univ_split i

/-- The slot `s` taken out of the ring's slots, and the others unchanged when `s` changes. -/
theorem slots_split (s : Fin 6) (σ σ' : Fin 6 → Option (Fin 41)) (X X' : Fin 6 → S1296x256.Idx → Elt F .i32)
    (hσ : ∀ s', s' ≠ s → σ' s' = σ s') (hX : ∀ s', s' ≠ s → X' s' = X s') :
    bigSep (Finset.univ.erase s) (fun s => slotR arg0 arg5 arg7 c G s (σ s) (X s))
      = bigSep (Finset.univ.erase s) (fun s => slotR arg0 arg5 arg7 c G s (σ' s) (X' s)) :=
  bigSep_congr fun s' hs' => by
    rw [hσ s' (Finset.ne_of_mem_erase hs'), hX s' (Finset.ne_of_mem_erase hs')]

theorem homes_split (j : Fin 41) (σ σ' : Fin 6 → Option (Fin 41))
    (h : ∀ j', j' ≠ j → ((∃ s, σ s = some j') ↔ ∃ s, σ' s = some j')) :
    bigSep (Finset.univ.erase j) (fun j => homeR arg0 c G σ j)
      = bigSep (Finset.univ.erase j) (fun j => homeR arg0 c G σ' j) :=
  bigSep_congr fun j' hj' => by
    unfold homeR
    exact if_congr (h j' (Finset.ne_of_mem_erase hj')) rfl rfl

/-- The start of a copy, between two owned memrefs. -/
theorem own_dma (s : Fin 6) (j : Fin 41) (X : S1296x256.Idx → Elt F .i32)
    (k : PUnit → Prog (TpuEff nD τ sig (Elt F) Λ₀ .tc) α) (Q : α → sProp 𝕄) :
    iprop(slotR arg0 arg5 arg7 c G s none X ∗ srcR arg0 c G j)
      ⊢ iprop((slotR arg0 arg5 arg7 c G s (some j) X -∗ WP c (k ⟨⟩) Q)
        -∗ WP c (dmaP (F := F) arg0 arg5 arg7 j.val s.val j.isLt s.isLt >>= k) Q) := by
  rw [slotR_none, slotR_some]
  unfold srcR owns dmaP
  iintro ⟨⟨⟨%fd, %hfd, Hd⟩, Hv⟩, ⟨%fs, %hfs, Hs⟩⟩ HK
  iapply (Transfers.wp_dmaLocal (countersEmb (U := Pipeline.UD sig nD τ)) (defs := defs₀ (F := F)) Variants.none (c : Thread nD τ) none ()
    (slotM arg5 s.val s.isLt).view.dmaCredit (src := srcM arg0 j.val j.isLt) (dst := slotM arg5 s.val s.isLt)
    (sm := .dma (semM arg7 s.val s.isLt)) rfl (View.dmaCredit_pos _ (by decide)) (Finset.Subset.refl _) (q := fullShare) (fs := fs) (fd := fd))
    $$ [Hs Hd Hv]
  · isplitl [Hs]; · iexact Hs
    isplitl [Hd]; · iexact Hd
    iexact Hv
  iintro HF
  iapply HK
  iapply (Transfers.Flight_mono (countersEmb (U := Pipeline.UD sig nD τ)) (c : Thread nD τ) ?_) $$ HF
  iintro ⟨Hd, Hs⟩
  isplitl [Hd]
  · iexists _
    isplitr
    swap; · iexact Hd
    ipureintro
    rw [View.read_write_univ, hfs]
  · iexists fs
    isplitr
    · ipureintro; exact hfs
    · iexact Hs

/-- The wait for a copy. -/
theorem own_wait (s : Fin 6) (j : Fin 41) (X : S1296x256.Idx → Elt F .i32) (W : Waits sig Unit)
    (k : PUnit → Prog (TpuEff nD τ sig (Elt F) Λ₀ .tc) α) (Q : α → sProp 𝕄) :
    iprop(slotR arg0 arg5 arg7 c G s (some j) X ∗ owes (c : Thread nD τ) 0 W)
      ⊢ iprop((iprop(slotR arg0 arg5 arg7 c G s none (srcV G j) ∗ srcR arg0 c G j ∗ ∃ W', owes (c : Thread nD τ) 0 W') -∗ WP c (k ⟨⟩) Q)
        -∗ WP c (dmaW (F := F) arg0 arg5 arg7 j.val s.val j.isLt s.isLt >>= k) Q) := by
  rw [slotR_none, slotR_some]
  unfold dmaW
  iintro ⟨HF, HW⟩ HK
  iapply (Transfers.wp_waitLocal (countersEmb (U := Pipeline.UD sig nD τ)) (defs := defs₀ (F := F)) Variants.none (c : Thread nD τ) none
    (sem := semM arg7 s.val s.isLt) (srcw := srcM arg0 j.val j.isLt) (dstw := slotM arg5 s.val s.isLt) () rfl) $$ [HF HW]
  · isplitl [HF]; · iexact HF
    iexact HW
  iintro ⟨⟨Hd, Hs⟩, Hv, HW⟩
  iapply HK
  isplitl [Hd Hv]
  · isplitl [Hd]; · iexact Hd
    iexact Hv
  isplitl [Hs]; · iexact Hs
  iexists _; iexact HW

/-- Starting the copy of column block `j` into the idle slot `s`. -/
theorem ring_start (s : Fin 6) (j : Fin 41) (σ σ' : Fin 6 → Option (Fin 41)) (X : Fin 6 → S1296x256.Idx → Elt F .i32)
    (hs : σ s = none) (hj : ∀ s', σ s' ≠ some j) (hσ : σ' = Function.update σ s (some j))
    (k : PUnit → Prog (TpuEff nD τ sig (Elt F) Λ₀ .tc) α) (Q : α → sProp 𝕄) :
    ringR arg0 arg5 arg7 c G σ X
      ⊢ iprop((ringR arg0 arg5 arg7 c G σ' X -∗ WP c (k ⟨⟩) Q)
        -∗ WP c (dmaP (F := F) arg0 arg5 arg7 j.val s.val j.isLt s.isLt >>= k) Q) := by
  unfold ringR
  have e1 : σ' s = some j := by rw [hσ, Function.update_self]
  have e2 : ∀ s', s' ≠ s → σ' s' = σ s' := fun s' h => by rw [hσ, Function.update_of_ne h]
  rw [univ_split (fun s => slotR arg0 arg5 arg7 c G s (σ s) (X s)) s, univ_split (fun s => slotR arg0 arg5 arg7 c G s (σ' s) (X s)) s,
    univ_split (fun j => homeR arg0 c G σ j) j, univ_split (fun j => homeR arg0 c G σ' j) j,
    slots_split arg0 arg5 arg7 c G s σ σ' X X e2 (fun _ _ => rfl),
    homes_split arg0 c G j σ σ' (fun j' hj' => by
      constructor
      · rintro ⟨s', h⟩
        exact ⟨s', by rw [e2 s' (fun e => by rw [e, hs] at h; exact absurd h (by simp))]; exact h⟩
      · rintro ⟨s', h⟩
        refine ⟨s', ?_⟩
        by_cases e : s' = s
        · rw [e, e1] at h; exact absurd (Option.some.inj h).symm hj'
        · rw [← e2 s' e]; exact h),
    show homeR arg0 c G σ j = srcR arg0 c G j from if_neg (fun ⟨s', h⟩ => hj s' h),
    show homeR arg0 c G σ' j = iprop(emp) from if_pos ⟨s, e1⟩, hs, e1]
  iintro ⟨⟨Hs, Hr⟩, ⟨Hj, Hh⟩⟩ HK
  iapply (own_dma arg0 arg5 arg7 c G s j (X s)) $$ [Hs Hj]
  · isplitl [Hs]; · iexact Hs
    iexact Hj
  iintro Hs
  iapply HK
  isplitl [Hs Hr]
  · isplitl [Hs]; · iexact Hs
    iexact Hr
  isplitr; · iempintro
  iexact Hh

/-- Waiting for the copy of column block `j` into slot `s`. -/
theorem ring_wait (s : Fin 6) (j : Fin 41) (σ σ' : Fin 6 → Option (Fin 41)) (X : Fin 6 → S1296x256.Idx → Elt F .i32)
    (hs : σ s = some j) (hj : ∀ s', s' ≠ s → σ s' ≠ some j) (hσ : σ' = Function.update σ s none)
    (k : PUnit → Prog (TpuEff nD τ sig (Elt F) Λ₀ .tc) α) (Q : α → sProp 𝕄) :
    iprop(ringR arg0 arg5 arg7 c G σ X ∗ (∃ W, owes (c : Thread nD τ) 0 W))
      ⊢ iprop((iprop(ringR arg0 arg5 arg7 c G σ' (Function.update X s (srcV G j)) ∗ (∃ W, owes (c : Thread nD τ) 0 W)) -∗ WP c (k ⟨⟩) Q)
        -∗ WP c (dmaW (F := F) arg0 arg5 arg7 j.val s.val j.isLt s.isLt >>= k) Q) := by
  unfold ringR
  have e1 : σ' s = none := by rw [hσ, Function.update_self]
  have e2 : ∀ s', s' ≠ s → σ' s' = σ s' := fun s' h => by rw [hσ, Function.update_of_ne h]
  rw [univ_split (fun s => slotR arg0 arg5 arg7 c G s (σ s) (X s)) s,
    univ_split (fun s' => slotR arg0 arg5 arg7 c G s' (σ' s') (Function.update X s (srcV G j) s')) s,
    univ_split (fun j => homeR arg0 c G σ j) j, univ_split (fun j => homeR arg0 c G σ' j) j,
    slots_split arg0 arg5 arg7 c G s σ σ' X (Function.update X s (srcV G j)) e2 (fun s' h => Function.update_of_ne h _ _),
    homes_split arg0 c G j σ σ' (fun j' hj' => by
      constructor
      · rintro ⟨s', h⟩
        exact ⟨s', by rw [e2 s' (fun e => by rw [e, hs] at h; exact hj' (Option.some.inj h).symm)]; exact h⟩
      · rintro ⟨s', h⟩
        refine ⟨s', ?_⟩
        by_cases e : s' = s
        · rw [e, e1] at h; exact absurd h (by simp)
        · rw [← e2 s' e]; exact h),
    show homeR arg0 c G σ j = iprop(emp) from if_pos ⟨s, hs⟩,
    show homeR arg0 c G σ' j = srcR arg0 c G j from if_neg (by
      rintro ⟨s', h⟩
      by_cases e : s' = s
      · rw [e, e1] at h; exact absurd h (by simp)
      · rw [e2 s' e] at h; exact hj s' e h), hs, e1, Function.update_self]
  iintro ⟨⟨⟨Hs, Hr⟩, ⟨-, Hh⟩⟩, ⟨%W, HW⟩⟩ HK
  iapply (own_wait arg0 arg5 arg7 c G s j (X s) W) $$ [Hs HW]
  · isplitl [Hs]; · iexact Hs
    iexact HW
  iintro ⟨Hs, Hj, HW⟩
  iapply HK
  isplitr [HW]
  · isplitl [Hs Hr]
    · isplitl [Hs]; · iexact Hs
      iexact Hr
    isplitl [Hj]; · iexact Hj
    iexact Hh
  · iexact HW

end Cert.Kernel.Blocks
-- ==== Proof.Kernel.Stage.lean ====
module

public import proofs.«01_k».proof.Proof.Kernel.Whole
public import Idealize.ShloMosaic.Lib.Memref

/-! What a trip computes, as values: the words staged from a column block of the packed weights, the tiles made of staged
words, and the state of the matrix unit after a trip. -/

@[expose] public section

set_option maxRecDepth 16384

noncomputable section

namespace Cert.Kernel.Blocks

open Cert.Kernel Cert.Kernel.Gen
open Idealize.ShloMosaic

variable {F : FTy → Type} [FloatOps F]

/-- Row `r`, lane `l` of a slot (taken modulo the sizes, so that it is an index whatever `r` and `l` are). -/
def idx2 (r l : ℕ) : S1296x256.Idx := fun a =>
  match a with
  | ⟨0, _⟩ => (⟨r % 1296, Nat.mod_lt _ (by decide)⟩ : Fin 1296)
  | ⟨1, _⟩ => (⟨l % 256, Nat.mod_lt _ (by decide)⟩ : Fin 256)

/-- Thirty-two rows of a slot's contents, half `gg`. -/
def rowV (X : S1296x256.Idx → Elt F .i32) (row : ℕ) (gg : Fin 2) : Vec F S1x32x128 .i32 :=
  fun i => X (idx2 (row + (i 1).val) (gg.val * 128 + (i 2).val))

/-- The last sixteen rows of a slot's contents, half `gg`. -/
def rowV16 (X : S1296x256.Idx → Elt F .i32) (row : ℕ) (gg : Fin 2) : Vec F S1x16x128 .i32 :=
  fun i => X (idx2 (row + (i 1).val) (gg.val * 128 + (i 2).val))

/-- The place within its half of a staged word. -/
def restI (i : S41x2x32x128.Idx) : S1x1x32x128.Idx := fun a =>
  match a with
  | ⟨0, _⟩ => (⟨0, by decide⟩ : Fin 1)
  | ⟨1, _⟩ => (⟨0, by decide⟩ : Fin 1)
  | ⟨2, _⟩ => (i 2 : Fin 32)
  | ⟨3, _⟩ => (i 3 : Fin 128)

/-- The words a trip stages from a slot at `X`. -/
def stagedV (X : S1296x256.Idx → Elt F .i32) : S41x2x32x128.Idx → Elt F .i32 := fun i =>
  if (i 0).val < 40 then k0_pay13 (F := F) (rowV X (32 * (i 0).val) (i 1)) (restI i)
  else k0_pay410 (F := F) (rowV16 X 1280 (i 1)) (restI i)

/-- The staging array when `n` halves have been staged anew. -/
def mixV (n : ℕ) (old new : S41x2x32x128.Idx → Elt F .i32) : S41x2x32x128.Idx → Elt F .i32 :=
  fun i => if 2 * (i 0).val + (i 1).val < n then new i else old i

/-- The rectangle of half `gg` of block `b`. -/
abbrev rectT (b : ℕ) (gg : Fin 2) (h : b < 41) : Rect S41x2x32x128 :=
  Rect.unit (s := S41x2x32x128) ![b, gg.val, 0, 0] S1x1x32x128.size (offT_inb b gg h)

/-- The staged words of half `gg` of block `b`. -/
def wordsV (old : S41x2x32x128.Idx → Elt F .i32) (b : ℕ) (gg : Fin 2) (h : b < 41) : Vec F S1x1x32x128 .i32 :=
  fun i => old ((rectT b gg h).emb i)

theorem rectT_emb0 (b : ℕ) (gg : Fin 2) (h : b < 41) (i : S1x1x32x128.Idx) : (((rectT b gg h).emb i) 0).val = b := by
  have h0 : (i 0).val < 1 := (i 0).isLt
  show b + 1 * (i 0).val = b
  omega

theorem rectT_emb1 (b : ℕ) (gg : Fin 2) (h : b < 41) (i : S1x1x32x128.Idx) : ((rectT b gg h).emb i) 1 = gg := by
  have h0 : (i 1).val < 1 := (i 1).isLt
  apply Fin.ext
  show gg.val + 1 * (i 1).val = gg.val
  omega

theorem restI_emb (b : ℕ) (gg : Fin 2) (h : b < 41) (i : S1x1x32x128.Idx) : restI ((rectT b gg h).emb i) = i := by
  have h0 : (i 0).val < 1 := (i 0).isLt
  have h1 : (i 1).val < 1 := (i 1).isLt
  funext a
  apply Fin.ext
  fin_cases a
  · show 0 = (i 0).val; omega
  · show 0 = (i 1).val; omega
  · show 0 + 1 * (i 2).val = (i 2).val; omega
  · show 0 + 1 * (i 3).val = (i 3).val; omega

theorem mem_rectT (b : ℕ) (gg : Fin 2) (h : b < 41) (j : S41x2x32x128.Idx) :
    j ∈ (rectT b gg h).set ↔ (j 0).val = b ∧ j 1 = gg := by
  constructor
  · intro hj
    rw [← Rect.map_emb_univ, Finset.mem_map] at hj
    obtain ⟨i, -, rfl⟩ := hj
    exact ⟨rectT_emb0 b gg h i, rectT_emb1 b gg h i⟩
  · rintro ⟨h0, h1⟩
    rw [← Rect.map_emb_univ, Finset.mem_map]
    refine ⟨restI j, Finset.mem_univ _, ?_⟩
    funext a
    apply Fin.ext
    fin_cases a
    · show b + 1 * 0 = (j 0).val; omega
    · show gg.val + 1 * 0 = (j 1).val; rw [h1]; omega
    · show 0 + 1 * (j 2).val = (j 2).val; omega
    · show 0 + 1 * (j 3).val = (j 3).val; omega

/-- A half not staged anew yet still holds the old words. -/
theorem mixV_words (n : ℕ) (old new : S41x2x32x128.Idx → Elt F .i32) (b : ℕ) (gg : Fin 2) (h : b < 41)
    (hn : n ≤ 2 * b + gg.val) :
    (fun i => mixV n old new ((rectT b gg h).emb i)) = wordsV old b gg h := by
  funext i
  unfold mixV wordsV
  rw [rectT_emb0, rectT_emb1, if_neg (by omega)]

/-- Staging half `gg` of block `b`. -/
theorem mixV_overlay (n : ℕ) (old new : S41x2x32x128.Idx → Elt F .i32) (b : ℕ) (gg : Fin 2) (h : b < 41)
    (hn : n = 2 * b + gg.val) (w : (rectT b gg h).shape.Idx → Elt F .i32)
    (hw : ∀ i, new ((rectT b gg h).emb i) = w i) :
    (rectT b gg h).overlay (mixV n old new) w = mixV (n + 1) old new := by
  funext j
  by_cases hj : j ∈ (rectT b gg h).set
  · have hj' := (mem_rectT b gg h j).mp hj
    rw [← Rect.map_emb_univ, Finset.mem_map] at hj
    obtain ⟨i, -, rfl⟩ := hj
    rw [Rect.overlay_emb, ← hw i]
    unfold mixV
    rw [if_pos (by rw [hj'.1, hj'.2]; omega)]
  · rw [Rect.overlay_of_not_mem _ _ _ hj]
    rw [mem_rectT] at hj
    unfold mixV
    have h1 : (j 1).val < 2 := (j 1).isLt
    have h2 := gg.isLt
    have : 2 * (j 0).val + (j 1).val ≠ n := fun e => hj ⟨by omega, Fin.ext (by omega)⟩
    by_cases hlt : 2 * (j 0).val + (j 1).val < n
    · rw [if_pos hlt, if_pos (by omega)]
    · rw [if_neg hlt, if_neg (by omega)]

theorem stagedV_half (X : S1296x256.Idx → Elt F .i32) (b : ℕ) (gg : Fin 2) (h : b < 40) (i : S1x1x32x128.Idx) :
    stagedV X ((rectT b gg (by omega)).emb i) = k0_pay13 (F := F) (rowV X (32 * b) gg) i := by
  unfold stagedV
  rw [rectT_emb0, rectT_emb1, restI_emb, if_pos h]

theorem stagedV_tail (X : S1296x256.Idx → Elt F .i32) (gg : Fin 2) (i : S1x1x32x128.Idx) :
    stagedV X ((rectT 40 gg (by omega)).emb i) = k0_pay410 (F := F) (rowV16 X 1280 gg) i := by
  unfold stagedV
  rw [rectT_emb0, rectT_emb1, restI_emb, if_neg (by omega)]

theorem mixV_zero (old new : S41x2x32x128.Idx → Elt F .i32) : mixV 0 old new = old := by
  funext i; exact if_neg (by omega)

theorem mixV_all (old new : S41x2x32x128.Idx → Elt F .i32) : mixV 82 old new = new := by
  funext i
  have h0 : (i 0).val < 41 := (i 0).isLt
  have h1 : (i 1).val < 2 := (i 1).isLt
  exact if_pos (by omega)

/-! ## The tiles and the matrix unit -/

/-- A row of the table of zero points and scales. -/
def tabV (T : S82x4x5248.Idx → Elt F .bf16) (t : Fin k0_t1_loop.trips) (gg : Fin 2) (r lane : ℕ) (hr : r < 4)
    (hl : lane + 128 ≤ 5248) : Vec F S1x1x128 .bf16 :=
  fun i => T ((Rect.unit (s := S82x4x5248) (offTab t gg r lane) S1x1x128.size (offTab_inb t gg r lane hr hl)).emb i)

/-- The slab of activations of a trip. -/
def slabV (A : S41x48x256.Idx → Elt F .bf16) (t : Fin k0_t1_loop.trips) : Vec F S1x48x256 .bf16 :=
  fun i => A ((Rect.unit (s := S41x48x256) (k0_off7 t) S1x48x256.size (k0_off7_inb t)).emb i)

/-- The tile half `gg` of block `b`. -/
def halfV (T : S82x4x5248.Idx → Elt F .bf16) (old : S41x2x32x128.Idx → Elt F .i32) (t : Fin k0_t1_loop.trips) (b : ℕ)
    (hb : b < 40) (gg : Fin 2) : FVec F S128x256 .bf16 :=
  k0_pay12 (wordsV old b gg (by omega)) (tabV T t gg 0 (128 * b) (by omega) (by omega))
    (tabV T t gg 2 (128 * b) (by omega) (by omega)) (tabV T t gg 1 (128 * b) (by omega) (by omega))
    (tabV T t gg 3 (128 * b) (by omega) (by omega))

/-- The tail's tile half `gg`. -/
def halfTailV (T : S82x4x5248.Idx → Elt F .bf16) (old : S41x2x32x128.Idx → Elt F .i32) (t : Fin k0_t1_loop.trips)
    (gg : Fin 2) : FVec F S128x256 .bf16 :=
  k0_pay412 (k0_pay411 k0_pay413 (wordsV old 40 gg (by omega)) (tabV T t gg 0 5120 (by omega) (by omega))
    (tabV T t gg 2 5120 (by omega) (by omega)))

/-- The matrix unit after block `b`. -/
def blkV (T : S82x4x5248.Idx → Elt F .bf16) (old : S41x2x32x128.Idx → Elt F .i32) (t : Fin k0_t1_loop.trips)
    (x : FVec F S48x256 .bf16) (b : ℕ) (hb : b < 40) (mx : Mxu F) : Mxu F :=
  (mx.pushed (unitOf b) (regOf b) false (k0_pay14 (halfV T old t b hb 0) (halfV T old t b hb 1))).accLhs
    (unitOf b) (regOf b) (12 * (b / 2)) x (fitsBlk b hb)

/-- The matrix unit after blocks `b, …`. -/
def blksV (T : S82x4x5248.Idx → Elt F .bf16) (old : S41x2x32x128.Idx → Elt F .i32) (t : Fin k0_t1_loop.trips)
    (x : FVec F S48x256 .bf16) : (n b : ℕ) → (h : b + n ≤ 40) → Mxu F → Mxu F
  | 0, _, _, mx => mx
  | n + 1, b, h, mx => blksV T old t x n (b + 1) (by omega) (blkV T old t x b (by omega) mx)

/-- The matrix unit after the tail block. -/
def tailV (T : S82x4x5248.Idx → Elt F .bf16) (old : S41x2x32x128.Idx → Elt F .i32) (t : Fin k0_t1_loop.trips)
    (x : FVec F S48x256 .bf16) (mx : Mxu F) : Mxu F :=
  (mx.pushed 1 0 false (k0_pay507 (halfTailV T old t 0) (halfTailV T old t 1))).accLhs 1 0 240 x fits_240_48

/-- The matrix unit after a trip. -/
def tripV (T : S82x4x5248.Idx → Elt F .bf16) (A : S41x48x256.Idx → Elt F .bf16) (old : S41x2x32x128.Idx → Elt F .i32)
    (t : Fin k0_t1_loop.trips) (mx : Mxu F) : Mxu F :=
  tailV T old t (k0_pay5 (slabV A t)) (blksV T old t (k0_pay5 (slabV A t)) 40 0 (by omega) mx)

/-- No register of the matrix unit holds a tile. -/
def Bare (mx : Mxu F) : Prop := ∀ q r, mx.reg q r = none

theorem Bare.step {mx : Mxu F} (h : Bare mx) (q r : Fin 2) (A : ℕ) (v : FVec F (Mxu.STile 256) .bf16)
    (x : FVec F S48x256 .bf16) (hf : Mxu.Fits A 48) : Bare ((mx.pushed q r false v).accLhs q r A x hf) := by
  intro q' r'
  have e : mx.pushed q r false v = { mx with reg := fun q' r' => if q' = q ∧ r' = r then some ⟨.bf16, false, v⟩ else mx.reg q' r' } := by
    unfold Mxu.pushed; rw [h q r]
  rw [e]
  show (if q' = q ∧ r' = r then none else if q' = q ∧ r' = r then some _ else mx.reg q' r') = none
  by_cases hq : q' = q ∧ r' = r
  · rw [if_pos hq]
  · rw [if_neg hq, if_neg hq]; exact h q' r'

theorem Bare.ok {mx : Mxu F} (h : Bare mx) (q r : Fin 2) : mx.PushOk q r false := by
  intro t ht
  rw [h q r] at ht
  cases ht

theorem Bare.blks {T : S82x4x5248.Idx → Elt F .bf16} {old : S41x2x32x128.Idx → Elt F .i32} {t : Fin k0_t1_loop.trips}
    {x : FVec F S48x256 .bf16} : ∀ (n b : ℕ) (h : b + n ≤ 40) (mx : Mxu F), Bare mx → Bare (blksV T old t x n b h mx)
  | 0, _, _, _, hm => hm
  | n + 1, b, h, mx, hm => Bare.blks n (b + 1) _ _ (Bare.step hm _ _ _ _ _ _)

theorem Bare.trip {T : S82x4x5248.Idx → Elt F .bf16} {A : S41x48x256.Idx → Elt F .bf16}
    {old : S41x2x32x128.Idx → Elt F .i32} {t : Fin k0_t1_loop.trips} {mx : Mxu F} (h : Bare mx) :
    Bare (tripV T A old t mx) :=
  Bare.step (Bare.blks 40 0 _ _ h) _ _ _ _ _ _

end Cert.Kernel.Blocks
-- ==== Proof.Kernel.Trip.lean ====
module

public import proofs.«01_k».proof.Proof.Kernel.Ring
public import proofs.«01_k».proof.Proof.Kernel.Stage
public import Idealize.ShloMosaic.Lib.Mxu.Lemmas

/-! The blocks of a trip, run: from the staged words and the slot just copied, the matrix unit moves as `tripV` says and
the slot's words take the staged words' place. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg1 : Memref sig .tc .vmem S82x4x5248 .bf16)
  (arg2 : Memref sig .tc .vmem S41x48x256 .bf16) (arg5 : Memref sig .tc .vmem S6x1296x256 .i32)
  (arg6 : Memref sig .tc .vmem S41x2x32x128 .i32) (arg7 : DmaSems sig S6) (c : Dev nD) {α : Type}

/-- Where a slot's view sends an index, as an index of the ring. -/
theorem slot_idx (s : ℕ) (h : s < 6) (y : S1296x256.Idx) (z : S6x1296x256.Idx) (h0 : (z 0).val = s)
    (h1 : (z 1).val = (y 0).val) (h2 : (z 2).val = (y 1).val) :
    (Rect.unit (s := S6x1296x256) ![s, 0, 0] S1x1296x256.size (offSlot_inb s h)).emb
      (Shape.reshapeEquiv (s := S1x1296x256) (s' := S1296x256) (squeezes_S1x1296x256_S1296x256.numel_eq) y) = z := by
  rw [show Shape.reshapeEquiv (s := S1x1296x256) (s' := S1296x256) (squeezes_S1x1296x256_S1296x256.numel_eq) y
    = Fin.cons ⟨0, Nat.one_pos⟩ y from Shape.reshapeEquiv_cons_one _ y]
  funext a
  apply Fin.ext
  fin_cases a
  · show s + 1 * 0 = (z 0).val; omega
  · show 0 + 1 * (y 0).val = (z 1).val; omega
  · show 0 + 1 * (y 1).val = (z 2).val; omega

theorem slot_emb (s : ℕ) (h : s < 6) (y : S1296x256.Idx) (z : S6x1296x256.Idx) (h0 : (z 0).val = s)
    (h1 : (z 1).val = (y 0).val) (h2 : (z 2).val = (y 1).val) :
    (slotM arg5 s h).view.emb y = arg5.view.emb z := by
  rw [← slot_idx s h y z h0 h1 h2]
  rfl

theorem slot_read (s : ℕ) (h : s < 6) (f : arg5.view.ty.Contents (Elt F)) (y : S1296x256.Idx) (z : S6x1296x256.Idx)
    (h0 : (z 0).val = s) (h1 : (z 1).val = (y 0).val) (h2 : (z 2).val = (y 1).val) :
    (slotM arg5 s h).view.read (Elt F) f y = arg5.view.read (Elt F) f z := by
  rw [← slot_idx s h y z h0 h1 h2]
  rfl

/-- A load from the ring reads the slot it falls into. -/
theorem slot_load (s : ℕ) (h : s < 6) (row lane H : ℕ) (off sz : Fin 3 → ℕ) (hoff : off = ![s, row, lane])
    (hsz : sz = ![1, H, 128]) (inb : ∀ a, off a + sz a ≤ S6x1296x256.size a)
    {hl : arg5.view.LoadsAt (Rect.unit (s := S6x1296x256) off sz inb).toLoadRect}
    (q : PosShare TreeShare) (X : S1296x256.Idx → Elt F .i32)
    (v : (Rect.unit (s := S6x1296x256) off sz inb).shape.Idx → Elt F .i32)
    (hv : ∀ i, v i = X (idx2 (row + (i 1).val) (lane + (i 2).val)))
    (k : ((Rect.unit (s := S6x1296x256) off sz inb).shape.Idx → Elt F .i32) → Prog (TpuEff nD τ sig (Elt F) Λ₀ .tc) α)
    (Q : α → sProp 𝕄) :
    (owns (c : Thread nD τ) (slotM arg5 s h) q X : sProp 𝕄)
      ⊢ iprop((owns (c : Thread nD τ) (slotM arg5 s h) q X -∗ WP c (k v) Q)
        -∗ WP c (Prog.lift (.load arg5 (Rect.unit (s := S6x1296x256) off sz inb).toLoadRect hl) >>= k) Q) := by
  subst hoff hsz
  have hz : ∀ i : (Rect.unit (s := S6x1296x256) ![s, row, lane] ![1, H, 128] inb).shape.Idx,
      (((Rect.unit (s := S6x1296x256) ![s, row, lane] ![1, H, 128] inb).emb i) 0).val = s
      ∧ (((Rect.unit (s := S6x1296x256) ![s, row, lane] ![1, H, 128] inb).emb i) 1).val
        = ((idx2 (row + (i 1).val) (lane + (i 2).val)) 0).val
      ∧ (((Rect.unit (s := S6x1296x256) ![s, row, lane] ![1, H, 128] inb).emb i) 2).val
        = ((idx2 (row + (i 1).val) (lane + (i 2).val)) 1).val := by
    intro i
    have i0 : (i 0).val < 1 := (i 0).isLt
    have i1 : (i 1).val < H := (i 1).isLt
    have i2 : (i 2).val < 128 := (i 2).isLt
    have b1 : row + H ≤ 1296 := inb 1
    have b2 : lane + 128 ≤ 256 := inb 2
    refine ⟨?_, ?_, ?_⟩
    · show s + 1 * (i 0).val = s; omega
    · show row + 1 * (i 1).val = (row + (i 1).val) % 1296
      rw [Nat.mod_eq_of_lt (by omega)]; omega
    · show lane + 1 * (i 2).val = (lane + (i 2).val) % 256
      rw [Nat.mod_eq_of_lt (by omega)]; omega
  have hemb := fun i => slot_emb arg5 s h _ _ (hz i).1 (hz i).2.1 (hz i).2.2
  rw [show (owns (c : Thread nD τ) (slotM arg5 s h) q X : sProp 𝕄)
    = iprop(∃ f, ⌜(slotM arg5 s h).view.read (Elt F) f = X⌝ ∗ (arg5.view.loc (c : Thread nD τ) ↦[(slotM arg5 s h).view.set]{q} f)) from rfl]
  iintro ⟨%f, %hf, H⟩ HK
  iapply (wp_load (Val := Elt F) (Λ := Λ₀) (cs := .vmem) (defs := defs₀) Variants.none (c : Thread nD τ) none Set.univ (m := arg5)
    (r := (Rect.unit (s := S6x1296x256) ![s, row, lane] ![1, H, 128] inb).toLoadRect)
    (S := (slotM arg5 s h).view.set) (q := q) (f := f) (hl := hl) (by
      intro x hx
      rw [View.setOn, Finset.mem_map] at hx
      obtain ⟨j, hj, rfl⟩ := hx
      have hj' : j ∈ (Rect.unit (s := S6x1296x256) ![s, row, lane] ![1, H, 128] inb).set := hj
      rw [← Rect.map_emb_univ, Finset.mem_map] at hj'
      obtain ⟨i, -, rfl⟩ := hj'
      rw [← hemb i]
      exact View.emb_mem_set _ _)) $$ H
  iintro H
  have hv' : arg5.view.readAt (Elt F) (Rect.unit (s := S6x1296x256) ![s, row, lane] ![1, H, 128] inb).toLoadRect f = v := by
    subst hf
    funext i
    rw [hv i]
    exact (slot_read arg5 s h f _ _ (hz i).1 (hz i).2.1 (hz i).2.2).symm
  rw [hv']
  iapply HK
  iexists f
  isplitr
  · ipureintro; exact hf
  · iexact H

/-- What a block works on: the table, the staging array with `n` halves staged anew, and the slot it stages from. -/
def workR (T : S82x4x5248.Idx → Elt F .bf16) (old : S41x2x32x128.Idx → Elt F .i32) (s : Fin 6)
    (X : S1296x256.Idx → Elt F .i32) (n : ℕ) : sProp 𝕄 :=
  iprop(owns (c : Thread nD τ) arg1 fullShare T ∗ owns (c : Thread nD τ) arg6 fullShare (mixV n old (stagedV X))
    ∗ owns (c : Thread nD τ) (slotM arg5 s.val s.isLt) fullShare X)

variable (T : S82x4x5248.Idx → Elt F .bf16) (old : S41x2x32x128.Idx → Elt F .i32) (s : Fin 6)
    (X : S1296x256.Idx → Elt F .i32) (t : Fin k0_t1_loop.trips) (ht : k0_off12 t 0 = s.val)

include ht

/-- One half of a block. -/
theorem half_wp (b : ℕ) (hb : b < 40) (gg : Fin 2) (n : ℕ) (hn : n = 2 * b + gg.val)
    (k : FVec F S128x256 .bf16 → Prog (TpuEff nD τ sig (Elt F) Λ₀ .tc) α) (Q : α → sProp 𝕄) :
    workR arg1 arg5 arg6 c T old s X n
      ⊢ iprop((workR arg1 arg5 arg6 c T old s X (n + 1) -∗ WP c (k (halfV T old t b hb gg)) Q)
        -∗ WP c (halfP arg1 arg5 arg6 t b hb gg >>= k) Q) := by
  unfold workR halfP ldT ldTab ldRow stT
  simp only [Prog.bind_assoc]
  iintro ⟨H1, H6, Hs⟩ HK
  iapply (own_load c arg6 (rectT b gg (by omega)) fullShare) $$ H6
  iintro H6
  rw [mixV_words n old (stagedV X) b gg (by omega) (by omega)]
  iapply (own_load c arg1 _ fullShare T) $$ H1
  iintro H1
  iapply (own_load c arg1 _ fullShare T) $$ H1
  iintro H1
  iapply (own_load c arg1 _ fullShare T) $$ H1
  iintro H1
  iapply (own_load c arg1 _ fullShare T) $$ H1
  iintro H1
  iapply (slot_load arg5 c s.val s.isLt (32 * b) (gg.val * 128) 32 (offRow t (32 * b) gg) S1x32x128.size
    (by unfold offRow; rw [ht]) rfl (offRow_inb t (32 * b) gg (by omega)) fullShare X (rowV X (32 * b) gg) (fun i => rfl)) $$ Hs
  iintro Hs
  iapply (own_load c arg6 (rectT b gg (by omega)) fullShare) $$ H6
  iintro H6
  iapply (own_store c arg6 (rectT b gg (by omega))) $$ H6
  iintro H6
  rw [mixV_overlay n old (stagedV X) b gg (by omega) hn _ (stagedV_half X b gg hb)]
  iapply HK
  isplitl [H1]; · iexact H1
  isplitl [H6]; · iexact H6
  iexact Hs

/-- One half of the tail block. -/
theorem halfTail_wp (gg : Fin 2) (n : ℕ) (hn : n = 80 + gg.val)
    (k : FVec F S128x256 .bf16 → Prog (TpuEff nD τ sig (Elt F) Λ₀ .tc) α) (Q : α → sProp 𝕄) :
    workR arg1 arg5 arg6 c T old s X n
      ⊢ iprop((workR arg1 arg5 arg6 c T old s X (n + 1) -∗ WP c (k (halfTailV T old t gg)) Q)
        -∗ WP c (halfTail arg1 arg5 arg6 k0_pay413 t gg >>= k) Q) := by
  unfold workR halfTail ldT ldTab ldRow16 stT
  simp only [Prog.bind_assoc]
  iintro ⟨H1, H6, Hs⟩ HK
  iapply (own_load c arg6 (rectT 40 gg (by omega)) fullShare) $$ H6
  iintro H6
  rw [mixV_words n old (stagedV X) 40 gg (by omega) (by omega)]
  iapply (own_load c arg1 _ fullShare T) $$ H1
  iintro H1
  iapply (own_load c arg1 _ fullShare T) $$ H1
  iintro H1
  iapply (slot_load arg5 c s.val s.isLt 1280 (gg.val * 128) 16 (offRow t 1280 gg) S1x16x128.size
    (by unfold offRow; rw [ht]) rfl (offRow_inb16 t 1280 gg (by omega)) fullShare X (rowV16 X 1280 gg) (fun i => rfl)) $$ Hs
  iintro Hs
  iapply (own_load c arg6 (rectT 40 gg (by omega)) fullShare) $$ H6
  iintro H6
  iapply (own_store c arg6 (rectT 40 gg (by omega))) $$ H6
  iintro H6
  rw [mixV_overlay n old (stagedV X) 40 gg (by omega) (by omega) _ (stagedV_tail X gg)]
  iapply HK
  isplitl [H1]; · iexact H1
  isplitl [H6]; · iexact H6
  iexact Hs

/-- One block. -/
theorem blk_wp (x : FVec F S48x256 .bf16) (b : ℕ) (hb : b < 40) (mx : Mxu F) (hm : Bare mx)
    (k : Mxu F → Prog (TpuEff nD τ sig (Elt F) Λ₀ .tc) α) (Q : α → sProp 𝕄) :
    workR arg1 arg5 arg6 c T old s X (2 * b)
      ⊢ iprop((workR arg1 arg5 arg6 c T old s X (2 * (b + 1)) -∗ WP c (k (blkV T old t x b hb mx)) Q)
        -∗ WP c (blkP arg1 arg5 arg6 t x b hb mx >>= k) Q) := by
  unfold blkP
  simp only [Prog.bind_assoc]
  iintro H HK
  iapply (half_wp arg1 arg5 arg6 c T old s X t ht b hb 0 (2 * b) rfl) $$ H
  iintro H
  iapply (half_wp arg1 arg5 arg6 c T old s X t ht b hb 1 (2 * b + 1) rfl) $$ H
  iintro H
  iapply (Mxu.wp_pushRhs _ (hm.ok _ _))
  iapply HK
  iexact H

/-- Blocks `b, …`. -/
theorem blks_wp (x : FVec F S48x256 .bf16) : ∀ (n b : ℕ) (h : b + n ≤ 40) (mx : Mxu F), Bare mx →
    ∀ (k : Mxu F → Prog (TpuEff nD τ sig (Elt F) Λ₀ .tc) α) (Q : α → sProp 𝕄),
    workR arg1 arg5 arg6 c T old s X (2 * b)
      ⊢ iprop((workR arg1 arg5 arg6 c T old s X (2 * (b + n)) -∗ WP c (k (blksV T old t x n b h mx)) Q)
        -∗ WP c (blksP arg1 arg5 arg6 t x n b h mx >>= k) Q)
  | 0, b, h, mx, hm, k, Q => by
    iintro H HK
    iapply HK
    iexact H
  | n + 1, b, h, mx, hm, k, Q => by
    unfold blksP blksV
    simp only [Prog.bind_assoc]
    iintro H HK
    iapply (blk_wp arg1 arg5 arg6 c T old s X t ht x b _ mx hm) $$ H
    iintro H
    iapply (blks_wp x n (b + 1) _ _ (Bare.step hm _ _ _ _ _ _) k Q) $$ H
    rw [show 2 * (b + 1 + n) = 2 * (b + (n + 1)) by omega]
    iexact HK

/-- The tail block. -/
theorem tail_wp (x : FVec F S48x256 .bf16) (mx : Mxu F) (hm : Bare mx)
    (k : Mxu F → Prog (TpuEff nD τ sig (Elt F) Λ₀ .tc) α) (Q : α → sProp 𝕄) :
    workR arg1 arg5 arg6 c T old s X 80
      ⊢ iprop((workR arg1 arg5 arg6 c T old s X 82 -∗ WP c (k (tailV T old t x mx)) Q)
        -∗ WP c (tailP arg1 arg5 arg6 k0_pay413 t x mx >>= k) Q) := by
  unfold tailP
  simp only [Prog.bind_assoc]
  iintro H HK
  iapply (halfTail_wp arg1 arg5 arg6 c T old s X t ht 0 80 rfl) $$ H
  iintro H
  iapply (halfTail_wp arg1 arg5 arg6 c T old s X t ht 1 81 rfl) $$ H
  iintro H
  iapply (Mxu.wp_pushRhs _ (hm.ok _ _))
  iapply HK
  iexact H

/-- All blocks of a trip, after its copies. -/
theorem blocks_wp (A : S41x48x256.Idx → Elt F .bf16) (mx : Mxu F) (hm : Bare mx) (Q : Mxu F → sProp 𝕄) :
    iprop(owns (c : Thread nD τ) arg2 fullShare A ∗ workR arg1 arg5 arg6 c T old s X 0)
      ⊢ iprop((iprop(owns (c : Thread nD τ) arg2 fullShare A ∗ workR arg1 arg5 arg6 c T old s X 82) -∗ Q (tripV T A old t mx))
        -∗ WP c (do
          let x ← ldX arg2 t
          let mx' ← blksP arg1 arg5 arg6 t (k0_pay5 x) 40 0 (by omega) mx
          tailP arg1 arg5 arg6 k0_pay413 t (k0_pay5 x) mx') Q) := by
  unfold ldX
  rw [show tripV T A old t mx = tailV T old t (k0_pay5 (slabV A t)) (blksV T old t (k0_pay5 (slabV A t)) 40 0 (by omega) mx) from rfl]
  iintro ⟨H2, H⟩ HK
  iapply (own_load c arg2 _ fullShare A) $$ H2
  iintro H2
  rw [show (fun i => A ((Rect.unit (s := S41x48x256) (k0_off7 t) S1x48x256.size (k0_off7_inb t)).emb i)) = slabV A t from rfl]
  iapply (blks_wp arg1 arg5 arg6 c T old s X t ht (k0_pay5 (slabV A t)) 40 0 _ mx hm) $$ H
  iintro H
  rw [← Prog.bind_pure (tailP arg1 arg5 arg6 k0_pay413 t _ _)]
  iapply (tail_wp arg1 arg5 arg6 c T old s X t ht (k0_pay5 (slabV A t)) _ (Bare.blks 40 0 _ _ hm)) $$ H
  iintro H
  iapply (WP_ret)
  iapply HK
  isplitl [H2]; · iexact H2
  iexact H

end Cert.Kernel.Blocks
-- ==== Proof.Kernel.Steps.lean ====
module

public import proofs.«01_k».proof.Proof.Kernel.Whole

/-! Which copies a trip starts and waits for: in trip `t` (counted from zero) the copy of column block `t + 5` starts when
`1 ≤ t` and there is such a block, the copy of block `t + 1` is waited for when there is one, and the words staged come
from block `min (t + 1) 40`. -/

@[expose] public section

set_option maxRecDepth 16384

noncomputable section

namespace Cert.Kernel.Blocks

open Cert.Kernel Cert.Kernel.Gen
open Idealize.ShloMosaic Idealize.SL.Sem

variable {F : FTy → Type} [FloatOps F]

theorem trips_eq : k0_t1_loop.trips = 41 := by decide

theorem trip_lt (t : Fin k0_t1_loop.trips) : t.val < 41 := lt_of_lt_of_eq t.isLt trips_eq

/-- The copies in flight when those of the blocks `n0, …, n1 - 1` are. -/
def sigAt (n0 n1 : ℕ) (s : Fin 6) : Option (Fin 41) :=
  if h : n0 + (s.val + 6 - n0 % 6) % 6 < n1 ∧ n0 + (s.val + 6 - n0 % 6) % 6 < 41 then
    some ⟨n0 + (s.val + 6 - n0 % 6) % 6, h.2⟩ else none

/-- The copies in flight when trip `t` begins. -/
def sg (t : ℕ) : Fin 6 → Option (Fin 41) := sigAt (min (t + 1) 41) (if t = 0 then 6 else min (t + 5) 41)

/-- The copies in flight between a trip's start and its wait. -/
def sm (t : ℕ) : Fin 6 → Option (Fin 41) := sigAt (min (t + 1) 41) (min (t + 6) 41)

/-- The slot of column block `j`. -/
def slotOf (j : ℕ) : Fin 6 := ⟨j % 6, Nat.mod_lt _ (by decide)⟩

theorem cond1_iff : ∀ t : Fin k0_t1_loop.trips, k0_cond1 t = 1#1 ↔ 1 ≤ t.val ∧ t.val + 5 < 41 := by decide +kernel
theorem cond2_iff : ∀ t : Fin k0_t1_loop.trips, k0_cond2 t = 1#1 ↔ t.val + 1 < 41 := by decide +kernel
theorem off1_eq : ∀ t : Fin k0_t1_loop.trips, t.val + 5 < 41 → k0_off1 t = ![(t.val + 5) % 6] := by decide +kernel
theorem off2_eq : ∀ t : Fin k0_t1_loop.trips, t.val + 5 < 41 → k0_off2 t = ![(t.val + 5) % 6, 0, 0] := by decide +kernel
theorem off3_eq : ∀ t : Fin k0_t1_loop.trips, t.val + 5 < 41 → k0_off3 t = ![0, 256 * (t.val + 5)] := by decide +kernel
theorem off4_eq : ∀ t : Fin k0_t1_loop.trips, t.val + 1 < 41 → k0_off4 t = ![(t.val + 1) % 6] := by decide +kernel
theorem off5_eq : ∀ t : Fin k0_t1_loop.trips, t.val + 1 < 41 → k0_off5 t = ![(t.val + 1) % 6, 0, 0] := by decide +kernel
theorem off6_eq : ∀ t : Fin k0_t1_loop.trips, t.val + 1 < 41 → k0_off6 t = ![0, 256 * (t.val + 1)] := by decide +kernel
theorem off7_eq : ∀ t : Fin k0_t1_loop.trips, k0_off7 t = ![t.val, 0, 0] := by decide +kernel
theorem off8_eq : ∀ (t : Fin k0_t1_loop.trips) (gg : Fin 2), k0_off8 t (BitVec.ofNat 32 gg.val) 0 = 2 * t.val + gg.val := by
  decide +kernel
theorem off12_eq : ∀ t : Fin k0_t1_loop.trips, k0_off12 t 0 = (slotOf (min (t.val + 1) 40)).val := by decide +kernel

theorem sg_start_none : ∀ t : Fin 41, 1 ≤ t.val → t.val + 5 < 41 → sg t.val (slotOf (t.val + 5)) = none := by decide +kernel
theorem sg_start_free : ∀ t : Fin 41, 1 ≤ t.val → ∀ h : t.val + 5 < 41, ∀ s, sg t.val s ≠ some ⟨t.val + 5, h⟩ := by decide +kernel
theorem sg_start : ∀ t : Fin 41, 1 ≤ t.val → ∀ h : t.val + 5 < 41, ∀ s,
    sm t.val s = Function.update (sg t.val) (slotOf (t.val + 5)) (some ⟨t.val + 5, h⟩) s := by decide +kernel
theorem sg_skip : ∀ t : Fin 41, ¬ (1 ≤ t.val ∧ t.val + 5 < 41) → ∀ s, sm t.val s = sg t.val s := by decide +kernel
theorem sm_wait_some : ∀ t : Fin 41, ∀ h : t.val + 1 < 41, sm t.val (slotOf (t.val + 1)) = some ⟨t.val + 1, h⟩ := by decide +kernel
theorem sm_wait_free : ∀ t : Fin 41, ∀ h : t.val + 1 < 41, ∀ s, s ≠ slotOf (t.val + 1) → sm t.val s ≠ some ⟨t.val + 1, h⟩ := by
  decide +kernel
theorem sm_wait : ∀ t : Fin 41, t.val + 1 < 41 → ∀ s,
    sg (t.val + 1) s = Function.update (sm t.val) (slotOf (t.val + 1)) none s := by decide +kernel
theorem sm_skip : ∀ t : Fin 41, ¬ t.val + 1 < 41 → ∀ s, sg (t.val + 1) s = sm t.val s := by decide +kernel
theorem sg_idle : ∀ t : Fin 41, sg (t.val + 1) (slotOf (min (t.val + 1) 40)) = none := by decide +kernel
theorem sg_end : ∀ s, sg 41 s = none := by decide +kernel

variable (arg0 : Memref sig .tc .hbm S1296x10496 .i32) (arg5 : Memref sig .tc .vmem S6x1296x256 .i32) (arg7 : DmaSems sig S6)

theorem enq_congr (j s : ℕ) (hj : j < 41) (hs : s < 6) (o1 : Fin 1 → ℕ) (o2 : Fin 3 → ℕ) (o3 : Fin 2 → ℕ)
    (e1 : o1 = ![s]) (e2 : o2 = ![s, 0, 0]) (e3 : o3 = ![0, 256 * j]) (i1 : ∀ a, o1 a + S1.size a ≤ S6.size a)
    (i2 : ∀ a, o2 a + S1x1296x256.size a ≤ S6x1296x256.size a) (i3 : ∀ a, o3 a + S1296x256.size a ≤ S1296x10496.size a) :
    (Prog.lift (.enqueueDma (arg0.slice (Rect.unit (s := S1296x10496) o3 S1296x256.size i3) (fun _ => rfl))
      (.here ((arg5.slice (Rect.unit (s := S6x1296x256) o2 S1x1296x256.size i2) (fun _ => rfl)).squeeze
        S1296x256 squeezes_S1x1296x256_S1296x256))
      (.dma ((arg7.slice (Rect.unit (s := S6) o1 S1.size i1)).squeeze S_ squeezes_S1_S_).sem)
      (View.wordExact_bits rfl) ((View.wordExact_bits rfl).reshape _ _) ⟨Or.inl rfl, trivial⟩) :
        Prog (TpuEff nD τ sig (Elt F) Λ₀ .tc) PUnit) = dmaP arg0 arg5 arg7 j s hj hs := by
  subst e1 e2 e3
  rfl

theorem wait_congr (j s : ℕ) (hj : j < 41) (hs : s < 6) (o1 : Fin 1 → ℕ) (o2 : Fin 3 → ℕ) (o3 : Fin 2 → ℕ)
    (e1 : o1 = ![s]) (e2 : o2 = ![s, 0, 0]) (e3 : o3 = ![0, 256 * j]) (i1 : ∀ a, o1 a + S1.size a ≤ S6.size a)
    (i2 : ∀ a, o2 a + S1x1296x256.size a ≤ S6x1296x256.size a) (i3 : ∀ a, o3 a + S1296x256.size a ≤ S1296x10496.size a) :
    (Prog.lift (.waitDma2 ((arg7.slice (Rect.unit (s := S6) o1 S1.size i1)).squeeze S_ squeezes_S1_S_).sem
      (arg0.slice (Rect.unit (s := S1296x10496) o3 S1296x256.size i3) (fun _ => rfl))
      ((arg5.slice (Rect.unit (s := S6x1296x256) o2 S1x1296x256.size i2) (fun _ => rfl)).squeeze
        S1296x256 squeezes_S1x1296x256_S1296x256)
      (View.wordExact_bits rfl) ((View.wordExact_bits rfl).reshape _ _)) :
        Prog (TpuEff nD τ sig (Elt F) Λ₀ .tc) PUnit) = dmaW arg0 arg5 arg7 j s hj hs := by
  subst e1 e2 e3
  rfl

/-- A trip that starts a copy. -/
theorem startP_pos (t : Fin k0_t1_loop.trips) (h1 : 1 ≤ t.val) (h : t.val + 5 < 41) :
    startP (F := F) arg0 arg5 arg7 t
      = (dmaP arg0 arg5 arg7 (t.val + 5) (slotOf (t.val + 5)).val h (slotOf (t.val + 5)).isLt >>= fun _ => pure ⟨⟩) := by
  unfold startP
  rw [dif_pos ((cond1_iff t).mpr ⟨h1, h⟩)]
  rw [enq_congr arg0 arg5 arg7 (t.val + 5) _ h (slotOf (t.val + 5)).isLt _ _ _ (off1_eq t h) (off2_eq t h) (off3_eq t h)]

/-- A trip that starts none. -/
theorem startP_neg (t : Fin k0_t1_loop.trips) (h : ¬ (1 ≤ t.val ∧ t.val + 5 < 41)) :
    startP (F := F) arg0 arg5 arg7 t = pure ⟨⟩ := by
  unfold startP
  rw [dif_neg (fun e => h ((cond1_iff t).mp e))]

/-- A trip that waits for a copy. -/
theorem waitP_pos (t : Fin k0_t1_loop.trips) (h : t.val + 1 < 41) :
    waitP (F := F) arg0 arg5 arg7 t
      = (dmaW arg0 arg5 arg7 (t.val + 1) (slotOf (t.val + 1)).val h (slotOf (t.val + 1)).isLt >>= fun _ => pure ⟨⟩) := by
  unfold waitP
  rw [dif_pos ((cond2_iff t).mpr h)]
  rw [wait_congr arg0 arg5 arg7 (t.val + 1) _ h (slotOf (t.val + 1)).isLt _ _ _ (off4_eq t h) (off5_eq t h) (off6_eq t h)]

/-- The last trip waits for none. -/
theorem waitP_neg (t : Fin k0_t1_loop.trips) (h : ¬ t.val + 1 < 41) :
    waitP (F := F) arg0 arg5 arg7 t = pure ⟨⟩ := by
  unfold waitP
  rw [dif_neg (fun e => h ((cond2_iff t).mp e))]

end Cert.Kernel.Blocks
-- ==== Proof.Kernel.Loop.lean ====
module

public import proofs.«01_k».proof.Proof.Kernel.Trip
public import proofs.«01_k».proof.Proof.Kernel.Steps

/-! The loop: what holds when a trip begins, and that a trip keeps it. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg1 : Memref sig .tc .vmem S82x4x5248 .bf16)
  (arg2 : Memref sig .tc .vmem S41x48x256 .bf16) (arg5 : Memref sig .tc .vmem S6x1296x256 .i32)
  (arg6 : Memref sig .tc .vmem S41x2x32x128 .i32) (arg7 : DmaSems sig S6) (c : Dev nD) {α : Type}

variable (G : S1296x10496.Idx → Elt F .i32) (T : S82x4x5248.Idx → Elt F .bf16) (A : S41x48x256.Idx → Elt F .bf16)

/-- The column block a trip works on (the last one again after the last trip). -/
def blkOf (n : ℕ) : Fin 41 := ⟨min n 40, by omega⟩

/-- The matrix unit after `n` trips. -/
def mxAt : ℕ → Mxu F
  | 0 => Mxu.init
  | n + 1 => if h : n < k0_t1_loop.trips then tripV T A (stagedV (srcV G (blkOf n))) ⟨n, h⟩ (mxAt n) else mxAt n

theorem bare_mxAt : ∀ n, Bare (mxAt G T A n)
  | 0 => fun _ _ => rfl
  | n + 1 => by
    unfold mxAt
    split
    · exact Bare.trip (bare_mxAt n)
    · exact bare_mxAt n

theorem mxAt_succ (t : Fin k0_t1_loop.trips) :
    mxAt G T A (t.val + 1) = tripV T A (stagedV (srcV G (blkOf t.val))) t (mxAt G T A t.val) := by
  rw [mxAt, dif_pos t.isLt]

/-- What holds when trip `n` begins. -/
def loopI (n : ℕ) (mx : Mxu F) : sProp 𝕄 :=
  iprop(∃ X : Fin 6 → S1296x256.Idx → Elt F .i32, ⌜X (slotOf (min n 40)) = srcV G (blkOf n) ∧ mx = mxAt G T A n⌝
    ∗ ringR arg0 arg5 arg7 c G (sg n) X ∗ owns (c : Thread nD τ) arg1 fullShare T ∗ owns (c : Thread nD τ) arg2 fullShare A
    ∗ owns (c : Thread nD τ) arg6 fullShare (stagedV (srcV G (blkOf n))) ∗ (∃ W, owes (c : Thread nD τ) 0 W))

/-- The start of a trip's copy. -/
theorem start_wp (t : Fin k0_t1_loop.trips) (X : Fin 6 → S1296x256.Idx → Elt F .i32)
    (k : PUnit → Prog (TpuEff nD τ sig (Elt F) Λ₀ .tc) α) (Q : α → sProp 𝕄) :
    ringR arg0 arg5 arg7 c G (sg t.val) X
      ⊢ iprop((ringR arg0 arg5 arg7 c G (sm t.val) X -∗ WP c (k ⟨⟩) Q)
        -∗ WP c (startP arg0 arg5 arg7 t >>= k) Q) := by
  by_cases h : 1 ≤ t.val ∧ t.val + 5 < 41
  · rw [startP_pos arg0 arg5 arg7 t h.1 h.2, Prog.bind_assoc]
    exact ring_start arg0 arg5 arg7 c G (slotOf (t.val + 5)) ⟨t.val + 5, h.2⟩ (sg t.val) (sm t.val) X
      (sg_start_none ⟨t.val, trip_lt t⟩ h.1 h.2) (sg_start_free ⟨t.val, trip_lt t⟩ h.1 h.2)
      (funext (sg_start ⟨t.val, trip_lt t⟩ h.1 h.2)) _ Q
  · rw [startP_neg arg0 arg5 arg7 t h, show sm t.val = sg t.val from funext (sg_skip ⟨t.val, trip_lt t⟩ h)]
    iintro H HK
    iapply HK
    iexact H

/-- The wait for a trip's copy. -/
theorem wait_wp (t : Fin k0_t1_loop.trips) (X : Fin 6 → S1296x256.Idx → Elt F .i32)
    (hX : X (slotOf (min t.val 40)) = srcV G (blkOf t.val))
    (k : PUnit → Prog (TpuEff nD τ sig (Elt F) Λ₀ .tc) α) (Q : α → sProp 𝕄) :
    iprop(ringR arg0 arg5 arg7 c G (sm t.val) X ∗ (∃ W, owes (c : Thread nD τ) 0 W))
      ⊢ iprop((iprop(∃ X' : Fin 6 → S1296x256.Idx → Elt F .i32, ⌜X' (slotOf (min (t.val + 1) 40)) = srcV G (blkOf (t.val + 1))⌝
          ∗ ringR arg0 arg5 arg7 c G (sg (t.val + 1)) X' ∗ (∃ W, owes (c : Thread nD τ) 0 W)) -∗ WP c (k ⟨⟩) Q)
        -∗ WP c (waitP arg0 arg5 arg7 t >>= k) Q) := by
  have ht := trip_lt t
  by_cases h : t.val + 1 < 41
  · rw [waitP_pos arg0 arg5 arg7 t h, Prog.bind_assoc]
    iintro H HK
    iapply (ring_wait arg0 arg5 arg7 c G (slotOf (t.val + 1)) ⟨t.val + 1, h⟩ (sm t.val) (sg (t.val + 1)) X
      (sm_wait_some ⟨t.val, ht⟩ h) (sm_wait_free ⟨t.val, ht⟩ h) (funext (sm_wait ⟨t.val, ht⟩ h))) $$ H
    iintro ⟨H, HW⟩
    iapply HK
    iexists _
    isplitr
    swap
    · isplitl [H]; · iexact H
      iexact HW
    ipureintro
    have e : min (t.val + 1) 40 = t.val + 1 := by omega
    have e2 : blkOf (t.val + 1) = ⟨t.val + 1, h⟩ := Fin.ext e
    rw [e, e2, Function.update_self]
  · rw [waitP_neg arg0 arg5 arg7 t h, show sg (t.val + 1) = sm t.val from funext (sm_skip ⟨t.val, ht⟩ h)]
    iintro ⟨H, HW⟩ HK
    iapply HK
    iexists X
    isplitr
    · ipureintro
      have e : min (t.val + 1) 40 = min t.val 40 := by omega
      have e2 : blkOf (t.val + 1) = blkOf t.val := Fin.ext e
      rw [e, e2]; exact hX
    · isplitl [H]; · iexact H
      iexact HW

/-- One trip. -/
theorem trip_wp (t : Fin k0_t1_loop.trips) (mx : Mxu F) :
    loopI arg0 arg1 arg2 arg5 arg6 arg7 c G T A t.val mx
      ⊢ WP c (tripP arg0 arg1 arg2 arg5 arg6 arg7 k0_pay413 t mx)
        (loopI arg0 arg1 arg2 arg5 arg6 arg7 c G T A (t.val + 1)) := by
  have ht := trip_lt t
  unfold tripP
  rw [show loopI arg0 arg1 arg2 arg5 arg6 arg7 c G T A t.val mx = iprop(∃ X : Fin 6 → S1296x256.Idx → Elt F .i32, ⌜X (slotOf (min t.val 40)) = srcV G (blkOf t.val) ∧ mx = mxAt G T A t.val⌝
    ∗ ringR arg0 arg5 arg7 c G (sg t.val) X ∗ owns (c : Thread nD τ) arg1 fullShare T ∗ owns (c : Thread nD τ) arg2 fullShare A
    ∗ owns (c : Thread nD τ) arg6 fullShare (stagedV (srcV G (blkOf t.val))) ∗ (∃ W, owes (c : Thread nD τ) 0 W)) from rfl]
  iintro ⟨%X, %hX, HR, H1, H2, H6, HW⟩
  obtain ⟨hX, hmx⟩ := hX
  iapply (start_wp arg0 arg5 arg7 c G t X) $$ HR
  iintro HR
  iapply (wait_wp arg0 arg5 arg7 c G t X hX) $$ [HR HW]
  · isplitl [HR]; · iexact HR
    iexact HW
  iintro ⟨%X', %hX', HR, HW⟩
  unfold ringR
  rw [univ_split (fun s => slotR arg0 arg5 arg7 c G s (sg (t.val + 1) s) (X' s)) (slotOf (min (t.val + 1) 40)),
    sg_idle ⟨t.val, ht⟩, slotR_none, hX']
  icases HR with ⟨⟨⟨HS, Hv⟩, HR⟩, HH⟩
  rw [← mixV_zero (stagedV (srcV G (blkOf t.val))) (stagedV (srcV G (blkOf (t.val + 1))))]
  iapply (blocks_wp arg1 arg2 arg5 arg6 c T (stagedV (srcV G (blkOf t.val))) (slotOf (min (t.val + 1) 40))
    (srcV G (blkOf (t.val + 1))) t (off12_eq t) A mx (hmx ▸ bare_mxAt G T A t.val)) $$ [H1 H2 H6 HS]
  · isplitl [H2]; · iexact H2
    unfold workR
    isplitl [H1]; · iexact H1
    isplitl [H6]; · iexact H6
    iexact HS
  unfold workR
  rw [mixV_all]
  iintro ⟨H2, H1, H6, HS⟩
  unfold loopI ringR
  iexists X'
  isplitr
  · ipureintro
    exact ⟨hX', by rw [mxAt_succ, hmx]⟩
  rw [univ_split (fun s => slotR arg0 arg5 arg7 c G s (sg (t.val + 1) s) (X' s)) (slotOf (min (t.val + 1) 40)),
    sg_idle ⟨t.val, ht⟩, slotR_none, hX']
  isplitl [HS Hv HR HH]
  · isplitl [HS Hv HR]
    · isplitl [HS Hv]
      · isplitl [HS]; · iexact HS
        iexact Hv
      iexact HR
    iexact HH
  isplitl [H1]; · iexact H1
  isplitl [H2]; · iexact H2
  isplitl [H6]; · iexact H6
  iexact HW

end Cert.Kernel.Blocks
-- ==== Proof.Kernel.Pops.lean ====
module

public import proofs.«01_k».proof.Proof.Kernel.Stage

/-! The pops that follow the loop: which rows stay live and what is stored. -/

@[expose] public section

set_option maxRecDepth 16384

noncomputable section

namespace Cert.Kernel.Blocks

open Cert.Kernel Cert.Kernel.Gen
open Idealize.ShloMosaic Idealize.ShloMosaic.TcCoe Idealize.ShloMosaic.Tactic

variable {F : FTy → Type} [FloatOps F]

variable (mx0 : Mxu F)

/-- The block whose accumulator row `R` of unit `q` belongs to. -/
def rowBlk (q : Fin 2) (R : Fin 1024) : ℕ := 2 * (R.val / 48) + q.val

/-- The unit after the pops of blocks `0 … b-1`. -/
structure Popped (b : ℕ) (mx : Mxu F) : Prop where
  reg : mx.reg = mx0.reg
  acc : ∀ q R C, b ≤ rowBlk q R → mx.acc q R C = mx0.acc q R C
  live : ∀ q R, mx.live q R = true → b ≤ rowBlk q R ∧ mx0.live q R = true

theorem popped_zero : Popped mx0 0 mx0 := ⟨rfl, fun _ _ _ _ => rfl, fun _ _ h => ⟨Nat.zero_le _, h⟩⟩

theorem rowBlk_iff (b : ℕ) (hb : b ≤ 41) (q : Fin 2) (R : Fin 1024) :
    (q = unitOf b ∧ 4 * (12 * (b / 2)) ≤ R.val ∧ R.val < 4 * (12 * (b / 2)) + 48) ↔ rowBlk q R = b := by
  have hq := q.isLt
  unfold rowBlk unitOf
  constructor
  · rintro ⟨rfl, h1, h2⟩
    show 2 * (R.val / 48) + b % 2 = b
    omega
  · intro h
    refine ⟨Fin.ext ?_, ?_, ?_⟩
    · show q.val = b % 2; omega
    · omega
    · omega

theorem Popped.pop {b : ℕ} (hb : b ≤ 41) {mx : Mxu F} (h : Popped mx0 b mx) (hf : Mxu.Fits (12 * (b / 2)) 48) :
    Popped mx0 (b + 1) (mx.pop (unitOf b) (12 * (b / 2)) 48 hf) where
  reg := h.reg
  acc q R C hle := by
    show (if q = unitOf b ∧ 4 * (12 * (b / 2)) ≤ R.val ∧ R.val < 4 * (12 * (b / 2)) + 48 then _ else mx.acc q R C) = _
    rw [if_neg (fun e => by have := (rowBlk_iff b hb q R).mp e; omega)]
    exact h.acc q R C (by omega)
  live q R hl := by
    change (if q = unitOf b ∧ 4 * (12 * (b / 2)) ≤ R.val ∧ R.val < 4 * (12 * (b / 2)) + 48 then false else mx.live q R) = true at hl
    split at hl
    · cases hl
    · rename_i hn
      have := h.live q R hl
      rw [rowBlk_iff b hb] at hn
      exact ⟨by omega, this.2⟩

theorem Popped.read {b : ℕ} (hb : b ≤ 41) {mx : Mxu F} (h : Popped mx0 b mx) (hf : Mxu.Fits (12 * (b / 2)) 48) :
    mx.read (unitOf b) (12 * (b / 2)) hf = mx0.read (unitOf b) (12 * (b / 2)) hf := by
  funext i
  have hi : (i 0).val < 48 := (i 0).isLt
  refine h.acc _ _ _ ?_
  have := (rowBlk_iff b hb (unitOf b) (Mxu.row hf (i 0))).mp ⟨rfl, by
    show 4 * (12 * (b / 2)) ≤ 4 * (12 * (b / 2)) + (i 0).val; omega, by
    show 4 * (12 * (b / 2)) + (i 0).val < _; omega⟩
  omega

/-- The live rows are rows of blocks below 40 and of the tail, which is kept in unit 1. -/
def LiveIn (mx : Mxu F) : Prop := ∀ q R, mx.live q R = true → rowBlk q R < 40 ∨ rowBlk q R = 41

theorem LiveIn.init : LiveIn (Mxu.init : Mxu F) := fun _ _ h => by cases h

theorem LiveIn.step {mx : Mxu F} (h : LiveIn mx) (b : ℕ) (hb : b < 40 ∨ b = 41) (r : Fin 2)
    (v : FVec F (Mxu.STile 256) .bf16) (x : FVec F S48x256 .bf16) (hf : Mxu.Fits (12 * (b / 2)) 48) :
    LiveIn ((mx.pushed (unitOf b) r false v).accLhs (unitOf b) r (12 * (b / 2)) x hf) := by
  intro q R hl
  have e : (mx.pushed (unitOf b) r false v).live = mx.live := by unfold Mxu.pushed; split <;> rfl
  change (if q = unitOf b ∧ 4 * (12 * (b / 2)) ≤ R.val ∧ R.val < 4 * (12 * (b / 2)) + 48 then true
    else (mx.pushed (unitOf b) r false v).live q R) = true at hl
  rw [e] at hl
  split at hl
  · rename_i hp
    have := (rowBlk_iff b (by omega) q R).mp hp
    omega
  · exact h q R hl

theorem LiveIn.blks {T : S82x4x5248.Idx → Elt F .bf16} {old : S41x2x32x128.Idx → Elt F .i32} {t : Fin k0_t1_loop.trips}
    {x : FVec F S48x256 .bf16} : ∀ (n b : ℕ) (h : b + n ≤ 40) (mx : Mxu F), LiveIn mx → LiveIn (blksV T old t x n b h mx)
  | 0, _, _, _, hm => hm
  | n + 1, b, h, mx, hm => LiveIn.blks n (b + 1) _ _ (hm.step b (Or.inl (by omega)) _ _ _ _)

theorem LiveIn.trip {T : S82x4x5248.Idx → Elt F .bf16} {A : S41x48x256.Idx → Elt F .bf16}
    {old : S41x2x32x128.Idx → Elt F .i32} {t : Fin k0_t1_loop.trips} {mx : Mxu F} (h : LiveIn mx) :
    LiveIn (tripV T A old t mx) :=
  LiveIn.step (b := 41) (LiveIn.blks 40 0 _ _ h) (Or.inr rfl) _ _ _ _

/-- When every block and the tail have been popped the unit is drained. -/
theorem Popped.drained (hB : Bare mx0) (hL : LiveIn mx0) {mx : Mxu F} (h : Popped mx0 40 mx) :
    (mx.pop 1 240 48 fits_240_48).Drained := by
  constructor
  · intro q r
    show (mx.reg q r).isNone = true
    rw [h.reg, hB q r]; rfl
  · intro q R
    show (if q = 1 ∧ 4 * 240 ≤ R.val ∧ R.val < 4 * 240 + 48 then false else mx.live q R) = false
    split
    · rfl
    · rename_i hn
      by_contra hl
      rw [Bool.not_eq_false] at hl
      have h1 := h.live q R hl
      have h2 := hL q R h1.2
      have h3 := (rowBlk_iff 41 (by omega) q R).mpr (by omega)
      exact hn ⟨h3.1, h3.2.1, h3.2.2⟩

/-- The place within its block of a result. -/
def inBlk (i : S48x10240.Idx) : S48x256.Idx := fun a =>
  match a with
  | ⟨0, _⟩ => (i 0 : Fin 48)
  | ⟨1, _⟩ => (⟨(i 1).val % 256, Nat.mod_lt _ (by decide)⟩ : Fin 256)

/-- The block of a result. -/
theorem blk_lt (i : S48x10240.Idx) : (i 1).val / 256 < 40 := by
  have h : (i 1).val < 10240 := (i 1).isLt
  omega

/-- The results the pops write. -/
def outV : S48x10240.Idx → Elt F .bf16 := fun i =>
  k0_pay508 (mx0.read (unitOf ((i 1).val / 256)) (12 * ((i 1).val / 256 / 2)) (fitsBlk _ (blk_lt i))) (inBlk i)

/-- The tail's results. -/
def tailOutV : S48x128.Idx → Elt F .bf16 := fun i => k0_pay4 (mx0.read 1 240 fits_240_48) i

/-- The results when `n` blocks have been popped. -/
def mixO (n : ℕ) (old : S48x10240.Idx → Elt F .bf16) : S48x10240.Idx → Elt F .bf16 :=
  fun i => if (i 1).val < 256 * n then outV mx0 i else old i

theorem mixO_zero (old : S48x10240.Idx → Elt F .bf16) : mixO mx0 0 old = old := by
  funext i; unfold mixO; rw [if_neg (by omega)]

theorem mixO_all (old : S48x10240.Idx → Elt F .bf16) : mixO mx0 40 old = outV mx0 := by
  funext i
  have h : (i 1).val < 10240 := (i 1).isLt
  unfold mixO; rw [if_pos (by omega)]

/-- The rectangle of block `b`'s results. -/
abbrev rectO (b : ℕ) (h : b < 40) : Rect S48x10240 :=
  Rect.unit (s := S48x10240) ![0, 256 * b] S48x256.size (offOut_inb b h)

theorem rectO_emb1 (b : ℕ) (h : b < 40) (i : S48x256.Idx) : (((rectO b h).emb i) 1).val = 256 * b + (i 1).val := by
  show 256 * b + 1 * (i 1).val = _
  omega

theorem inBlk_emb (b : ℕ) (h : b < 40) (i : S48x256.Idx) : inBlk ((rectO b h).emb i) = i := by
  have h1 : (i 1).val < 256 := (i 1).isLt
  funext a
  apply Fin.ext
  fin_cases a
  · show 0 + 1 * (i 0).val = (i 0).val; omega
  · show (256 * b + 1 * (i 1).val) % 256 = (i 1).val; omega

theorem outV_at (b : ℕ) (hb : b < 40) (j : S48x10240.Idx) (h : (j 1).val / 256 = b) :
    outV mx0 j = k0_pay508 (mx0.read (unitOf b) (12 * (b / 2)) (fitsBlk b hb)) (inBlk j) := by
  subst h; rfl

theorem outV_emb (b : ℕ) (h : b < 40) (i : S48x256.Idx) :
    outV mx0 ((rectO b h).emb i) = k0_pay508 (mx0.read (unitOf b) (12 * (b / 2)) (fitsBlk b h)) i := by
  have h1 : (i 1).val < 256 := (i 1).isLt
  rw [outV_at mx0 b h _ (by rw [rectO_emb1]; omega), inBlk_emb]

theorem mem_rectO (b : ℕ) (h : b < 40) (j : S48x10240.Idx) : j ∈ (rectO b h).set ↔ (j 1).val / 256 = b := by
  constructor
  · intro hj
    rw [← Rect.map_emb_univ, Finset.mem_map] at hj
    obtain ⟨i, -, rfl⟩ := hj
    have h1 : (i 1).val < 256 := (i 1).isLt
    rw [rectO_emb1]; omega
  · intro hj
    rw [← Rect.map_emb_univ, Finset.mem_map]
    refine ⟨inBlk j, Finset.mem_univ _, ?_⟩
    funext a
    apply Fin.ext
    fin_cases a
    · show 0 + 1 * (j 0).val = (j 0).val; omega
    · show 256 * b + 1 * ((j 1).val % 256) = (j 1).val; omega

theorem mixO_overlay (b : ℕ) (hb : b < 40) (old : S48x10240.Idx → Elt F .bf16) :
    (rectO b hb).overlay (mixO mx0 b old) (k0_pay508 (mx0.read (unitOf b) (12 * (b / 2)) (fitsBlk b hb)))
      = mixO mx0 (b + 1) old := by
  funext j
  by_cases hj : j ∈ (rectO b hb).set
  · have hj' := (mem_rectO b hb j).mp hj
    rw [← Rect.map_emb_univ, Finset.mem_map] at hj
    obtain ⟨i, -, rfl⟩ := hj
    rw [Rect.overlay_emb]
    unfold mixO
    rw [if_pos (by omega), outV_emb]
  · rw [Rect.overlay_of_not_mem _ _ _ hj]
    rw [mem_rectO] at hj
    unfold mixO
    by_cases hlt : (j 1).val < 256 * b
    · rw [if_pos hlt, if_pos (by omega)]
    · rw [if_neg hlt, if_neg (by omega)]

theorem tail_overlay (old : S48x128.Idx → Elt F .bf16) :
    (Rect.unit (s := S48x128) ![0, 0] S48x128.size inb_S48x128_S48x128_0_0).overlay old
      (k0_pay4 (mx0.read 1 240 fits_240_48)) = tailOutV mx0 := by
  funext j
  have e : (Rect.unit (s := S48x128) ![0, 0] S48x128.size inb_S48x128_S48x128_0_0).emb j = j := by
    funext a
    apply Fin.ext
    fin_cases a
    · show 0 + 1 * (j 0).val = (j 0).val; omega
    · show 0 + 1 * (j 1).val = (j 1).val; omega
  conv_lhs => rw [← e]
  rw [Rect.overlay_emb]
  rfl

end Cert.Kernel.Blocks
-- ==== Proof.Kernel.Run.lean ====
module

public import proofs.«01_k».proof.Proof.Kernel.Loop
public import proofs.«01_k».proof.Proof.Kernel.Pops

/-! The whole kernel: the first copies and the first staging, the loop, the pops. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg1 : Memref sig .tc .vmem S82x4x5248 .bf16)
  (arg2 : Memref sig .tc .vmem S41x48x256 .bf16) (arg3 : Memref sig .tc .vmem S48x10240 .bf16)
  (harg3 : arg3.IsWhole) (arg4 : Memref sig .tc .vmem S48x128 .bf16) (harg4 : arg4.IsWhole)
  (arg5 : Memref sig .tc .vmem S6x1296x256 .i32)
  (arg6 : Memref sig .tc .vmem S41x2x32x128 .i32) (arg7 : DmaSems sig S6) (c : Dev nD) {α : Type}

variable (G : S1296x10496.Idx → Elt F .i32) (T : S82x4x5248.Idx → Elt F .bf16) (A : S41x48x256.Idx → Elt F .bf16)

theorem liveIn_mxAt : ∀ n, LiveIn (mxAt G T A n)
  | 0 => LiveIn.init
  | n + 1 => by
    unfold mxAt
    split
    · exact LiveIn.trip (liveIn_mxAt n)
    · exact liveIn_mxAt n

/-- The unit when the loop is over. -/
def mxEnd : Mxu F := mxAt G T A 41

section Epilogue

variable (mx0 : Mxu F)

/-- One pop. -/
theorem pop_wp (b : ℕ) (hb : b < 40) (old : S48x10240.Idx → Elt F .bf16) (mx : Mxu F) (hm : Popped mx0 b mx)
    (k : Mxu F → Prog (TpuEff nD τ sig (Elt F) Λ₀ .tc) α) (Q : α → sProp 𝕄) :
    (owns (c : Thread nD τ) arg3 fullShare (mixO mx0 b old) : sProp 𝕄)
      ⊢ iprop((owns (c : Thread nD τ) arg3 fullShare (mixO mx0 (b + 1) old)
          -∗ WP c (k (mx.pop (unitOf b) (12 * (b / 2)) 48 (fitsBlk b hb))) Q)
        -∗ WP c (popP arg3 harg3 b hb mx >>= k) Q) := by
  unfold popP
  simp only [Prog.bind_assoc]
  iintro H3 HK
  iapply (own_load c arg3 (rectO b hb) fullShare) $$ H3
  iintro H3
  iapply (own_store c arg3 (rectO b hb)) $$ H3
  iintro H3
  rw [hm.read mx0 (by omega), mixO_overlay mx0 b hb old]
  iapply HK
  iexact H3

/-- The pops of blocks `b, …, 39`. -/
theorem pops_wp (old : S48x10240.Idx → Elt F .bf16) (k : Mxu F → Prog (TpuEff nD τ sig (Elt F) Λ₀ .tc) α) (Q : α → sProp 𝕄) :
    ∀ (n b : ℕ) (h : b + n ≤ 40) (mx : Mxu F), Popped mx0 b mx → (owns (c : Thread nD τ) arg3 fullShare (mixO mx0 b old) : sProp 𝕄)
      ⊢ iprop((∀ mx', ⌜Popped mx0 (b + n) mx'⌝ ∗ owns (c : Thread nD τ) arg3 fullShare (mixO mx0 (b + n) old) -∗ WP c (k mx') Q)
        -∗ WP c (popsP arg3 harg3 n b h mx >>= k) Q)
  | 0, b, h, mx, hm => by
    rw [show (popsP arg3 harg3 0 b h mx >>= k) = k mx from rfl]
    iintro H3 HK
    iapply HK
    isplitr
    · ipureintro; exact hm
    · iexact H3
  | n + 1, b, h, mx, hm => by
    unfold popsP
    simp only [Prog.bind_assoc]
    iintro H3 HK
    iapply (pop_wp arg3 harg3 c mx0 b _ old mx hm) $$ H3
    iintro H3
    iapply (pops_wp old k Q n (b + 1) _ _ (hm.pop mx0 (by omega) _)) $$ H3
    rw [show b + 1 + n = b + (n + 1) by omega]
    iexact HK

/-- What follows the loop. -/
theorem epi_wp (hB : Bare mx0) (hL : LiveIn mx0) (old : S48x10240.Idx → Elt F .bf16) (old4 : S48x128.Idx → Elt F .bf16)
    (Q : PUnit → sProp 𝕄) :
    iprop(owns (c : Thread nD τ) arg3 fullShare old ∗ owns (c : Thread nD τ) arg4 fullShare old4)
      ⊢ iprop((iprop(owns (c : Thread nD τ) arg3 fullShare (outV mx0) ∗ owns (c : Thread nD τ) arg4 fullShare (tailOutV mx0)) -∗ Q ⟨⟩)
        -∗ WP c (epiP arg3 harg3 arg4 harg4 mx0) Q) := by
  unfold epiP
  iintro ⟨H3, H4⟩ HK
  rw [← mixO_zero mx0 old]
  iapply (pops_wp arg3 harg3 c mx0 old _ _ 40 0 _ mx0 (popped_zero mx0)) $$ H3
  iintro %mx' ⟨%hm, H3⟩
  rw [show 0 + 40 = 40 from rfl, mixO_all]
  unfold popTail
  simp only [Prog.bind_assoc]
  iapply (own_load c arg4 (Rect.unit (s := S48x128) ![0, 0] S48x128.size inb_S48x128_S48x128_0_0) fullShare) $$ H4
  iintro H4
  iapply (own_store c arg4 (Rect.unit (s := S48x128) ![0, 0] S48x128.size inb_S48x128_S48x128_0_0)) $$ H4
  iintro H4
  have hr : mx'.read 1 240 fits_240_48 = mx0.read 1 240 fits_240_48 := by
    funext i
    refine hm.acc _ _ _ ?_
    have hi : (i 0).val < 48 := (i 0).isLt
    show 40 ≤ 2 * ((4 * 240 + (i 0).val) / 48) + 1
    omega
  rw [hr, tail_overlay mx0 old4]
  iapply (Mxu.wp_exit (Popped.drained mx0 hB hL hm))
  iapply (WP_ret c)
  iapply HK
  isplitl [H3]; · iexact H3
  iexact H4

end Epilogue

section Prologue

variable (X : S1296x256.Idx → Elt F .i32) (old : S41x2x32x128.Idx → Elt F .i32)

/-- The staging array with `n` halves filled, and the first slot. -/
def fillR (n : ℕ) : sProp 𝕄 :=
  iprop(owns (c : Thread nD τ) arg6 fullShare (mixV n old (stagedV X))
    ∗ owns (c : Thread nD τ) (slotM arg5 0 (by omega)) fullShare X)

theorem fill_wp (b : ℕ) (hb : b < 40) (gg : Fin 2) (n : ℕ) (hn : n = 2 * b + gg.val)
    (k : PUnit → Prog (TpuEff nD τ sig (Elt F) Λ₀ .tc) α) (Q : α → sProp 𝕄) :
    fillR arg5 arg6 c X old n
      ⊢ iprop((fillR arg5 arg6 c X old (n + 1) -∗ WP c (k ⟨⟩) Q) -∗ WP c (fillP arg5 arg6 b hb gg >>= k) Q) := by
  unfold fillR fillP ldT stT
  simp only [Prog.bind_assoc]
  iintro ⟨H6, Hs⟩ HK
  iapply (slot_load arg5 c 0 _ (32 * b) (gg.val * 128) 32 ![0, 32 * b, gg.val * 128] S1x32x128.size
    rfl rfl (off0_inb (32 * b) gg (by omega)) fullShare X (rowV X (32 * b) gg) (fun i => rfl)) $$ Hs
  iintro Hs
  iapply (own_load c arg6 (rectT b gg (by omega)) fullShare) $$ H6
  iintro H6
  iapply (own_store c arg6 (rectT b gg (by omega))) $$ H6
  iintro H6
  rw [mixV_overlay n old (stagedV X) b gg (by omega) hn _ (stagedV_half X b gg hb)]
  iapply HK
  isplitl [H6]; · iexact H6
  iexact Hs

theorem fillTail_wp (gg : Fin 2) (n : ℕ) (hn : n = 80 + gg.val)
    (k : PUnit → Prog (TpuEff nD τ sig (Elt F) Λ₀ .tc) α) (Q : α → sProp 𝕄) :
    fillR arg5 arg6 c X old n
      ⊢ iprop((fillR arg5 arg6 c X old (n + 1) -∗ WP c (k ⟨⟩) Q) -∗ WP c (fillTail arg5 arg6 gg >>= k) Q) := by
  unfold fillR fillTail ldT stT
  simp only [Prog.bind_assoc]
  iintro ⟨H6, Hs⟩ HK
  iapply (slot_load arg5 c 0 _ 1280 (gg.val * 128) 16 ![0, 1280, gg.val * 128] S1x16x128.size
    rfl rfl (off0_inb16 1280 gg (by omega)) fullShare X (rowV16 X 1280 gg) (fun i => rfl)) $$ Hs
  iintro Hs
  iapply (own_load c arg6 (rectT 40 gg (by omega)) fullShare) $$ H6
  iintro H6
  iapply (own_store c arg6 (rectT 40 gg (by omega))) $$ H6
  iintro H6
  rw [mixV_overlay n old (stagedV X) 40 gg (by omega) (by omega) _ (stagedV_tail X gg)]
  iapply HK
  isplitl [H6]; · iexact H6
  iexact Hs

theorem fills_wp (k : PUnit → Prog (TpuEff nD τ sig (Elt F) Λ₀ .tc) α) (Q : α → sProp 𝕄) :
    ∀ (n b : ℕ) (h : b + n ≤ 40), fillR arg5 arg6 c X old (2 * b)
      ⊢ iprop((fillR arg5 arg6 c X old (2 * (b + n)) -∗ WP c (k ⟨⟩) Q) -∗ WP c (fillsP arg5 arg6 n b h >>= k) Q)
  | 0, b, h => by
    iintro H HK
    iapply HK
    iexact H
  | n + 1, b, h => by
    unfold fillsP
    simp only [Prog.bind_assoc]
    iintro H HK
    iapply (fill_wp arg5 arg6 c X old b _ 0 (2 * b) rfl) $$ H
    iintro H
    iapply (fill_wp arg5 arg6 c X old b _ 1 (2 * b + 1) rfl) $$ H
    iintro H
    rw [show 2 * b + 1 + 1 = 2 * (b + 1) by omega]
    iapply (fills_wp k Q n (b + 1) _) $$ H
    rw [show 2 * (b + 1 + n) = 2 * (b + (n + 1)) by omega]
    iexact HK

end Prologue

/-- The copies in flight after the first `n` starts. -/
def sp (n : ℕ) : Fin 6 → Option (Fin 41) := fun s => if s.val < n then some ⟨s.val, by omega⟩ else none

theorem sp_none : ∀ n : Fin 6, sp n.val n = none := by decide
theorem sp_free : ∀ n : Fin 6, ∀ s', sp n.val s' ≠ some ⟨n.val, by omega⟩ := by decide
theorem sp_step : ∀ n : Fin 6, ∀ s, sp (n.val + 1) s = Function.update (sp n.val) n (some ⟨n.val, by omega⟩) s := by decide
theorem sp_wait : ∀ s, sg 0 s = Function.update (sp 6) 0 none s := by decide
theorem sp_wait_free : ∀ s', s' ≠ 0 → sp 6 s' ≠ some 0 := by decide
theorem sg_zero : sg 0 0 = none := by decide

/-- The start of copy `n` of the first six. -/
theorem first_wp (n : ℕ) (hn : n < 6) (X : Fin 6 → S1296x256.Idx → Elt F .i32)
    (k : PUnit → Prog (TpuEff nD τ sig (Elt F) Λ₀ .tc) α) (Q : α → sProp 𝕄) :
    ringR arg0 arg5 arg7 c G (sp n) X
      ⊢ iprop((ringR arg0 arg5 arg7 c G (sp (n + 1)) X -∗ WP c (k ⟨⟩) Q)
        -∗ WP c (dmaP arg0 arg5 arg7 n n (by omega) hn >>= k) Q) :=
  ring_start arg0 arg5 arg7 c G ⟨n, hn⟩ ⟨n, by omega⟩ (sp n) (sp (n + 1)) X (sp_none ⟨n, hn⟩) (sp_free ⟨n, hn⟩)
    (funext (sp_step ⟨n, hn⟩)) k Q

/-- What precedes the loop. -/
theorem pro_wp (X : Fin 6 → S1296x256.Idx → Elt F .i32) (old : S41x2x32x128.Idx → Elt F .i32)
    (k : PUnit → Prog (TpuEff nD τ sig (Elt F) Λ₀ .tc) α) (Q : α → sProp 𝕄) :
    iprop(ringR arg0 arg5 arg7 c G (sp 0) X ∗ owns (c : Thread nD τ) arg1 fullShare T ∗ owns (c : Thread nD τ) arg2 fullShare A
        ∗ owns (c : Thread nD τ) arg6 fullShare old ∗ (∃ W, owes (c : Thread nD τ) 0 W))
      ⊢ iprop((loopI arg0 arg1 arg2 arg5 arg6 arg7 c G T A 0 Mxu.init -∗ WP c (k ⟨⟩) Q)
        -∗ WP c (proP arg0 arg5 arg6 arg7 >>= k) Q) := by
  unfold proP
  simp only [Prog.bind_assoc]
  iintro ⟨HR, H1, H2, H6, HW⟩ HK
  iapply (first_wp arg0 arg5 arg7 c G 0 _ X) $$ HR
  iintro HR
  iapply (first_wp arg0 arg5 arg7 c G 1 _ X) $$ HR
  iintro HR
  iapply (first_wp arg0 arg5 arg7 c G 2 _ X) $$ HR
  iintro HR
  iapply (first_wp arg0 arg5 arg7 c G 3 _ X) $$ HR
  iintro HR
  iapply (first_wp arg0 arg5 arg7 c G 4 _ X) $$ HR
  iintro HR
  iapply (first_wp arg0 arg5 arg7 c G 5 _ X) $$ HR
  iintro HR
  iapply (ring_wait arg0 arg5 arg7 c G ⟨0, by omega⟩ ⟨0, by omega⟩ (sp 6) (sg 0) X rfl sp_wait_free (funext sp_wait)) $$ [HR HW]
  · isplitl [HR]; · iexact HR
    iexact HW
  iintro ⟨HR, HW⟩
  unfold ringR
  rw [univ_split (fun s => slotR arg0 arg5 arg7 c G s (sg 0 s) (Function.update X ⟨0, by omega⟩ (srcV G ⟨0, by omega⟩) s)) ⟨0, by omega⟩,
    show sg 0 ⟨0, by omega⟩ = none from sg_zero, slotR_none, Function.update_self]
  icases HR with ⟨⟨⟨Hs, Hv⟩, HR⟩, HH⟩
  rw [← mixV_zero old (stagedV (srcV G ⟨0, by omega⟩))]
  iapply (fills_wp arg5 arg6 c (srcV G ⟨0, by omega⟩) old _ _ 40 0 _) $$ [H6 Hs]
  · unfold fillR
    isplitl [H6]; · iexact H6
    iexact Hs
  iintro H
  iapply (fillTail_wp arg5 arg6 c _ old 0 80 rfl) $$ H
  iintro H
  iapply (fillTail_wp arg5 arg6 c _ old 1 81 rfl) $$ H
  unfold fillR
  rw [mixV_all]
  iintro ⟨H6, Hs⟩
  iapply HK
  unfold loopI ringR
  iexists (Function.update X ⟨0, by omega⟩ (srcV G ⟨0, by omega⟩))
  isplitr
  · ipureintro
    exact ⟨Function.update_self _ _ _, rfl⟩
  rw [univ_split (fun s => slotR arg0 arg5 arg7 c G s (sg 0 s) (Function.update X ⟨0, by omega⟩ (srcV G ⟨0, by omega⟩) s)) ⟨0, by omega⟩,
    show sg 0 ⟨0, by omega⟩ = none from sg_zero, slotR_none, Function.update_self]
  isplitl [Hs Hv HR HH]
  · isplitl [Hs Hv HR]
    · isplitl [Hs Hv]
      · isplitl [Hs]; · iexact Hs
        iexact Hv
      iexact HR
    iexact HH
  isplitl [H1]; · iexact H1
  isplitl [H2]; · iexact H2
  isplitl [H6]; · iexact H6
  iexact HW

/-- The whole kernel. -/
theorem whole_wp (X : Fin 6 → S1296x256.Idx → Elt F .i32) (old : S41x2x32x128.Idx → Elt F .i32)
    (old3 : S48x10240.Idx → Elt F .bf16) (old4 : S48x128.Idx → Elt F .bf16) (Q : PUnit → sProp 𝕄) :
    iprop(ringR arg0 arg5 arg7 c G (sp 0) X ∗ owns (c : Thread nD τ) arg1 fullShare T ∗ owns (c : Thread nD τ) arg2 fullShare A
        ∗ owns (c : Thread nD τ) arg3 fullShare old3 ∗ owns (c : Thread nD τ) arg4 fullShare old4
        ∗ owns (c : Thread nD τ) arg6 fullShare old ∗ (∃ W, owes (c : Thread nD τ) 0 W))
      ⊢ iprop((iprop((∃ X', ringR arg0 arg5 arg7 c G (sp 0) X') ∗ owns (c : Thread nD τ) arg1 fullShare T ∗ owns (c : Thread nD τ) arg2 fullShare A
        ∗ owns (c : Thread nD τ) arg3 fullShare (outV (mxEnd G T A)) ∗ owns (c : Thread nD τ) arg4 fullShare (tailOutV (mxEnd G T A))
        ∗ (∃ d, owns (c : Thread nD τ) arg6 fullShare d) ∗ (∃ W, owes (c : Thread nD τ) 0 W)) -∗ Q ⟨⟩)
        -∗ WP c (wholeP arg0 arg1 arg2 arg3 harg3 arg4 harg4 arg5 arg6 arg7) Q) := by
  unfold wholeP
  iintro ⟨HR, H1, H2, H3, H4, H6, HW⟩ HK
  iapply (pro_wp arg0 arg1 arg2 arg5 arg6 arg7 c G T A X old) $$ [HR H1 H2 H6 HW]
  · isplitl [HR]; · iexact HR
    isplitl [H1]; · iexact H1
    isplitl [H2]; · iexact H2
    isplitl [H6]; · iexact H6
    iexact HW
  iintro HI
  iapply (Scf.wp_for_bind frame (wpE (defs₀ (F := F)) Variants.none (c : Thread nD τ) none) Set.univ k0_t1_loop.lb k0_t1_loop.ub
    k0_t1_loop.st k0_t1_ok Mxu.init (fun t mx => tripP arg0 arg1 arg2 arg5 arg6 arg7 (k0_pay413) t mx)
    (loopI arg0 arg1 arg2 arg5 arg6 arg7 c G T A) (fun t mx => trip_wp arg0 arg1 arg2 arg5 arg6 arg7 c G T A t mx)) $$ HI
  iintro %mx HI
  rw [show Scf.trips k0_t1_loop.lb k0_t1_loop.ub k0_t1_loop.st = 41 from trips_eq]
  unfold loopI
  icases HI with ⟨%X', %hX, HR, H1, H2, H6, HW⟩
  obtain ⟨-, rfl⟩ := hX
  iapply (epi_wp arg3 harg3 arg4 harg4 c (mxAt G T A 41) (bare_mxAt G T A 41) (liveIn_mxAt G T A 41) old3 old4) $$ [H3 H4]
  · isplitl [H3]; · iexact H3
    iexact H4
  iintro ⟨H3, H4⟩
  iapply HK
  rw [show sg 41 = sp 0 from funext fun s => (sg_end s).trans rfl]
  isplitl [HR]
  · iexists X'; iexact HR
  isplitl [H1]; · iexact H1
  isplitl [H2]; · iexact H2
  isplitl [H3]; · iexact H3
  isplitl [H4]; · iexact H4
  isplitl [H6]
  · iexists _; iexact H6
  iexact HW

end Cert.Kernel.Blocks
-- ==== Proof.Kernel.Split.lean ====
module

public import proofs.«01_k».proof.Proof.Kernel.Run

/-! The ring taken out of the buffers it is made of, and given back. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg5 : Memref sig .tc .vmem S6x1296x256 .i32)
  (arg7 : DmaSems sig S6) (c : Dev nD)

variable (G : S1296x10496.Idx → Elt F .i32)

/-- A memref without its unit axes owns what the memref does, in the other order of reading. -/
theorem owns_squeeze {sp : Space} {s s' : Shape} {e : EltTy} (m : Memref sig .tc sp s e) (h : s.Squeezes s')
    (q : PosShare TreeShare) (Y : s.Idx → Elt F e) :
    (owns (c : Thread nD τ) m q Y : sProp 𝕄)
      = owns (c : Thread nD τ) (m.squeeze s' h) q (fun i => Y (Shape.reshapeEquiv h.numel_eq i)) := by
  unfold owns
  rw [Memref.set_view_squeeze]
  have key : ∀ f : m.view.ty.Contents (Elt F), (m.view.read (Elt F) f = Y)
      = ((m.squeeze s' h).view.read (Elt F) f = fun i => Y (Shape.reshapeEquiv h.numel_eq i)) := fun f => by
    apply propext
    constructor
    · intro hf
      subst hf
      rfl
    · intro hf
      funext i
      have := congrFun hf ((Shape.reshapeEquiv h.numel_eq).symm i)
      rw [show (m.squeeze s' h).view.read (Elt F) f ((Shape.reshapeEquiv h.numel_eq).symm i)
        = m.view.read (Elt F) f (Shape.reshapeEquiv h.numel_eq ((Shape.reshapeEquiv h.numel_eq).symm i)) from rfl,
        Equiv.apply_symm_apply] at this
      exact this
  simp only [key]

/-- The column blocks of the weights. -/
abbrev rectG (j : Fin 41) : Rect S1296x10496 :=
  Rect.unit (s := S1296x10496) ![0, 256 * j.val] S1296x256.size (offSrc_inb j.val j.isLt)

theorem mem_rectG (j : Fin 41) (z : S1296x10496.Idx) : z ∈ (rectG j).set ↔ (z 1).val / 256 = j.val := by
  constructor
  · intro hj
    rw [← Rect.map_emb_univ, Finset.mem_map] at hj
    obtain ⟨i, -, rfl⟩ := hj
    have h1 : (i 1).val < 256 := (i 1).isLt
    show (256 * j.val + 1 * (i 1).val) / 256 = j.val
    omega
  · intro hj
    have h0 : (z 0).val < 1296 := (z 0).isLt
    rw [← Rect.map_emb_univ, Finset.mem_map]
    refine ⟨idx2 (z 0).val ((z 1).val % 256), Finset.mem_univ _, ?_⟩
    funext a
    apply Fin.ext
    fin_cases a
    · show 0 + 1 * ((z 0).val % 1296) = (z 0).val; omega
    · show 256 * j.val + 1 * ((z 1).val % 256 % 256) = (z 1).val; omega

theorem rectG_disjoint (j j' : Fin 41) (h : j ≠ j') : Disjoint (rectG j).set (rectG j').set :=
  Finset.disjoint_left.mpr fun z hz hz' => h (Fin.ext (((mem_rectG j z).mp hz).symm.trans ((mem_rectG j' z).mp hz')))

theorem rectG_cover : (Finset.univ : Finset (Fin 41)).biUnion (fun j => (rectG j).set) = Finset.univ := by
  ext z
  have h1 : (z 1).val < 10496 := (z 1).isLt
  simp only [Finset.mem_biUnion, Finset.mem_univ, true_and, iff_true]
  exact ⟨⟨(z 1).val / 256, by omega⟩, (mem_rectG _ z).mpr rfl⟩

/-- The slots of the ring. -/
abbrev rectS (s : Fin 6) : Rect S6x1296x256 :=
  Rect.unit (s := S6x1296x256) ![s.val, 0, 0] S1x1296x256.size (offSlot_inb s.val s.isLt)

theorem mem_rectS (s : Fin 6) (z : S6x1296x256.Idx) : z ∈ (rectS s).set ↔ (z 0).val = s.val := by
  constructor
  · intro hj
    rw [← Rect.map_emb_univ, Finset.mem_map] at hj
    obtain ⟨i, -, rfl⟩ := hj
    have h1 : (i 0).val < 1 := (i 0).isLt
    show s.val + 1 * (i 0).val = s.val
    omega
  · intro hj
    have h1 : (z 1).val < 1296 := (z 1).isLt
    have h2 : (z 2).val < 256 := (z 2).isLt
    rw [← Rect.map_emb_univ, Finset.mem_map]
    refine ⟨Shape.reshapeEquiv (s := S1x1296x256) (s' := S1296x256) (squeezes_S1x1296x256_S1296x256.numel_eq)
      (idx2 (z 1).val (z 2).val), Finset.mem_univ _, ?_⟩
    exact slot_idx s.val s.isLt _ z hj (Nat.mod_eq_of_lt h1).symm (Nat.mod_eq_of_lt h2).symm

theorem rectS_disjoint (j j' : Fin 6) (h : j ≠ j') : Disjoint (rectS j).set (rectS j').set :=
  Finset.disjoint_left.mpr fun z hz hz' => h (Fin.ext (((mem_rectS j z).mp hz).symm.trans ((mem_rectS j' z).mp hz')))

theorem rectS_cover : (Finset.univ : Finset (Fin 6)).biUnion (fun j => (rectS j).set) = Finset.univ := by
  ext z
  simp only [Finset.mem_biUnion, Finset.mem_univ, true_and, iff_true]
  exact ⟨⟨(z 0).val, (z 0).isLt⟩, (mem_rectS _ z).mpr rfl⟩

/-- The ring's contents from its slots'. -/
def joinS (X : Fin 6 → S1296x256.Idx → Elt F .i32) : S6x1296x256.Idx → Elt F .i32 :=
  fun z => X (z 0) (idx2 (z 1).val (z 2).val)

theorem joinS_emb (X : Fin 6 → S1296x256.Idx → Elt F .i32) (s : Fin 6) (y : S1296x256.Idx) :
    joinS X ((rectS s).emb (Shape.reshapeEquiv (s := S1x1296x256) (s' := S1296x256) (squeezes_S1x1296x256_S1296x256.numel_eq) y))
      = X s y := by
  have h0 : (y 0).val < 1296 := (y 0).isLt
  have h1 : (y 1).val < 256 := (y 1).isLt
  rw [slot_idx s.val s.isLt y (fun a => match a with
    | ⟨0, _⟩ => (s : Fin 6)
    | ⟨1, _⟩ => (y 0 : Fin 1296)
    | ⟨2, _⟩ => (y 1 : Fin 256)) rfl rfl rfl]
  show X s (idx2 (y 0).val (y 1).val) = X s y
  congr 1
  funext a
  apply Fin.ext
  fin_cases a
  · show (y 0).val % 1296 = _; exact Nat.mod_eq_of_lt h0
  · show (y 1).val % 256 = _; exact Nat.mod_eq_of_lt h1

/-- The slots of the ring, all owned, are the ring. -/
theorem slots_in (Z : S6x1296x256.Idx → Elt F .i32) :
    (owns (c : Thread nD τ) arg5 fullShare Z : sProp 𝕄)
      ⊢ bigSep Finset.univ (fun s : Fin 6 => owns (c : Thread nD τ) (slotM arg5 s.val s.isLt) fullShare
        (fun y => Z ((rectS s).emb (Shape.reshapeEquiv (s := S1x1296x256) (s' := S1296x256) (squeezes_S1x1296x256_S1296x256.numel_eq) y)))) := by
  refine (owns_rects (c : Thread nD τ) arg5 fullShare rectS (fun _ _ => rfl) rectS_disjoint rectS_cover Z).trans ?_
  exact BIBase.Entails.of_eq (bigSep_congr fun s _ => owns_squeeze c _ squeezes_S1x1296x256_S1296x256 fullShare _)

theorem slots_out (X : Fin 6 → S1296x256.Idx → Elt F .i32) :
    bigSep Finset.univ (fun s : Fin 6 => owns (c : Thread nD τ) (slotM arg5 s.val s.isLt) fullShare (X s))
      ⊢ (owns (c : Thread nD τ) arg5 fullShare (joinS X) : sProp 𝕄) := by
  refine BIBase.Entails.trans (BIBase.Entails.of_eq (bigSep_congr fun s _ => ?_))
    (owns_of_rects (c : Thread nD τ) arg5 fullShare rectS (fun _ _ => rfl) rectS_disjoint rectS_cover (joinS X))
  rw [owns_squeeze c (arg5.slice (rectS s) (fun _ => rfl)) squeezes_S1x1296x256_S1296x256 fullShare]
  exact congrArg (owns (c : Thread nD τ) (slotM arg5 s.val s.isLt) fullShare) (funext fun y => (joinS_emb X s y).symm)

theorem homes_idle : bigSep Finset.univ (fun j => homeR arg0 c G (sp 0) j)
    = bigSep Finset.univ (fun j => srcR arg0 c G j) :=
  bigSep_congr fun j _ => by
    unfold homeR
    rw [if_neg]
    rintro ⟨s, hs⟩
    simp [sp] at hs

theorem slots_idle (X : Fin 6 → S1296x256.Idx → Elt F .i32) :
    bigSep Finset.univ (fun s => slotR arg0 arg5 arg7 c G s (sp 0 s) (X s))
      = iprop(bigSep Finset.univ (fun s : Fin 6 => owns (c : Thread nD τ) (slotM arg5 s.val s.isLt) fullShare (X s))
        ∗ bigSep Finset.univ (fun s : Fin 6 => semVal ((c : Thread nD τ), SemLoc.dma (semM arg7 s.val s.isLt)) 0)) := by
  rw [← bigSep_sep']
  exact bigSep_congr fun s _ => slotR_none arg0 arg5 arg7 c G s (X s)

/-- Nothing in flight: the weights, the ring and its semaphores make the idle ring, -/
theorem ring_in (Z : S6x1296x256.Idx → Elt F .i32) :
    iprop(owns (c : Thread nD τ) arg0 fullShare G ∗ owns (c : Thread nD τ) arg5 fullShare Z
        ∗ bigSep Finset.univ (fun s : Fin 6 => semVal ((c : Thread nD τ), SemLoc.dma (semM arg7 s.val s.isLt)) 0))
      ⊢ iprop(∃ X, ringR arg0 arg5 arg7 c G (sp 0) X) := by
  iintro ⟨H0, H5, Hs⟩
  iexists (fun s y => Z ((rectS s).emb (Shape.reshapeEquiv (s := S1x1296x256) (s' := S1296x256) (squeezes_S1x1296x256_S1296x256.numel_eq) y)))
  unfold ringR
  rw [homes_idle, slots_idle]
  isplitl [H5 Hs]
  · isplitl [H5]
    · iapply (slots_in arg5 c Z) $$ H5
    · iexact Hs
  · iapply (owns_rects (c : Thread nD τ) arg0 fullShare rectG (fun _ _ => rfl) rectG_disjoint rectG_cover G) $$ H0

theorem homes_out : bigSep Finset.univ (fun j => srcR arg0 c G j) ⊢ (owns (c : Thread nD τ) arg0 fullShare G : sProp 𝕄) :=
  owns_of_rects (c : Thread nD τ) arg0 fullShare rectG (fun _ _ => rfl) rectG_disjoint rectG_cover G

/-- and back. -/
theorem ring_out (X : Fin 6 → S1296x256.Idx → Elt F .i32) :
    ringR arg0 arg5 arg7 c G (sp 0) X
      ⊢ iprop(owns (c : Thread nD τ) arg0 fullShare G ∗ (∃ Z, owns (c : Thread nD τ) arg5 fullShare Z)
        ∗ bigSep Finset.univ (fun s : Fin 6 => semVal ((c : Thread nD τ), SemLoc.dma (semM arg7 s.val s.isLt)) 0)) := by
  unfold ringR
  rw [homes_idle, slots_idle]
  iintro ⟨⟨H5, Hs⟩, H0⟩
  isplitl [H0]
  · iapply (homes_out arg0 c G) $$ H0
  isplitl [H5]
  · iexists (joinS X)
    iapply (slots_out arg5 c X) $$ H5
  · iexact Hs

end Cert.Kernel.Blocks
-- ==== Proof.Kernel.BodyEq.lean ====
module

public import proofs.«01_k».proof.Proof.Kernel.Blocks

/-! The printed loop trip is the trip written per block: the two programs perform the same operations one by one. -/

@[expose] public section

set_option maxRecDepth 65536

noncomputable section

namespace Cert.Kernel.Blocks

open Idealize.ShloMosaic Idealize.SL.Sem
open Cert.Kernel Cert.Kernel.Gen

variable {F : FTy → Type} [FloatOps F]

/-- Two programs that perform the same operation and go on alike are the same. -/
theorem peel {α β : Type} (e : TpuEff nD τ sig (Elt F) Λ₀ .tc β) (k k' : β → Prog (TpuEff nD τ sig (Elt F) Λ₀ .tc) α)
    (h : ∀ v, k v = k' v) : Prog.op e k = Prog.op e k' := congrArg _ (funext h)

/-- Two nested continuations after two first steps, moved inside. -/
theorem assoc3 {α β γ : Type} (S W : Prog (TpuEff nD τ sig (Elt F) Λ₀ .tc) PUnit) (R : Prog (TpuEff nD τ sig (Elt F) Λ₀ .tc) α)
    (f : α → Prog (TpuEff nD τ sig (Elt F) Λ₀ .tc) β) (g : β → Prog (TpuEff nD τ sig (Elt F) Λ₀ .tc) γ) :
    (((S >>= fun _ => W >>= fun _ => R) >>= f) >>= g) = (S >>= fun _ => W >>= fun _ => ((R >>= f) >>= g)) := by
  simp only [Prog.bind_assoc]

/-- The printed trip's first part: the copy it starts, the copy it waits for, and its first loads. -/
theorem part1_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (c d : BitVec 32) (t : Fin k0_t1_loop.trips) :
    k0_part1 (F := F) arg0 harg0 arg1 harg1 arg2 harg2 arg3 harg3 arg4 harg4 arg5 harg5 arg6 harg6 arg7 c d t = (startP arg0 arg5 arg7 t >>= fun _ => waitP arg0 arg5 arg7 t >>= fun _ =>
      (ldX arg2 t >>= fun x => ldT arg6 0 0 (by omega) >>= fun w => ldTab arg1 t 0 0 (128 * 0) (by omega) (by omega) >>= fun zl =>
        ldTab arg1 t 0 2 (128 * 0) (by omega) (by omega) >>= fun sl =>
        pure ⟨Scalar.subi (Scf.iv c d t) 1#32, Scalar.remsi (Scalar.minsi (Scf.iv c d t) 40#32) 6#32, k0_pay5 x,
          Scalar.addi (Scalar.muli (Scalar.subi (Scf.iv c d t) 1#32) 2#32) 0#32,
          k0_pay6 (F := F) w, k0_pay7 zl, k0_pay8 sl, k0_pay9 (F := F) w⟩)) := by
  rw [k0_part1_eq_skeleton]
  unfold k0_part1_skel startP waitP
  by_cases h1 : k0_cond1 t = 1#1 <;> by_cases h2 : k0_cond2 t = 1#1 <;>
    simp only [h1, h2, dite_true, dite_false, ↓reduceDIte] <;> exact rfl

set_option maxHeartbeats 4000000 in
/-- The printed trip is `tripP`. -/
theorem body_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (k0_mxu1 : Mxu F) (v41_r0 : IVec S32x128 32) (v687_r0 : IVec S1x1x32x128 32) (t : Fin k0_t1_loop.trips) (mx : Mxu F) :
    k0_t1_body arg0 harg0 arg1 harg1 arg2 harg2 arg3 harg3 arg4 harg4 arg5 harg5 arg6 harg6 arg7 k0_mxu1 v41_r0 v687_r0 t mx
      = tripP arg0 arg1 arg2 arg5 arg6 arg7 v41_r0 t mx := by
  unfold k0_t1_body k0_part113
  rw [part1_eq, assoc3]
  refine congrArg (Bind.bind (startP arg0 arg5 arg7 t)) (funext fun _ => congrArg (Bind.bind (waitP arg0 arg5 arg7 t)) (funext fun _ => ?_))
  repeat refine peel _ _ _ (fun v => ?_)
  exact rfl

end Cert.Kernel.Blocks
-- ==== Proof.Kernel.WholeEq.lean ====
module

public import proofs.«01_k».proof.Proof.Kernel.Whole
public import proofs.«01_k».proof.Proof.Kernel.BodyEq

/-! The printed kernel is the kernel written per block. -/

@[expose] public section

set_option maxRecDepth 65536

noncomputable section

namespace Cert.Kernel.Blocks

open Idealize.ShloMosaic Idealize.SL.Sem
open Cert.Kernel Cert.Kernel.Gen

variable {F : FTy → Type} [FloatOps F]

/-- A loop inside a continuation against the same loop, where both programs stand right after an operation. -/
theorem loop_peel {α β γ δ : Type} (v : δ) {A A' : Prog (TpuEff nD τ sig (Elt F) Λ₀ .tc) α}
    {f : α → Prog (TpuEff nD τ sig (Elt F) Λ₀ .tc) β} {g : β → Prog (TpuEff nD τ sig (Elt F) Λ₀ .tc) γ}
    {h : α → Prog (TpuEff nD τ sig (Elt F) Λ₀ .tc) γ} (hA : A = A') (hf : ∀ a, (f a).bind g = h a) :
    ((Prog.ret v).bind fun _ => A >>= f).bind g = (Prog.ret v).bind fun _ => A' >>= h := by
  subst hA
  refine (Prog.bind_assoc A f g).trans ?_
  exact congrArg _ (funext hf)

/-- The statements around the loop, with the loop's trip written per block. -/
noncomputable def part138P (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (k0_mxu1 : Mxu F) (v41_r0 : IVec S32x128 32) (v687_r0 : IVec S1x1x32x128 32) :
    Prog (TpuEff nD τ sig (Elt F) Λ₀ .tc) (Σ' (k0_mxu88 : Mxu F), FVec F S48x256 .bf16) := do
  Prog.lift (.store arg6 (Rect.unit (s := S41x2x32x128) ![39, 1, 0, 0] S1x1x32x128.size inb_S41x2x32x128_S1x1x32x128_39_1_0_0) v687_r0 Finset.univ (View.stores_vmem_bits_univ h_S1x1x32x128 rfl) (.inl rfl))
  let v688_r0 : Vec F S1x16x128 .i32 ← Prog.lift (.load arg5 (Rect.unit (s := S6x1296x256) ![0, 1280, 0] S1x16x128.size inb_S6x1296x256_S1x16x128_0_1280_0).toLoadRect (View.loadsAt_vmem h_S1x16x128))
  let v694_r0 : Vec F S1x1x32x128 .i32 ← Prog.lift (.load arg6 (Rect.unit (s := S41x2x32x128) ![40, 0, 0, 0] S1x1x32x128.size inb_S41x2x32x128_S1x1x32x128_40_0_0_0).toLoadRect (View.loadsAt_vmem h_S1x1x32x128))
  Prog.lift (.store arg6 (Rect.unit (s := S41x2x32x128) ![40, 0, 0, 0] S1x1x32x128.size inb_S41x2x32x128_S1x1x32x128_40_0_0_0) (k0_pay504 v688_r0) Finset.univ (View.stores_vmem_bits_univ h_S1x1x32x128 rfl) (.inl rfl))
  let v697_r0 : Vec F S1x16x128 .i32 ← Prog.lift (.load arg5 (Rect.unit (s := S6x1296x256) ![0, 1280, 128] S1x16x128.size inb_S6x1296x256_S1x16x128_0_1280_128).toLoadRect (View.loadsAt_vmem h_S1x16x128))
  let v703_r0 : Vec F S1x1x32x128 .i32 ← Prog.lift (.load arg6 (Rect.unit (s := S41x2x32x128) ![40, 1, 0, 0] S1x1x32x128.size inb_S41x2x32x128_S1x1x32x128_40_1_0_0).toLoadRect (View.loadsAt_vmem h_S1x1x32x128))
  Prog.lift (.store arg6 (Rect.unit (s := S41x2x32x128) ![40, 1, 0, 0] S1x1x32x128.size inb_S41x2x32x128_S1x1x32x128_40_1_0_0) (k0_pay505 v697_r0) Finset.univ (View.stores_vmem_bits_univ h_S1x1x32x128 rfl) (.inl rfl))
  let k0_mxu3 : Mxu F ← Scf.Loop.for k0_t1_loop k0_t1_ok k0_mxu1 (fun t mx => tripP arg0 arg1 arg2 arg5 arg6 arg7 v41_r0 t mx)
  have v707_r0 : FVec F S48x256 .f32 := k0_mxu3.read 0 0 fits_0_48
  have k0_mxu86 : Mxu F := k0_mxu3.pop 0 0 48 fits_0_48
  let v709_r0 : Vec F S48x256 .bf16 ← Prog.lift (.load arg3 (Rect.unit (s := S48x10240) ![0, 0] S48x256.size inb_S48x10240_S48x256_0_0).toLoadRect (View.loadsAt_vmem h_S48x256))
  Prog.lift (.store arg3 (Rect.unit (s := S48x10240) ![0, 0] S48x256.size inb_S48x10240_S48x256_0_0) (k0_pay508 v707_r0) Finset.univ (View.stores_vmem h_S48x256 (harg3.storeExact_slice rfl _ packedbf16_S48x10240_S48x256_0_0) (fun _ => rfl)) (.inl rfl))
  have v710_r0 : FVec F S48x256 .f32 := k0_mxu86.read 1 0 fits_0_48
  have k0_mxu87 : Mxu F := k0_mxu86.pop 1 0 48 fits_0_48
  let v712_r0 : Vec F S48x256 .bf16 ← Prog.lift (.load arg3 (Rect.unit (s := S48x10240) ![0, 256] S48x256.size inb_S48x10240_S48x256_0_256).toLoadRect (View.loadsAt_vmem h_S48x256))
  Prog.lift (.store arg3 (Rect.unit (s := S48x10240) ![0, 256] S48x256.size inb_S48x10240_S48x256_0_256) (k0_pay509 v710_r0) Finset.univ (View.stores_vmem h_S48x256 (harg3.storeExact_slice rfl _ packedbf16_S48x10240_S48x256_0_256) (fun _ => rfl)) (.inl rfl))
  have v713_r0 : FVec F S48x256 .f32 := k0_mxu87.read 0 12 fits_12_48
  have k0_mxu88 : Mxu F := k0_mxu87.pop 0 12 48 fits_12_48
  pure ⟨k0_mxu88, k0_pay510 v713_r0⟩

theorem part138_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (k0_mxu1 : Mxu F) (v41_r0 : IVec S32x128 32) (v687_r0 : IVec S1x1x32x128 32) :
    k0_part138 (F := F) arg0 harg0 arg1 harg1 arg2 harg2 arg3 harg3 arg4 harg4 arg5 harg5 arg6 harg6 arg7 k0_mxu1 v41_r0 v687_r0 = part138P arg0 harg0 arg1 harg1 arg2 harg2 arg3 harg3 arg4 harg4 arg5 harg5 arg6 harg6 arg7 k0_mxu1 v41_r0 v687_r0 := by
  have hb : k0_t1_body (F := F) arg0 harg0 arg1 harg1 arg2 harg2 arg3 harg3 arg4 harg4 arg5 harg5 arg6 harg6 arg7 k0_mxu1 v41_r0 v687_r0 = fun t mx => tripP arg0 arg1 arg2 arg5 arg6 arg7 v41_r0 t mx :=
    funext fun t => funext fun mx => body_eq arg0 harg0 arg1 harg1 arg2 harg2 arg3 harg3 arg4 harg4 arg5 harg5 arg6 harg6 arg7 k0_mxu1 v41_r0 v687_r0 t mx
  rw [k0_part138_eq_skeleton]
  unfold k0_part138_skel part138P
  rw [hb]

set_option maxHeartbeats 4000000 in
/-- The printed kernel is `wholeP`. -/
theorem whole_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) :
    cc0_awq_matmul (F := F) arg0 harg0 arg1 harg1 arg2 harg2 arg3 harg3 arg4 harg4 arg5 harg5 arg6 harg6 arg7 = wholeP arg0 arg1 arg2 arg3 harg3 arg4 harg4 arg5 arg6 arg7 := by
  rw [cc0_awq_matmul_eq_skeleton]
  unfold cc0_awq_matmul_skel
  simp only [part138_eq]
  repeat refine peel _ _ _ (fun v => ?_)
  refine loop_peel (F := F) v rfl (fun mx => ?_)
  repeat refine peel _ _ _ (fun v => ?_)
  exact rfl

end Cert.Kernel.Blocks
-- ==== Proof.Kernel.Frame.lean ====
module

public import proofs.«01_k».proof.Proof.Kernel.Split
public import proofs.«01_k».proof.Proof.Kernel.WholeEq
public import proofs.«01_k».proof.Proof.Gen.Kernel.Frame

/-! The launch: the whole program runs, its arguments and its semaphores end as they began. -/

@[expose] public section

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the launch asks: the kernel's own semaphores, the weights it copies from, the host lines -/

/-- The six semaphores of the ring. -/
abbrev osem0 : Fin 6 → SemLoc sig := fun j => SemLoc.dma (semM cc0_scratch2 j.val j.isLt)
theorem ownSemFacts0 : Pipeline.OwnSemFacts spec0 osem0 := by decide

/-- The buffer the copies read. -/
def H0 : Finset (Ref sig .tc) := {main_v104}
theorem H0_sub : H0 ⊆ Pipeline.restRefs sig spec0 := by decide

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem not_mem_insert {b y : Ref sig .tc} {s : Finset (DevRef τ sig)} (h : b ≠ y) (hs : (Proc.devRef .tc b : DevRef τ sig) ∉ s) :
    (Proc.devRef .tc b : DevRef τ sig) ∉ insert (Proc.devRef .tc y) s := by
  rw [Finset.mem_insert, not_or]
  exact ⟨StableHlo.devRef_ne_of_ne h, hs⟩

theorem not_mem_single {b y : Ref sig .tc} (h : b ≠ y) :
    (Proc.devRef .tc b : DevRef τ sig) ∉ ({Proc.devRef .tc y} : Finset (DevRef τ sig)) := by
  rw [Finset.mem_singleton]
  exact StableHlo.devRef_ne_of_ne h

theorem not_mem_image {b : Ref sig .tc} {n : ℕ} {xs : Fin n → Ref sig .tc} (h : ∀ k, b ≠ xs k) :
    (Proc.devRef .tc b : DevRef τ sig) ∉ Finset.univ.image (fun k => (Proc.devRef .tc (xs k) : DevRef τ sig)) := by
  rw [Finset.mem_image]
  rintro ⟨k, -, hk⟩
  exact StableHlo.devRef_ne_of_ne (h k) hk.symm

set_option maxHeartbeats 4000000 in
/-- The host lines after the kernel do not touch the buffer the copies read. -/
theorem sfx_apart : ∀ op ∈ (hostOps1 : List (HloOp τ sig (Elt F))), (Proc.devRef .tc main_v104 : DevRef τ sig) ∉ op.bufs := by
  refine List.forall_iff_forall_mem.mp ?_
  simp only [hostOps1, List.Forall]
  repeat' apply And.intro
  all_goals first
    | exact not_mem_insert (by decide) (not_mem_single (by decide))
    | exact not_mem_insert (by decide) (not_mem_insert (by decide) (not_mem_single (by decide)))
    | exact not_mem_insert (by decide) (not_mem_image (by decide))

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [H0, Finset.mem_singleton] at hb
  subst hb
  exact sfx_apart op hop

/-- A buffer no host line writes and no window stages ends as launched. -/
theorem tail_eq (dats : (p : Fin 1) → (c : Dev nD) → Dat τ (Elt F) Unit ℕ (Pipeline.UD sig nD τ) ℕ (cfgs p) c) (c : Dev nD) (b : Ref sig .tc)
    (hb : ∀ op ∈ (List.flatten [hostOps1] : List (HloOp τ sig (Elt F))), (Proc.devRef .tc b : DevRef τ sig) ∉ op.writes)
    (hw : ∀ w, Pipeline.arrRef spec0 w ≠ b) (hV : Gen.V m c b = m ((c : Thread nD τ).loc b)) :
    Pipeline.afterTail₀ cfgs dats 0 (V0 m) [hostOps1] c b = m ((c : Thread nD τ).loc b) := by
  unfold Pipeline.afterTail₀
  rw [StableHlo.after_of_forall_not_mem (b := Proc.devRef .tc b) _ _ hb, Pipeline.withArrays_of_ne _ c (V0 m c) _ b hw]
  exact hV

/-- No host line after the kernel writes an argument. -/
theorem writes_apart (b : Ref sig .tc) (hb : ∀ op ∈ (hostOps1 : List (HloOp τ sig (Elt F))), (Proc.devRef .tc b : DevRef τ sig) ∉ op.writes) :
    ∀ op ∈ (List.flatten [hostOps1] : List (HloOp τ sig (Elt F))), (Proc.devRef .tc b : DevRef τ sig) ∉ op.writes := by
  rw [List.flatten_cons, List.flatten_nil, List.append_nil]
  exact hb

set_option maxHeartbeats 4000000 in
theorem writes_args : ∀ op ∈ (hostOps1 : List (HloOp τ sig (Elt F))), ∀ b ∈ [main_arg0, main_arg1, main_arg2, main_arg3, main_arg4],
    (Proc.devRef .tc b : DevRef τ sig) ∉ op.writes := by
  have key : ∀ y : Ref sig .tc, (∀ b ∈ [main_arg0, main_arg1, main_arg2, main_arg3, main_arg4], b ≠ y) →
      ∀ b ∈ [main_arg0, main_arg1, main_arg2, main_arg3, main_arg4],
        (Proc.devRef .tc b : DevRef τ sig) ∉ ({Proc.devRef .tc y} : Finset (DevRef τ sig)) := fun y h b hb => not_mem_single (h b hb)
  refine List.forall_iff_forall_mem.mp ?_
  simp only [hostOps1, List.Forall]
  repeat' apply And.intro
  all_goals exact key _ (by decide)

theorem frame_of (dats : (p : Fin 1) → (c : Dev nD) → Dat τ (Elt F) Unit ℕ (Pipeline.UD sig nD τ) ℕ (cfgs p) c)
    (hA : ∀ c w, (dats 0 c).A w = Gen.V m c (Pipeline.arrRef spec0 w))
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans
        (tail_eq m dats c main_arg0 (writes_apart _ fun op ho => writes_args op ho _ (by decide)) (by decide) (V_main_arg0 m c)),
      ((h.1 c).2 main_arg1 (Pipeline.mem_restRefs_of main_arg1 (by decide) (by decide))).trans
        (tail_eq m dats c main_arg1 (writes_apart _ fun op ho => writes_args op ho _ (by decide)) (by decide) (V_main_arg1 m c)),
      ((h.1 c).2 main_arg2 (Pipeline.mem_restRefs_of main_arg2 (by decide) (by decide))).trans
        (tail_eq m dats c main_arg2 (writes_apart _ fun op ho => writes_args op ho _ (by decide)) (by decide) (V_main_arg2 m c)),
      ((h.1 c).2 main_arg3 (Pipeline.mem_restRefs_of main_arg3 (by decide) (by decide))).trans
        (tail_eq m dats c main_arg3 (writes_apart _ fun op ho => writes_args op ho _ (by decide)) (by decide) (V_main_arg3 m c)),
      ((h.1 c).2 main_arg4 (Pipeline.mem_restRefs_of main_arg4 (by decide) (by decide))).trans
        (tail_eq m dats c main_arg4 (writes_apart _ fun op ho => writes_args op ho _ (by decide)) (by decide) (V_main_arg4 m c))⟩, h.2⟩) h

/-! ## The proof data -/

/-- The weights, transposed, as the kernel finds them. -/
abbrev Gm (c : Dev nD) : S1296x10496.Idx → Elt F .i32 := Gen.V m c main_v104
/-- The table. -/
abbrev Tm (c : Dev nD) (t : Fin cfg0.N) : S82x4x5248.Idx → Elt F .bf16 := iblk m c 0 t
/-- The activations. -/
abbrev Am (c : Dev nD) (t : Fin cfg0.N) : S41x48x256.Idx → Elt F .bf16 := iblk m c 1 t

/-- The proof data: the arrays as the kernel finds them, the two results, the ring idle at both ends. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => outV (mxEnd (Gm m c) (Tm m c t) (Am m c t))
    | ⟨3, _⟩ => tailOutV (mxEnd (Gm m c) (Tm m c t) (Am m c t))
  Φ _ := Pipeline.ΦD osem0 spec0 H0 (Gen.V m) c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outV (mxEnd (Gm m c) (Tm m c t) (Am m c t)) := by dsimp only [dats]
theorem after0_3 (c : Dev nD) (t : Fin cfg0.N) : (dats m 0 c).after 3 t = tailOutV (mxEnd (Gm m c) (Tm m c t) (Am m c t)) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

theorem PhiD0_eq (c : Dev nD) :
    (Pipeline.ΦD osem0 spec0 H0 (Gen.V m) c : sProp 𝕄)
      = iprop(((∃ d, owns (c : Thread nD τ) (Memref.whole cc0_scratch0 : Memref sig .tc .vmem S6x1296x256 .i32) fullShare d)
            ∗ (∃ d, owns (c : Thread nD τ) (Memref.whole cc0_scratch1 : Memref sig .tc .vmem S41x2x32x128 .i32) fullShare d))
          ∗ (∃ r, prngReg c r)
          ∗ bigSep Finset.univ (fun s : Fin 6 => semVal ((c : Thread nD τ), SemLoc.dma (semM cc0_scratch2 s.val s.isLt)) 0)
          ∗ owns (c : Thread nD τ) (Memref.whole main_v104 : Memref sig .tc .hbm S1296x10496 .i32) fullShare (Gm m c)) := by
  rw [Pipeline.ΦD_eq, scopedRest0_eq, H0, bigSep_singleton]
  simp only [owns_whole]; rfl

abbrev ms0_0 (t : Fin cfg0.N) : Memref sig .tc .vmem S82x4x5248 .bf16 := win0_0.stage (cfg0.slots t 0)
abbrev ms0_1 (t : Fin cfg0.N) : Memref sig .tc .vmem S41x48x256 .bf16 := win0_1.stage (cfg0.slots t 1)
abbrev ms0_2 (t : Fin cfg0.N) : Memref sig .tc .vmem S48x10240 .bf16 := win0_2.stage (cfg0.slots t 2)
abbrev ms0_3 (t : Fin cfg0.N) : Memref sig .tc .vmem S48x128 .bf16 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [whole_eq]
  rw [show (dats m 0 c).Φ t.succ = (dats m 0 c).Φ t.castSucc from rfl, after0_0, after0_1, after0_2, after0_3]
  rw [show (dats m 0 c).Φ t.castSucc = Pipeline.ΦD osem0 spec0 H0 (Gen.V m) c from rfl, PhiD0_eq]
  simp only [before0_0, before0_1]
  unfold Dat.owesAt Pipeline.owesWithin
  rw [show (dats m 0 c).owed t.castSucc = 0 from rfl, show (dats m 0 c).owed t.succ = 0 from rfl]
  iintro ⟨⟨⟨⟨%d5, H5⟩, ⟨%d6, H6⟩⟩, Hg, Hv, H0⟩, ⟨%W, -, HW⟩, ⟨%e0, H1⟩, ⟨%e1, H2⟩, ⟨%d2, H3⟩, ⟨%d3, H4⟩⟩
  icases (ring_in (Memref.whole main_v104 : Memref sig .tc .hbm S1296x10496 .i32)
    (Memref.whole cc0_scratch0 : Memref sig .tc .vmem S6x1296x256 .i32) cc0_scratch2 c (Gm m c) d5) $$ [H0 H5 Hv] with ⟨%X, HR⟩
  · isplitl [H0]; · iexact H0
    isplitl [H5]; · iexact H5
    iexact Hv
  iapply (whole_wp _ _ _ _ _ _ _ _ _ _ c (Gm m c) (Tm m c t) (Am m c t) X d6 ((dats m 0 c).before 2 t d2) ((dats m 0 c).before 3 t d3))
    $$ [HR H1 H2 H3 H4 H6 HW]
  · isplitl [HR]; · iexact HR
    isplitl [H1]; · iexact H1
    isplitl [H2]; · iexact H2
    isplitl [H3]; · iexact H3
    isplitl [H4]; · iexact H4
    isplitl [H6]; · iexact H6
    iexists W; iexact HW
  iintro ⟨⟨%X', HR⟩, H1, H2, H3, H4, H6, ⟨%W', HW⟩⟩
  icases (ring_out (Memref.whole main_v104 : Memref sig .tc .hbm S1296x10496 .i32)
    (Memref.whole cc0_scratch0 : Memref sig .tc .vmem S6x1296x256 .i32) cc0_scratch2 c (Gm m c) X') $$ HR with ⟨H0, H5, Hv⟩
  isplitl [H5 H6 Hg Hv H0]
  · isplitl [H5 H6]
    · isplitl [H5]; · iexact H5
      iexact H6
    isplitl [Hg]; · iexact Hg
    isplitl [Hv]; · iexact Hv
    iexact H0
  isplitl [HW]
  · iexists W'; isplitr; · ipureintro; exact fun _ _ => Or.inl trivial
    iexact HW
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m)
    (hin := fun _ => .rfl) (hout := fun _ => .rfl)

/-- THE FRAME: the program terminates without fault, its arguments end as they began, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of m ρ (dats m) (A_eq m) (run_main m ρ)

end Cert.Kernel.Blocks
-- ==== Proof.KernelIdeal.Blocks.lean ====
module

public import proofs.«01_k».proof.Proof.Gen.KernelIdeal.Skeleton

/-! The kernel's loop trip, written once per block. One trip works through forty blocks of 256 output columns and one
tail block. Each block has two halves of 128 rows of weights; a half reads the words staged for this trip, turns them
into a tile, and stages the words for the next trip in their place. -/

@[expose] public section

set_option maxRecDepth 65536

noncomputable section

namespace Cert.KernelIdeal.Blocks

open Idealize.ShloMosaic Idealize.SL.Sem
open Cert.KernelIdeal Cert.KernelIdeal.Gen

variable {F : FTy → Type} [FloatOps F]

/-- Where a half's row of the table of zero points and scales starts: group `2 (trip) + gg`, row `r`, lane `lane`. -/
def offTab (t : Fin k0_t1_loop.trips) (gg : Fin 2) (r lane : ℕ) : Fin 3 → ℕ :=
  ![k0_off8 t (BitVec.ofNat 32 gg.val) 0, r, lane]

theorem offTab_inb (t : Fin k0_t1_loop.trips) (gg : Fin 2) (r lane : ℕ) (hr : r < 4) (hl : lane + 128 ≤ 5248) :
    ∀ a, offTab t gg r lane a + S1x1x128.size a ≤ S82x4x5248.size a := by
  intro a
  have h0 := k0_off8_inb t gg 0
  fin_cases a
  · exact h0
  · show r + 1 ≤ 4; omega
  · exact hl

/-- Where the words to stage for the next trip start in their slot of the ring. -/
def offRow (t : Fin k0_t1_loop.trips) (row : ℕ) (gg : Fin 2) : Fin 3 → ℕ :=
  ![k0_off12 t 0, row, gg.val * 128]

theorem offRow_inb (t : Fin k0_t1_loop.trips) (row : ℕ) (gg : Fin 2) (h : row + 32 ≤ 1296) :
    ∀ a, offRow t row gg a + S1x32x128.size a ≤ S6x1296x256.size a := by
  intro a
  have h0 := k0_off12_inb t 0
  have := gg.isLt
  fin_cases a
  · exact h0
  · exact h
  · show gg.val * 128 + 128 ≤ 256; omega

theorem offRow_inb16 (t : Fin k0_t1_loop.trips) (row : ℕ) (gg : Fin 2) (h : row + 16 ≤ 1296) :
    ∀ a, offRow t row gg a + S1x16x128.size a ≤ S6x1296x256.size a := by
  intro a
  have h0 := k0_off12_inb t 0
  have := gg.isLt
  fin_cases a
  · exact h0
  · exact h
  · show gg.val * 128 + 128 ≤ 256; omega

theorem offT_inb (b : ℕ) (gg : Fin 2) (h : b < 41) :
    ∀ a, (![b, gg.val, 0, 0] : Fin 4 → ℕ) a + S1x1x32x128.size a ≤ S41x2x32x128.size a := by
  intro a
  have := gg.isLt
  fin_cases a
  · show b + 1 ≤ 41; omega
  · show gg.val + 1 ≤ 2; omega
  · show 0 + 32 ≤ 32; omega
  · show 0 + 128 ≤ 128; omega

variable (arg0 : Memref sig .tc .hbm S1296x10496 .i32) (arg1 : Memref sig .tc .vmem S82x4x5248 .bf16)
  (arg2 : Memref sig .tc .vmem S41x48x256 .bf16) (arg5 : Memref sig .tc .vmem S6x1296x256 .i32)
  (arg6 : Memref sig .tc .vmem S41x2x32x128 .i32) (arg7 : DmaSems sig S6)

/-- Read the staged words of half `gg` of block `b`. -/
def ldT (b : ℕ) (gg : Fin 2) (h : b < 41) : Prog (TpuEff nD τ sig (Elt F) Λ₀ .tc) (Vec F S1x1x32x128 .i32) :=
  Prog.lift (.load arg6 (Rect.unit (s := S41x2x32x128) ![b, gg.val, 0, 0] S1x1x32x128.size (offT_inb b gg h)).toLoadRect
    (View.loadsAt_vmem h_S1x1x32x128))

/-- Stage words for half `gg` of block `b`. -/
def stT (b : ℕ) (gg : Fin 2) (h : b < 41) (w : IVec S1x1x32x128 32) :
    Prog (TpuEff nD τ sig (Elt F) Λ₀ .tc) PUnit :=
  Prog.lift (.store arg6 (Rect.unit (s := S41x2x32x128) ![b, gg.val, 0, 0] S1x1x32x128.size (offT_inb b gg h)) w
    Finset.univ (View.stores_vmem_bits_univ h_S1x1x32x128 rfl) (.inl rfl))

/-- Read a row of the table. -/
def ldTab (t : Fin k0_t1_loop.trips) (gg : Fin 2) (r lane : ℕ) (hr : r < 4) (hl : lane + 128 ≤ 5248) :
    Prog (TpuEff nD τ sig (Elt F) Λ₀ .tc) (Vec F S1x1x128 .bf16) :=
  Prog.lift (.load arg1 (Rect.unit (s := S82x4x5248) (offTab t gg r lane) S1x1x128.size
    (offTab_inb t gg r lane hr hl)).toLoadRect (View.loadsAt_vmem h_S1x1x128))

/-- Read 32 rows of words from the ring. -/
def ldRow (t : Fin k0_t1_loop.trips) (row : ℕ) (gg : Fin 2) (h : row + 32 ≤ 1296) :
    Prog (TpuEff nD τ sig (Elt F) Λ₀ .tc) (Vec F S1x32x128 .i32) :=
  Prog.lift (.load arg5 (Rect.unit (s := S6x1296x256) (offRow t row gg) S1x32x128.size (offRow_inb t row gg h)).toLoadRect
    (View.loadsAt_vmem h_S1x32x128))

/-- Read the last 16 rows of words from the ring. -/
def ldRow16 (t : Fin k0_t1_loop.trips) (row : ℕ) (gg : Fin 2) (h : row + 16 ≤ 1296) :
    Prog (TpuEff nD τ sig (Elt F) Λ₀ .tc) (Vec F S1x16x128 .i32) :=
  Prog.lift (.load arg5 (Rect.unit (s := S6x1296x256) (offRow t row gg) S1x16x128.size (offRow_inb16 t row gg h)).toLoadRect
    (View.loadsAt_vmem h_S1x16x128))

/-- One half of a block: the tile of the staged words, and the next trip's words staged in their place. -/
def halfP (t : Fin k0_t1_loop.trips) (b : ℕ) (hb : b < 40) (gg : Fin 2) :
    Prog (TpuEff nD τ sig (Elt F) Λ₀ .tc) (FVec F S128x256 .bf16) := do
  let w ← ldT arg6 b gg (by omega)
  let zl ← ldTab arg1 t gg 0 (128 * b) (by omega) (by omega)
  let sl ← ldTab arg1 t gg 2 (128 * b) (by omega) (by omega)
  let zh ← ldTab arg1 t gg 1 (128 * b) (by omega) (by omega)
  let sh ← ldTab arg1 t gg 3 (128 * b) (by omega) (by omega)
  let n ← ldRow arg5 t (32 * b) gg (by omega)
  let _ ← ldT arg6 b gg (by omega)
  stT arg6 b gg (by omega) (k0_pay13 n)
  pure (k0_pay12 w zl sl zh sh)

/-- One half of the tail block. -/
def halfTail (v41 : IVec S32x128 32) (t : Fin k0_t1_loop.trips) (gg : Fin 2) :
    Prog (TpuEff nD τ sig (Elt F) Λ₀ .tc) (FVec F S128x256 .bf16) := do
  let w ← ldT arg6 40 gg (by omega)
  let z ← ldTab arg1 t gg 0 5120 (by omega) (by omega)
  let s ← ldTab arg1 t gg 2 5120 (by omega) (by omega)
  let n ← ldRow16 arg5 t 1280 gg (by omega)
  let _ ← ldT arg6 40 gg (by omega)
  stT arg6 40 gg (by omega) (k0_pay410 n)
  pure (k0_pay412 (k0_pay411 v41 w z s))

theorem fitsBlk (b : ℕ) (hb : b < 40) : Mxu.Fits (12 * (b / 2)) 48 := by
  unfold Mxu.Fits; omega

/-- The matrix unit block `b` goes to. -/
def unitOf (b : ℕ) : Fin 2 := ⟨b % 2, Nat.mod_lt _ (by decide)⟩

/-- The staging register of block `b`. -/
def regOf (b : ℕ) : Fin 2 := ⟨b / 2 % 2, Nat.mod_lt _ (by decide)⟩

/-- One block: both halves, pushed to the matrix unit as one tile, and the pass of `x` by it. -/
def blkP (t : Fin k0_t1_loop.trips) (x : FVec F S48x256 .bf16) (b : ℕ) (hb : b < 40) (mx : Mxu F) :
    Prog (TpuEff nD τ sig (Elt F) Λ₀ .tc) (Mxu F) := do
  let h0 ← halfP arg1 arg5 arg6 t b hb 0
  let h1 ← halfP arg1 arg5 arg6 t b hb 1
  let mx' ← mx.pushRhs (unitOf b) (regOf b) false (k0_pay14 h0 h1)
  pure (mx'.accLhs (unitOf b) (regOf b) (12 * (b / 2)) x (fitsBlk b hb))

/-- Blocks `b, …, 39`. -/
def blksP (t : Fin k0_t1_loop.trips) (x : FVec F S48x256 .bf16) :
    (n b : ℕ) → (h : b + n ≤ 40) → Mxu F → Prog (TpuEff nD τ sig (Elt F) Λ₀ .tc) (Mxu F)
  | 0, _, _, mx => pure mx
  | n + 1, b, h, mx => do
    let mx' ← blkP arg1 arg5 arg6 t x b (by omega) mx
    blksP t x n (b + 1) (by omega) mx'

/-- The tail block. -/
def tailP (v41 : IVec S32x128 32) (t : Fin k0_t1_loop.trips) (x : FVec F S48x256 .bf16) (mx : Mxu F) :
    Prog (TpuEff nD τ sig (Elt F) Λ₀ .tc) (Mxu F) := do
  let h0 ← halfTail arg1 arg5 arg6 v41 t 0
  let h1 ← halfTail arg1 arg5 arg6 v41 t 1
  let mx' ← mx.pushRhs 1 0 false (k0_pay507 h0 h1)
  pure (mx'.accLhs 1 0 240 x fits_240_48)

/-- Start the copy a trip has to start, if any. -/
def startP (t : Fin k0_t1_loop.trips) : Prog (TpuEff nD τ sig (Elt F) Λ₀ .tc) PUnit :=
  if k0_h1 : k0_cond1 t = 1#1 then do
    Prog.lift (.enqueueDma (arg0.slice (Rect.unit (s := S1296x10496) (k0_off3 t) S1296x256.size (k0_off3_inb t k0_h1)) (fun _ => rfl))
      (.here ((arg5.slice (Rect.unit (s := S6x1296x256) (k0_off2 t) S1x1296x256.size (k0_off2_inb t k0_h1)) (fun _ => rfl)).squeeze
        S1296x256 squeezes_S1x1296x256_S1296x256))
      (.dma ((arg7.slice (Rect.unit (s := S6) (k0_off1 t) S1.size (k0_off1_inb t k0_h1))).squeeze S_ squeezes_S1_S_).sem)
      (View.wordExact_bits rfl) ((View.wordExact_bits rfl).reshape _ _) ⟨Or.inl rfl, trivial⟩)
    pure ⟨⟩
  else do
    pure ⟨⟩

/-- Wait for the copy a trip has to wait for, if any. -/
def waitP (t : Fin k0_t1_loop.trips) : Prog (TpuEff nD τ sig (Elt F) Λ₀ .tc) PUnit :=
  if k0_h2 : k0_cond2 t = 1#1 then do
    Prog.lift (.waitDma2 ((arg7.slice (Rect.unit (s := S6) (k0_off4 t) S1.size (k0_off4_inb t k0_h2))).squeeze S_ squeezes_S1_S_).sem
      (arg0.slice (Rect.unit (s := S1296x10496) (k0_off6 t) S1296x256.size (k0_off6_inb t k0_h2)) (fun _ => rfl))
      ((arg5.slice (Rect.unit (s := S6x1296x256) (k0_off5 t) S1x1296x256.size (k0_off5_inb t k0_h2)) (fun _ => rfl)).squeeze
        S1296x256 squeezes_S1x1296x256_S1296x256)
      (View.wordExact_bits rfl) ((View.wordExact_bits rfl).reshape _ _))
    pure ⟨⟩
  else do
    pure ⟨⟩

/-- Read the slab of activations of a trip. -/
def ldX (t : Fin k0_t1_loop.trips) : Prog (TpuEff nD τ sig (Elt F) Λ₀ .tc) (Vec F S1x48x256 .bf16) :=
  Prog.lift (.load arg2 (Rect.unit (s := S41x48x256) (k0_off7 t) S1x48x256.size (k0_off7_inb t)).toLoadRect
    (View.loadsAt_vmem h_S1x48x256))

/-- One trip of the kernel's loop. -/
def tripP (v41 : IVec S32x128 32) (t : Fin k0_t1_loop.trips) (mx : Mxu F) :
    Prog (TpuEff nD τ sig (Elt F) Λ₀ .tc) (Mxu F) := do
  startP arg0 arg5 arg7 t
  waitP arg0 arg5 arg7 t
  let x ← ldX arg2 t
  let mx' ← blksP arg1 arg5 arg6 t (k0_pay5 x) 40 0 (by omega) mx
  tailP arg1 arg5 arg6 v41 t (k0_pay5 x) mx'

end Cert.KernelIdeal.Blocks
-- ==== Proof.KernelIdeal.Whole.lean ====
module

public import proofs.«01_k».proof.Proof.KernelIdeal.Blocks

/-! The kernel outside its loop: the first six copies and the first staging before it, the pops of the matrix unit
after it. -/

@[expose] public section

set_option maxRecDepth 65536

noncomputable section

namespace Cert.KernelIdeal.Blocks

open Idealize.ShloMosaic Idealize.SL.Sem
open Cert.KernelIdeal Cert.KernelIdeal.Gen

variable {F : FTy → Type} [FloatOps F]

variable (arg0 : Memref sig .tc .hbm S1296x10496 .i32) (arg1 : Memref sig .tc .vmem S82x4x5248 .bf16)
  (arg2 : Memref sig .tc .vmem S41x48x256 .bf16) (arg3 : Memref sig .tc .vmem S48x10240 .bf16)
  (harg3 : arg3.IsWhole) (arg4 : Memref sig .tc .vmem S48x128 .bf16) (harg4 : arg4.IsWhole)
  (arg5 : Memref sig .tc .vmem S6x1296x256 .i32)
  (arg6 : Memref sig .tc .vmem S41x2x32x128 .i32) (arg7 : DmaSems sig S6)

theorem offSlot_inb (s : ℕ) (h : s < 6) : ∀ a, (![s, 0, 0] : Fin 3 → ℕ) a + S1x1296x256.size a ≤ S6x1296x256.size a := by
  intro a
  fin_cases a
  · show s + 1 ≤ 6; omega
  · show 0 + 1296 ≤ 1296; omega
  · show 0 + 256 ≤ 256; omega

theorem offSrc_inb (j : ℕ) (h : j < 41) : ∀ a, (![0, 256 * j] : Fin 2 → ℕ) a + S1296x256.size a ≤ S1296x10496.size a := by
  intro a
  fin_cases a
  · show 0 + 1296 ≤ 1296; omega
  · show 256 * j + 256 ≤ 10496; omega

theorem offSem_inb (s : ℕ) (h : s < 6) : ∀ a, (![s] : Fin 1 → ℕ) a + S1.size a ≤ S6.size a := by
  intro a
  fin_cases a
  show s + 1 ≤ 6; omega

/-- Slot `s` of the ring. -/
def slotM (s : ℕ) (h : s < 6) : Memref sig .tc .vmem S1296x256 .i32 :=
  (arg5.slice (Rect.unit (s := S6x1296x256) ![s, 0, 0] S1x1296x256.size (offSlot_inb s h)) (fun _ => rfl)).squeeze
    S1296x256 squeezes_S1x1296x256_S1296x256

/-- Column block `j` of the packed weights. -/
def srcM (j : ℕ) (h : j < 41) : Memref sig .tc .hbm S1296x256 .i32 :=
  arg0.slice (Rect.unit (s := S1296x10496) ![0, 256 * j] S1296x256.size (offSrc_inb j h)) (fun _ => rfl)

/-- Slot `s`'s semaphore. -/
def semM (s : ℕ) (h : s < 6) : DmaSem sig :=
  ((arg7.slice (Rect.unit (s := S6) ![s] S1.size (offSem_inb s h))).squeeze S_ squeezes_S1_S_).sem

/-- Start the copy of column block `j` into slot `s`. -/
def dmaP (j s : ℕ) (hj : j < 41) (h : s < 6) : Prog (TpuEff nD τ sig (Elt F) Λ₀ .tc) PUnit :=
  Prog.lift (.enqueueDma (srcM arg0 j hj) (.here (slotM arg5 s h)) (.dma (semM arg7 s h))
    (View.wordExact_bits rfl) ((View.wordExact_bits rfl).reshape _ _) ⟨Or.inl rfl, trivial⟩)

/-- Wait for the copy of column block `j` into slot `s`. -/
def dmaW (j s : ℕ) (hj : j < 41) (h : s < 6) : Prog (TpuEff nD τ sig (Elt F) Λ₀ .tc) PUnit :=
  Prog.lift (.waitDma2 (semM arg7 s h) (srcM arg0 j hj) (slotM arg5 s h)
    (View.wordExact_bits rfl) ((View.wordExact_bits rfl).reshape _ _))

theorem off0_inb (row : ℕ) (gg : Fin 2) (h : row + 32 ≤ 1296) :
    ∀ a, (![0, row, gg.val * 128] : Fin 3 → ℕ) a + S1x32x128.size a ≤ S6x1296x256.size a := by
  intro a
  have := gg.isLt
  fin_cases a
  · show 0 + 1 ≤ 6; omega
  · exact h
  · show gg.val * 128 + 128 ≤ 256; omega

theorem off0_inb16 (row : ℕ) (gg : Fin 2) (h : row + 16 ≤ 1296) :
    ∀ a, (![0, row, gg.val * 128] : Fin 3 → ℕ) a + S1x16x128.size a ≤ S6x1296x256.size a := by
  intro a
  have := gg.isLt
  fin_cases a
  · show 0 + 1 ≤ 6; omega
  · exact h
  · show gg.val * 128 + 128 ≤ 256; omega

/-- Stage half `gg` of block `b` of the first column block. -/
def fillP (b : ℕ) (hb : b < 40) (gg : Fin 2) : Prog (TpuEff nD τ sig (Elt F) Λ₀ .tc) PUnit := do
  let n ← (Prog.lift (.load arg5 (Rect.unit (s := S6x1296x256) ![0, 32 * b, gg.val * 128] S1x32x128.size
    (off0_inb (32 * b) gg (by omega))).toLoadRect (View.loadsAt_vmem h_S1x32x128)) :
      Prog (TpuEff nD τ sig (Elt F) Λ₀ .tc) (Vec F S1x32x128 .i32))
  let _ ← ldT (F := F) arg6 b gg (by omega)
  stT arg6 b gg (by omega) (k0_pay13 (F := F) n)

/-- Stage the tail's half `gg` of the first column block. -/
def fillTail (gg : Fin 2) : Prog (TpuEff nD τ sig (Elt F) Λ₀ .tc) PUnit := do
  let n ← (Prog.lift (.load arg5 (Rect.unit (s := S6x1296x256) ![0, 1280, gg.val * 128] S1x16x128.size
    (off0_inb16 1280 gg (by omega))).toLoadRect (View.loadsAt_vmem h_S1x16x128)) :
      Prog (TpuEff nD τ sig (Elt F) Λ₀ .tc) (Vec F S1x16x128 .i32))
  let _ ← ldT (F := F) arg6 40 gg (by omega)
  stT arg6 40 gg (by omega) (k0_pay410 (F := F) n)

/-- Stage blocks `b, …` of the first column block. -/
def fillsP : (n b : ℕ) → (h : b + n ≤ 40) → Prog (TpuEff nD τ sig (Elt F) Λ₀ .tc) PUnit
  | 0, _, _ => pure ⟨⟩
  | n + 1, b, h => do
    fillP arg5 arg6 b (by omega) 0
    fillP arg5 arg6 b (by omega) 1
    fillsP n (b + 1) (by omega)

theorem offOut_inb (b : ℕ) (h : b < 40) : ∀ a, (![0, 256 * b] : Fin 2 → ℕ) a + S48x256.size a ≤ S48x10240.size a := by
  intro a
  fin_cases a
  · show 0 + 48 ≤ 48; omega
  · show 256 * b + 256 ≤ 10240; omega

theorem packedOut' : ∀ b : Fin 40, (Rect.unit (s := S48x10240) ![0, 256 * b.val] S48x256.size
    (offOut_inb b.val b.isLt)).PackedRows (EltTy.packing .bf16) := by decide

theorem packedOut (b : ℕ) (h : b < 40) : (Rect.unit (s := S48x10240) ![0, 256 * b] S48x256.size
    (offOut_inb b h)).PackedRows (EltTy.packing .bf16) := packedOut' ⟨b, h⟩

/-- Take block `b`'s accumulator out of its matrix unit and store it. -/
def popP (b : ℕ) (hb : b < 40) (mx : Mxu F) : Prog (TpuEff nD τ sig (Elt F) Λ₀ .tc) (Mxu F) := do
  let _ ← (Prog.lift (.load arg3 (Rect.unit (s := S48x10240) ![0, 256 * b] S48x256.size (offOut_inb b hb)).toLoadRect
    (View.loadsAt_vmem h_S48x256)) : Prog (TpuEff nD τ sig (Elt F) Λ₀ .tc) (Vec F S48x256 .bf16))
  Prog.lift (.store arg3 (Rect.unit (s := S48x10240) ![0, 256 * b] S48x256.size (offOut_inb b hb))
    (k0_pay508 (mx.read (unitOf b) (12 * (b / 2)) (fitsBlk b hb))) Finset.univ
    (View.stores_vmem h_S48x256 (harg3.storeExact_slice rfl _ (packedOut b hb)) (fun _ => rfl)) (.inl rfl))
  pure (mx.pop (unitOf b) (12 * (b / 2)) 48 (fitsBlk b hb))

/-- The pops of blocks `b, …`. -/
def popsP : (n b : ℕ) → (h : b + n ≤ 40) → Mxu F → Prog (TpuEff nD τ sig (Elt F) Λ₀ .tc) (Mxu F)
  | 0, _, _, mx => pure mx
  | n + 1, b, h, mx => do
    let mx' ← popP arg3 harg3 b (by omega) mx
    popsP n (b + 1) (by omega) mx'

/-- The tail's pop. -/
def popTail (mx : Mxu F) : Prog (TpuEff nD τ sig (Elt F) Λ₀ .tc) (Mxu F) := do
  let _ ← (Prog.lift (.load arg4 (Rect.unit (s := S48x128) ![0, 0] S48x128.size inb_S48x128_S48x128_0_0).toLoadRect
    (View.loadsAt_vmem h_S48x128)) : Prog (TpuEff nD τ sig (Elt F) Λ₀ .tc) (Vec F S48x128 .bf16))
  Prog.lift (.store arg4 (Rect.unit (s := S48x128) ![0, 0] S48x128.size inb_S48x128_S48x128_0_0)
    (k0_pay4 (mx.read 1 240 fits_240_48)) Finset.univ
    (View.stores_vmem h_S48x128 (harg4.storeExact_slice rfl _ packedbf16_S48x128_S48x128_0_0) (fun _ => rfl)) (.inl rfl))
  pure (mx.pop 1 240 48 fits_240_48)

/-- What follows the loop. -/
def epiP (mx : Mxu F) : Prog (TpuEff nD τ sig (Elt F) Λ₀ .tc) PUnit := do
  let mx' ← popsP arg3 harg3 40 0 (by omega) mx
  let mx'' ← popTail arg4 harg4 mx'
  mx''.exit
  pure ⟨⟩

/-- What precedes the loop. -/
def proP : Prog (TpuEff nD τ sig (Elt F) Λ₀ .tc) PUnit := do
  dmaP arg0 arg5 arg7 0 0 (by omega) (by omega)
  dmaP arg0 arg5 arg7 1 1 (by omega) (by omega)
  dmaP arg0 arg5 arg7 2 2 (by omega) (by omega)
  dmaP arg0 arg5 arg7 3 3 (by omega) (by omega)
  dmaP arg0 arg5 arg7 4 4 (by omega) (by omega)
  dmaP arg0 arg5 arg7 5 5 (by omega) (by omega)
  dmaW arg0 arg5 arg7 0 0 (by omega) (by omega)
  fillsP arg5 arg6 40 0 (by omega)
  fillTail arg5 arg6 0
  fillTail arg5 arg6 1

/-- The whole kernel. -/
def wholeP : Prog (TpuEff nD τ sig (Elt F) Λ₀ .tc) PUnit := do
  proP arg0 arg5 arg6 arg7
  let mx ← Scf.Loop.for k0_t1_loop k0_t1_ok Mxu.init (fun t mx => tripP arg0 arg1 arg2 arg5 arg6 arg7 (k0_pay413) t mx)
  epiP arg3 harg3 arg4 harg4 mx

end Cert.KernelIdeal.Blocks
-- ==== Proof.KernelIdeal.Own.lean ====
module

public import proofs.«01_k».proof.Proof.KernelIdeal.Whole
public import proofs.«01_k».proof.Proof.Gen.KernelIdeal.Launch
public import proofs.«01_k».proof.Proof.Gen.KernelIdeal.Points
public import Idealize.ShloMosaic.Lib.Pipeline.FrameBody
public import Idealize.ShloMosaic.Lib.Transfers
public import Idealize.ShloMosaic.Lib.Tactic

/-! Steps of a program over an owned memref: what a load reads, what a store leaves, and the copies between two memrefs.
Every rule takes the resource, gives it back to the continuation, and is used at the head of a program. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

/-- A program run on core `c` ends in `Q`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem WP_bind (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p (fun a => WP c (k a) Q) := Idealize.SL.Sem.wp_bind _ _ _ _ _ _

theorem WP_ret (c : Dev nD) {α : Type} (a : α) (Q : α → sProp 𝕄) : Q a ⊢ WP c (pure a) Q := fupd_intro

variable {s : Shape} {e : EltTy} {α : Type}

/-- A load reads the owned contents under its rectangle. -/
theorem own_load (c : Dev nD) (m : Memref sig .tc .vmem s e) (r : Rect s) {hl : m.view.LoadsAt r.toLoadRect}
    (q : PosShare TreeShare) (X : s.Idx → Elt F e)
    (k : (r.shape.Idx → Elt F e) → Prog (TpuEff nD τ sig (Elt F) Λ₀ .tc) α) (Q : α → sProp 𝕄) :
    (owns (c : Thread nD τ) m q X : sProp 𝕄)
      ⊢ iprop((owns (c : Thread nD τ) m q X -∗ WP c (k (fun i => X (r.emb i))) Q)
        -∗ WP c (Prog.lift (.load m r.toLoadRect hl) >>= k) Q) := by
  unfold owns
  iintro ⟨%f, %hf, H⟩ HK
  iapply (wp_load (Val := Elt F) (Λ := Λ₀) (cs := .vmem) (defs := defs₀) Variants.none (c : Thread nD τ) none Set.univ (m := m) (r := r.toLoadRect)
    (hl := hl) (m.view.setOn_subset_set _)) $$ H
  iintro H
  have hv : m.view.readAt (Elt F) r.toLoadRect f = fun i => X (r.emb i) := by
    subst hf; rfl
  rw [hv]
  iapply HK
  iexists f
  isplitr
  · ipureintro; exact hf
  · iexact H

/-- A store leaves its payload under its rectangle and the rest as it was. -/
theorem own_store (c : Dev nD) (m : Memref sig .tc .vmem s e) (r : Rect s) (w : r.shape.Idx → Elt F e)
    {hx : (m.access r).Stores Finset.univ} {hm : (Finset.univ : Finset r.shape.Idx) = Finset.univ ∨ ∀ a, r.stride a = 1}
    (X : s.Idx → Elt F e) (k : PUnit → Prog (TpuEff nD τ sig (Elt F) Λ₀ .tc) α) (Q : α → sProp 𝕄) :
    (owns (c : Thread nD τ) m fullShare X : sProp 𝕄)
      ⊢ iprop((owns (c : Thread nD τ) m fullShare (r.overlay X w) -∗ WP c (k ⟨⟩) Q)
        -∗ WP c (Prog.lift (.store m r w Finset.univ hx hm) >>= k) Q) := by
  unfold owns
  iintro ⟨%f, %hf, H⟩ HK
  iapply (wp_store (Val := Elt F) (Λ := Λ₀) (cs := .vmem) (defs := defs₀) Variants.none (c : Thread nD τ) none Set.univ (m := m) (r := r) (w := w)
    (hx := hx) (hm := hm) (S := m.view.set) (m.view.set_slice_subset r)) $$ H
  iintro H
  iapply HK
  iexists ((m.access r).write (Elt F) f w Finset.univ)
  isplitr
  · ipureintro
    subst hf
    funext j
    by_cases hj : j ∈ r.set
    · rw [← Rect.map_emb_univ, Finset.mem_map] at hj
      obtain ⟨i, -, rfl⟩ := hj
      rw [Rect.overlay_emb]
      have := congrFun (View.read_write_univ (Val := Elt F) (v := m.access r) f w) i
      exact this
    · rw [Rect.overlay_of_not_mem _ _ _ hj]
      have hn : m.view.emb j ∉ (m.access r).set := by
        intro h
        rw [show (m.access r).set = r.set.map m.view.emb from View.set_slice _ _, Finset.mem_map] at h
        obtain ⟨j', hj', h⟩ := h
        exact hj (m.view.emb.injective h ▸ hj')
      rw [View.read_apply, View.read_apply, View.write_of_not_mem _ _ _ hn]
  · iexact H

end Cert.KernelIdeal.Blocks
-- ==== Proof.KernelIdeal.Ring.lean ====
module

public import proofs.«01_k».proof.Proof.KernelIdeal.Own

/-! The ring of six slots the packed weights are copied through. Each slot either holds a copy in flight or is idle with
known contents; every column block of the weights not being copied is held. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg5 : Memref sig .tc .vmem S6x1296x256 .i32)
  (arg7 : DmaSems sig S6) (c : Dev nD) (G : S1296x10496.Idx → Elt F .i32) {α : Type}

/-- Column block `j` of the packed weights `G`. -/
def srcV (j : Fin 41) : S1296x256.Idx → Elt F .i32 :=
  fun i => G ((Rect.unit (s := S1296x10496) ![0, 256 * j.val] S1296x256.size (offSrc_inb j.val j.isLt)).emb i)

/-- Column block `j` of the weights, owned. -/
def srcR (j : Fin 41) : sProp 𝕄 := owns (c : Thread nD τ) (srcM arg0 j.val j.isLt) fullShare (srcV G j)

/-- What is held of slot `s`: a copy in flight, or the slot at contents `X` and its semaphore at zero. -/
def slotR (s : Fin 6) (o : Option (Fin 41)) (X : S1296x256.Idx → Elt F .i32) : sProp 𝕄 :=
  match o with
  | some j => Transfers.Flight (countersEmb (U := Pipeline.UD sig nD τ)) (c : Thread nD τ) (.dma (semM arg7 s.val s.isLt)) ()
      (slotM arg5 s.val s.isLt).view.dmaCredit
      iprop(owns (c : Thread nD τ) (slotM arg5 s.val s.isLt) fullShare (srcV G j) ∗ srcR arg0 c G j)
  | none => iprop(owns (c : Thread nD τ) (slotM arg5 s.val s.isLt) fullShare X
      ∗ semVal ((c : Thread nD τ), SemLoc.dma (semM arg7 s.val s.isLt)) 0)

/-- The column block `j`, unless it is being copied. -/
def homeR (σ : Fin 6 → Option (Fin 41)) (j : Fin 41) : sProp 𝕄 :=
  if ∃ s, σ s = some j then iprop(emp) else srcR arg0 c G j

/-- The ring with copies `σ` in flight and idle slots at `X`. -/
def ringR (σ : Fin 6 → Option (Fin 41)) (X : Fin 6 → S1296x256.Idx → Elt F .i32) : sProp 𝕄 :=
  iprop(bigSep Finset.univ (fun s => slotR arg0 arg5 arg7 c G s (σ s) (X s))
    ∗ bigSep Finset.univ (fun j => homeR arg0 c G σ j))

theorem slotR_some (s : Fin 6) (j : Fin 41) (X : S1296x256.Idx → Elt F .i32) :
    slotR arg0 arg5 arg7 c G s (some j) X = Transfers.Flight (countersEmb (U := Pipeline.UD sig nD τ)) (c : Thread nD τ)
      (.dma (semM arg7 s.val s.isLt)) () (slotM arg5 s.val s.isLt).view.dmaCredit
      iprop(owns (c : Thread nD τ) (slotM arg5 s.val s.isLt) fullShare (srcV G j) ∗ srcR arg0 c G j) := rfl

theorem slotR_none (s : Fin 6) (X : S1296x256.Idx → Elt F .i32) :
    slotR arg0 arg5 arg7 c G s none X = iprop(owns (c : Thread nD τ) (slotM arg5 s.val s.isLt) fullShare X
      ∗ semVal ((c : Thread nD τ), SemLoc.dma (semM arg7 s.val s.isLt)) 0) := rfl

/-- One element of a finite family taken out. -/
theorem univ_split {I : Type} [Fintype I] [DecidableEq I] (Φ : I → sProp 𝕄) (i : I) :
    bigSep Finset.univ Φ = iprop(Φ i ∗ bigSep (Finset.univ.erase i) Φ) := bigSep_univ_split i

/-- The slot `s` taken out of the ring's slots, and the others unchanged when `s` changes. -/
theorem slots_split (s : Fin 6) (σ σ' : Fin 6 → Option (Fin 41)) (X X' : Fin 6 → S1296x256.Idx → Elt F .i32)
    (hσ : ∀ s', s' ≠ s → σ' s' = σ s') (hX : ∀ s', s' ≠ s → X' s' = X s') :
    bigSep (Finset.univ.erase s) (fun s => slotR arg0 arg5 arg7 c G s (σ s) (X s))
      = bigSep (Finset.univ.erase s) (fun s => slotR arg0 arg5 arg7 c G s (σ' s) (X' s)) :=
  bigSep_congr fun s' hs' => by
    rw [hσ s' (Finset.ne_of_mem_erase hs'), hX s' (Finset.ne_of_mem_erase hs')]

theorem homes_split (j : Fin 41) (σ σ' : Fin 6 → Option (Fin 41))
    (h : ∀ j', j' ≠ j → ((∃ s, σ s = some j') ↔ ∃ s, σ' s = some j')) :
    bigSep (Finset.univ.erase j) (fun j => homeR arg0 c G σ j)
      = bigSep (Finset.univ.erase j) (fun j => homeR arg0 c G σ' j) :=
  bigSep_congr fun j' hj' => by
    unfold homeR
    exact if_congr (h j' (Finset.ne_of_mem_erase hj')) rfl rfl

/-- The start of a copy, between two owned memrefs. -/
theorem own_dma (s : Fin 6) (j : Fin 41) (X : S1296x256.Idx → Elt F .i32)
    (k : PUnit → Prog (TpuEff nD τ sig (Elt F) Λ₀ .tc) α) (Q : α → sProp 𝕄) :
    iprop(slotR arg0 arg5 arg7 c G s none X ∗ srcR arg0 c G j)
      ⊢ iprop((slotR arg0 arg5 arg7 c G s (some j) X -∗ WP c (k ⟨⟩) Q)
        -∗ WP c (dmaP (F := F) arg0 arg5 arg7 j.val s.val j.isLt s.isLt >>= k) Q) := by
  rw [slotR_none, slotR_some]
  unfold srcR owns dmaP
  iintro ⟨⟨⟨%fd, %hfd, Hd⟩, Hv⟩, ⟨%fs, %hfs, Hs⟩⟩ HK
  iapply (Transfers.wp_dmaLocal (countersEmb (U := Pipeline.UD sig nD τ)) (defs := defs₀ (F := F)) Variants.none (c : Thread nD τ) none ()
    (slotM arg5 s.val s.isLt).view.dmaCredit (src := srcM arg0 j.val j.isLt) (dst := slotM arg5 s.val s.isLt)
    (sm := .dma (semM arg7 s.val s.isLt)) rfl (View.dmaCredit_pos _ (by decide)) (Finset.Subset.refl _) (q := fullShare) (fs := fs) (fd := fd))
    $$ [Hs Hd Hv]
  · isplitl [Hs]; · iexact Hs
    isplitl [Hd]; · iexact Hd
    iexact Hv
  iintro HF
  iapply HK
  iapply (Transfers.Flight_mono (countersEmb (U := Pipeline.UD sig nD τ)) (c : Thread nD τ) ?_) $$ HF
  iintro ⟨Hd, Hs⟩
  isplitl [Hd]
  · iexists _
    isplitr
    swap; · iexact Hd
    ipureintro
    rw [View.read_write_univ, hfs]
  · iexists fs
    isplitr
    · ipureintro; exact hfs
    · iexact Hs

/-- The wait for a copy. -/
theorem own_wait (s : Fin 6) (j : Fin 41) (X : S1296x256.Idx → Elt F .i32) (W : Waits sig Unit)
    (k : PUnit → Prog (TpuEff nD τ sig (Elt F) Λ₀ .tc) α) (Q : α → sProp 𝕄) :
    iprop(slotR arg0 arg5 arg7 c G s (some j) X ∗ owes (c : Thread nD τ) 0 W)
      ⊢ iprop((iprop(slotR arg0 arg5 arg7 c G s none (srcV G j) ∗ srcR arg0 c G j ∗ ∃ W', owes (c : Thread nD τ) 0 W') -∗ WP c (k ⟨⟩) Q)
        -∗ WP c (dmaW (F := F) arg0 arg5 arg7 j.val s.val j.isLt s.isLt >>= k) Q) := by
  rw [slotR_none, slotR_some]
  unfold dmaW
  iintro ⟨HF, HW⟩ HK
  iapply (Transfers.wp_waitLocal (countersEmb (U := Pipeline.UD sig nD τ)) (defs := defs₀ (F := F)) Variants.none (c : Thread nD τ) none
    (sem := semM arg7 s.val s.isLt) (srcw := srcM arg0 j.val j.isLt) (dstw := slotM arg5 s.val s.isLt) () rfl) $$ [HF HW]
  · isplitl [HF]; · iexact HF
    iexact HW
  iintro ⟨⟨Hd, Hs⟩, Hv, HW⟩
  iapply HK
  isplitl [Hd Hv]
  · isplitl [Hd]; · iexact Hd
    iexact Hv
  isplitl [Hs]; · iexact Hs
  iexists _; iexact HW

/-- Starting the copy of column block `j` into the idle slot `s`. -/
theorem ring_start (s : Fin 6) (j : Fin 41) (σ σ' : Fin 6 → Option (Fin 41)) (X : Fin 6 → S1296x256.Idx → Elt F .i32)
    (hs : σ s = none) (hj : ∀ s', σ s' ≠ some j) (hσ : σ' = Function.update σ s (some j))
    (k : PUnit → Prog (TpuEff nD τ sig (Elt F) Λ₀ .tc) α) (Q : α → sProp 𝕄) :
    ringR arg0 arg5 arg7 c G σ X
      ⊢ iprop((ringR arg0 arg5 arg7 c G σ' X -∗ WP c (k ⟨⟩) Q)
        -∗ WP c (dmaP (F := F) arg0 arg5 arg7 j.val s.val j.isLt s.isLt >>= k) Q) := by
  unfold ringR
  have e1 : σ' s = some j := by rw [hσ, Function.update_self]
  have e2 : ∀ s', s' ≠ s → σ' s' = σ s' := fun s' h => by rw [hσ, Function.update_of_ne h]
  rw [univ_split (fun s => slotR arg0 arg5 arg7 c G s (σ s) (X s)) s, univ_split (fun s => slotR arg0 arg5 arg7 c G s (σ' s) (X s)) s,
    univ_split (fun j => homeR arg0 c G σ j) j, univ_split (fun j => homeR arg0 c G σ' j) j,
    slots_split arg0 arg5 arg7 c G s σ σ' X X e2 (fun _ _ => rfl),
    homes_split arg0 c G j σ σ' (fun j' hj' => by
      constructor
      · rintro ⟨s', h⟩
        exact ⟨s', by rw [e2 s' (fun e => by rw [e, hs] at h; exact absurd h (by simp))]; exact h⟩
      · rintro ⟨s', h⟩
        refine ⟨s', ?_⟩
        by_cases e : s' = s
        · rw [e, e1] at h; exact absurd (Option.some.inj h).symm hj'
        · rw [← e2 s' e]; exact h),
    show homeR arg0 c G σ j = srcR arg0 c G j from if_neg (fun ⟨s', h⟩ => hj s' h),
    show homeR arg0 c G σ' j = iprop(emp) from if_pos ⟨s, e1⟩, hs, e1]
  iintro ⟨⟨Hs, Hr⟩, ⟨Hj, Hh⟩⟩ HK
  iapply (own_dma arg0 arg5 arg7 c G s j (X s)) $$ [Hs Hj]
  · isplitl [Hs]; · iexact Hs
    iexact Hj
  iintro Hs
  iapply HK
  isplitl [Hs Hr]
  · isplitl [Hs]; · iexact Hs
    iexact Hr
  isplitr; · iempintro
  iexact Hh

/-- Waiting for the copy of column block `j` into slot `s`. -/
theorem ring_wait (s : Fin 6) (j : Fin 41) (σ σ' : Fin 6 → Option (Fin 41)) (X : Fin 6 → S1296x256.Idx → Elt F .i32)
    (hs : σ s = some j) (hj : ∀ s', s' ≠ s → σ s' ≠ some j) (hσ : σ' = Function.update σ s none)
    (k : PUnit → Prog (TpuEff nD τ sig (Elt F) Λ₀ .tc) α) (Q : α → sProp 𝕄) :
    iprop(ringR arg0 arg5 arg7 c G σ X ∗ (∃ W, owes (c : Thread nD τ) 0 W))
      ⊢ iprop((iprop(ringR arg0 arg5 arg7 c G σ' (Function.update X s (srcV G j)) ∗ (∃ W, owes (c : Thread nD τ) 0 W)) -∗ WP c (k ⟨⟩) Q)
        -∗ WP c (dmaW (F := F) arg0 arg5 arg7 j.val s.val j.isLt s.isLt >>= k) Q) := by
  unfold ringR
  have e1 : σ' s = none := by rw [hσ, Function.update_self]
  have e2 : ∀ s', s' ≠ s → σ' s' = σ s' := fun s' h => by rw [hσ, Function.update_of_ne h]
  rw [univ_split (fun s => slotR arg0 arg5 arg7 c G s (σ s) (X s)) s,
    univ_split (fun s' => slotR arg0 arg5 arg7 c G s' (σ' s') (Function.update X s (srcV G j) s')) s,
    univ_split (fun j => homeR arg0 c G σ j) j, univ_split (fun j => homeR arg0 c G σ' j) j,
    slots_split arg0 arg5 arg7 c G s σ σ' X (Function.update X s (srcV G j)) e2 (fun s' h => Function.update_of_ne h _ _),
    homes_split arg0 c G j σ σ' (fun j' hj' => by
      constructor
      · rintro ⟨s', h⟩
        exact ⟨s', by rw [e2 s' (fun e => by rw [e, hs] at h; exact hj' (Option.some.inj h).symm)]; exact h⟩
      · rintro ⟨s', h⟩
        refine ⟨s', ?_⟩
        by_cases e : s' = s
        · rw [e, e1] at h; exact absurd h (by simp)
        · rw [← e2 s' e]; exact h),
    show homeR arg0 c G σ j = iprop(emp) from if_pos ⟨s, hs⟩,
    show homeR arg0 c G σ' j = srcR arg0 c G j from if_neg (by
      rintro ⟨s', h⟩
      by_cases e : s' = s
      · rw [e, e1] at h; exact absurd h (by simp)
      · rw [e2 s' e] at h; exact hj s' e h), hs, e1, Function.update_self]
  iintro ⟨⟨⟨Hs, Hr⟩, ⟨-, Hh⟩⟩, ⟨%W, HW⟩⟩ HK
  iapply (own_wait arg0 arg5 arg7 c G s j (X s) W) $$ [Hs HW]
  · isplitl [Hs]; · iexact Hs
    iexact HW
  iintro ⟨Hs, Hj, HW⟩
  iapply HK
  isplitr [HW]
  · isplitl [Hs Hr]
    · isplitl [Hs]; · iexact Hs
      iexact Hr
    isplitl [Hj]; · iexact Hj
    iexact Hh
  · iexact HW

end Cert.KernelIdeal.Blocks
-- ==== Proof.KernelIdeal.Stage.lean ====
module

public import proofs.«01_k».proof.Proof.KernelIdeal.Whole
public import Idealize.ShloMosaic.Lib.Memref

/-! What a trip computes, as values: the words staged from a column block of the packed weights, the tiles made of staged
words, and the state of the matrix unit after a trip. -/

@[expose] public section

set_option maxRecDepth 16384

noncomputable section

namespace Cert.KernelIdeal.Blocks

open Cert.KernelIdeal Cert.KernelIdeal.Gen
open Idealize.ShloMosaic

variable {F : FTy → Type} [FloatOps F]

/-- Row `r`, lane `l` of a slot (taken modulo the sizes, so that it is an index whatever `r` and `l` are). -/
def idx2 (r l : ℕ) : S1296x256.Idx := fun a =>
  match a with
  | ⟨0, _⟩ => (⟨r % 1296, Nat.mod_lt _ (by decide)⟩ : Fin 1296)
  | ⟨1, _⟩ => (⟨l % 256, Nat.mod_lt _ (by decide)⟩ : Fin 256)

/-- Thirty-two rows of a slot's contents, half `gg`. -/
def rowV (X : S1296x256.Idx → Elt F .i32) (row : ℕ) (gg : Fin 2) : Vec F S1x32x128 .i32 :=
  fun i => X (idx2 (row + (i 1).val) (gg.val * 128 + (i 2).val))

/-- The last sixteen rows of a slot's contents, half `gg`. -/
def rowV16 (X : S1296x256.Idx → Elt F .i32) (row : ℕ) (gg : Fin 2) : Vec F S1x16x128 .i32 :=
  fun i => X (idx2 (row + (i 1).val) (gg.val * 128 + (i 2).val))

/-- The place within its half of a staged word. -/
def restI (i : S41x2x32x128.Idx) : S1x1x32x128.Idx := fun a =>
  match a with
  | ⟨0, _⟩ => (⟨0, by decide⟩ : Fin 1)
  | ⟨1, _⟩ => (⟨0, by decide⟩ : Fin 1)
  | ⟨2, _⟩ => (i 2 : Fin 32)
  | ⟨3, _⟩ => (i 3 : Fin 128)

/-- The words a trip stages from a slot at `X`. -/
def stagedV (X : S1296x256.Idx → Elt F .i32) : S41x2x32x128.Idx → Elt F .i32 := fun i =>
  if (i 0).val < 40 then k0_pay13 (F := F) (rowV X (32 * (i 0).val) (i 1)) (restI i)
  else k0_pay410 (F := F) (rowV16 X 1280 (i 1)) (restI i)

/-- The staging array when `n` halves have been staged anew. -/
def mixV (n : ℕ) (old new : S41x2x32x128.Idx → Elt F .i32) : S41x2x32x128.Idx → Elt F .i32 :=
  fun i => if 2 * (i 0).val + (i 1).val < n then new i else old i

/-- The rectangle of half `gg` of block `b`. -/
abbrev rectT (b : ℕ) (gg : Fin 2) (h : b < 41) : Rect S41x2x32x128 :=
  Rect.unit (s := S41x2x32x128) ![b, gg.val, 0, 0] S1x1x32x128.size (offT_inb b gg h)

/-- The staged words of half `gg` of block `b`. -/
def wordsV (old : S41x2x32x128.Idx → Elt F .i32) (b : ℕ) (gg : Fin 2) (h : b < 41) : Vec F S1x1x32x128 .i32 :=
  fun i => old ((rectT b gg h).emb i)

theorem rectT_emb0 (b : ℕ) (gg : Fin 2) (h : b < 41) (i : S1x1x32x128.Idx) : (((rectT b gg h).emb i) 0).val = b := by
  have h0 : (i 0).val < 1 := (i 0).isLt
  show b + 1 * (i 0).val = b
  omega

theorem rectT_emb1 (b : ℕ) (gg : Fin 2) (h : b < 41) (i : S1x1x32x128.Idx) : ((rectT b gg h).emb i) 1 = gg := by
  have h0 : (i 1).val < 1 := (i 1).isLt
  apply Fin.ext
  show gg.val + 1 * (i 1).val = gg.val
  omega

theorem restI_emb (b : ℕ) (gg : Fin 2) (h : b < 41) (i : S1x1x32x128.Idx) : restI ((rectT b gg h).emb i) = i := by
  have h0 : (i 0).val < 1 := (i 0).isLt
  have h1 : (i 1).val < 1 := (i 1).isLt
  funext a
  apply Fin.ext
  fin_cases a
  · show 0 = (i 0).val; omega
  · show 0 = (i 1).val; omega
  · show 0 + 1 * (i 2).val = (i 2).val; omega
  · show 0 + 1 * (i 3).val = (i 3).val; omega

theorem mem_rectT (b : ℕ) (gg : Fin 2) (h : b < 41) (j : S41x2x32x128.Idx) :
    j ∈ (rectT b gg h).set ↔ (j 0).val = b ∧ j 1 = gg := by
  constructor
  · intro hj
    rw [← Rect.map_emb_univ, Finset.mem_map] at hj
    obtain ⟨i, -, rfl⟩ := hj
    exact ⟨rectT_emb0 b gg h i, rectT_emb1 b gg h i⟩
  · rintro ⟨h0, h1⟩
    rw [← Rect.map_emb_univ, Finset.mem_map]
    refine ⟨restI j, Finset.mem_univ _, ?_⟩
    funext a
    apply Fin.ext
    fin_cases a
    · show b + 1 * 0 = (j 0).val; omega
    · show gg.val + 1 * 0 = (j 1).val; rw [h1]; omega
    · show 0 + 1 * (j 2).val = (j 2).val; omega
    · show 0 + 1 * (j 3).val = (j 3).val; omega

/-- A half not staged anew yet still holds the old words. -/
theorem mixV_words (n : ℕ) (old new : S41x2x32x128.Idx → Elt F .i32) (b : ℕ) (gg : Fin 2) (h : b < 41)
    (hn : n ≤ 2 * b + gg.val) :
    (fun i => mixV n old new ((rectT b gg h).emb i)) = wordsV old b gg h := by
  funext i
  unfold mixV wordsV
  rw [rectT_emb0, rectT_emb1, if_neg (by omega)]

/-- Staging half `gg` of block `b`. -/
theorem mixV_overlay (n : ℕ) (old new : S41x2x32x128.Idx → Elt F .i32) (b : ℕ) (gg : Fin 2) (h : b < 41)
    (hn : n = 2 * b + gg.val) (w : (rectT b gg h).shape.Idx → Elt F .i32)
    (hw : ∀ i, new ((rectT b gg h).emb i) = w i) :
    (rectT b gg h).overlay (mixV n old new) w = mixV (n + 1) old new := by
  funext j
  by_cases hj : j ∈ (rectT b gg h).set
  · have hj' := (mem_rectT b gg h j).mp hj
    rw [← Rect.map_emb_univ, Finset.mem_map] at hj
    obtain ⟨i, -, rfl⟩ := hj
    rw [Rect.overlay_emb, ← hw i]
    unfold mixV
    rw [if_pos (by rw [hj'.1, hj'.2]; omega)]
  · rw [Rect.overlay_of_not_mem _ _ _ hj]
    rw [mem_rectT] at hj
    unfold mixV
    have h1 : (j 1).val < 2 := (j 1).isLt
    have h2 := gg.isLt
    have : 2 * (j 0).val + (j 1).val ≠ n := fun e => hj ⟨by omega, Fin.ext (by omega)⟩
    by_cases hlt : 2 * (j 0).val + (j 1).val < n
    · rw [if_pos hlt, if_pos (by omega)]
    · rw [if_neg hlt, if_neg (by omega)]

theorem stagedV_half (X : S1296x256.Idx → Elt F .i32) (b : ℕ) (gg : Fin 2) (h : b < 40) (i : S1x1x32x128.Idx) :
    stagedV X ((rectT b gg (by omega)).emb i) = k0_pay13 (F := F) (rowV X (32 * b) gg) i := by
  unfold stagedV
  rw [rectT_emb0, rectT_emb1, restI_emb, if_pos h]

theorem stagedV_tail (X : S1296x256.Idx → Elt F .i32) (gg : Fin 2) (i : S1x1x32x128.Idx) :
    stagedV X ((rectT 40 gg (by omega)).emb i) = k0_pay410 (F := F) (rowV16 X 1280 gg) i := by
  unfold stagedV
  rw [rectT_emb0, rectT_emb1, restI_emb, if_neg (by omega)]

theorem mixV_zero (old new : S41x2x32x128.Idx → Elt F .i32) : mixV 0 old new = old := by
  funext i; exact if_neg (by omega)

theorem mixV_all (old new : S41x2x32x128.Idx → Elt F .i32) : mixV 82 old new = new := by
  funext i
  have h0 : (i 0).val < 41 := (i 0).isLt
  have h1 : (i 1).val < 2 := (i 1).isLt
  exact if_pos (by omega)

/-! ## The tiles and the matrix unit -/

/-- A row of the table of zero points and scales. -/
def tabV (T : S82x4x5248.Idx → Elt F .bf16) (t : Fin k0_t1_loop.trips) (gg : Fin 2) (r lane : ℕ) (hr : r < 4)
    (hl : lane + 128 ≤ 5248) : Vec F S1x1x128 .bf16 :=
  fun i => T ((Rect.unit (s := S82x4x5248) (offTab t gg r lane) S1x1x128.size (offTab_inb t gg r lane hr hl)).emb i)

/-- The slab of activations of a trip. -/
def slabV (A : S41x48x256.Idx → Elt F .bf16) (t : Fin k0_t1_loop.trips) : Vec F S1x48x256 .bf16 :=
  fun i => A ((Rect.unit (s := S41x48x256) (k0_off7 t) S1x48x256.size (k0_off7_inb t)).emb i)

/-- The tile half `gg` of block `b`. -/
def halfV (T : S82x4x5248.Idx → Elt F .bf16) (old : S41x2x32x128.Idx → Elt F .i32) (t : Fin k0_t1_loop.trips) (b : ℕ)
    (hb : b < 40) (gg : Fin 2) : FVec F S128x256 .bf16 :=
  k0_pay12 (wordsV old b gg (by omega)) (tabV T t gg 0 (128 * b) (by omega) (by omega))
    (tabV T t gg 2 (128 * b) (by omega) (by omega)) (tabV T t gg 1 (128 * b) (by omega) (by omega))
    (tabV T t gg 3 (128 * b) (by omega) (by omega))

/-- The tail's tile half `gg`. -/
def halfTailV (T : S82x4x5248.Idx → Elt F .bf16) (old : S41x2x32x128.Idx → Elt F .i32) (t : Fin k0_t1_loop.trips)
    (gg : Fin 2) : FVec F S128x256 .bf16 :=
  k0_pay412 (k0_pay411 k0_pay413 (wordsV old 40 gg (by omega)) (tabV T t gg 0 5120 (by omega) (by omega))
    (tabV T t gg 2 5120 (by omega) (by omega)))

/-- The matrix unit after block `b`. -/
def blkV (T : S82x4x5248.Idx → Elt F .bf16) (old : S41x2x32x128.Idx → Elt F .i32) (t : Fin k0_t1_loop.trips)
    (x : FVec F S48x256 .bf16) (b : ℕ) (hb : b < 40) (mx : Mxu F) : Mxu F :=
  (mx.pushed (unitOf b) (regOf b) false (k0_pay14 (halfV T old t b hb 0) (halfV T old t b hb 1))).accLhs
    (unitOf b) (regOf b) (12 * (b / 2)) x (fitsBlk b hb)

/-- The matrix unit after blocks `b, …`. -/
def blksV (T : S82x4x5248.Idx → Elt F .bf16) (old : S41x2x32x128.Idx → Elt F .i32) (t : Fin k0_t1_loop.trips)
    (x : FVec F S48x256 .bf16) : (n b : ℕ) → (h : b + n ≤ 40) → Mxu F → Mxu F
  | 0, _, _, mx => mx
  | n + 1, b, h, mx => blksV T old t x n (b + 1) (by omega) (blkV T old t x b (by omega) mx)

/-- The matrix unit after the tail block. -/
def tailV (T : S82x4x5248.Idx → Elt F .bf16) (old : S41x2x32x128.Idx → Elt F .i32) (t : Fin k0_t1_loop.trips)
    (x : FVec F S48x256 .bf16) (mx : Mxu F) : Mxu F :=
  (mx.pushed 1 0 false (k0_pay507 (halfTailV T old t 0) (halfTailV T old t 1))).accLhs 1 0 240 x fits_240_48

/-- The matrix unit after a trip. -/
def tripV (T : S82x4x5248.Idx → Elt F .bf16) (A : S41x48x256.Idx → Elt F .bf16) (old : S41x2x32x128.Idx → Elt F .i32)
    (t : Fin k0_t1_loop.trips) (mx : Mxu F) : Mxu F :=
  tailV T old t (k0_pay5 (slabV A t)) (blksV T old t (k0_pay5 (slabV A t)) 40 0 (by omega) mx)

/-- No register of the matrix unit holds a tile. -/
def Bare (mx : Mxu F) : Prop := ∀ q r, mx.reg q r = none

theorem Bare.step {mx : Mxu F} (h : Bare mx) (q r : Fin 2) (A : ℕ) (v : FVec F (Mxu.STile 256) .bf16)
    (x : FVec F S48x256 .bf16) (hf : Mxu.Fits A 48) : Bare ((mx.pushed q r false v).accLhs q r A x hf) := by
  intro q' r'
  have e : mx.pushed q r false v = { mx with reg := fun q' r' => if q' = q ∧ r' = r then some ⟨.bf16, false, v⟩ else mx.reg q' r' } := by
    unfold Mxu.pushed; rw [h q r]
  rw [e]
  show (if q' = q ∧ r' = r then none else if q' = q ∧ r' = r then some _ else mx.reg q' r') = none
  by_cases hq : q' = q ∧ r' = r
  · rw [if_pos hq]
  · rw [if_neg hq, if_neg hq]; exact h q' r'

theorem Bare.ok {mx : Mxu F} (h : Bare mx) (q r : Fin 2) : mx.PushOk q r false := by
  intro t ht
  rw [h q r] at ht
  cases ht

theorem Bare.blks {T : S82x4x5248.Idx → Elt F .bf16} {old : S41x2x32x128.Idx → Elt F .i32} {t : Fin k0_t1_loop.trips}
    {x : FVec F S48x256 .bf16} : ∀ (n b : ℕ) (h : b + n ≤ 40) (mx : Mxu F), Bare mx → Bare (blksV T old t x n b h mx)
  | 0, _, _, _, hm => hm
  | n + 1, b, h, mx, hm => Bare.blks n (b + 1) _ _ (Bare.step hm _ _ _ _ _ _)

theorem Bare.trip {T : S82x4x5248.Idx → Elt F .bf16} {A : S41x48x256.Idx → Elt F .bf16}
    {old : S41x2x32x128.Idx → Elt F .i32} {t : Fin k0_t1_loop.trips} {mx : Mxu F} (h : Bare mx) :
    Bare (tripV T A old t mx) :=
  Bare.step (Bare.blks 40 0 _ _ h) _ _ _ _ _ _

end Cert.KernelIdeal.Blocks
-- ==== Proof.KernelIdeal.Trip.lean ====
module

public import proofs.«01_k».proof.Proof.KernelIdeal.Ring
public import proofs.«01_k».proof.Proof.KernelIdeal.Stage
public import Idealize.ShloMosaic.Lib.Mxu.Lemmas

/-! The blocks of a trip, run: from the staged words and the slot just copied, the matrix unit moves as `tripV` says and
the slot's words take the staged words' place. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg1 : Memref sig .tc .vmem S82x4x5248 .bf16)
  (arg2 : Memref sig .tc .vmem S41x48x256 .bf16) (arg5 : Memref sig .tc .vmem S6x1296x256 .i32)
  (arg6 : Memref sig .tc .vmem S41x2x32x128 .i32) (arg7 : DmaSems sig S6) (c : Dev nD) {α : Type}

/-- Where a slot's view sends an index, as an index of the ring. -/
theorem slot_idx (s : ℕ) (h : s < 6) (y : S1296x256.Idx) (z : S6x1296x256.Idx) (h0 : (z 0).val = s)
    (h1 : (z 1).val = (y 0).val) (h2 : (z 2).val = (y 1).val) :
    (Rect.unit (s := S6x1296x256) ![s, 0, 0] S1x1296x256.size (offSlot_inb s h)).emb
      (Shape.reshapeEquiv (s := S1x1296x256) (s' := S1296x256) (squeezes_S1x1296x256_S1296x256.numel_eq) y) = z := by
  rw [show Shape.reshapeEquiv (s := S1x1296x256) (s' := S1296x256) (squeezes_S1x1296x256_S1296x256.numel_eq) y
    = Fin.cons ⟨0, Nat.one_pos⟩ y from Shape.reshapeEquiv_cons_one _ y]
  funext a
  apply Fin.ext
  fin_cases a
  · show s + 1 * 0 = (z 0).val; omega
  · show 0 + 1 * (y 0).val = (z 1).val; omega
  · show 0 + 1 * (y 1).val = (z 2).val; omega

theorem slot_emb (s : ℕ) (h : s < 6) (y : S1296x256.Idx) (z : S6x1296x256.Idx) (h0 : (z 0).val = s)
    (h1 : (z 1).val = (y 0).val) (h2 : (z 2).val = (y 1).val) :
    (slotM arg5 s h).view.emb y = arg5.view.emb z := by
  rw [← slot_idx s h y z h0 h1 h2]
  rfl

theorem slot_read (s : ℕ) (h : s < 6) (f : arg5.view.ty.Contents (Elt F)) (y : S1296x256.Idx) (z : S6x1296x256.Idx)
    (h0 : (z 0).val = s) (h1 : (z 1).val = (y 0).val) (h2 : (z 2).val = (y 1).val) :
    (slotM arg5 s h).view.read (Elt F) f y = arg5.view.read (Elt F) f z := by
  rw [← slot_idx s h y z h0 h1 h2]
  rfl

/-- A load from the ring reads the slot it falls into. -/
theorem slot_load (s : ℕ) (h : s < 6) (row lane H : ℕ) (off sz : Fin 3 → ℕ) (hoff : off = ![s, row, lane])
    (hsz : sz = ![1, H, 128]) (inb : ∀ a, off a + sz a ≤ S6x1296x256.size a)
    {hl : arg5.view.LoadsAt (Rect.unit (s := S6x1296x256) off sz inb).toLoadRect}
    (q : PosShare TreeShare) (X : S1296x256.Idx → Elt F .i32)
    (v : (Rect.unit (s := S6x1296x256) off sz inb).shape.Idx → Elt F .i32)
    (hv : ∀ i, v i = X (idx2 (row + (i 1).val) (lane + (i 2).val)))
    (k : ((Rect.unit (s := S6x1296x256) off sz inb).shape.Idx → Elt F .i32) → Prog (TpuEff nD τ sig (Elt F) Λ₀ .tc) α)
    (Q : α → sProp 𝕄) :
    (owns (c : Thread nD τ) (slotM arg5 s h) q X : sProp 𝕄)
      ⊢ iprop((owns (c : Thread nD τ) (slotM arg5 s h) q X -∗ WP c (k v) Q)
        -∗ WP c (Prog.lift (.load arg5 (Rect.unit (s := S6x1296x256) off sz inb).toLoadRect hl) >>= k) Q) := by
  subst hoff hsz
  have hz : ∀ i : (Rect.unit (s := S6x1296x256) ![s, row, lane] ![1, H, 128] inb).shape.Idx,
      (((Rect.unit (s := S6x1296x256) ![s, row, lane] ![1, H, 128] inb).emb i) 0).val = s
      ∧ (((Rect.unit (s := S6x1296x256) ![s, row, lane] ![1, H, 128] inb).emb i) 1).val
        = ((idx2 (row + (i 1).val) (lane + (i 2).val)) 0).val
      ∧ (((Rect.unit (s := S6x1296x256) ![s, row, lane] ![1, H, 128] inb).emb i) 2).val
        = ((idx2 (row + (i 1).val) (lane + (i 2).val)) 1).val := by
    intro i
    have i0 : (i 0).val < 1 := (i 0).isLt
    have i1 : (i 1).val < H := (i 1).isLt
    have i2 : (i 2).val < 128 := (i 2).isLt
    have b1 : row + H ≤ 1296 := inb 1
    have b2 : lane + 128 ≤ 256 := inb 2
    refine ⟨?_, ?_, ?_⟩
    · show s + 1 * (i 0).val = s; omega
    · show row + 1 * (i 1).val = (row + (i 1).val) % 1296
      rw [Nat.mod_eq_of_lt (by omega)]; omega
    · show lane + 1 * (i 2).val = (lane + (i 2).val) % 256
      rw [Nat.mod_eq_of_lt (by omega)]; omega
  have hemb := fun i => slot_emb arg5 s h _ _ (hz i).1 (hz i).2.1 (hz i).2.2
  rw [show (owns (c : Thread nD τ) (slotM arg5 s h) q X : sProp 𝕄)
    = iprop(∃ f, ⌜(slotM arg5 s h).view.read (Elt F) f = X⌝ ∗ (arg5.view.loc (c : Thread nD τ) ↦[(slotM arg5 s h).view.set]{q} f)) from rfl]
  iintro ⟨%f, %hf, H⟩ HK
  iapply (wp_load (Val := Elt F) (Λ := Λ₀) (cs := .vmem) (defs := defs₀) Variants.none (c : Thread nD τ) none Set.univ (m := arg5)
    (r := (Rect.unit (s := S6x1296x256) ![s, row, lane] ![1, H, 128] inb).toLoadRect)
    (S := (slotM arg5 s h).view.set) (q := q) (f := f) (hl := hl) (by
      intro x hx
      rw [View.setOn, Finset.mem_map] at hx
      obtain ⟨j, hj, rfl⟩ := hx
      have hj' : j ∈ (Rect.unit (s := S6x1296x256) ![s, row, lane] ![1, H, 128] inb).set := hj
      rw [← Rect.map_emb_univ, Finset.mem_map] at hj'
      obtain ⟨i, -, rfl⟩ := hj'
      rw [← hemb i]
      exact View.emb_mem_set _ _)) $$ H
  iintro H
  have hv' : arg5.view.readAt (Elt F) (Rect.unit (s := S6x1296x256) ![s, row, lane] ![1, H, 128] inb).toLoadRect f = v := by
    subst hf
    funext i
    rw [hv i]
    exact (slot_read arg5 s h f _ _ (hz i).1 (hz i).2.1 (hz i).2.2).symm
  rw [hv']
  iapply HK
  iexists f
  isplitr
  · ipureintro; exact hf
  · iexact H

/-- What a block works on: the table, the staging array with `n` halves staged anew, and the slot it stages from. -/
def workR (T : S82x4x5248.Idx → Elt F .bf16) (old : S41x2x32x128.Idx → Elt F .i32) (s : Fin 6)
    (X : S1296x256.Idx → Elt F .i32) (n : ℕ) : sProp 𝕄 :=
  iprop(owns (c : Thread nD τ) arg1 fullShare T ∗ owns (c : Thread nD τ) arg6 fullShare (mixV n old (stagedV X))
    ∗ owns (c : Thread nD τ) (slotM arg5 s.val s.isLt) fullShare X)

variable (T : S82x4x5248.Idx → Elt F .bf16) (old : S41x2x32x128.Idx → Elt F .i32) (s : Fin 6)
    (X : S1296x256.Idx → Elt F .i32) (t : Fin k0_t1_loop.trips) (ht : k0_off12 t 0 = s.val)

include ht

/-- One half of a block. -/
theorem half_wp (b : ℕ) (hb : b < 40) (gg : Fin 2) (n : ℕ) (hn : n = 2 * b + gg.val)
    (k : FVec F S128x256 .bf16 → Prog (TpuEff nD τ sig (Elt F) Λ₀ .tc) α) (Q : α → sProp 𝕄) :
    workR arg1 arg5 arg6 c T old s X n
      ⊢ iprop((workR arg1 arg5 arg6 c T old s X (n + 1) -∗ WP c (k (halfV T old t b hb gg)) Q)
        -∗ WP c (halfP arg1 arg5 arg6 t b hb gg >>= k) Q) := by
  unfold workR halfP ldT ldTab ldRow stT
  simp only [Prog.bind_assoc]
  iintro ⟨H1, H6, Hs⟩ HK
  iapply (own_load c arg6 (rectT b gg (by omega)) fullShare) $$ H6
  iintro H6
  rw [mixV_words n old (stagedV X) b gg (by omega) (by omega)]
  iapply (own_load c arg1 _ fullShare T) $$ H1
  iintro H1
  iapply (own_load c arg1 _ fullShare T) $$ H1
  iintro H1
  iapply (own_load c arg1 _ fullShare T) $$ H1
  iintro H1
  iapply (own_load c arg1 _ fullShare T) $$ H1
  iintro H1
  iapply (slot_load arg5 c s.val s.isLt (32 * b) (gg.val * 128) 32 (offRow t (32 * b) gg) S1x32x128.size
    (by unfold offRow; rw [ht]) rfl (offRow_inb t (32 * b) gg (by omega)) fullShare X (rowV X (32 * b) gg) (fun i => rfl)) $$ Hs
  iintro Hs
  iapply (own_load c arg6 (rectT b gg (by omega)) fullShare) $$ H6
  iintro H6
  iapply (own_store c arg6 (rectT b gg (by omega))) $$ H6
  iintro H6
  rw [mixV_overlay n old (stagedV X) b gg (by omega) hn _ (stagedV_half X b gg hb)]
  iapply HK
  isplitl [H1]; · iexact H1
  isplitl [H6]; · iexact H6
  iexact Hs

/-- One half of the tail block. -/
theorem halfTail_wp (gg : Fin 2) (n : ℕ) (hn : n = 80 + gg.val)
    (k : FVec F S128x256 .bf16 → Prog (TpuEff nD τ sig (Elt F) Λ₀ .tc) α) (Q : α → sProp 𝕄) :
    workR arg1 arg5 arg6 c T old s X n
      ⊢ iprop((workR arg1 arg5 arg6 c T old s X (n + 1) -∗ WP c (k (halfTailV T old t gg)) Q)
        -∗ WP c (halfTail arg1 arg5 arg6 k0_pay413 t gg >>= k) Q) := by
  unfold workR halfTail ldT ldTab ldRow16 stT
  simp only [Prog.bind_assoc]
  iintro ⟨H1, H6, Hs⟩ HK
  iapply (own_load c arg6 (rectT 40 gg (by omega)) fullShare) $$ H6
  iintro H6
  rw [mixV_words n old (stagedV X) 40 gg (by omega) (by omega)]
  iapply (own_load c arg1 _ fullShare T) $$ H1
  iintro H1
  iapply (own_load c arg1 _ fullShare T) $$ H1
  iintro H1
  iapply (slot_load arg5 c s.val s.isLt 1280 (gg.val * 128) 16 (offRow t 1280 gg) S1x16x128.size
    (by unfold offRow; rw [ht]) rfl (offRow_inb16 t 1280 gg (by omega)) fullShare X (rowV16 X 1280 gg) (fun i => rfl)) $$ Hs
  iintro Hs
  iapply (own_load c arg6 (rectT 40 gg (by omega)) fullShare) $$ H6
  iintro H6
  iapply (own_store c arg6 (rectT 40 gg (by omega))) $$ H6
  iintro H6
  rw [mixV_overlay n old (stagedV X) 40 gg (by omega) (by omega) _ (stagedV_tail X gg)]
  iapply HK
  isplitl [H1]; · iexact H1
  isplitl [H6]; · iexact H6
  iexact Hs

/-- One block. -/
theorem blk_wp (x : FVec F S48x256 .bf16) (b : ℕ) (hb : b < 40) (mx : Mxu F) (hm : Bare mx)
    (k : Mxu F → Prog (TpuEff nD τ sig (Elt F) Λ₀ .tc) α) (Q : α → sProp 𝕄) :
    workR arg1 arg5 arg6 c T old s X (2 * b)
      ⊢ iprop((workR arg1 arg5 arg6 c T old s X (2 * (b + 1)) -∗ WP c (k (blkV T old t x b hb mx)) Q)
        -∗ WP c (blkP arg1 arg5 arg6 t x b hb mx >>= k) Q) := by
  unfold blkP
  simp only [Prog.bind_assoc]
  iintro H HK
  iapply (half_wp arg1 arg5 arg6 c T old s X t ht b hb 0 (2 * b) rfl) $$ H
  iintro H
  iapply (half_wp arg1 arg5 arg6 c T old s X t ht b hb 1 (2 * b + 1) rfl) $$ H
  iintro H
  iapply (Mxu.wp_pushRhs _ (hm.ok _ _))
  iapply HK
  iexact H

/-- Blocks `b, …`. -/
theorem blks_wp (x : FVec F S48x256 .bf16) : ∀ (n b : ℕ) (h : b + n ≤ 40) (mx : Mxu F), Bare mx →
    ∀ (k : Mxu F → Prog (TpuEff nD τ sig (Elt F) Λ₀ .tc) α) (Q : α → sProp 𝕄),
    workR arg1 arg5 arg6 c T old s X (2 * b)
      ⊢ iprop((workR arg1 arg5 arg6 c T old s X (2 * (b + n)) -∗ WP c (k (blksV T old t x n b h mx)) Q)
        -∗ WP c (blksP arg1 arg5 arg6 t x n b h mx >>= k) Q)
  | 0, b, h, mx, hm, k, Q => by
    iintro H HK
    iapply HK
    iexact H
  | n + 1, b, h, mx, hm, k, Q => by
    unfold blksP blksV
    simp only [Prog.bind_assoc]
    iintro H HK
    iapply (blk_wp arg1 arg5 arg6 c T old s X t ht x b _ mx hm) $$ H
    iintro H
    iapply (blks_wp x n (b + 1) _ _ (Bare.step hm _ _ _ _ _ _) k Q) $$ H
    rw [show 2 * (b + 1 + n) = 2 * (b + (n + 1)) by omega]
    iexact HK

/-- The tail block. -/
theorem tail_wp (x : FVec F S48x256 .bf16) (mx : Mxu F) (hm : Bare mx)
    (k : Mxu F → Prog (TpuEff nD τ sig (Elt F) Λ₀ .tc) α) (Q : α → sProp 𝕄) :
    workR arg1 arg5 arg6 c T old s X 80
      ⊢ iprop((workR arg1 arg5 arg6 c T old s X 82 -∗ WP c (k (tailV T old t x mx)) Q)
        -∗ WP c (tailP arg1 arg5 arg6 k0_pay413 t x mx >>= k) Q) := by
  unfold tailP
  simp only [Prog.bind_assoc]
  iintro H HK
  iapply (halfTail_wp arg1 arg5 arg6 c T old s X t ht 0 80 rfl) $$ H
  iintro H
  iapply (halfTail_wp arg1 arg5 arg6 c T old s X t ht 1 81 rfl) $$ H
  iintro H
  iapply (Mxu.wp_pushRhs _ (hm.ok _ _))
  iapply HK
  iexact H

/-- All blocks of a trip, after its copies. -/
theorem blocks_wp (A : S41x48x256.Idx → Elt F .bf16) (mx : Mxu F) (hm : Bare mx) (Q : Mxu F → sProp 𝕄) :
    iprop(owns (c : Thread nD τ) arg2 fullShare A ∗ workR arg1 arg5 arg6 c T old s X 0)
      ⊢ iprop((iprop(owns (c : Thread nD τ) arg2 fullShare A ∗ workR arg1 arg5 arg6 c T old s X 82) -∗ Q (tripV T A old t mx))
        -∗ WP c (do
          let x ← ldX arg2 t
          let mx' ← blksP arg1 arg5 arg6 t (k0_pay5 x) 40 0 (by omega) mx
          tailP arg1 arg5 arg6 k0_pay413 t (k0_pay5 x) mx') Q) := by
  unfold ldX
  rw [show tripV T A old t mx = tailV T old t (k0_pay5 (slabV A t)) (blksV T old t (k0_pay5 (slabV A t)) 40 0 (by omega) mx) from rfl]
  iintro ⟨H2, H⟩ HK
  iapply (own_load c arg2 _ fullShare A) $$ H2
  iintro H2
  rw [show (fun i => A ((Rect.unit (s := S41x48x256) (k0_off7 t) S1x48x256.size (k0_off7_inb t)).emb i)) = slabV A t from rfl]
  iapply (blks_wp arg1 arg5 arg6 c T old s X t ht (k0_pay5 (slabV A t)) 40 0 _ mx hm) $$ H
  iintro H
  rw [← Prog.bind_pure (tailP arg1 arg5 arg6 k0_pay413 t _ _)]
  iapply (tail_wp arg1 arg5 arg6 c T old s X t ht (k0_pay5 (slabV A t)) _ (Bare.blks 40 0 _ _ hm)) $$ H
  iintro H
  iapply (WP_ret)
  iapply HK
  isplitl [H2]; · iexact H2
  iexact H

end Cert.KernelIdeal.Blocks
-- ==== Proof.KernelIdeal.Steps.lean ====
module

public import proofs.«01_k».proof.Proof.KernelIdeal.Whole

/-! Which copies a trip starts and waits for: in trip `t` (counted from zero) the copy of column block `t + 5` starts when
`1 ≤ t` and there is such a block, the copy of block `t + 1` is waited for when there is one, and the words staged come
from block `min (t + 1) 40`. -/

@[expose] public section

set_option maxRecDepth 16384

noncomputable section

namespace Cert.KernelIdeal.Blocks

open Cert.KernelIdeal Cert.KernelIdeal.Gen
open Idealize.ShloMosaic Idealize.SL.Sem

variable {F : FTy → Type} [FloatOps F]

theorem trips_eq : k0_t1_loop.trips = 41 := by decide

theorem trip_lt (t : Fin k0_t1_loop.trips) : t.val < 41 := lt_of_lt_of_eq t.isLt trips_eq

/-- The copies in flight when those of the blocks `n0, …, n1 - 1` are. -/
def sigAt (n0 n1 : ℕ) (s : Fin 6) : Option (Fin 41) :=
  if h : n0 + (s.val + 6 - n0 % 6) % 6 < n1 ∧ n0 + (s.val + 6 - n0 % 6) % 6 < 41 then
    some ⟨n0 + (s.val + 6 - n0 % 6) % 6, h.2⟩ else none

/-- The copies in flight when trip `t` begins. -/
def sg (t : ℕ) : Fin 6 → Option (Fin 41) := sigAt (min (t + 1) 41) (if t = 0 then 6 else min (t + 5) 41)

/-- The copies in flight between a trip's start and its wait. -/
def sm (t : ℕ) : Fin 6 → Option (Fin 41) := sigAt (min (t + 1) 41) (min (t + 6) 41)

/-- The slot of column block `j`. -/
def slotOf (j : ℕ) : Fin 6 := ⟨j % 6, Nat.mod_lt _ (by decide)⟩

theorem cond1_iff : ∀ t : Fin k0_t1_loop.trips, k0_cond1 t = 1#1 ↔ 1 ≤ t.val ∧ t.val + 5 < 41 := by decide +kernel
theorem cond2_iff : ∀ t : Fin k0_t1_loop.trips, k0_cond2 t = 1#1 ↔ t.val + 1 < 41 := by decide +kernel
theorem off1_eq : ∀ t : Fin k0_t1_loop.trips, t.val + 5 < 41 → k0_off1 t = ![(t.val + 5) % 6] := by decide +kernel
theorem off2_eq : ∀ t : Fin k0_t1_loop.trips, t.val + 5 < 41 → k0_off2 t = ![(t.val + 5) % 6, 0, 0] := by decide +kernel
theorem off3_eq : ∀ t : Fin k0_t1_loop.trips, t.val + 5 < 41 → k0_off3 t = ![0, 256 * (t.val + 5)] := by decide +kernel
theorem off4_eq : ∀ t : Fin k0_t1_loop.trips, t.val + 1 < 41 → k0_off4 t = ![(t.val + 1) % 6] := by decide +kernel
theorem off5_eq : ∀ t : Fin k0_t1_loop.trips, t.val + 1 < 41 → k0_off5 t = ![(t.val + 1) % 6, 0, 0] := by decide +kernel
theorem off6_eq : ∀ t : Fin k0_t1_loop.trips, t.val + 1 < 41 → k0_off6 t = ![0, 256 * (t.val + 1)] := by decide +kernel
theorem off7_eq : ∀ t : Fin k0_t1_loop.trips, k0_off7 t = ![t.val, 0, 0] := by decide +kernel
theorem off8_eq : ∀ (t : Fin k0_t1_loop.trips) (gg : Fin 2), k0_off8 t (BitVec.ofNat 32 gg.val) 0 = 2 * t.val + gg.val := by
  decide +kernel
theorem off12_eq : ∀ t : Fin k0_t1_loop.trips, k0_off12 t 0 = (slotOf (min (t.val + 1) 40)).val := by decide +kernel

theorem sg_start_none : ∀ t : Fin 41, 1 ≤ t.val → t.val + 5 < 41 → sg t.val (slotOf (t.val + 5)) = none := by decide +kernel
theorem sg_start_free : ∀ t : Fin 41, 1 ≤ t.val → ∀ h : t.val + 5 < 41, ∀ s, sg t.val s ≠ some ⟨t.val + 5, h⟩ := by decide +kernel
theorem sg_start : ∀ t : Fin 41, 1 ≤ t.val → ∀ h : t.val + 5 < 41, ∀ s,
    sm t.val s = Function.update (sg t.val) (slotOf (t.val + 5)) (some ⟨t.val + 5, h⟩) s := by decide +kernel
theorem sg_skip : ∀ t : Fin 41, ¬ (1 ≤ t.val ∧ t.val + 5 < 41) → ∀ s, sm t.val s = sg t.val s := by decide +kernel
theorem sm_wait_some : ∀ t : Fin 41, ∀ h : t.val + 1 < 41, sm t.val (slotOf (t.val + 1)) = some ⟨t.val + 1, h⟩ := by decide +kernel
theorem sm_wait_free : ∀ t : Fin 41, ∀ h : t.val + 1 < 41, ∀ s, s ≠ slotOf (t.val + 1) → sm t.val s ≠ some ⟨t.val + 1, h⟩ := by
  decide +kernel
theorem sm_wait : ∀ t : Fin 41, t.val + 1 < 41 → ∀ s,
    sg (t.val + 1) s = Function.update (sm t.val) (slotOf (t.val + 1)) none s := by decide +kernel
theorem sm_skip : ∀ t : Fin 41, ¬ t.val + 1 < 41 → ∀ s, sg (t.val + 1) s = sm t.val s := by decide +kernel
theorem sg_idle : ∀ t : Fin 41, sg (t.val + 1) (slotOf (min (t.val + 1) 40)) = none := by decide +kernel
theorem sg_end : ∀ s, sg 41 s = none := by decide +kernel

variable (arg0 : Memref sig .tc .hbm S1296x10496 .i32) (arg5 : Memref sig .tc .vmem S6x1296x256 .i32) (arg7 : DmaSems sig S6)

theorem enq_congr (j s : ℕ) (hj : j < 41) (hs : s < 6) (o1 : Fin 1 → ℕ) (o2 : Fin 3 → ℕ) (o3 : Fin 2 → ℕ)
    (e1 : o1 = ![s]) (e2 : o2 = ![s, 0, 0]) (e3 : o3 = ![0, 256 * j]) (i1 : ∀ a, o1 a + S1.size a ≤ S6.size a)
    (i2 : ∀ a, o2 a + S1x1296x256.size a ≤ S6x1296x256.size a) (i3 : ∀ a, o3 a + S1296x256.size a ≤ S1296x10496.size a) :
    (Prog.lift (.enqueueDma (arg0.slice (Rect.unit (s := S1296x10496) o3 S1296x256.size i3) (fun _ => rfl))
      (.here ((arg5.slice (Rect.unit (s := S6x1296x256) o2 S1x1296x256.size i2) (fun _ => rfl)).squeeze
        S1296x256 squeezes_S1x1296x256_S1296x256))
      (.dma ((arg7.slice (Rect.unit (s := S6) o1 S1.size i1)).squeeze S_ squeezes_S1_S_).sem)
      (View.wordExact_bits rfl) ((View.wordExact_bits rfl).reshape _ _) ⟨Or.inl rfl, trivial⟩) :
        Prog (TpuEff nD τ sig (Elt F) Λ₀ .tc) PUnit) = dmaP arg0 arg5 arg7 j s hj hs := by
  subst e1 e2 e3
  rfl

theorem wait_congr (j s : ℕ) (hj : j < 41) (hs : s < 6) (o1 : Fin 1 → ℕ) (o2 : Fin 3 → ℕ) (o3 : Fin 2 → ℕ)
    (e1 : o1 = ![s]) (e2 : o2 = ![s, 0, 0]) (e3 : o3 = ![0, 256 * j]) (i1 : ∀ a, o1 a + S1.size a ≤ S6.size a)
    (i2 : ∀ a, o2 a + S1x1296x256.size a ≤ S6x1296x256.size a) (i3 : ∀ a, o3 a + S1296x256.size a ≤ S1296x10496.size a) :
    (Prog.lift (.waitDma2 ((arg7.slice (Rect.unit (s := S6) o1 S1.size i1)).squeeze S_ squeezes_S1_S_).sem
      (arg0.slice (Rect.unit (s := S1296x10496) o3 S1296x256.size i3) (fun _ => rfl))
      ((arg5.slice (Rect.unit (s := S6x1296x256) o2 S1x1296x256.size i2) (fun _ => rfl)).squeeze
        S1296x256 squeezes_S1x1296x256_S1296x256)
      (View.wordExact_bits rfl) ((View.wordExact_bits rfl).reshape _ _)) :
        Prog (TpuEff nD τ sig (Elt F) Λ₀ .tc) PUnit) = dmaW arg0 arg5 arg7 j s hj hs := by
  subst e1 e2 e3
  rfl

/-- A trip that starts a copy. -/
theorem startP_pos (t : Fin k0_t1_loop.trips) (h1 : 1 ≤ t.val) (h : t.val + 5 < 41) :
    startP (F := F) arg0 arg5 arg7 t
      = (dmaP arg0 arg5 arg7 (t.val + 5) (slotOf (t.val + 5)).val h (slotOf (t.val + 5)).isLt >>= fun _ => pure ⟨⟩) := by
  unfold startP
  rw [dif_pos ((cond1_iff t).mpr ⟨h1, h⟩)]
  rw [enq_congr arg0 arg5 arg7 (t.val + 5) _ h (slotOf (t.val + 5)).isLt _ _ _ (off1_eq t h) (off2_eq t h) (off3_eq t h)]

/-- A trip that starts none. -/
theorem startP_neg (t : Fin k0_t1_loop.trips) (h : ¬ (1 ≤ t.val ∧ t.val + 5 < 41)) :
    startP (F := F) arg0 arg5 arg7 t = pure ⟨⟩ := by
  unfold startP
  rw [dif_neg (fun e => h ((cond1_iff t).mp e))]

/-- A trip that waits for a copy. -/
theorem waitP_pos (t : Fin k0_t1_loop.trips) (h : t.val + 1 < 41) :
    waitP (F := F) arg0 arg5 arg7 t
      = (dmaW arg0 arg5 arg7 (t.val + 1) (slotOf (t.val + 1)).val h (slotOf (t.val + 1)).isLt >>= fun _ => pure ⟨⟩) := by
  unfold waitP
  rw [dif_pos ((cond2_iff t).mpr h)]
  rw [wait_congr arg0 arg5 arg7 (t.val + 1) _ h (slotOf (t.val + 1)).isLt _ _ _ (off4_eq t h) (off5_eq t h) (off6_eq t h)]

/-- The last trip waits for none. -/
theorem waitP_neg (t : Fin k0_t1_loop.trips) (h : ¬ t.val + 1 < 41) :
    waitP (F := F) arg0 arg5 arg7 t = pure ⟨⟩ := by
  unfold waitP
  rw [dif_neg (fun e => h ((cond2_iff t).mp e))]

end Cert.KernelIdeal.Blocks
-- ==== Proof.KernelIdeal.Loop.lean ====
module

public import proofs.«01_k».proof.Proof.KernelIdeal.Trip
public import proofs.«01_k».proof.Proof.KernelIdeal.Steps

/-! The loop: what holds when a trip begins, and that a trip keeps it. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg1 : Memref sig .tc .vmem S82x4x5248 .bf16)
  (arg2 : Memref sig .tc .vmem S41x48x256 .bf16) (arg5 : Memref sig .tc .vmem S6x1296x256 .i32)
  (arg6 : Memref sig .tc .vmem S41x2x32x128 .i32) (arg7 : DmaSems sig S6) (c : Dev nD) {α : Type}

variable (G : S1296x10496.Idx → Elt F .i32) (T : S82x4x5248.Idx → Elt F .bf16) (A : S41x48x256.Idx → Elt F .bf16)

/-- The column block a trip works on (the last one again after the last trip). -/
def blkOf (n : ℕ) : Fin 41 := ⟨min n 40, by omega⟩

/-- The matrix unit after `n` trips. -/
def mxAt : ℕ → Mxu F
  | 0 => Mxu.init
  | n + 1 => if h : n < k0_t1_loop.trips then tripV T A (stagedV (srcV G (blkOf n))) ⟨n, h⟩ (mxAt n) else mxAt n

theorem bare_mxAt : ∀ n, Bare (mxAt G T A n)
  | 0 => fun _ _ => rfl
  | n + 1 => by
    unfold mxAt
    split
    · exact Bare.trip (bare_mxAt n)
    · exact bare_mxAt n

theorem mxAt_succ (t : Fin k0_t1_loop.trips) :
    mxAt G T A (t.val + 1) = tripV T A (stagedV (srcV G (blkOf t.val))) t (mxAt G T A t.val) := by
  rw [mxAt, dif_pos t.isLt]

/-- What holds when trip `n` begins. -/
def loopI (n : ℕ) (mx : Mxu F) : sProp 𝕄 :=
  iprop(∃ X : Fin 6 → S1296x256.Idx → Elt F .i32, ⌜X (slotOf (min n 40)) = srcV G (blkOf n) ∧ mx = mxAt G T A n⌝
    ∗ ringR arg0 arg5 arg7 c G (sg n) X ∗ owns (c : Thread nD τ) arg1 fullShare T ∗ owns (c : Thread nD τ) arg2 fullShare A
    ∗ owns (c : Thread nD τ) arg6 fullShare (stagedV (srcV G (blkOf n))) ∗ (∃ W, owes (c : Thread nD τ) 0 W))

/-- The start of a trip's copy. -/
theorem start_wp (t : Fin k0_t1_loop.trips) (X : Fin 6 → S1296x256.Idx → Elt F .i32)
    (k : PUnit → Prog (TpuEff nD τ sig (Elt F) Λ₀ .tc) α) (Q : α → sProp 𝕄) :
    ringR arg0 arg5 arg7 c G (sg t.val) X
      ⊢ iprop((ringR arg0 arg5 arg7 c G (sm t.val) X -∗ WP c (k ⟨⟩) Q)
        -∗ WP c (startP arg0 arg5 arg7 t >>= k) Q) := by
  by_cases h : 1 ≤ t.val ∧ t.val + 5 < 41
  · rw [startP_pos arg0 arg5 arg7 t h.1 h.2, Prog.bind_assoc]
    exact ring_start arg0 arg5 arg7 c G (slotOf (t.val + 5)) ⟨t.val + 5, h.2⟩ (sg t.val) (sm t.val) X
      (sg_start_none ⟨t.val, trip_lt t⟩ h.1 h.2) (sg_start_free ⟨t.val, trip_lt t⟩ h.1 h.2)
      (funext (sg_start ⟨t.val, trip_lt t⟩ h.1 h.2)) _ Q
  · rw [startP_neg arg0 arg5 arg7 t h, show sm t.val = sg t.val from funext (sg_skip ⟨t.val, trip_lt t⟩ h)]
    iintro H HK
    iapply HK
    iexact H

/-- The wait for a trip's copy. -/
theorem wait_wp (t : Fin k0_t1_loop.trips) (X : Fin 6 → S1296x256.Idx → Elt F .i32)
    (hX : X (slotOf (min t.val 40)) = srcV G (blkOf t.val))
    (k : PUnit → Prog (TpuEff nD τ sig (Elt F) Λ₀ .tc) α) (Q : α → sProp 𝕄) :
    iprop(ringR arg0 arg5 arg7 c G (sm t.val) X ∗ (∃ W, owes (c : Thread nD τ) 0 W))
      ⊢ iprop((iprop(∃ X' : Fin 6 → S1296x256.Idx → Elt F .i32, ⌜X' (slotOf (min (t.val + 1) 40)) = srcV G (blkOf (t.val + 1))⌝
          ∗ ringR arg0 arg5 arg7 c G (sg (t.val + 1)) X' ∗ (∃ W, owes (c : Thread nD τ) 0 W)) -∗ WP c (k ⟨⟩) Q)
        -∗ WP c (waitP arg0 arg5 arg7 t >>= k) Q) := by
  have ht := trip_lt t
  by_cases h : t.val + 1 < 41
  · rw [waitP_pos arg0 arg5 arg7 t h, Prog.bind_assoc]
    iintro H HK
    iapply (ring_wait arg0 arg5 arg7 c G (slotOf (t.val + 1)) ⟨t.val + 1, h⟩ (sm t.val) (sg (t.val + 1)) X
      (sm_wait_some ⟨t.val, ht⟩ h) (sm_wait_free ⟨t.val, ht⟩ h) (funext (sm_wait ⟨t.val, ht⟩ h))) $$ H
    iintro ⟨H, HW⟩
    iapply HK
    iexists _
    isplitr
    swap
    · isplitl [H]; · iexact H
      iexact HW
    ipureintro
    have e : min (t.val + 1) 40 = t.val + 1 := by omega
    have e2 : blkOf (t.val + 1) = ⟨t.val + 1, h⟩ := Fin.ext e
    rw [e, e2, Function.update_self]
  · rw [waitP_neg arg0 arg5 arg7 t h, show sg (t.val + 1) = sm t.val from funext (sm_skip ⟨t.val, ht⟩ h)]
    iintro ⟨H, HW⟩ HK
    iapply HK
    iexists X
    isplitr
    · ipureintro
      have e : min (t.val + 1) 40 = min t.val 40 := by omega
      have e2 : blkOf (t.val + 1) = blkOf t.val := Fin.ext e
      rw [e, e2]; exact hX
    · isplitl [H]; · iexact H
      iexact HW

/-- One trip. -/
theorem trip_wp (t : Fin k0_t1_loop.trips) (mx : Mxu F) :
    loopI arg0 arg1 arg2 arg5 arg6 arg7 c G T A t.val mx
      ⊢ WP c (tripP arg0 arg1 arg2 arg5 arg6 arg7 k0_pay413 t mx)
        (loopI arg0 arg1 arg2 arg5 arg6 arg7 c G T A (t.val + 1)) := by
  have ht := trip_lt t
  unfold tripP
  rw [show loopI arg0 arg1 arg2 arg5 arg6 arg7 c G T A t.val mx = iprop(∃ X : Fin 6 → S1296x256.Idx → Elt F .i32, ⌜X (slotOf (min t.val 40)) = srcV G (blkOf t.val) ∧ mx = mxAt G T A t.val⌝
    ∗ ringR arg0 arg5 arg7 c G (sg t.val) X ∗ owns (c : Thread nD τ) arg1 fullShare T ∗ owns (c : Thread nD τ) arg2 fullShare A
    ∗ owns (c : Thread nD τ) arg6 fullShare (stagedV (srcV G (blkOf t.val))) ∗ (∃ W, owes (c : Thread nD τ) 0 W)) from rfl]
  iintro ⟨%X, %hX, HR, H1, H2, H6, HW⟩
  obtain ⟨hX, hmx⟩ := hX
  iapply (start_wp arg0 arg5 arg7 c G t X) $$ HR
  iintro HR
  iapply (wait_wp arg0 arg5 arg7 c G t X hX) $$ [HR HW]
  · isplitl [HR]; · iexact HR
    iexact HW
  iintro ⟨%X', %hX', HR, HW⟩
  unfold ringR
  rw [univ_split (fun s => slotR arg0 arg5 arg7 c G s (sg (t.val + 1) s) (X' s)) (slotOf (min (t.val + 1) 40)),
    sg_idle ⟨t.val, ht⟩, slotR_none, hX']
  icases HR with ⟨⟨⟨HS, Hv⟩, HR⟩, HH⟩
  rw [← mixV_zero (stagedV (srcV G (blkOf t.val))) (stagedV (srcV G (blkOf (t.val + 1))))]
  iapply (blocks_wp arg1 arg2 arg5 arg6 c T (stagedV (srcV G (blkOf t.val))) (slotOf (min (t.val + 1) 40))
    (srcV G (blkOf (t.val + 1))) t (off12_eq t) A mx (hmx ▸ bare_mxAt G T A t.val)) $$ [H1 H2 H6 HS]
  · isplitl [H2]; · iexact H2
    unfold workR
    isplitl [H1]; · iexact H1
    isplitl [H6]; · iexact H6
    iexact HS
  unfold workR
  rw [mixV_all]
  iintro ⟨H2, H1, H6, HS⟩
  unfold loopI ringR
  iexists X'
  isplitr
  · ipureintro
    exact ⟨hX', by rw [mxAt_succ, hmx]⟩
  rw [univ_split (fun s => slotR arg0 arg5 arg7 c G s (sg (t.val + 1) s) (X' s)) (slotOf (min (t.val + 1) 40)),
    sg_idle ⟨t.val, ht⟩, slotR_none, hX']
  isplitl [HS Hv HR HH]
  · isplitl [HS Hv HR]
    · isplitl [HS Hv]
      · isplitl [HS]; · iexact HS
        iexact Hv
      iexact HR
    iexact HH
  isplitl [H1]; · iexact H1
  isplitl [H2]; · iexact H2
  isplitl [H6]; · iexact H6
  iexact HW

end Cert.KernelIdeal.Blocks
-- ==== Proof.KernelIdeal.Pops.lean ====
module

public import proofs.«01_k».proof.Proof.KernelIdeal.Stage

/-! The pops that follow the loop: which rows stay live and what is stored. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic

variable {F : FTy → Type} [FloatOps F]

variable (mx0 : Mxu F)

/-- The block whose accumulator row `R` of unit `q` belongs to. -/
def rowBlk (q : Fin 2) (R : Fin 1024) : ℕ := 2 * (R.val / 48) + q.val

/-- The unit after the pops of blocks `0 … b-1`. -/
structure Popped (b : ℕ) (mx : Mxu F) : Prop where
  reg : mx.reg = mx0.reg
  acc : ∀ q R C, b ≤ rowBlk q R → mx.acc q R C = mx0.acc q R C
  live : ∀ q R, mx.live q R = true → b ≤ rowBlk q R ∧ mx0.live q R = true

theorem popped_zero : Popped mx0 0 mx0 := ⟨rfl, fun _ _ _ _ => rfl, fun _ _ h => ⟨Nat.zero_le _, h⟩⟩

theorem rowBlk_iff (b : ℕ) (hb : b ≤ 41) (q : Fin 2) (R : Fin 1024) :
    (q = unitOf b ∧ 4 * (12 * (b / 2)) ≤ R.val ∧ R.val < 4 * (12 * (b / 2)) + 48) ↔ rowBlk q R = b := by
  have hq := q.isLt
  unfold rowBlk unitOf
  constructor
  · rintro ⟨rfl, h1, h2⟩
    show 2 * (R.val / 48) + b % 2 = b
    omega
  · intro h
    refine ⟨Fin.ext ?_, ?_, ?_⟩
    · show q.val = b % 2; omega
    · omega
    · omega

theorem Popped.pop {b : ℕ} (hb : b ≤ 41) {mx : Mxu F} (h : Popped mx0 b mx) (hf : Mxu.Fits (12 * (b / 2)) 48) :
    Popped mx0 (b + 1) (mx.pop (unitOf b) (12 * (b / 2)) 48 hf) where
  reg := h.reg
  acc q R C hle := by
    show (if q = unitOf b ∧ 4 * (12 * (b / 2)) ≤ R.val ∧ R.val < 4 * (12 * (b / 2)) + 48 then _ else mx.acc q R C) = _
    rw [if_neg (fun e => by have := (rowBlk_iff b hb q R).mp e; omega)]
    exact h.acc q R C (by omega)
  live q R hl := by
    change (if q = unitOf b ∧ 4 * (12 * (b / 2)) ≤ R.val ∧ R.val < 4 * (12 * (b / 2)) + 48 then false else mx.live q R) = true at hl
    split at hl
    · cases hl
    · rename_i hn
      have := h.live q R hl
      rw [rowBlk_iff b hb] at hn
      exact ⟨by omega, this.2⟩

theorem Popped.read {b : ℕ} (hb : b ≤ 41) {mx : Mxu F} (h : Popped mx0 b mx) (hf : Mxu.Fits (12 * (b / 2)) 48) :
    mx.read (unitOf b) (12 * (b / 2)) hf = mx0.read (unitOf b) (12 * (b / 2)) hf := by
  funext i
  have hi : (i 0).val < 48 := (i 0).isLt
  refine h.acc _ _ _ ?_
  have := (rowBlk_iff b hb (unitOf b) (Mxu.row hf (i 0))).mp ⟨rfl, by
    show 4 * (12 * (b / 2)) ≤ 4 * (12 * (b / 2)) + (i 0).val; omega, by
    show 4 * (12 * (b / 2)) + (i 0).val < _; omega⟩
  omega

/-- The live rows are rows of blocks below 40 and of the tail, which is kept in unit 1. -/
def LiveIn (mx : Mxu F) : Prop := ∀ q R, mx.live q R = true → rowBlk q R < 40 ∨ rowBlk q R = 41

theorem LiveIn.init : LiveIn (Mxu.init : Mxu F) := fun _ _ h => by cases h

theorem LiveIn.step {mx : Mxu F} (h : LiveIn mx) (b : ℕ) (hb : b < 40 ∨ b = 41) (r : Fin 2)
    (v : FVec F (Mxu.STile 256) .bf16) (x : FVec F S48x256 .bf16) (hf : Mxu.Fits (12 * (b / 2)) 48) :
    LiveIn ((mx.pushed (unitOf b) r false v).accLhs (unitOf b) r (12 * (b / 2)) x hf) := by
  intro q R hl
  have e : (mx.pushed (unitOf b) r false v).live = mx.live := by unfold Mxu.pushed; split <;> rfl
  change (if q = unitOf b ∧ 4 * (12 * (b / 2)) ≤ R.val ∧ R.val < 4 * (12 * (b / 2)) + 48 then true
    else (mx.pushed (unitOf b) r false v).live q R) = true at hl
  rw [e] at hl
  split at hl
  · rename_i hp
    have := (rowBlk_iff b (by omega) q R).mp hp
    omega
  · exact h q R hl

theorem LiveIn.blks {T : S82x4x5248.Idx → Elt F .bf16} {old : S41x2x32x128.Idx → Elt F .i32} {t : Fin k0_t1_loop.trips}
    {x : FVec F S48x256 .bf16} : ∀ (n b : ℕ) (h : b + n ≤ 40) (mx : Mxu F), LiveIn mx → LiveIn (blksV T old t x n b h mx)
  | 0, _, _, _, hm => hm
  | n + 1, b, h, mx, hm => LiveIn.blks n (b + 1) _ _ (hm.step b (Or.inl (by omega)) _ _ _ _)

theorem LiveIn.trip {T : S82x4x5248.Idx → Elt F .bf16} {A : S41x48x256.Idx → Elt F .bf16}
    {old : S41x2x32x128.Idx → Elt F .i32} {t : Fin k0_t1_loop.trips} {mx : Mxu F} (h : LiveIn mx) :
    LiveIn (tripV T A old t mx) :=
  LiveIn.step (b := 41) (LiveIn.blks 40 0 _ _ h) (Or.inr rfl) _ _ _ _

/-- When every block and the tail have been popped the unit is drained. -/
theorem Popped.drained (hB : Bare mx0) (hL : LiveIn mx0) {mx : Mxu F} (h : Popped mx0 40 mx) :
    (mx.pop 1 240 48 fits_240_48).Drained := by
  constructor
  · intro q r
    show (mx.reg q r).isNone = true
    rw [h.reg, hB q r]; rfl
  · intro q R
    show (if q = 1 ∧ 4 * 240 ≤ R.val ∧ R.val < 4 * 240 + 48 then false else mx.live q R) = false
    split
    · rfl
    · rename_i hn
      by_contra hl
      rw [Bool.not_eq_false] at hl
      have h1 := h.live q R hl
      have h2 := hL q R h1.2
      have h3 := (rowBlk_iff 41 (by omega) q R).mpr (by omega)
      exact hn ⟨h3.1, h3.2.1, h3.2.2⟩

/-- The place within its block of a result. -/
def inBlk (i : S48x10240.Idx) : S48x256.Idx := fun a =>
  match a with
  | ⟨0, _⟩ => (i 0 : Fin 48)
  | ⟨1, _⟩ => (⟨(i 1).val % 256, Nat.mod_lt _ (by decide)⟩ : Fin 256)

/-- The block of a result. -/
theorem blk_lt (i : S48x10240.Idx) : (i 1).val / 256 < 40 := by
  have h : (i 1).val < 10240 := (i 1).isLt
  omega

/-- The results the pops write. -/
def outV : S48x10240.Idx → Elt F .bf16 := fun i =>
  k0_pay508 (mx0.read (unitOf ((i 1).val / 256)) (12 * ((i 1).val / 256 / 2)) (fitsBlk _ (blk_lt i))) (inBlk i)

/-- The tail's results. -/
def tailOutV : S48x128.Idx → Elt F .bf16 := fun i => k0_pay4 (mx0.read 1 240 fits_240_48) i

/-- The results when `n` blocks have been popped. -/
def mixO (n : ℕ) (old : S48x10240.Idx → Elt F .bf16) : S48x10240.Idx → Elt F .bf16 :=
  fun i => if (i 1).val < 256 * n then outV mx0 i else old i

theorem mixO_zero (old : S48x10240.Idx → Elt F .bf16) : mixO mx0 0 old = old := by
  funext i; unfold mixO; rw [if_neg (by omega)]

theorem mixO_all (old : S48x10240.Idx → Elt F .bf16) : mixO mx0 40 old = outV mx0 := by
  funext i
  have h : (i 1).val < 10240 := (i 1).isLt
  unfold mixO; rw [if_pos (by omega)]

/-- The rectangle of block `b`'s results. -/
abbrev rectO (b : ℕ) (h : b < 40) : Rect S48x10240 :=
  Rect.unit (s := S48x10240) ![0, 256 * b] S48x256.size (offOut_inb b h)

theorem rectO_emb1 (b : ℕ) (h : b < 40) (i : S48x256.Idx) : (((rectO b h).emb i) 1).val = 256 * b + (i 1).val := by
  show 256 * b + 1 * (i 1).val = _
  omega

theorem inBlk_emb (b : ℕ) (h : b < 40) (i : S48x256.Idx) : inBlk ((rectO b h).emb i) = i := by
  have h1 : (i 1).val < 256 := (i 1).isLt
  funext a
  apply Fin.ext
  fin_cases a
  · show 0 + 1 * (i 0).val = (i 0).val; omega
  · show (256 * b + 1 * (i 1).val) % 256 = (i 1).val; omega

theorem outV_at (b : ℕ) (hb : b < 40) (j : S48x10240.Idx) (h : (j 1).val / 256 = b) :
    outV mx0 j = k0_pay508 (mx0.read (unitOf b) (12 * (b / 2)) (fitsBlk b hb)) (inBlk j) := by
  subst h; rfl

theorem outV_emb (b : ℕ) (h : b < 40) (i : S48x256.Idx) :
    outV mx0 ((rectO b h).emb i) = k0_pay508 (mx0.read (unitOf b) (12 * (b / 2)) (fitsBlk b h)) i := by
  have h1 : (i 1).val < 256 := (i 1).isLt
  rw [outV_at mx0 b h _ (by rw [rectO_emb1]; omega), inBlk_emb]

theorem mem_rectO (b : ℕ) (h : b < 40) (j : S48x10240.Idx) : j ∈ (rectO b h).set ↔ (j 1).val / 256 = b := by
  constructor
  · intro hj
    rw [← Rect.map_emb_univ, Finset.mem_map] at hj
    obtain ⟨i, -, rfl⟩ := hj
    have h1 : (i 1).val < 256 := (i 1).isLt
    rw [rectO_emb1]; omega
  · intro hj
    rw [← Rect.map_emb_univ, Finset.mem_map]
    refine ⟨inBlk j, Finset.mem_univ _, ?_⟩
    funext a
    apply Fin.ext
    fin_cases a
    · show 0 + 1 * (j 0).val = (j 0).val; omega
    · show 256 * b + 1 * ((j 1).val % 256) = (j 1).val; omega

theorem mixO_overlay (b : ℕ) (hb : b < 40) (old : S48x10240.Idx → Elt F .bf16) :
    (rectO b hb).overlay (mixO mx0 b old) (k0_pay508 (mx0.read (unitOf b) (12 * (b / 2)) (fitsBlk b hb)))
      = mixO mx0 (b + 1) old := by
  funext j
  by_cases hj : j ∈ (rectO b hb).set
  · have hj' := (mem_rectO b hb j).mp hj
    rw [← Rect.map_emb_univ, Finset.mem_map] at hj
    obtain ⟨i, -, rfl⟩ := hj
    rw [Rect.overlay_emb]
    unfold mixO
    rw [if_pos (by omega), outV_emb]
  · rw [Rect.overlay_of_not_mem _ _ _ hj]
    rw [mem_rectO] at hj
    unfold mixO
    by_cases hlt : (j 1).val < 256 * b
    · rw [if_pos hlt, if_pos (by omega)]
    · rw [if_neg hlt, if_neg (by omega)]

theorem tail_overlay (old : S48x128.Idx → Elt F .bf16) :
    (Rect.unit (s := S48x128) ![0, 0] S48x128.size inb_S48x128_S48x128_0_0).overlay old
      (k0_pay4 (mx0.read 1 240 fits_240_48)) = tailOutV mx0 := by
  funext j
  have e : (Rect.unit (s := S48x128) ![0, 0] S48x128.size inb_S48x128_S48x128_0_0).emb j = j := by
    funext a
    apply Fin.ext
    fin_cases a
    · show 0 + 1 * (j 0).val = (j 0).val; omega
    · show 0 + 1 * (j 1).val = (j 1).val; omega
  conv_lhs => rw [← e]
  rw [Rect.overlay_emb]
  rfl

end Cert.KernelIdeal.Blocks
-- ==== Proof.KernelIdeal.Run.lean ====
module

public import proofs.«01_k».proof.Proof.KernelIdeal.Loop
public import proofs.«01_k».proof.Proof.KernelIdeal.Pops

/-! The whole kernel: the first copies and the first staging, the loop, the pops. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg1 : Memref sig .tc .vmem S82x4x5248 .bf16)
  (arg2 : Memref sig .tc .vmem S41x48x256 .bf16) (arg3 : Memref sig .tc .vmem S48x10240 .bf16)
  (harg3 : arg3.IsWhole) (arg4 : Memref sig .tc .vmem S48x128 .bf16) (harg4 : arg4.IsWhole)
  (arg5 : Memref sig .tc .vmem S6x1296x256 .i32)
  (arg6 : Memref sig .tc .vmem S41x2x32x128 .i32) (arg7 : DmaSems sig S6) (c : Dev nD) {α : Type}

variable (G : S1296x10496.Idx → Elt F .i32) (T : S82x4x5248.Idx → Elt F .bf16) (A : S41x48x256.Idx → Elt F .bf16)

theorem liveIn_mxAt : ∀ n, LiveIn (mxAt G T A n)
  | 0 => LiveIn.init
  | n + 1 => by
    unfold mxAt
    split
    · exact LiveIn.trip (liveIn_mxAt n)
    · exact liveIn_mxAt n

/-- The unit when the loop is over. -/
def mxEnd : Mxu F := mxAt G T A 41

section Epilogue

variable (mx0 : Mxu F)

/-- One pop. -/
theorem pop_wp (b : ℕ) (hb : b < 40) (old : S48x10240.Idx → Elt F .bf16) (mx : Mxu F) (hm : Popped mx0 b mx)
    (k : Mxu F → Prog (TpuEff nD τ sig (Elt F) Λ₀ .tc) α) (Q : α → sProp 𝕄) :
    (owns (c : Thread nD τ) arg3 fullShare (mixO mx0 b old) : sProp 𝕄)
      ⊢ iprop((owns (c : Thread nD τ) arg3 fullShare (mixO mx0 (b + 1) old)
          -∗ WP c (k (mx.pop (unitOf b) (12 * (b / 2)) 48 (fitsBlk b hb))) Q)
        -∗ WP c (popP arg3 harg3 b hb mx >>= k) Q) := by
  unfold popP
  simp only [Prog.bind_assoc]
  iintro H3 HK
  iapply (own_load c arg3 (rectO b hb) fullShare) $$ H3
  iintro H3
  iapply (own_store c arg3 (rectO b hb)) $$ H3
  iintro H3
  rw [hm.read mx0 (by omega), mixO_overlay mx0 b hb old]
  iapply HK
  iexact H3

/-- The pops of blocks `b, …, 39`. -/
theorem pops_wp (old : S48x10240.Idx → Elt F .bf16) (k : Mxu F → Prog (TpuEff nD τ sig (Elt F) Λ₀ .tc) α) (Q : α → sProp 𝕄) :
    ∀ (n b : ℕ) (h : b + n ≤ 40) (mx : Mxu F), Popped mx0 b mx → (owns (c : Thread nD τ) arg3 fullShare (mixO mx0 b old) : sProp 𝕄)
      ⊢ iprop((∀ mx', ⌜Popped mx0 (b + n) mx'⌝ ∗ owns (c : Thread nD τ) arg3 fullShare (mixO mx0 (b + n) old) -∗ WP c (k mx') Q)
        -∗ WP c (popsP arg3 harg3 n b h mx >>= k) Q)
  | 0, b, h, mx, hm => by
    rw [show (popsP arg3 harg3 0 b h mx >>= k) = k mx from rfl]
    iintro H3 HK
    iapply HK
    isplitr
    · ipureintro; exact hm
    · iexact H3
  | n + 1, b, h, mx, hm => by
    unfold popsP
    simp only [Prog.bind_assoc]
    iintro H3 HK
    iapply (pop_wp arg3 harg3 c mx0 b _ old mx hm) $$ H3
    iintro H3
    iapply (pops_wp old k Q n (b + 1) _ _ (hm.pop mx0 (by omega) _)) $$ H3
    rw [show b + 1 + n = b + (n + 1) by omega]
    iexact HK

/-- What follows the loop. -/
theorem epi_wp (hB : Bare mx0) (hL : LiveIn mx0) (old : S48x10240.Idx → Elt F .bf16) (old4 : S48x128.Idx → Elt F .bf16)
    (Q : PUnit → sProp 𝕄) :
    iprop(owns (c : Thread nD τ) arg3 fullShare old ∗ owns (c : Thread nD τ) arg4 fullShare old4)
      ⊢ iprop((iprop(owns (c : Thread nD τ) arg3 fullShare (outV mx0) ∗ owns (c : Thread nD τ) arg4 fullShare (tailOutV mx0)) -∗ Q ⟨⟩)
        -∗ WP c (epiP arg3 harg3 arg4 harg4 mx0) Q) := by
  unfold epiP
  iintro ⟨H3, H4⟩ HK
  rw [← mixO_zero mx0 old]
  iapply (pops_wp arg3 harg3 c mx0 old _ _ 40 0 _ mx0 (popped_zero mx0)) $$ H3
  iintro %mx' ⟨%hm, H3⟩
  rw [show 0 + 40 = 40 from rfl, mixO_all]
  unfold popTail
  simp only [Prog.bind_assoc]
  iapply (own_load c arg4 (Rect.unit (s := S48x128) ![0, 0] S48x128.size inb_S48x128_S48x128_0_0) fullShare) $$ H4
  iintro H4
  iapply (own_store c arg4 (Rect.unit (s := S48x128) ![0, 0] S48x128.size inb_S48x128_S48x128_0_0)) $$ H4
  iintro H4
  have hr : mx'.read 1 240 fits_240_48 = mx0.read 1 240 fits_240_48 := by
    funext i
    refine hm.acc _ _ _ ?_
    have hi : (i 0).val < 48 := (i 0).isLt
    show 40 ≤ 2 * ((4 * 240 + (i 0).val) / 48) + 1
    omega
  rw [hr, tail_overlay mx0 old4]
  iapply (Mxu.wp_exit (Popped.drained mx0 hB hL hm))
  iapply (WP_ret c)
  iapply HK
  isplitl [H3]; · iexact H3
  iexact H4

end Epilogue

section Prologue

variable (X : S1296x256.Idx → Elt F .i32) (old : S41x2x32x128.Idx → Elt F .i32)

/-- The staging array with `n` halves filled, and the first slot. -/
def fillR (n : ℕ) : sProp 𝕄 :=
  iprop(owns (c : Thread nD τ) arg6 fullShare (mixV n old (stagedV X))
    ∗ owns (c : Thread nD τ) (slotM arg5 0 (by omega)) fullShare X)

theorem fill_wp (b : ℕ) (hb : b < 40) (gg : Fin 2) (n : ℕ) (hn : n = 2 * b + gg.val)
    (k : PUnit → Prog (TpuEff nD τ sig (Elt F) Λ₀ .tc) α) (Q : α → sProp 𝕄) :
    fillR arg5 arg6 c X old n
      ⊢ iprop((fillR arg5 arg6 c X old (n + 1) -∗ WP c (k ⟨⟩) Q) -∗ WP c (fillP arg5 arg6 b hb gg >>= k) Q) := by
  unfold fillR fillP ldT stT
  simp only [Prog.bind_assoc]
  iintro ⟨H6, Hs⟩ HK
  iapply (slot_load arg5 c 0 _ (32 * b) (gg.val * 128) 32 ![0, 32 * b, gg.val * 128] S1x32x128.size
    rfl rfl (off0_inb (32 * b) gg (by omega)) fullShare X (rowV X (32 * b) gg) (fun i => rfl)) $$ Hs
  iintro Hs
  iapply (own_load c arg6 (rectT b gg (by omega)) fullShare) $$ H6
  iintro H6
  iapply (own_store c arg6 (rectT b gg (by omega))) $$ H6
  iintro H6
  rw [mixV_overlay n old (stagedV X) b gg (by omega) hn _ (stagedV_half X b gg hb)]
  iapply HK
  isplitl [H6]; · iexact H6
  iexact Hs

theorem fillTail_wp (gg : Fin 2) (n : ℕ) (hn : n = 80 + gg.val)
    (k : PUnit → Prog (TpuEff nD τ sig (Elt F) Λ₀ .tc) α) (Q : α → sProp 𝕄) :
    fillR arg5 arg6 c X old n
      ⊢ iprop((fillR arg5 arg6 c X old (n + 1) -∗ WP c (k ⟨⟩) Q) -∗ WP c (fillTail arg5 arg6 gg >>= k) Q) := by
  unfold fillR fillTail ldT stT
  simp only [Prog.bind_assoc]
  iintro ⟨H6, Hs⟩ HK
  iapply (slot_load arg5 c 0 _ 1280 (gg.val * 128) 16 ![0, 1280, gg.val * 128] S1x16x128.size
    rfl rfl (off0_inb16 1280 gg (by omega)) fullShare X (rowV16 X 1280 gg) (fun i => rfl)) $$ Hs
  iintro Hs
  iapply (own_load c arg6 (rectT 40 gg (by omega)) fullShare) $$ H6
  iintro H6
  iapply (own_store c arg6 (rectT 40 gg (by omega))) $$ H6
  iintro H6
  rw [mixV_overlay n old (stagedV X) 40 gg (by omega) (by omega) _ (stagedV_tail X gg)]
  iapply HK
  isplitl [H6]; · iexact H6
  iexact Hs

theorem fills_wp (k : PUnit → Prog (TpuEff nD τ sig (Elt F) Λ₀ .tc) α) (Q : α → sProp 𝕄) :
    ∀ (n b : ℕ) (h : b + n ≤ 40), fillR arg5 arg6 c X old (2 * b)
      ⊢ iprop((fillR arg5 arg6 c X old (2 * (b + n)) -∗ WP c (k ⟨⟩) Q) -∗ WP c (fillsP arg5 arg6 n b h >>= k) Q)
  | 0, b, h => by
    iintro H HK
    iapply HK
    iexact H
  | n + 1, b, h => by
    unfold fillsP
    simp only [Prog.bind_assoc]
    iintro H HK
    iapply (fill_wp arg5 arg6 c X old b _ 0 (2 * b) rfl) $$ H
    iintro H
    iapply (fill_wp arg5 arg6 c X old b _ 1 (2 * b + 1) rfl) $$ H
    iintro H
    rw [show 2 * b + 1 + 1 = 2 * (b + 1) by omega]
    iapply (fills_wp k Q n (b + 1) _) $$ H
    rw [show 2 * (b + 1 + n) = 2 * (b + (n + 1)) by omega]
    iexact HK

end Prologue

/-- The copies in flight after the first `n` starts. -/
def sp (n : ℕ) : Fin 6 → Option (Fin 41) := fun s => if s.val < n then some ⟨s.val, by omega⟩ else none

theorem sp_none : ∀ n : Fin 6, sp n.val n = none := by decide
theorem sp_free : ∀ n : Fin 6, ∀ s', sp n.val s' ≠ some ⟨n.val, by omega⟩ := by decide
theorem sp_step : ∀ n : Fin 6, ∀ s, sp (n.val + 1) s = Function.update (sp n.val) n (some ⟨n.val, by omega⟩) s := by decide
theorem sp_wait : ∀ s, sg 0 s = Function.update (sp 6) 0 none s := by decide
theorem sp_wait_free : ∀ s', s' ≠ 0 → sp 6 s' ≠ some 0 := by decide
theorem sg_zero : sg 0 0 = none := by decide

/-- The start of copy `n` of the first six. -/
theorem first_wp (n : ℕ) (hn : n < 6) (X : Fin 6 → S1296x256.Idx → Elt F .i32)
    (k : PUnit → Prog (TpuEff nD τ sig (Elt F) Λ₀ .tc) α) (Q : α → sProp 𝕄) :
    ringR arg0 arg5 arg7 c G (sp n) X
      ⊢ iprop((ringR arg0 arg5 arg7 c G (sp (n + 1)) X -∗ WP c (k ⟨⟩) Q)
        -∗ WP c (dmaP arg0 arg5 arg7 n n (by omega) hn >>= k) Q) :=
  ring_start arg0 arg5 arg7 c G ⟨n, hn⟩ ⟨n, by omega⟩ (sp n) (sp (n + 1)) X (sp_none ⟨n, hn⟩) (sp_free ⟨n, hn⟩)
    (funext (sp_step ⟨n, hn⟩)) k Q

/-- What precedes the loop. -/
theorem pro_wp (X : Fin 6 → S1296x256.Idx → Elt F .i32) (old : S41x2x32x128.Idx → Elt F .i32)
    (k : PUnit → Prog (TpuEff nD τ sig (Elt F) Λ₀ .tc) α) (Q : α → sProp 𝕄) :
    iprop(ringR arg0 arg5 arg7 c G (sp 0) X ∗ owns (c : Thread nD τ) arg1 fullShare T ∗ owns (c : Thread nD τ) arg2 fullShare A
        ∗ owns (c : Thread nD τ) arg6 fullShare old ∗ (∃ W, owes (c : Thread nD τ) 0 W))
      ⊢ iprop((loopI arg0 arg1 arg2 arg5 arg6 arg7 c G T A 0 Mxu.init -∗ WP c (k ⟨⟩) Q)
        -∗ WP c (proP arg0 arg5 arg6 arg7 >>= k) Q) := by
  unfold proP
  simp only [Prog.bind_assoc]
  iintro ⟨HR, H1, H2, H6, HW⟩ HK
  iapply (first_wp arg0 arg5 arg7 c G 0 _ X) $$ HR
  iintro HR
  iapply (first_wp arg0 arg5 arg7 c G 1 _ X) $$ HR
  iintro HR
  iapply (first_wp arg0 arg5 arg7 c G 2 _ X) $$ HR
  iintro HR
  iapply (first_wp arg0 arg5 arg7 c G 3 _ X) $$ HR
  iintro HR
  iapply (first_wp arg0 arg5 arg7 c G 4 _ X) $$ HR
  iintro HR
  iapply (first_wp arg0 arg5 arg7 c G 5 _ X) $$ HR
  iintro HR
  iapply (ring_wait arg0 arg5 arg7 c G ⟨0, by omega⟩ ⟨0, by omega⟩ (sp 6) (sg 0) X rfl sp_wait_free (funext sp_wait)) $$ [HR HW]
  · isplitl [HR]; · iexact HR
    iexact HW
  iintro ⟨HR, HW⟩
  unfold ringR
  rw [univ_split (fun s => slotR arg0 arg5 arg7 c G s (sg 0 s) (Function.update X ⟨0, by omega⟩ (srcV G ⟨0, by omega⟩) s)) ⟨0, by omega⟩,
    show sg 0 ⟨0, by omega⟩ = none from sg_zero, slotR_none, Function.update_self]
  icases HR with ⟨⟨⟨Hs, Hv⟩, HR⟩, HH⟩
  rw [← mixV_zero old (stagedV (srcV G ⟨0, by omega⟩))]
  iapply (fills_wp arg5 arg6 c (srcV G ⟨0, by omega⟩) old _ _ 40 0 _) $$ [H6 Hs]
  · unfold fillR
    isplitl [H6]; · iexact H6
    iexact Hs
  iintro H
  iapply (fillTail_wp arg5 arg6 c _ old 0 80 rfl) $$ H
  iintro H
  iapply (fillTail_wp arg5 arg6 c _ old 1 81 rfl) $$ H
  unfold fillR
  rw [mixV_all]
  iintro ⟨H6, Hs⟩
  iapply HK
  unfold loopI ringR
  iexists (Function.update X ⟨0, by omega⟩ (srcV G ⟨0, by omega⟩))
  isplitr
  · ipureintro
    exact ⟨Function.update_self _ _ _, rfl⟩
  rw [univ_split (fun s => slotR arg0 arg5 arg7 c G s (sg 0 s) (Function.update X ⟨0, by omega⟩ (srcV G ⟨0, by omega⟩) s)) ⟨0, by omega⟩,
    show sg 0 ⟨0, by omega⟩ = none from sg_zero, slotR_none, Function.update_self]
  isplitl [Hs Hv HR HH]
  · isplitl [Hs Hv HR]
    · isplitl [Hs Hv]
      · isplitl [Hs]; · iexact Hs
        iexact Hv
      iexact HR
    iexact HH
  isplitl [H1]; · iexact H1
  isplitl [H2]; · iexact H2
  isplitl [H6]; · iexact H6
  iexact HW

/-- The whole kernel. -/
theorem whole_wp (X : Fin 6 → S1296x256.Idx → Elt F .i32) (old : S41x2x32x128.Idx → Elt F .i32)
    (old3 : S48x10240.Idx → Elt F .bf16) (old4 : S48x128.Idx → Elt F .bf16) (Q : PUnit → sProp 𝕄) :
    iprop(ringR arg0 arg5 arg7 c G (sp 0) X ∗ owns (c : Thread nD τ) arg1 fullShare T ∗ owns (c : Thread nD τ) arg2 fullShare A
        ∗ owns (c : Thread nD τ) arg3 fullShare old3 ∗ owns (c : Thread nD τ) arg4 fullShare old4
        ∗ owns (c : Thread nD τ) arg6 fullShare old ∗ (∃ W, owes (c : Thread nD τ) 0 W))
      ⊢ iprop((iprop((∃ X', ringR arg0 arg5 arg7 c G (sp 0) X') ∗ owns (c : Thread nD τ) arg1 fullShare T ∗ owns (c : Thread nD τ) arg2 fullShare A
        ∗ owns (c : Thread nD τ) arg3 fullShare (outV (mxEnd G T A)) ∗ owns (c : Thread nD τ) arg4 fullShare (tailOutV (mxEnd G T A))
        ∗ (∃ d, owns (c : Thread nD τ) arg6 fullShare d) ∗ (∃ W, owes (c : Thread nD τ) 0 W)) -∗ Q ⟨⟩)
        -∗ WP c (wholeP arg0 arg1 arg2 arg3 harg3 arg4 harg4 arg5 arg6 arg7) Q) := by
  unfold wholeP
  iintro ⟨HR, H1, H2, H3, H4, H6, HW⟩ HK
  iapply (pro_wp arg0 arg1 arg2 arg5 arg6 arg7 c G T A X old) $$ [HR H1 H2 H6 HW]
  · isplitl [HR]; · iexact HR
    isplitl [H1]; · iexact H1
    isplitl [H2]; · iexact H2
    isplitl [H6]; · iexact H6
    iexact HW
  iintro HI
  iapply (Scf.wp_for_bind frame (wpE (defs₀ (F := F)) Variants.none (c : Thread nD τ) none) Set.univ k0_t1_loop.lb k0_t1_loop.ub
    k0_t1_loop.st k0_t1_ok Mxu.init (fun t mx => tripP arg0 arg1 arg2 arg5 arg6 arg7 (k0_pay413) t mx)
    (loopI arg0 arg1 arg2 arg5 arg6 arg7 c G T A) (fun t mx => trip_wp arg0 arg1 arg2 arg5 arg6 arg7 c G T A t mx)) $$ HI
  iintro %mx HI
  rw [show Scf.trips k0_t1_loop.lb k0_t1_loop.ub k0_t1_loop.st = 41 from trips_eq]
  unfold loopI
  icases HI with ⟨%X', %hX, HR, H1, H2, H6, HW⟩
  obtain ⟨-, rfl⟩ := hX
  iapply (epi_wp arg3 harg3 arg4 harg4 c (mxAt G T A 41) (bare_mxAt G T A 41) (liveIn_mxAt G T A 41) old3 old4) $$ [H3 H4]
  · isplitl [H3]; · iexact H3
    iexact H4
  iintro ⟨H3, H4⟩
  iapply HK
  rw [show sg 41 = sp 0 from funext fun s => (sg_end s).trans rfl]
  isplitl [HR]
  · iexists X'; iexact HR
  isplitl [H1]; · iexact H1
  isplitl [H2]; · iexact H2
  isplitl [H3]; · iexact H3
  isplitl [H4]; · iexact H4
  isplitl [H6]
  · iexists _; iexact H6
  iexact HW

end Cert.KernelIdeal.Blocks
-- ==== Proof.KernelIdeal.Split.lean ====
module

public import proofs.«01_k».proof.Proof.KernelIdeal.Run

/-! The ring taken out of the buffers it is made of, and given back. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

variable (arg0 : Memref sig .tc .hbm S1296x10496 .i32) (arg5 : Memref sig .tc .vmem S6x1296x256 .i32)
  (arg7 : DmaSems sig S6) (c : Dev nD)

variable (G : S1296x10496.Idx → Elt F .i32)

/-- A memref without its unit axes owns what the memref does, in the other order of reading. -/
theorem owns_squeeze {sp : Space} {s s' : Shape} {e : EltTy} (m : Memref sig .tc sp s e) (h : s.Squeezes s')
    (q : PosShare TreeShare) (Y : s.Idx → Elt F e) :
    (owns (c : Thread nD τ) m q Y : sProp 𝕄)
      = owns (c : Thread nD τ) (m.squeeze s' h) q (fun i => Y (Shape.reshapeEquiv h.numel_eq i)) := by
  unfold owns
  rw [Memref.set_view_squeeze]
  have key : ∀ f : m.view.ty.Contents (Elt F), (m.view.read (Elt F) f = Y)
      = ((m.squeeze s' h).view.read (Elt F) f = fun i => Y (Shape.reshapeEquiv h.numel_eq i)) := fun f => by
    apply propext
    constructor
    · intro hf
      subst hf
      rfl
    · intro hf
      funext i
      have := congrFun hf ((Shape.reshapeEquiv h.numel_eq).symm i)
      rw [show (m.squeeze s' h).view.read (Elt F) f ((Shape.reshapeEquiv h.numel_eq).symm i)
        = m.view.read (Elt F) f (Shape.reshapeEquiv h.numel_eq ((Shape.reshapeEquiv h.numel_eq).symm i)) from rfl,
        Equiv.apply_symm_apply] at this
      exact this
  simp only [key]

/-- The column blocks of the weights. -/
abbrev rectG (j : Fin 41) : Rect S1296x10496 :=
  Rect.unit (s := S1296x10496) ![0, 256 * j.val] S1296x256.size (offSrc_inb j.val j.isLt)

theorem mem_rectG (j : Fin 41) (z : S1296x10496.Idx) : z ∈ (rectG j).set ↔ (z 1).val / 256 = j.val := by
  constructor
  · intro hj
    rw [← Rect.map_emb_univ, Finset.mem_map] at hj
    obtain ⟨i, -, rfl⟩ := hj
    have h1 : (i 1).val < 256 := (i 1).isLt
    show (256 * j.val + 1 * (i 1).val) / 256 = j.val
    omega
  · intro hj
    have h0 : (z 0).val < 1296 := (z 0).isLt
    rw [← Rect.map_emb_univ, Finset.mem_map]
    refine ⟨idx2 (z 0).val ((z 1).val % 256), Finset.mem_univ _, ?_⟩
    funext a
    apply Fin.ext
    fin_cases a
    · show 0 + 1 * ((z 0).val % 1296) = (z 0).val; omega
    · show 256 * j.val + 1 * ((z 1).val % 256 % 256) = (z 1).val; omega

theorem rectG_disjoint (j j' : Fin 41) (h : j ≠ j') : Disjoint (rectG j).set (rectG j').set :=
  Finset.disjoint_left.mpr fun z hz hz' => h (Fin.ext (((mem_rectG j z).mp hz).symm.trans ((mem_rectG j' z).mp hz')))

theorem rectG_cover : (Finset.univ : Finset (Fin 41)).biUnion (fun j => (rectG j).set) = Finset.univ := by
  ext z
  have h1 : (z 1).val < 10496 := (z 1).isLt
  simp only [Finset.mem_biUnion, Finset.mem_univ, true_and, iff_true]
  exact ⟨⟨(z 1).val / 256, by omega⟩, (mem_rectG _ z).mpr rfl⟩

/-- The slots of the ring. -/
abbrev rectS (s : Fin 6) : Rect S6x1296x256 :=
  Rect.unit (s := S6x1296x256) ![s.val, 0, 0] S1x1296x256.size (offSlot_inb s.val s.isLt)

theorem mem_rectS (s : Fin 6) (z : S6x1296x256.Idx) : z ∈ (rectS s).set ↔ (z 0).val = s.val := by
  constructor
  · intro hj
    rw [← Rect.map_emb_univ, Finset.mem_map] at hj
    obtain ⟨i, -, rfl⟩ := hj
    have h1 : (i 0).val < 1 := (i 0).isLt
    show s.val + 1 * (i 0).val = s.val
    omega
  · intro hj
    have h1 : (z 1).val < 1296 := (z 1).isLt
    have h2 : (z 2).val < 256 := (z 2).isLt
    rw [← Rect.map_emb_univ, Finset.mem_map]
    refine ⟨Shape.reshapeEquiv (s := S1x1296x256) (s' := S1296x256) (squeezes_S1x1296x256_S1296x256.numel_eq)
      (idx2 (z 1).val (z 2).val), Finset.mem_univ _, ?_⟩
    exact slot_idx s.val s.isLt _ z hj (Nat.mod_eq_of_lt h1).symm (Nat.mod_eq_of_lt h2).symm

theorem rectS_disjoint (j j' : Fin 6) (h : j ≠ j') : Disjoint (rectS j).set (rectS j').set :=
  Finset.disjoint_left.mpr fun z hz hz' => h (Fin.ext (((mem_rectS j z).mp hz).symm.trans ((mem_rectS j' z).mp hz')))

theorem rectS_cover : (Finset.univ : Finset (Fin 6)).biUnion (fun j => (rectS j).set) = Finset.univ := by
  ext z
  simp only [Finset.mem_biUnion, Finset.mem_univ, true_and, iff_true]
  exact ⟨⟨(z 0).val, (z 0).isLt⟩, (mem_rectS _ z).mpr rfl⟩

/-- The ring's contents from its slots'. -/
def joinS (X : Fin 6 → S1296x256.Idx → Elt F .i32) : S6x1296x256.Idx → Elt F .i32 :=
  fun z => X (z 0) (idx2 (z 1).val (z 2).val)

theorem joinS_emb (X : Fin 6 → S1296x256.Idx → Elt F .i32) (s : Fin 6) (y : S1296x256.Idx) :
    joinS X ((rectS s).emb (Shape.reshapeEquiv (s := S1x1296x256) (s' := S1296x256) (squeezes_S1x1296x256_S1296x256.numel_eq) y))
      = X s y := by
  have h0 : (y 0).val < 1296 := (y 0).isLt
  have h1 : (y 1).val < 256 := (y 1).isLt
  rw [slot_idx s.val s.isLt y (fun a => match a with
    | ⟨0, _⟩ => (s : Fin 6)
    | ⟨1, _⟩ => (y 0 : Fin 1296)
    | ⟨2, _⟩ => (y 1 : Fin 256)) rfl rfl rfl]
  show X s (idx2 (y 0).val (y 1).val) = X s y
  congr 1
  funext a
  apply Fin.ext
  fin_cases a
  · show (y 0).val % 1296 = _; exact Nat.mod_eq_of_lt h0
  · show (y 1).val % 256 = _; exact Nat.mod_eq_of_lt h1

/-- The slots of the ring, all owned, are the ring. -/
theorem slots_in (Z : S6x1296x256.Idx → Elt F .i32) :
    (owns (c : Thread nD τ) arg5 fullShare Z : sProp 𝕄)
      ⊢ bigSep Finset.univ (fun s : Fin 6 => owns (c : Thread nD τ) (slotM arg5 s.val s.isLt) fullShare
        (fun y => Z ((rectS s).emb (Shape.reshapeEquiv (s := S1x1296x256) (s' := S1296x256) (squeezes_S1x1296x256_S1296x256.numel_eq) y)))) := by
  refine (owns_rects (c : Thread nD τ) arg5 fullShare rectS (fun _ _ => rfl) rectS_disjoint rectS_cover Z).trans ?_
  exact BIBase.Entails.of_eq (bigSep_congr fun s _ => owns_squeeze c _ squeezes_S1x1296x256_S1296x256 fullShare _)

theorem slots_out (X : Fin 6 → S1296x256.Idx → Elt F .i32) :
    bigSep Finset.univ (fun s : Fin 6 => owns (c : Thread nD τ) (slotM arg5 s.val s.isLt) fullShare (X s))
      ⊢ (owns (c : Thread nD τ) arg5 fullShare (joinS X) : sProp 𝕄) := by
  refine BIBase.Entails.trans (BIBase.Entails.of_eq (bigSep_congr fun s _ => ?_))
    (owns_of_rects (c : Thread nD τ) arg5 fullShare rectS (fun _ _ => rfl) rectS_disjoint rectS_cover (joinS X))
  rw [owns_squeeze c (arg5.slice (rectS s) (fun _ => rfl)) squeezes_S1x1296x256_S1296x256 fullShare]
  exact congrArg (owns (c : Thread nD τ) (slotM arg5 s.val s.isLt) fullShare) (funext fun y => (joinS_emb X s y).symm)

theorem homes_idle : bigSep Finset.univ (fun j => homeR arg0 c G (sp 0) j)
    = bigSep Finset.univ (fun j => srcR arg0 c G j) :=
  bigSep_congr fun j _ => by
    unfold homeR
    rw [if_neg]
    rintro ⟨s, hs⟩
    simp [sp] at hs

theorem slots_idle (X : Fin 6 → S1296x256.Idx → Elt F .i32) :
    bigSep Finset.univ (fun s => slotR arg0 arg5 arg7 c G s (sp 0 s) (X s))
      = iprop(bigSep Finset.univ (fun s : Fin 6 => owns (c : Thread nD τ) (slotM arg5 s.val s.isLt) fullShare (X s))
        ∗ bigSep Finset.univ (fun s : Fin 6 => semVal ((c : Thread nD τ), SemLoc.dma (semM arg7 s.val s.isLt)) 0)) := by
  rw [← bigSep_sep']
  exact bigSep_congr fun s _ => slotR_none arg0 arg5 arg7 c G s (X s)

/-- Nothing in flight: the weights, the ring and its semaphores make the idle ring, -/
theorem ring_in (Z : S6x1296x256.Idx → Elt F .i32) :
    iprop(owns (c : Thread nD τ) arg0 fullShare G ∗ owns (c : Thread nD τ) arg5 fullShare Z
        ∗ bigSep Finset.univ (fun s : Fin 6 => semVal ((c : Thread nD τ), SemLoc.dma (semM arg7 s.val s.isLt)) 0))
      ⊢ iprop(∃ X, ringR arg0 arg5 arg7 c G (sp 0) X) := by
  iintro ⟨H0, H5, Hs⟩
  iexists (fun s y => Z ((rectS s).emb (Shape.reshapeEquiv (s := S1x1296x256) (s' := S1296x256) (squeezes_S1x1296x256_S1296x256.numel_eq) y)))
  unfold ringR
  rw [homes_idle, slots_idle]
  isplitl [H5 Hs]
  · isplitl [H5]
    · iapply (slots_in arg5 c Z) $$ H5
    · iexact Hs
  · iapply (owns_rects (c : Thread nD τ) arg0 fullShare rectG (fun _ _ => rfl) rectG_disjoint rectG_cover G) $$ H0

theorem homes_out : bigSep Finset.univ (fun j => srcR arg0 c G j) ⊢ (owns (c : Thread nD τ) arg0 fullShare G : sProp 𝕄) :=
  owns_of_rects (c : Thread nD τ) arg0 fullShare rectG (fun _ _ => rfl) rectG_disjoint rectG_cover G

/-- and back. -/
theorem ring_out (X : Fin 6 → S1296x256.Idx → Elt F .i32) :
    ringR arg0 arg5 arg7 c G (sp 0) X
      ⊢ iprop(owns (c : Thread nD τ) arg0 fullShare G ∗ (∃ Z, owns (c : Thread nD τ) arg5 fullShare Z)
        ∗ bigSep Finset.univ (fun s : Fin 6 => semVal ((c : Thread nD τ), SemLoc.dma (semM arg7 s.val s.isLt)) 0)) := by
  unfold ringR
  rw [homes_idle, slots_idle]
  iintro ⟨⟨H5, Hs⟩, H0⟩
  isplitl [H0]
  · iapply (homes_out arg0 c G) $$ H0
  isplitl [H5]
  · iexists (joinS X)
    iapply (slots_out arg5 c X) $$ H5
  · iexact Hs

end Cert.KernelIdeal.Blocks
-- ==== Proof.KernelIdeal.BodyEq.lean ====
module

public import proofs.«01_k».proof.Proof.KernelIdeal.Blocks

/-! The printed loop trip is the trip written per block: the two programs perform the same operations one by one. -/

@[expose] public section

set_option maxRecDepth 65536

noncomputable section

namespace Cert.KernelIdeal.Blocks

open Idealize.ShloMosaic Idealize.SL.Sem
open Cert.KernelIdeal Cert.KernelIdeal.Gen

variable {F : FTy → Type} [FloatOps F]

/-- Two programs that perform the same operation and go on alike are the same. -/
theorem peel {α β : Type} (e : TpuEff nD τ sig (Elt F) Λ₀ .tc β) (k k' : β → Prog (TpuEff nD τ sig (Elt F) Λ₀ .tc) α)
    (h : ∀ v, k v = k' v) : Prog.op e k = Prog.op e k' := congrArg _ (funext h)

/-- Two nested continuations after two first steps, moved inside. -/
theorem assoc3 {α β γ : Type} (S W : Prog (TpuEff nD τ sig (Elt F) Λ₀ .tc) PUnit) (R : Prog (TpuEff nD τ sig (Elt F) Λ₀ .tc) α)
    (f : α → Prog (TpuEff nD τ sig (Elt F) Λ₀ .tc) β) (g : β → Prog (TpuEff nD τ sig (Elt F) Λ₀ .tc) γ) :
    (((S >>= fun _ => W >>= fun _ => R) >>= f) >>= g) = (S >>= fun _ => W >>= fun _ => ((R >>= f) >>= g)) := by
  simp only [Prog.bind_assoc]

/-- The printed trip's first part: the copy it starts, the copy it waits for, and its first loads. -/
theorem part1_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (c d : BitVec 32) (t : Fin k0_t1_loop.trips) :
    k0_part1 (F := F) arg0 harg0 arg1 harg1 arg2 harg2 arg3 harg3 arg4 harg4 arg5 harg5 arg6 harg6 arg7 c d t = (startP arg0 arg5 arg7 t >>= fun _ => waitP arg0 arg5 arg7 t >>= fun _ =>
      (ldX arg2 t >>= fun x => ldT arg6 0 0 (by omega) >>= fun w => ldTab arg1 t 0 0 (128 * 0) (by omega) (by omega) >>= fun zl =>
        ldTab arg1 t 0 2 (128 * 0) (by omega) (by omega) >>= fun sl =>
        pure ⟨Scalar.subi (Scf.iv c d t) 1#32, Scalar.remsi (Scalar.minsi (Scf.iv c d t) 40#32) 6#32, k0_pay5 x,
          Scalar.addi (Scalar.muli (Scalar.subi (Scf.iv c d t) 1#32) 2#32) 0#32,
          k0_pay6 (F := F) w, k0_pay7 zl, k0_pay8 sl, k0_pay9 (F := F) w⟩)) := by
  rw [k0_part1_eq_skeleton]
  unfold k0_part1_skel startP waitP
  by_cases h1 : k0_cond1 t = 1#1 <;> by_cases h2 : k0_cond2 t = 1#1 <;>
    simp only [h1, h2, dite_true, dite_false, ↓reduceDIte] <;> exact rfl

set_option maxHeartbeats 4000000 in
/-- The printed trip is `tripP`. -/
theorem body_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (k0_mxu1 : Mxu F) (v41_r0 : IVec S32x128 32) (v687_r0 : IVec S1x1x32x128 32) (t : Fin k0_t1_loop.trips) (mx : Mxu F) :
    k0_t1_body arg0 harg0 arg1 harg1 arg2 harg2 arg3 harg3 arg4 harg4 arg5 harg5 arg6 harg6 arg7 k0_mxu1 v41_r0 v687_r0 t mx
      = tripP arg0 arg1 arg2 arg5 arg6 arg7 v41_r0 t mx := by
  unfold k0_t1_body k0_part113
  rw [part1_eq, assoc3]
  refine congrArg (Bind.bind (startP arg0 arg5 arg7 t)) (funext fun _ => congrArg (Bind.bind (waitP arg0 arg5 arg7 t)) (funext fun _ => ?_))
  repeat refine peel _ _ _ (fun v => ?_)
  exact rfl

end Cert.KernelIdeal.Blocks
-- ==== Proof.KernelIdeal.WholeEq.lean ====
module

public import proofs.«01_k».proof.Proof.KernelIdeal.Whole
public import proofs.«01_k».proof.Proof.KernelIdeal.BodyEq

/-! The printed kernel is the kernel written per block. -/

@[expose] public section

set_option maxRecDepth 65536

noncomputable section

namespace Cert.KernelIdeal.Blocks

open Idealize.ShloMosaic Idealize.SL.Sem
open Cert.KernelIdeal Cert.KernelIdeal.Gen

variable {F : FTy → Type} [FloatOps F]

/-- A loop inside a continuation against the same loop, where both programs stand right after an operation. -/
theorem loop_peel {α β γ δ : Type} (v : δ) {A A' : Prog (TpuEff nD τ sig (Elt F) Λ₀ .tc) α}
    {f : α → Prog (TpuEff nD τ sig (Elt F) Λ₀ .tc) β} {g : β → Prog (TpuEff nD τ sig (Elt F) Λ₀ .tc) γ}
    {h : α → Prog (TpuEff nD τ sig (Elt F) Λ₀ .tc) γ} (hA : A = A') (hf : ∀ a, (f a).bind g = h a) :
    ((Prog.ret v).bind fun _ => A >>= f).bind g = (Prog.ret v).bind fun _ => A' >>= h := by
  subst hA
  refine (Prog.bind_assoc A f g).trans ?_
  exact congrArg _ (funext hf)

/-- The statements around the loop, with the loop's trip written per block. -/
noncomputable def part138P (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (k0_mxu1 : Mxu F) (v41_r0 : IVec S32x128 32) (v687_r0 : IVec S1x1x32x128 32) :
    Prog (TpuEff nD τ sig (Elt F) Λ₀ .tc) (Σ' (k0_mxu88 : Mxu F), FVec F S48x256 .bf16) := do
  Prog.lift (.store arg6 (Rect.unit (s := S41x2x32x128) ![39, 1, 0, 0] S1x1x32x128.size inb_S41x2x32x128_S1x1x32x128_39_1_0_0) v687_r0 Finset.univ (View.stores_vmem_bits_univ h_S1x1x32x128 rfl) (.inl rfl))
  let v688_r0 : Vec F S1x16x128 .i32 ← Prog.lift (.load arg5 (Rect.unit (s := S6x1296x256) ![0, 1280, 0] S1x16x128.size inb_S6x1296x256_S1x16x128_0_1280_0).toLoadRect (View.loadsAt_vmem h_S1x16x128))
  let v694_r0 : Vec F S1x1x32x128 .i32 ← Prog.lift (.load arg6 (Rect.unit (s := S41x2x32x128) ![40, 0, 0, 0] S1x1x32x128.size inb_S41x2x32x128_S1x1x32x128_40_0_0_0).toLoadRect (View.loadsAt_vmem h_S1x1x32x128))
  Prog.lift (.store arg6 (Rect.unit (s := S41x2x32x128) ![40, 0, 0, 0] S1x1x32x128.size inb_S41x2x32x128_S1x1x32x128_40_0_0_0) (k0_pay504 v688_r0) Finset.univ (View.stores_vmem_bits_univ h_S1x1x32x128 rfl) (.inl rfl))
  let v697_r0 : Vec F S1x16x128 .i32 ← Prog.lift (.load arg5 (Rect.unit (s := S6x1296x256) ![0, 1280, 128] S1x16x128.size inb_S6x1296x256_S1x16x128_0_1280_128).toLoadRect (View.loadsAt_vmem h_S1x16x128))
  let v703_r0 : Vec F S1x1x32x128 .i32 ← Prog.lift (.load arg6 (Rect.unit (s := S41x2x32x128) ![40, 1, 0, 0] S1x1x32x128.size inb_S41x2x32x128_S1x1x32x128_40_1_0_0).toLoadRect (View.loadsAt_vmem h_S1x1x32x128))
  Prog.lift (.store arg6 (Rect.unit (s := S41x2x32x128) ![40, 1, 0, 0] S1x1x32x128.size inb_S41x2x32x128_S1x1x32x128_40_1_0_0) (k0_pay505 v697_r0) Finset.univ (View.stores_vmem_bits_univ h_S1x1x32x128 rfl) (.inl rfl))
  let k0_mxu3 : Mxu F ← Scf.Loop.for k0_t1_loop k0_t1_ok k0_mxu1 (fun t mx => tripP arg0 arg1 arg2 arg5 arg6 arg7 v41_r0 t mx)
  have v707_r0 : FVec F S48x256 .f32 := k0_mxu3.read 0 0 fits_0_48
  have k0_mxu86 : Mxu F := k0_mxu3.pop 0 0 48 fits_0_48
  let v709_r0 : Vec F S48x256 .bf16 ← Prog.lift (.load arg3 (Rect.unit (s := S48x10240) ![0, 0] S48x256.size inb_S48x10240_S48x256_0_0).toLoadRect (View.loadsAt_vmem h_S48x256))
  Prog.lift (.store arg3 (Rect.unit (s := S48x10240) ![0, 0] S48x256.size inb_S48x10240_S48x256_0_0) (k0_pay508 v707_r0) Finset.univ (View.stores_vmem h_S48x256 (harg3.storeExact_slice rfl _ packedbf16_S48x10240_S48x256_0_0) (fun _ => rfl)) (.inl rfl))
  have v710_r0 : FVec F S48x256 .f32 := k0_mxu86.read 1 0 fits_0_48
  have k0_mxu87 : Mxu F := k0_mxu86.pop 1 0 48 fits_0_48
  let v712_r0 : Vec F S48x256 .bf16 ← Prog.lift (.load arg3 (Rect.unit (s := S48x10240) ![0, 256] S48x256.size inb_S48x10240_S48x256_0_256).toLoadRect (View.loadsAt_vmem h_S48x256))
  Prog.lift (.store arg3 (Rect.unit (s := S48x10240) ![0, 256] S48x256.size inb_S48x10240_S48x256_0_256) (k0_pay509 v710_r0) Finset.univ (View.stores_vmem h_S48x256 (harg3.storeExact_slice rfl _ packedbf16_S48x10240_S48x256_0_256) (fun _ => rfl)) (.inl rfl))
  have v713_r0 : FVec F S48x256 .f32 := k0_mxu87.read 0 12 fits_12_48
  have k0_mxu88 : Mxu F := k0_mxu87.pop 0 12 48 fits_12_48
  pure ⟨k0_mxu88, k0_pay510 v713_r0⟩

theorem part138_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) (k0_mxu1 : Mxu F) (v41_r0 : IVec S32x128 32) (v687_r0 : IVec S1x1x32x128 32) :
    k0_part138 (F := F) arg0 harg0 arg1 harg1 arg2 harg2 arg3 harg3 arg4 harg4 arg5 harg5 arg6 harg6 arg7 k0_mxu1 v41_r0 v687_r0 = part138P arg0 harg0 arg1 harg1 arg2 harg2 arg3 harg3 arg4 harg4 arg5 harg5 arg6 harg6 arg7 k0_mxu1 v41_r0 v687_r0 := by
  have hb : k0_t1_body (F := F) arg0 harg0 arg1 harg1 arg2 harg2 arg3 harg3 arg4 harg4 arg5 harg5 arg6 harg6 arg7 k0_mxu1 v41_r0 v687_r0 = fun t mx => tripP arg0 arg1 arg2 arg5 arg6 arg7 v41_r0 t mx :=
    funext fun t => funext fun mx => body_eq arg0 harg0 arg1 harg1 arg2 harg2 arg3 harg3 arg4 harg4 arg5 harg5 arg6 harg6 arg7 k0_mxu1 v41_r0 v687_r0 t mx
  rw [k0_part138_eq_skeleton]
  unfold k0_part138_skel part138P
  rw [hb]

set_option maxHeartbeats 4000000 in
/-- The printed kernel is `wholeP`. -/
theorem whole_eq (arg0 : Memref sig .tc .hbm S1296x10496 .i32) (harg0 : arg0.IsWhole) (arg1 : Memref sig .tc .vmem S82x4x5248 .bf16) (harg1 : arg1.IsWhole) (arg2 : Memref sig .tc .vmem S41x48x256 .bf16) (harg2 : arg2.IsWhole) (arg3 : Memref sig .tc .vmem S48x10240 .bf16) (harg3 : arg3.IsWhole) (arg4 : Memref sig .tc .vmem S48x128 .bf16) (harg4 : arg4.IsWhole) (arg5 : Memref sig .tc .vmem S6x1296x256 .i32) (harg5 : arg5.IsWhole) (arg6 : Memref sig .tc .vmem S41x2x32x128 .i32) (harg6 : arg6.IsWhole) (arg7 : DmaSems sig S6) :
    cc0_awq_matmul (F := F) arg0 harg0 arg1 harg1 arg2 harg2 arg3 harg3 arg4 harg4 arg5 harg5 arg6 harg6 arg7 = wholeP arg0 arg1 arg2 arg3 harg3 arg4 harg4 arg5 arg6 arg7 := by
  rw [cc0_awq_matmul_eq_skeleton]
  unfold cc0_awq_matmul_skel
  simp only [part138_eq]
  repeat refine peel _ _ _ (fun v => ?_)
  refine loop_peel (F := F) v rfl (fun mx => ?_)
  repeat refine peel _ _ _ (fun v => ?_)
  exact rfl

end Cert.KernelIdeal.Blocks
-- ==== Proof.KernelIdeal.Frame.lean ====
module

public import proofs.«01_k».proof.Proof.KernelIdeal.Split
public import proofs.«01_k».proof.Proof.KernelIdeal.WholeEq
public import proofs.«01_k».proof.Proof.Gen.KernelIdeal.Frame

/-! The launch: the whole program runs, its arguments and its semaphores end as they began. -/

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of this proof. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the launch asks: the kernel's own semaphores, the weights it copies from, the host lines -/

/-- The six semaphores of the ring. -/
abbrev osem0 : Fin 6 → SemLoc sig := fun j => SemLoc.dma (semM cc0_scratch2 j.val j.isLt)
theorem ownSemFacts0 : Pipeline.OwnSemFacts spec0 osem0 := by decide

/-- The buffer the copies read. -/
def H0 : Finset (Ref sig .tc) := {main_v104}
theorem H0_sub : H0 ⊆ Pipeline.restRefs sig spec0 := by decide

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem not_mem_insert {b y : Ref sig .tc} {s : Finset (DevRef τ sig)} (h : b ≠ y) (hs : (Proc.devRef .tc b : DevRef τ sig) ∉ s) :
    (Proc.devRef .tc b : DevRef τ sig) ∉ insert (Proc.devRef .tc y) s := by
  rw [Finset.mem_insert, not_or]
  exact ⟨StableHlo.devRef_ne_of_ne h, hs⟩

theorem not_mem_single {b y : Ref sig .tc} (h : b ≠ y) :
    (Proc.devRef .tc b : DevRef τ sig) ∉ ({Proc.devRef .tc y} : Finset (DevRef τ sig)) := by
  rw [Finset.mem_singleton]
  exact StableHlo.devRef_ne_of_ne h

theorem not_mem_image {b : Ref sig .tc} {n : ℕ} {xs : Fin n → Ref sig .tc} (h : ∀ k, b ≠ xs k) :
    (Proc.devRef .tc b : DevRef τ sig) ∉ Finset.univ.image (fun k => (Proc.devRef .tc (xs k) : DevRef τ sig)) := by
  rw [Finset.mem_image]
  rintro ⟨k, -, hk⟩
  exact StableHlo.devRef_ne_of_ne (h k) hk.symm

set_option maxHeartbeats 4000000 in
/-- The host lines after the kernel do not touch the buffer the copies read. -/
theorem sfx_apart : ∀ op ∈ (hostOps1 : List (HloOp τ sig (Elt F))), (Proc.devRef .tc main_v104 : DevRef τ sig) ∉ op.bufs := by
  refine List.forall_iff_forall_mem.mp ?_
  simp only [hostOps1, List.Forall]
  repeat' apply And.intro
  all_goals first
    | exact not_mem_insert (by decide) (not_mem_single (by decide))
    | exact not_mem_insert (by decide) (not_mem_insert (by decide) (not_mem_single (by decide)))
    | exact not_mem_insert (by decide) (not_mem_image (by decide))

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [H0, Finset.mem_singleton] at hb
  subst hb
  exact sfx_apart op hop

/-- A buffer no host line writes and no window stages ends as launched. -/
theorem tail_eq (dats : (p : Fin 1) → (c : Dev nD) → Dat τ (Elt F) Unit ℕ (Pipeline.UD sig nD τ) ℕ (cfgs p) c) (c : Dev nD) (b : Ref sig .tc)
    (hb : ∀ op ∈ (List.flatten [hostOps1] : List (HloOp τ sig (Elt F))), (Proc.devRef .tc b : DevRef τ sig) ∉ op.writes)
    (hw : ∀ w, Pipeline.arrRef spec0 w ≠ b) (hV : Gen.V m c b = m ((c : Thread nD τ).loc b)) :
    Pipeline.afterTail₀ cfgs dats 0 (V0 m) [hostOps1] c b = m ((c : Thread nD τ).loc b) := by
  unfold Pipeline.afterTail₀
  rw [StableHlo.after_of_forall_not_mem (b := Proc.devRef .tc b) _ _ hb, Pipeline.withArrays_of_ne _ c (V0 m c) _ b hw]
  exact hV

/-- No host line after the kernel writes an argument. -/
theorem writes_apart (b : Ref sig .tc) (hb : ∀ op ∈ (hostOps1 : List (HloOp τ sig (Elt F))), (Proc.devRef .tc b : DevRef τ sig) ∉ op.writes) :
    ∀ op ∈ (List.flatten [hostOps1] : List (HloOp τ sig (Elt F))), (Proc.devRef .tc b : DevRef τ sig) ∉ op.writes := by
  rw [List.flatten_cons, List.flatten_nil, List.append_nil]
  exact hb

set_option maxHeartbeats 4000000 in
theorem writes_args : ∀ op ∈ (hostOps1 : List (HloOp τ sig (Elt F))), ∀ b ∈ [main_arg0, main_arg1, main_arg2, main_arg3, main_arg4],
    (Proc.devRef .tc b : DevRef τ sig) ∉ op.writes := by
  have key : ∀ y : Ref sig .tc, (∀ b ∈ [main_arg0, main_arg1, main_arg2, main_arg3, main_arg4], b ≠ y) →
      ∀ b ∈ [main_arg0, main_arg1, main_arg2, main_arg3, main_arg4],
        (Proc.devRef .tc b : DevRef τ sig) ∉ ({Proc.devRef .tc y} : Finset (DevRef τ sig)) := fun y h b hb => not_mem_single (h b hb)
  refine List.forall_iff_forall_mem.mp ?_
  simp only [hostOps1, List.Forall]
  repeat' apply And.intro
  all_goals exact key _ (by decide)

theorem frame_of (dats : (p : Fin 1) → (c : Dev nD) → Dat τ (Elt F) Unit ℕ (Pipeline.UD sig nD τ) ℕ (cfgs p) c)
    (hA : ∀ c w, (dats 0 c).A w = Gen.V m c (Pipeline.arrRef spec0 w))
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans
        (tail_eq m dats c main_arg0 (writes_apart _ fun op ho => writes_args op ho _ (by decide)) (by decide) (V_main_arg0 m c)),
      ((h.1 c).2 main_arg1 (Pipeline.mem_restRefs_of main_arg1 (by decide) (by decide))).trans
        (tail_eq m dats c main_arg1 (writes_apart _ fun op ho => writes_args op ho _ (by decide)) (by decide) (V_main_arg1 m c)),
      ((h.1 c).2 main_arg2 (Pipeline.mem_restRefs_of main_arg2 (by decide) (by decide))).trans
        (tail_eq m dats c main_arg2 (writes_apart _ fun op ho => writes_args op ho _ (by decide)) (by decide) (V_main_arg2 m c)),
      ((h.1 c).2 main_arg3 (Pipeline.mem_restRefs_of main_arg3 (by decide) (by decide))).trans
        (tail_eq m dats c main_arg3 (writes_apart _ fun op ho => writes_args op ho _ (by decide)) (by decide) (V_main_arg3 m c)),
      ((h.1 c).2 main_arg4 (Pipeline.mem_restRefs_of main_arg4 (by decide) (by decide))).trans
        (tail_eq m dats c main_arg4 (writes_apart _ fun op ho => writes_args op ho _ (by decide)) (by decide) (V_main_arg4 m c))⟩, h.2⟩) h

/-! ## The proof data -/

/-- The weights, transposed, as the kernel finds them. -/
abbrev Gm (c : Dev nD) : S1296x10496.Idx → Elt F .i32 := Gen.V m c main_v104
/-- The table. -/
abbrev Tm (c : Dev nD) (t : Fin cfg0.N) : S82x4x5248.Idx → Elt F .bf16 := iblk m c 0 t
/-- The activations. -/
abbrev Am (c : Dev nD) (t : Fin cfg0.N) : S41x48x256.Idx → Elt F .bf16 := iblk m c 1 t

/-- The proof data: the arrays as the kernel finds them, the two results, the ring idle at both ends. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => outV (mxEnd (Gm m c) (Tm m c t) (Am m c t))
    | ⟨3, _⟩ => tailOutV (mxEnd (Gm m c) (Tm m c t) (Am m c t))
  Φ _ := Pipeline.ΦD osem0 spec0 H0 (Gen.V m) c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outV (mxEnd (Gm m c) (Tm m c t) (Am m c t)) := by dsimp only [dats]
theorem after0_3 (c : Dev nD) (t : Fin cfg0.N) : (dats m 0 c).after 3 t = tailOutV (mxEnd (Gm m c) (Tm m c t) (Am m c t)) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

theorem PhiD0_eq (c : Dev nD) :
    (Pipeline.ΦD osem0 spec0 H0 (Gen.V m) c : sProp 𝕄)
      = iprop(((∃ d, owns (c : Thread nD τ) (Memref.whole cc0_scratch0 : Memref sig .tc .vmem S6x1296x256 .i32) fullShare d)
            ∗ (∃ d, owns (c : Thread nD τ) (Memref.whole cc0_scratch1 : Memref sig .tc .vmem S41x2x32x128 .i32) fullShare d))
          ∗ (∃ r, prngReg c r)
          ∗ bigSep Finset.univ (fun s : Fin 6 => semVal ((c : Thread nD τ), SemLoc.dma (semM cc0_scratch2 s.val s.isLt)) 0)
          ∗ owns (c : Thread nD τ) (Memref.whole main_v104 : Memref sig .tc .hbm S1296x10496 .i32) fullShare (Gm m c)) := by
  rw [Pipeline.ΦD_eq, scopedRest0_eq, H0, bigSep_singleton]
  simp only [owns_whole]; rfl

abbrev ms0_0 (t : Fin cfg0.N) : Memref sig .tc .vmem S82x4x5248 .bf16 := win0_0.stage (cfg0.slots t 0)
abbrev ms0_1 (t : Fin cfg0.N) : Memref sig .tc .vmem S41x48x256 .bf16 := win0_1.stage (cfg0.slots t 1)
abbrev ms0_2 (t : Fin cfg0.N) : Memref sig .tc .vmem S48x10240 .bf16 := win0_2.stage (cfg0.slots t 2)
abbrev ms0_3 (t : Fin cfg0.N) : Memref sig .tc .vmem S48x128 .bf16 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [whole_eq]
  rw [show (dats m 0 c).Φ t.succ = (dats m 0 c).Φ t.castSucc from rfl, after0_0, after0_1, after0_2, after0_3]
  rw [show (dats m 0 c).Φ t.castSucc = Pipeline.ΦD osem0 spec0 H0 (Gen.V m) c from rfl, PhiD0_eq]
  simp only [before0_0, before0_1]
  unfold Dat.owesAt Pipeline.owesWithin
  rw [show (dats m 0 c).owed t.castSucc = 0 from rfl, show (dats m 0 c).owed t.succ = 0 from rfl]
  iintro ⟨⟨⟨⟨%d5, H5⟩, ⟨%d6, H6⟩⟩, Hg, Hv, H0⟩, ⟨%W, -, HW⟩, ⟨%e0, H1⟩, ⟨%e1, H2⟩, ⟨%d2, H3⟩, ⟨%d3, H4⟩⟩
  icases (ring_in (Memref.whole main_v104 : Memref sig .tc .hbm S1296x10496 .i32)
    (Memref.whole cc0_scratch0 : Memref sig .tc .vmem S6x1296x256 .i32) cc0_scratch2 c (Gm m c) d5) $$ [H0 H5 Hv] with ⟨%X, HR⟩
  · isplitl [H0]; · iexact H0
    isplitl [H5]; · iexact H5
    iexact Hv
  iapply (whole_wp _ _ _ _ _ _ _ _ _ _ c (Gm m c) (Tm m c t) (Am m c t) X d6 ((dats m 0 c).before 2 t d2) ((dats m 0 c).before 3 t d3))
    $$ [HR H1 H2 H3 H4 H6 HW]
  · isplitl [HR]; · iexact HR
    isplitl [H1]; · iexact H1
    isplitl [H2]; · iexact H2
    isplitl [H3]; · iexact H3
    isplitl [H4]; · iexact H4
    isplitl [H6]; · iexact H6
    iexists W; iexact HW
  iintro ⟨⟨%X', HR⟩, H1, H2, H3, H4, H6, ⟨%W', HW⟩⟩
  icases (ring_out (Memref.whole main_v104 : Memref sig .tc .hbm S1296x10496 .i32)
    (Memref.whole cc0_scratch0 : Memref sig .tc .vmem S6x1296x256 .i32) cc0_scratch2 c (Gm m c) X') $$ HR with ⟨H0, H5, Hv⟩
  isplitl [H5 H6 Hg Hv H0]
  · isplitl [H5 H6]
    · isplitl [H5]; · iexact H5
      iexact H6
    isplitl [Hg]; · iexact Hg
    isplitl [Hv]; · iexact Hv
    iexact H0
  isplitl [HW]
  · iexists W'; isplitr; · ipureintro; exact fun _ _ => Or.inl trivial
    iexact HW
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m)
    (hin := fun _ => .rfl) (hout := fun _ => .rfl)

/-- THE FRAME: the program terminates without fault, its arguments end as they began, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of m ρ (dats m) (A_eq m) (run_main m ρ)

end Cert.KernelIdeal.Blocks
-- ==== Proof.Value.Unit.lean ====
module

public import proofs.«01_k».proof.Proof.KernelIdeal.Loop
public import proofs.«01_k».proof.Proof.KernelIdeal.Pops
public import Idealize.ShloMosaic.Lib.Pointwise
public import Idealize.ShloMosaic.Lib.Mxu.Lemmas

/-! What the matrix unit holds after the loop, over the extended reals: each accumulator is the sum, over the trips, of the
trip's activations times the trip's tile. -/

@[expose] public section

set_option maxRecDepth 16384

noncomputable section

namespace Cert.KernelIdeal.Blocks

open Cert.KernelIdeal Cert.KernelIdeal.Gen
open Idealize.ShloMosaic
open scoped BigOperators

/-- One element of the product of a slab of activations and a tile. -/
def dotV (x : FVec Ideal S48x256 .bf16) (v : FVec Ideal (Mxu.STile 256) .bf16) (r : Fin 48) (C : Fin 256) : EReal :=
  ∑ k : Fin 256, x (ix2 r k) * v (ix2 k C)

/-- The row within its accumulator of a row of the unit's buffer. -/
def rowIn (R : Fin 1024) : Fin 48 := ⟨R.val % 48, Nat.mod_lt _ (by decide)⟩

/-- A pass of the unit, at an element. -/
theorem pass_at (x : FVec Ideal S48x256 .bf16) (v : FVec Ideal (Mxu.STile 256) .bf16) (r : Fin 48) (C : Fin 256) :
    (Mxu.Staged.pass (F := Ideal) ⟨.bf16, false, v⟩ x) (Mxu.ix r C) = dotV x v r C := by
  show FloatOps.mxuPass (DotDims.plain 48 256 256) x v (Mxu.ix r C) = _
  show (∑ k : (DotDims.plain 48 256 256).contr.Idx, x ((DotDims.plain 48 256 256).lhsIdx (Mxu.ix r C) k)
    * v ((DotDims.plain 48 256 256).rhsIdx (Mxu.ix r C) k)) = _
  rw [← Equiv.sum_comp
    (ValueIdx.contrEquiv1 (DotDims.plain 48 256 256) 256 rfl rfl).symm]
  refine Finset.sum_congr rfl fun k _ => ?_
  have hk := ValueIdx.contrEquiv1_symm_val (DotDims.plain 48 256 256) 256 rfl rfl k
  have el : (DotDims.plain 48 256 256).lhsIdx (Mxu.ix r C) ((ValueIdx.contrEquiv1 (DotDims.plain 48 256 256) 256 rfl rfl).symm k) = ix2 r k := by
    funext a; apply Fin.ext
    match a with
    | ⟨0, _⟩ => rfl
    | ⟨1, _⟩ => exact hk
  have er : (DotDims.plain 48 256 256).rhsIdx (Mxu.ix r C) ((ValueIdx.contrEquiv1 (DotDims.plain 48 256 256) 256 rfl rfl).symm k) = ix2 k C := by
    funext a; apply Fin.ext
    match a with
    | ⟨0, _⟩ => exact hk
    | ⟨1, _⟩ => rfl
  rw [el, er]

/-- A deposit adds, whether the row is live or not, since a row that is not live holds zero. -/
theorem deposit_add (mx : Mxu Ideal) (q : Fin 2) (R : Fin 1024) (C : Fin 256) (p : EReal) :
    Mxu.deposit (F := Ideal) (mx.live q R) (mx.acc q R C) p = mx.acc q R C + p := by
  cases h : mx.live q R
  · rw [mx.clean q R C h]
    show p = Ideal.ofBits .f32 0x00000000#32 + p
    rw [Ideal.ofBits_zero_f32, zero_add]
  · rfl

/-- What a push and an accumulate of block `b` leave in the accumulators. -/
theorem step_acc {mx : Mxu Ideal} (hB : Bare mx) (b : ℕ) (hb : b ≤ 41) (r : Fin 2) (v : FVec Ideal (Mxu.STile 256) .bf16)
    (x : FVec Ideal S48x256 .bf16) (hf : Mxu.Fits (12 * (b / 2)) 48) (q : Fin 2) (R : Fin 1024) (C : Fin 256) :
    ((mx.pushed (unitOf b) r false v).accLhs (unitOf b) r (12 * (b / 2)) x hf).acc q R C
      = mx.acc q R C + if rowBlk q R = b then dotV x v (rowIn R) C else 0 := by
  have e : mx.pushed (unitOf b) r false v
      = { mx with reg := fun q' r' => if q' = unitOf b ∧ r' = r then some ⟨.bf16, false, v⟩ else mx.reg q' r' } := by
    unfold Mxu.pushed; rw [hB (unitOf b) r]
  have es : (mx.pushed (unitOf b) r false v).staged (unitOf b) r = ⟨.bf16, false, v⟩ := by
    unfold Mxu.staged; rw [e]
    show (if unitOf b = unitOf b ∧ r = r then some (⟨.bf16, false, v⟩ : Mxu.Staged Ideal) else mx.reg (unitOf b) r).getD _ = _
    rw [if_pos ⟨rfl, rfl⟩]; rfl
  have hl : (mx.pushed (unitOf b) r false v).live = mx.live := Mxu.live_pushed ..
  have ha : (mx.pushed (unitOf b) r false v).acc = mx.acc := Mxu.acc_pushed ..
  have main : ((mx.pushed (unitOf b) r false v).accLhs (unitOf b) r (12 * (b / 2)) x hf).acc q R C
      = if hq : q = unitOf b ∧ 4 * (12 * (b / 2)) ≤ R.val ∧ R.val < 4 * (12 * (b / 2)) + 48 then
          Mxu.deposit ((mx.pushed (unitOf b) r false v).live q R) ((mx.pushed (unitOf b) r false v).acc q R C)
            (((mx.pushed (unitOf b) r false v).staged (unitOf b) r).pass x (Mxu.ix ⟨R.val - 4 * (12 * (b / 2)), by omega⟩ C))
        else (mx.pushed (unitOf b) r false v).acc q R C := rfl
  rw [main, hl, ha, es]
  by_cases h : rowBlk q R = b
  · have h' := (rowBlk_iff b hb q R).mpr h
    rw [dif_pos h', if_pos h, deposit_add, pass_at]
    have hr : (⟨R.val - 4 * (12 * (b / 2)), by omega⟩ : Fin 48) = rowIn R := Fin.ext (by
      show R.val - 4 * (12 * (b / 2)) = R.val % 48
      omega)
    rw [hr]
  · rw [dif_neg (fun h' => h ((rowBlk_iff b hb q R).mp h')), if_neg h, add_zero]

variable (G : S1296x10496.Idx → Elt Ideal .i32) (T : S82x4x5248.Idx → Elt Ideal .bf16) (A : S41x48x256.Idx → Elt Ideal .bf16)

/-- The tile of block `b` in trip `t`, made of the staged words `old`. -/
def tileV (old : S41x2x32x128.Idx → Elt Ideal .i32) (t : Fin k0_t1_loop.trips) (b : ℕ) (hb : b < 40) :
    FVec Ideal (Mxu.STile 256) .bf16 := k0_pay14 (halfV T old t b hb 0) (halfV T old t b hb 1)

theorem tileV_congr (old : S41x2x32x128.Idx → Elt Ideal .i32) (t : Fin k0_t1_loop.trips) {b b' : ℕ} (h : b = b') {hb : b < 40} {hb' : b' < 40} :
    tileV T old t b hb = tileV T old t b' hb' := by subst h; rfl

/-- The tail's tile in trip `t`. -/
def tileTailV (old : S41x2x32x128.Idx → Elt Ideal .i32) (t : Fin k0_t1_loop.trips) : FVec Ideal (Mxu.STile 256) .bf16 :=
  k0_pay507 (halfTailV T old t 0) (halfTailV T old t 1)

/-- What blocks `b … b+n-1` of a trip leave in the accumulators. -/
theorem blks_acc (old : S41x2x32x128.Idx → Elt Ideal .i32) (t : Fin k0_t1_loop.trips) (x : FVec Ideal S48x256 .bf16)
    (q : Fin 2) (R : Fin 1024) (C : Fin 256) : ∀ (n b : ℕ) (h : b + n ≤ 40) (mx : Mxu Ideal), Bare mx →
    (blksV T old t x n b h mx).acc q R C
      = mx.acc q R C + if h' : b ≤ rowBlk q R ∧ rowBlk q R < b + n then dotV x (tileV T old t (rowBlk q R) (by omega)) (rowIn R) C else 0
  | 0, b, h, mx, hm => by
    rw [dif_neg (by omega), add_zero]; rfl
  | n + 1, b, h, mx, hm => by
    show (blksV T old t x n (b + 1) _ (blkV T old t x b _ mx)).acc q R C = _
    refine (blks_acc old t x q R C n (b + 1) (by omega) _ (Bare.step hm _ _ _ _ _ _)).trans ?_
    rw [step_acc hm b (by omega), add_assoc]
    congr 1
    by_cases hb : rowBlk q R = b
    · rw [if_pos hb, dif_neg (by omega), dif_pos (by omega), add_zero]
      subst hb; rfl
    · rw [if_neg hb, zero_add]
      by_cases h2 : b + 1 ≤ rowBlk q R ∧ rowBlk q R < b + 1 + n
      · rw [dif_pos h2, dif_pos (by omega)]
      · rw [dif_neg h2, dif_neg (by omega)]

/-- What a trip adds to an element of the accumulators of blocks below 40. -/
theorem trip_acc (old : S41x2x32x128.Idx → Elt Ideal .i32) (t : Fin k0_t1_loop.trips) {mx : Mxu Ideal} (hm : Bare mx)
    (q : Fin 2) (R : Fin 1024) (C : Fin 256) (hb : rowBlk q R < 40) :
    (tripV T A old t mx).acc q R C = mx.acc q R C + dotV (k0_pay5 (slabV A t)) (tileV T old t (rowBlk q R) hb) (rowIn R) C := by
  unfold tripV tailV
  refine (step_acc (b := 41) (Bare.blks 40 0 _ _ hm) (by omega) _ _ _ _ q R C).trans ?_
  rw [if_neg (by omega), add_zero, blks_acc T old t _ q R C 40 0 _ _ hm, dif_pos ⟨by omega, by omega⟩]

/-- What a trip adds to an element of the tail's accumulator. -/
theorem trip_tail_acc (old : S41x2x32x128.Idx → Elt Ideal .i32) (t : Fin k0_t1_loop.trips) {mx : Mxu Ideal} (hm : Bare mx)
    (q : Fin 2) (R : Fin 1024) (C : Fin 256) (hb : rowBlk q R = 41) :
    (tripV T A old t mx).acc q R C = mx.acc q R C + dotV (k0_pay5 (slabV A t)) (tileTailV T old t) (rowIn R) C := by
  unfold tripV tailV
  refine (step_acc (b := 41) (Bare.blks 40 0 _ _ hm) (by omega) _ _ _ _ q R C).trans ?_
  rw [if_pos hb, blks_acc T old t _ q R C 40 0 _ _ hm, dif_neg (by omega), add_zero]; rfl

/-- The words staged for trip `n`. -/
def oldV (n : ℕ) : S41x2x32x128.Idx → Elt Ideal .i32 := stagedV (srcV G (blkOf n))

/-- Trip `n`. -/
def tripOf (n : Fin 41) : Fin k0_t1_loop.trips := ⟨n.val, by rw [trips_eq]; exact n.isLt⟩

/-- An accumulator of a block below 40 after `n` trips. -/
theorem mxAt_acc (q : Fin 2) (R : Fin 1024) (C : Fin 256) (hb : rowBlk q R < 40) : ∀ (n : ℕ), n ≤ 41 →
    (mxAt G T A n).acc q R C = ∑ t ∈ Finset.univ.filter (fun t : Fin 41 => t.val < n),
      dotV (k0_pay5 (slabV A (tripOf t))) (tileV T (oldV G t.val) (tripOf t) (rowBlk q R) hb) (rowIn R) C := by
  intro n
  induction n with
  | zero =>
    intro _
    show Ideal.ofBits .f32 0 = _
    simp [Ideal.ofBits_zero_f32]
  | succ n ih =>
    intro hn
    have e := mxAt_succ G T A (tripOf ⟨n, by omega⟩)
    rw [show (tripOf ⟨n, by omega⟩).val = n from rfl] at e
    rw [e, trip_acc T A _ _ (bare_mxAt G T A n) q R C hb, ih (by omega)]
    have hs : (Finset.univ.filter (fun t : Fin 41 => t.val < n + 1))
        = insert ⟨n, by omega⟩ (Finset.univ.filter (fun t : Fin 41 => t.val < n)) := by
      ext t; simp only [Finset.mem_filter, Finset.mem_univ, true_and, Finset.mem_insert, Fin.ext_iff]; omega
    rw [hs, Finset.sum_insert (by simp), add_comm]; rfl

/-- The tail's accumulator after `n` trips. -/
theorem mxAt_tail_acc (q : Fin 2) (R : Fin 1024) (C : Fin 256) (hb : rowBlk q R = 41) : ∀ (n : ℕ), n ≤ 41 →
    (mxAt G T A n).acc q R C = ∑ t ∈ Finset.univ.filter (fun t : Fin 41 => t.val < n),
      dotV (k0_pay5 (slabV A (tripOf t))) (tileTailV T (oldV G t.val) (tripOf t)) (rowIn R) C := by
  intro n
  induction n with
  | zero =>
    intro _
    show Ideal.ofBits .f32 0 = _
    simp [Ideal.ofBits_zero_f32]
  | succ n ih =>
    intro hn
    have e := mxAt_succ G T A (tripOf ⟨n, by omega⟩)
    rw [show (tripOf ⟨n, by omega⟩).val = n from rfl] at e
    rw [e, trip_tail_acc T A _ _ (bare_mxAt G T A n) q R C hb, ih (by omega)]
    have hs : (Finset.univ.filter (fun t : Fin 41 => t.val < n + 1))
        = insert ⟨n, by omega⟩ (Finset.univ.filter (fun t : Fin 41 => t.val < n)) := by
      ext t; simp only [Finset.mem_filter, Finset.mem_univ, true_and, Finset.mem_insert, Fin.ext_iff]; omega
    rw [hs, Finset.sum_insert (by simp), add_comm]; rfl

/-- Where a result is read from. -/
theorem outV_acc (mx0 : Mxu Ideal) (r : Fin 48) (c : Fin 10240) (hb : c.val / 256 < 40) :
    outV mx0 (ix2 r c) = mx0.acc (unitOf (c.val / 256)) (Mxu.row (fitsBlk _ hb) r) ⟨c.val % 256, Nat.mod_lt _ (by decide)⟩ := rfl

/-- Where a result of the tail is read from. -/
theorem tailOutV_acc (mx0 : Mxu Ideal) (r : Fin 48) (c : Fin 128) :
    tailOutV mx0 (ix2 r c) = mx0.acc 1 (Mxu.row fits_240_48 r) ⟨c.val, by omega⟩ := by
  unfold tailOutV k0_pay4
  pointwise
  show mx0.acc 1 (Mxu.row fits_240_48 _) _ = _
  rfl

/-- **A result of the region, as a sum over the trips and the positions within a trip's slab.** -/
theorem outV_sum (r : Fin 48) (c : Fin 10240) (hb : c.val / 256 < 40) :
    outV (mxAt G T A 41) (ix2 r c) = ∑ t : Fin 41, dotV (k0_pay5 (slabV A (tripOf t)))
      (tileV T (oldV G t.val) (tripOf t) (c.val / 256) hb) r ⟨c.val % 256, Nat.mod_lt _ (by decide)⟩ := by
  have hR := (rowBlk_iff (c.val / 256) (by omega) (unitOf (c.val / 256)) (Mxu.row (fitsBlk _ hb) r)).mp ⟨rfl, by
    show 4 * (12 * (c.val / 256 / 2)) ≤ 4 * (12 * (c.val / 256 / 2)) + r.val; omega, by
    show 4 * (12 * (c.val / 256 / 2)) + r.val < _; omega⟩
  have hr : rowIn (Mxu.row (fitsBlk _ hb) r) = r := Fin.ext (by
    show (4 * (12 * (c.val / 256 / 2)) + r.val) % 48 = r.val
    omega)
  rw [outV_acc _ _ _ hb, mxAt_acc G T A _ _ _ (by omega) 41 le_rfl, hr]
  rw [Finset.filter_true_of_mem (fun t _ => t.isLt)]
  refine Finset.sum_congr rfl fun t _ => ?_
  rw [tileV_congr T _ _ hR]

/-- **A result of the region's tail, as a sum over the trips and the positions within a trip's slab.** -/
theorem tailOutV_sum (r : Fin 48) (c : Fin 128) :
    tailOutV (mxAt G T A 41) (ix2 r c) = ∑ t : Fin 41, dotV (k0_pay5 (slabV A (tripOf t)))
      (tileTailV T (oldV G t.val) (tripOf t)) r ⟨c.val, by omega⟩ := by
  have hR := (rowBlk_iff 41 (by omega) 1 (Mxu.row fits_240_48 r)).mp ⟨rfl, by
    show 4 * (12 * (41 / 2)) ≤ 4 * 240 + r.val; omega, by
    show 4 * 240 + r.val < _; omega⟩
  have hr : rowIn (Mxu.row fits_240_48 r) = r := Fin.ext (by
    show (4 * 240 + r.val) % 48 = r.val
    omega)
  rw [tailOutV_acc, mxAt_tail_acc G T A _ _ _ hR 41 le_rfl, hr]
  rw [Finset.filter_true_of_mem (fun t _ => t.isLt)]

end Cert.KernelIdeal.Blocks
-- ==== Proof.Value.Bytes.lean ====
module

public import Idealize.ShloMosaic.Lib.Pointwise
public import Idealize.ShloMosaic.Lib.BitcastPair

/-! Thirty-two-bit words read as bytes and bytes read as words, at an index. -/

@[expose] public section

set_option maxRecDepth 16384

namespace Cert.Words

open Idealize.ShloMosaic

/-- The bytes of a matrix of words: row `j` of the result is byte `j % 4` of the words of row `j / 4`. -/
theorem bytes_at (x : (⟨2, ![32, 128]⟩ : Shape).Idx → BitVec 32) (h : (⟨2, ![32, 128]⟩ : Shape).Bitcasts 32 ⟨2, ![128, 128]⟩ 8)
    (r l : Fin 128) :
    bitcast (⟨2, ![128, 128]⟩ : Shape) 8 x h (ix2 r l)
      = (x (ix2 ⟨r.val / 4, by omega⟩ l)).extractLsb' (8 * (r.val % 4)) 8 := by
  apply BitVec.eq_of_getLsbD_eq
  intro q hq
  rw [bitcast_getLsbD x h _ q hq (by decide), BitVec.getLsbD_extractLsb']
  have hrow : (⟨2, ![128, 128]⟩ : Shape).row (ix2 r l) = r.val := rfl
  have e1 : ((⟨2, ![128, 128]⟩ : Shape).row (ix2 r l) * 8 + q) / 32 = r.val / 4 := by rw [hrow]; omega
  have e2 : ((⟨2, ![128, 128]⟩ : Shape).row (ix2 r l) * 8 + q) % 32 = 8 * (r.val % 4) + q := by rw [hrow]; omega
  rw [e2, decide_eq_true hq, Bool.true_and]
  congr 2
  funext a
  apply Fin.ext
  match a with
  | ⟨0, _⟩ => exact e1
  | ⟨1, _⟩ => rfl

/-- The words of a matrix of bytes: byte `i` of a word of row `j` is the element of row `4 j + i`. -/
theorem words_at (x : (⟨2, ![128, 128]⟩ : Shape).Idx → BitVec 8) (h : (⟨2, ![128, 128]⟩ : Shape).Bitcasts 8 ⟨2, ![32, 128]⟩ 32)
    (r : Fin 32) (l : Fin 128) (i : ℕ) (hi : i < 4) :
    (bitcast (⟨2, ![32, 128]⟩ : Shape) 32 x h (ix2 r l)).extractLsb' (8 * i) 8 = x (ix2 ⟨4 * r.val + i, by omega⟩ l) := by
  apply BitVec.eq_of_getLsbD_eq
  intro q hq
  rw [BitVec.getLsbD_extractLsb', bitcast_getLsbD x h _ (8 * i + q) (by omega) (by decide), decide_eq_true hq, Bool.true_and]
  have hrow : (⟨2, ![32, 128]⟩ : Shape).row (ix2 r l) = r.val := rfl
  have e1 : ((⟨2, ![32, 128]⟩ : Shape).row (ix2 r l) * 32 + (8 * i + q)) / 8 = 4 * r.val + i := by rw [hrow]; omega
  have e2 : ((⟨2, ![32, 128]⟩ : Shape).row (ix2 r l) * 32 + (8 * i + q)) % 8 = q := by rw [hrow]; omega
  rw [e2]
  congr 2
  funext a
  apply Fin.ext
  match a with
  | ⟨0, _⟩ => exact e1
  | ⟨1, _⟩ => rfl

/-- Four-bit field `n` of a word. -/
def nib (w : BitVec 32) (n : ℕ) : ℕ := (w >>> (4 * n) &&& 15#32).toNat

theorem nib_lt (w : BitVec 32) (n : ℕ) : nib w n < 16 := by
  unfold nib
  rw [BitVec.toNat_and]
  exact lt_of_le_of_lt Nat.and_le_right (by decide)

theorem and15_toNat_lt (x : BitVec 32) : (x &&& 15#32).toNat < 16 := by
  rw [BitVec.toNat_and]
  exact lt_of_le_of_lt Nat.and_le_right (by decide)

theorem mask15 : ∀ q : Fin 32, (15#32).getLsbD q.val = decide (q.val < 4) := by decide

theorem maskLow : ∀ (i : Fin 4) (q : Fin 8), (252645135#32).getLsbD (8 * i.val + q.val) = decide (q.val < 4) := by decide

theorem maskHigh : ∀ (i : Fin 4) (q : Fin 8), (4042322160#32).getLsbD (8 * i.val + q.val) = decide (4 ≤ q.val) := by decide

/-- The low half of byte `i` is field `2 i`. -/
theorem low_byte (w : BitVec 32) (i : ℕ) (hi : i < 4) :
    ((w.extractLsb' (8 * i) 8) &&& (252645135#32).extractLsb' (8 * i) 8).toNat = nib w (2 * i) := by
  have e : (w.extractLsb' (8 * i) 8) &&& (252645135#32).extractLsb' (8 * i) 8 = (w >>> (4 * (2 * i)) &&& 15#32).setWidth 8 := by
    apply BitVec.eq_of_getLsbD_eq
    intro q hq
    have h1 := maskLow ⟨i, hi⟩ ⟨q, hq⟩
    have h2 := mask15 ⟨q, by omega⟩
    simp only at h1 h2
    simp only [BitVec.getLsbD_and, BitVec.getLsbD_extractLsb', BitVec.getLsbD_setWidth, BitVec.getLsbD_ushiftRight, hq, h1, h2,
      decide_true, Bool.true_and]
    rw [show 4 * (2 * i) + q = 8 * i + q by omega]
  rw [e, BitVec.toNat_setWidth, nib, Nat.mod_eq_of_lt (by have := and15_toNat_lt (w >>> (4 * (2 * i))); omega)]

/-- The high half of byte `i`, left in place, is sixteen times field `2 i + 1`. -/
theorem high_byte (w : BitVec 32) (i : ℕ) (hi : i < 4) :
    ((w.extractLsb' (8 * i) 8) &&& (4042322160#32).extractLsb' (8 * i) 8).toNat = 16 * nib w (2 * i + 1) := by
  have e : (w.extractLsb' (8 * i) 8) &&& (4042322160#32).extractLsb' (8 * i) 8
      = ((w >>> (4 * (2 * i + 1)) &&& 15#32).setWidth 8) <<< 4 := by
    apply BitVec.eq_of_getLsbD_eq
    intro q hq
    have h1 := maskHigh ⟨i, hi⟩ ⟨q, hq⟩
    simp only at h1
    simp only [BitVec.getLsbD_and, BitVec.getLsbD_extractLsb', BitVec.getLsbD_shiftLeft, BitVec.getLsbD_setWidth,
      BitVec.getLsbD_ushiftRight, hq, h1, decide_true, Bool.true_and]
    by_cases h4 : q < 4
    · simp [h4]
    · have h2 := mask15 ⟨q - 4, by omega⟩
      simp only at h2
      rw [h2, show 4 * (2 * i + 1) + (q - 4) = 8 * i + q by omega]
      have a1 : 4 ≤ q := by omega
      have a2 : q - 4 < 8 := by omega
      have a3 : q - 4 < 4 := by omega
      simp [h4, a1, a2, a3]
  rw [e, BitVec.toNat_shiftLeft, BitVec.toNat_setWidth, nib, Nat.shiftLeft_eq]
  have := and15_toNat_lt (w >>> (4 * (2 * i + 1)))
  omega

/-- A field by a shift that keeps the sign. -/
theorem sshift_and (w : BitVec 32) (n : ℕ) (hn : n < 8) : w.sshiftRight (4 * n) &&& 15#32 = w >>> (4 * n) &&& 15#32 := by
  apply BitVec.eq_of_getLsbD_eq
  intro q hq
  have h2 := mask15 ⟨q, hq⟩
  simp only at h2
  rw [BitVec.getLsbD_and, BitVec.getLsbD_and, h2, BitVec.getLsbD_ushiftRight, BitVec.getLsbD_sshiftRight]
  by_cases h4 : q < 4
  · have a1 : ¬ 32 ≤ q := by omega
    have a2 : 4 * n + q < 32 := by omega
    simp [a1, a2]
  · simp [h4]

/-- A word's field read as a signed integer is the field. -/
theorem and15_toInt (w : BitVec 32) (n : ℕ) : (w >>> (4 * n) &&& 15#32).toInt = (nib w n : ℤ) := by
  have := and15_toNat_lt (w >>> (4 * n))
  rw [BitVec.toInt_eq_toNat_of_lt (by omega)]; rfl

/-- So is sixteen times a field. -/
theorem and15_mul_toInt (w : BitVec 32) (n : ℕ) : ((w >>> (4 * n) &&& 15#32) * 16#32).toInt = ((16 * nib w n : ℕ) : ℤ) := by
  have := and15_toNat_lt (w >>> (4 * n))
  have e : ((w >>> (4 * n) &&& 15#32) * 16#32).toNat = 16 * nib w n := by
    rw [BitVec.toNat_mul, nib]
    show _ * 16 % 4294967296 = _
    omega
  rw [BitVec.toInt_eq_toNat_of_lt (by rw [e, nib]; omega), e]

end Cert.Words
-- ==== Proof.Value.Spec.lean ====
module

public import proofs.«01_k».proof.Proof.Value.Bytes
public import Idealize.ShloMosaic.PureOps.Ideal.Laws

/-! The product both programs compute, over the extended reals: the scaled activations times the weights, a weight being
the difference of two four-bit fields times its group's scale. -/

@[expose] public section

noncomputable section

namespace Cert.Spec

open Idealize.ShloMosaic Cert.Words

/-- A count as an extended real. -/
def fieldE (q : ℕ) : EReal := ((q : ℝ) : EReal)

/-- The column of the eight that field `n` of a word belongs to. -/
def colOf : Fin 8 → Fin 8 := ![0, 2, 4, 6, 1, 3, 5, 7]
/-- The field that holds column `j` of the eight. -/
def fieldOf : Fin 8 → Fin 8 := ![0, 4, 1, 5, 2, 6, 3, 7]

theorem colOf_fieldOf : ∀ j, colOf (fieldOf j) = j := by decide

section
variable (x : (⟨3, ![48, 1, 10496]⟩ : Shape).Idx → EReal) (qw : (⟨2, ![10496, 1296]⟩ : Shape).Idx → BitVec 32)
  (qz : (⟨2, ![82, 1296]⟩ : Shape).Idx → BitVec 32) (s : (⟨2, ![82, 10368]⟩ : Shape).Idx → EReal)
  (a : (⟨1, ![10496]⟩ : Shape).Idx → EReal)

/-- The group of weight row `k`. -/
def grp (k : Fin 10496) : Fin 82 := ⟨k.val / 128, by omega⟩

/-- The scale of field `n` of packed column `c` in group `g`. -/
def scaleAt (g : Fin 82) (c : Fin 1296) (n : Fin 8) : EReal := s (ix2 g ⟨8 * c.val + (colOf n).val, by omega⟩)

/-- The weight in field `n` of packed column `c` of row `k`. -/
def weightAt (k : Fin 10496) (c : Fin 1296) (n : Fin 8) : EReal :=
  (fieldE (nib (qw (ix2 k c)) n.val) - fieldE (nib (qz (ix2 (grp k) c)) n.val)) * scaleAt s (grp k) c n

/-- A scaled activation. -/
def actAt (r : Fin 48) (k : Fin 10496) : EReal := Ideal.div (x (ix3 r 0 k)) (a (ix1 k))

/-- The product's entry in row `r`, packed column `c`, field `n`. -/
def prodAt (r : Fin 48) (c : Fin 1296) (n : Fin 8) : EReal := ∑ k : Fin 10496, actAt x a r k * weightAt qw qz s k c n

/-- The sum over all rows, taken 256 rows at a time. -/
theorem prodAt_blocks (r : Fin 48) (c : Fin 1296) (n : Fin 8) :
    prodAt x qw qz s a r c n = ∑ t : Fin 41, ∑ k : Fin 256,
      actAt x a r ⟨256 * t.val + k.val, by omega⟩ * weightAt qw qz s ⟨256 * t.val + k.val, by omega⟩ c n := by
  unfold prodAt
  rw [← (finProdFinEquiv (m := 41) (n := 256)).sum_comp (fun k : Fin (41 * 256) => actAt x a r k * weightAt qw qz s k c n), Fintype.sum_prod_type]
  refine Finset.sum_congr rfl fun t _ => Finset.sum_congr rfl fun k _ => ?_
  have e : (finProdFinEquiv (m := 41) (n := 256) (t, k) : Fin (41 * 256)) = ⟨256 * t.val + k.val, by omega⟩ := by
    apply Fin.ext
    show k.val + 256 * t.val = 256 * t.val + k.val
    omega
  rw [e]
end

/-- The bf16 constant one sixteenth. -/
theorem sixteenth : Ideal.ofBits .bf16 0x3D80#16 = (((1 / 16 : ℝ)) : EReal) := by
  simp [Ideal.ofBits, Ideal.ieee]
  rw [← EReal.coe_mul]
  norm_num

/-- An odd field held sixteen times over, less its zero point held so too, times a sixteenth of the scale. -/
theorem odd_field (q z : ℕ) (s : EReal) :
    (fieldE (16 * q) - fieldE (16 * z)) * (s * Ideal.ofBits .bf16 0x3D80#16) = (fieldE q - fieldE z) * s := by
  rw [sixteenth]
  unfold fieldE
  rw [← EReal.coe_sub, ← EReal.coe_sub, mul_comm s, ← mul_assoc, ← EReal.coe_mul]
  congr 2
  push_cast
  ring

theorem shrsi_eq (w : BitVec 32) (n : ℕ) (hn : n < 8) : IntOp.shrsi .host w (BitVec.ofNat 32 (4 * n)) = w.sshiftRight (4 * n) := by
  unfold IntOp.shrsi
  have e : (BitVec.ofNat 32 (4 * n)).toNat = 4 * n := by rw [BitVec.toNat_ofNat]; omega
  rw [if_pos (by omega), BitVec.sshiftRight', e]

/-- A field shifted down and masked, as a number. -/
theorem shifted_field (w : BitVec 32) (n : ℕ) (hn : n < 8) :
    (FloatOps.sitofp (F := Ideal) .bf16 (IntOp.andi (IntOp.shrsi .host w (BitVec.ofNat 32 (4 * n))) 15#32) : EReal) = fieldE (nib w n) := by
  rw [shrsi_eq w n hn]
  unfold IntOp.andi
  rw [sshift_and w n hn]
  show (((w >>> (4 * n) &&& 15#32).toInt : ℝ) : EReal) = _
  rw [and15_toInt]
  rfl

/-- … times sixteen. -/
theorem shifted_field16 (w : BitVec 32) (n : ℕ) (hn : n < 8) :
    (FloatOps.sitofp (F := Ideal) .bf16 (IntOp.muli (IntOp.andi (IntOp.shrsi .host w (BitVec.ofNat 32 (4 * n))) 15#32) 16#32) : EReal)
      = fieldE (16 * nib w n) := by
  rw [shrsi_eq w n hn]
  unfold IntOp.andi IntOp.muli
  rw [sshift_and w n hn]
  show ((((w >>> (4 * n) &&& 15#32) * 16#32).toInt : ℝ) : EReal) = _
  rw [and15_mul_toInt]
  rfl

end Cert.Spec
-- ==== Proof.Value.Tile.lean ====
module

public import proofs.«01_k».proof.Proof.Value.Unit
public import proofs.«01_k».proof.Proof.Value.Spec

/-! The entries of a dequantized tile over the extended reals: each is a field of a packed weight word, less its zero
point, times its scale. -/

@[expose] public section

set_option maxRecDepth 16384

noncomputable section

namespace Cert.KernelIdeal.Blocks

open Cert.KernelIdeal Cert.KernelIdeal.Gen Cert.Words Cert.Spec
open Idealize.ShloMosaic Idealize.ShloMosaic.TcCoe

/-- A staged word's byte `i` at row `r` and lane `l` is byte `l % 4` of the weight word at row `l / 4` and lane `4r + i`. -/
theorem pay13_byte (X : Vec Ideal S1x32x128 .i32) (r : Fin 32) (l : Fin 128) (i : ℕ) (hi : i < 4) :
    (k0_pay13 X (ix4 0 0 r l)).extractLsb' (8 * i) 8
      = (X (ix3 0 ⟨l.val / 4, by omega⟩ ⟨4 * r.val + i, by omega⟩)).extractLsb' (8 * (l.val % 4)) 8 := by
  have e : k0_pay13 X (ix4 0 0 r l) = bitcast S32x128 32 (transpose S128x128 [1, 0] (bitcast S128x128 8 (shapeCast S32x128 X shapeCasts_S1x32x128_S32x128) bitcasts_S32x128_w32_S128x128_w8) transposes_S128x128_p1_0_S128x128) bitcasts_S128x128_w8_S32x128_w32 (ix2 r l) := by
    pointwise [k0_pay13]
  rw [e]
  refine (words_at _ _ r l i hi).trans ?_
  refine Eq.trans (b := bitcast S128x128 8 (shapeCast S32x128 X shapeCasts_S1x32x128_S32x128) bitcasts_S32x128_w32_S128x128_w8 (ix2 l ⟨4 * r.val + i, by omega⟩)) (by pointwise) ?_
  refine (bytes_at _ _ l ⟨4 * r.val + i, by omega⟩).trans ?_
  congr 1
  pointwise

/-- A bytewise mask is the same in every byte. -/
theorem mask_byte (i j : ℕ) (hi : i < 4) (hj : j < 4) :
    (252645135#32).extractLsb' (8 * i) 8 = (252645135#32).extractLsb' (8 * j) 8
      ∧ (4042322160#32).extractLsb' (8 * i) 8 = (4042322160#32).extractLsb' (8 * j) 8 := by
  interval_cases i <;> interval_cases j <;> decide

theorem masked_low (v w : BitVec 32) (i j : ℕ) (hi : i < 4) (hj : j < 4)
    (h : v.extractLsb' (8 * i) 8 = w.extractLsb' (8 * j) 8) :
    ((v &&& 252645135#32).extractLsb' (8 * i) 8).toNat = nib w (2 * j) := by
  rw [BitVec.extractLsb'_and, h, (mask_byte i j hi hj).1]
  exact low_byte w j hj

theorem masked_high (v w : BitVec 32) (i j : ℕ) (hi : i < 4) (hj : j < 4)
    (h : v.extractLsb' (8 * i) 8 = w.extractLsb' (8 * j) 8) :
    ((v &&& 4042322160#32).extractLsb' (8 * i) 8).toNat = 16 * nib w (2 * j + 1) := by
  rw [BitVec.extractLsb'_and, h, (mask_byte i j hi hj).2]
  exact high_byte w j hj

/-- A left-half entry of half a tile. -/
theorem pay12_left (w : Vec Ideal S1x1x32x128 .i32) (z0 s0 z1 s1 : Vec Ideal S1x1x128 .bf16) (k : Fin 128) (C : Fin 256) (hC : C.val < 128) :
    (k0_pay12 w z0 s0 z1 s1 (ix2 k C) : EReal)
      = (fieldE (((w (ix4 0 0 ⟨k.val / 4, by omega⟩ ⟨C.val, hC⟩) &&& 252645135#32).extractLsb' (8 * (k.val % 4)) 8).toNat)
          - z0 (ix3 0 0 ⟨C.val, hC⟩)) * s0 (ix3 0 0 ⟨C.val, hC⟩) := by
  pointwise [k0_pay12]
  rw [dif_pos hC, bytes_at]
  pointwise
  rfl

/-- A right-half entry of half a tile. -/
theorem pay12_right (w : Vec Ideal S1x1x32x128 .i32) (z0 s0 z1 s1 : Vec Ideal S1x1x128 .bf16) (k : Fin 128) (C : Fin 256) (hC : ¬ C.val < 128) :
    (k0_pay12 w z0 s0 z1 s1 (ix2 k C) : EReal)
      = (fieldE (((w (ix4 0 0 ⟨k.val / 4, by omega⟩ ⟨C.val - 128, by omega⟩) &&& 4042322160#32).extractLsb' (8 * (k.val % 4)) 8).toNat)
          - z1 (ix3 0 0 ⟨C.val - 128, by omega⟩)) * s1 (ix3 0 0 ⟨C.val - 128, by omega⟩) := by
  pointwise [k0_pay12]
  rw [dif_neg hC, bytes_at]
  pointwise
  rfl

theorem slt_64 : ∀ C : Fin 128, IntOp.cmpi .slt (BitVec.ofNat 32 C.val) 64#32 = if C.val < 64 then 1#1 else 0#1 := by decide

/-- An entry of half the tail's tile: a field of the low four bits of a byte on the first 64 columns, of the high four on the next. -/
theorem pay412_left (w : Vec Ideal S1x1x32x128 .i32) (z s : Vec Ideal S1x1x128 .bf16) (k : Fin 128) (C : Fin 256) (hC : C.val < 128) :
    (k0_pay412 (k0_pay411 k0_pay413 w z s) (ix2 k C) : EReal)
      = (fieldE (((w (ix4 0 0 ⟨k.val / 4, by omega⟩ ⟨C.val, hC⟩) &&& (if C.val < 64 then 252645135#32 else 4042322160#32)).extractLsb'
            (8 * (k.val % 4)) 8).toNat) - z (ix3 0 0 ⟨C.val, hC⟩)) * s (ix3 0 0 ⟨C.val, hC⟩) := by
  pointwise [k0_pay412, k0_pay411]
  rw [dif_pos hC, bytes_at]
  pointwise [k0_pay413]
  have e := slt_64 ⟨C.val, hC⟩
  rw [e]
  by_cases h : C.val < 64
  · rw [if_pos h, if_pos h]; rfl
  · rw [if_neg h, if_neg h]; rfl

/-- A staged word of the tail. -/
theorem pay410_byte (X : Vec Ideal S1x16x128 .i32) (r : Fin 32) (l : Fin 128) (i : ℕ) (hi : i < 4) :
    (k0_pay410 X (ix4 0 0 r l)).extractLsb' (8 * i) 8
      = (X (ix3 0 ⟨l.val % 64 / 4, by omega⟩ ⟨4 * r.val + i, by omega⟩)).extractLsb' (8 * (l.val % 4)) 8 := by
  have e : k0_pay410 X (ix4 0 0 r l) = bitcast S32x128 32 (transpose S128x128 [1, 0] (bitcast S128x128 8 (concatenate S32x128 0 [⟨S16x128, shapeCast S16x128 X shapeCasts_S1x16x128_S16x128⟩, ⟨S16x128, shapeCast S16x128 X shapeCasts_S1x16x128_S16x128⟩] concatenates_S16x128_S16x128_S32x128_d0) bitcasts_S32x128_w32_S128x128_w8) transposes_S128x128_p1_0_S128x128) bitcasts_S128x128_w8_S32x128_w32 (ix2 r l) := by
    pointwise [k0_pay410]
  rw [e]
  refine (words_at _ _ r l i hi).trans ?_
  refine Eq.trans (b := bitcast S128x128 8 (concatenate S32x128 0 [⟨S16x128, shapeCast S16x128 X shapeCasts_S1x16x128_S16x128⟩, ⟨S16x128, shapeCast S16x128 X shapeCasts_S1x16x128_S16x128⟩] concatenates_S16x128_S16x128_S32x128_d0) bitcasts_S32x128_w32_S128x128_w8 (ix2 l ⟨4 * r.val + i, by omega⟩)) (by pointwise) ?_
  refine (bytes_at _ _ l ⟨4 * r.val + i, by omega⟩).trans ?_
  congr 1
  pointwise
  by_cases h : l.val / 4 < 16
  · rw [dif_pos h]
    have e1 : l.val % 64 / 4 = l.val / 4 := by omega
    simp only [e1]
  · rw [dif_neg h]
    have e1 : l.val % 64 / 4 = l.val / 4 - 16 := by omega
    simp only [e1]

section
variable (G : S1296x10496.Idx → Elt Ideal .i32) (T : S82x4x5248.Idx → Elt Ideal .bf16)

/-- A column block's contents at an index. -/
theorem srcV_at (t : Fin 41) (r l : ℕ) (hr : r < 1296) (hl : l < 256) :
    srcV G (blkOf t.val) (idx2 r l) = G (ix2 ⟨r, hr⟩ ⟨256 * t.val + l, by omega⟩) := by
  unfold srcV
  congr 1
  funext a
  apply Fin.ext
  match a with
  | ⟨0, _⟩ =>
    show 0 + 1 * (r % 1296) = r
    rw [Nat.mod_eq_of_lt hr]; omega
  | ⟨1, _⟩ =>
    show 256 * (min t.val 40) + 1 * (l % 256) = 256 * t.val + l
    rw [Nat.mod_eq_of_lt hl]; omega

/-- A table read at a lane. -/
theorem tabV_at (t : Fin 41) (gg : Fin 2) (r lane : ℕ) (hr : r < 4) (hl : lane + 128 ≤ 5248) (l : Fin 128) :
    tabV T (tripOf t) gg r lane hr hl (ix3 0 0 l) = T (ix3 ⟨2 * t.val + gg.val, by omega⟩ ⟨r, hr⟩ ⟨lane + l.val, by omega⟩) := by
  unfold tabV
  congr 1
  funext a
  apply Fin.ext
  have h8 := off8_eq (tripOf t) gg
  match a with
  | ⟨0, _⟩ =>
    show k0_off8 (tripOf t) (BitVec.ofNat 32 gg.val) 0 + 1 * 0 = 2 * t.val + gg.val
    rw [h8]; rfl
  | ⟨1, _⟩ => show r + 1 * 0 = r; omega
  | ⟨2, _⟩ => show lane + 1 * l.val = lane + l.val; omega

/-- A byte of a staged word is a byte of a weight word. -/
theorem wordsV_byte (t : Fin 41) (b : ℕ) (hb : b < 40) (gg : Fin 2) (k l : Fin 128) :
    (wordsV (oldV G t.val) b gg (by omega) (ix4 0 0 ⟨k.val / 4, by omega⟩ l)).extractLsb' (8 * (k.val % 4)) 8
      = (G (ix2 ⟨32 * b + l.val / 4, by omega⟩ ⟨256 * t.val + (128 * gg.val + k.val), by omega⟩)).extractLsb' (8 * (l.val % 4)) 8 := by
  unfold wordsV oldV
  rw [stagedV_half _ b gg hb]
  refine (pay13_byte _ ⟨k.val / 4, by omega⟩ l (k.val % 4) (by omega)).trans ?_
  unfold rowV
  refine congrArg (fun w : BitVec 32 => w.extractLsb' (8 * (l.val % 4)) 8) ?_
  refine Eq.trans ?_ (srcV_at G t (32 * b + l.val / 4) (128 * gg.val + k.val) (by omega) (by omega))
  congr 1
  show idx2 (32 * b + l.val / 4) (gg.val * 128 + (4 * (k.val / 4) + k.val % 4)) = _
  congr 1; omega

theorem wordsV_tail_byte (t : Fin 41) (gg : Fin 2) (k l : Fin 128) :
    (wordsV (oldV G t.val) 40 gg (by omega) (ix4 0 0 ⟨k.val / 4, by omega⟩ l)).extractLsb' (8 * (k.val % 4)) 8
      = (G (ix2 ⟨1280 + l.val % 64 / 4, by omega⟩ ⟨256 * t.val + (128 * gg.val + k.val), by omega⟩)).extractLsb' (8 * (l.val % 4)) 8 := by
  unfold wordsV oldV
  rw [stagedV_tail _ gg]
  refine (pay410_byte _ ⟨k.val / 4, by omega⟩ l (k.val % 4) (by omega)).trans ?_
  unfold rowV16
  refine congrArg (fun w : BitVec 32 => w.extractLsb' (8 * (l.val % 4)) 8) ?_
  refine Eq.trans ?_ (srcV_at G t (1280 + l.val % 64 / 4) (128 * gg.val + k.val) (by omega) (by omega))
  congr 1
  show idx2 (1280 + l.val % 64 / 4) (gg.val * 128 + (4 * (k.val / 4) + k.val % 4)) = _
  congr 1; omega

/-- Half a tile, left columns: even fields. -/
theorem halfV_left (t : Fin 41) (b : ℕ) (hb : b < 40) (gg : Fin 2) (k : Fin 128) (C : Fin 256) (hC : C.val < 128) :
    (halfV T (oldV G t.val) (tripOf t) b hb gg (ix2 k C) : EReal)
      = (fieldE (nib (G (ix2 ⟨32 * b + C.val / 4, by omega⟩ ⟨256 * t.val + (128 * gg.val + k.val), by omega⟩)) (2 * (C.val % 4)))
          - T (ix3 ⟨2 * t.val + gg.val, by omega⟩ 0 ⟨128 * b + C.val, by omega⟩))
        * T (ix3 ⟨2 * t.val + gg.val, by omega⟩ 2 ⟨128 * b + C.val, by omega⟩) := by
  unfold halfV
  rw [pay12_left _ _ _ _ _ k C hC, masked_low _ _ _ (C.val % 4) (by omega) (by omega) (wordsV_byte G t b hb gg k ⟨C.val, hC⟩)]
  rw [tabV_at, tabV_at]
  rfl

/-- Half a tile, right columns: odd fields. -/
theorem halfV_right (t : Fin 41) (b : ℕ) (hb : b < 40) (gg : Fin 2) (k : Fin 128) (C : Fin 256) (hC : ¬ C.val < 128) :
    (halfV T (oldV G t.val) (tripOf t) b hb gg (ix2 k C) : EReal)
      = (fieldE (16 * nib (G (ix2 ⟨32 * b + (C.val - 128) / 4, by omega⟩ ⟨256 * t.val + (128 * gg.val + k.val), by omega⟩)) (2 * ((C.val - 128) % 4) + 1))
          - T (ix3 ⟨2 * t.val + gg.val, by omega⟩ 1 ⟨128 * b + (C.val - 128), by omega⟩))
        * T (ix3 ⟨2 * t.val + gg.val, by omega⟩ 3 ⟨128 * b + (C.val - 128), by omega⟩) := by
  unfold halfV
  rw [pay12_right _ _ _ _ _ k C hC, masked_high _ _ _ ((C.val - 128) % 4) (by omega) (by omega) (wordsV_byte G t b hb gg k ⟨C.val - 128, by omega⟩)]
  rw [tabV_at, tabV_at]
  rfl

/-- Half the tail's tile: even fields on the first 64 columns, odd fields on the next 64. -/
theorem halfTailV_at (t : Fin 41) (gg : Fin 2) (k : Fin 128) (C : Fin 256) (hC : C.val < 128) :
    (halfTailV T (oldV G t.val) (tripOf t) gg (ix2 k C) : EReal)
      = (fieldE (if C.val < 64 then nib (G (ix2 ⟨1280 + C.val % 64 / 4, by omega⟩ ⟨256 * t.val + (128 * gg.val + k.val), by omega⟩)) (2 * (C.val % 4))
            else 16 * nib (G (ix2 ⟨1280 + C.val % 64 / 4, by omega⟩ ⟨256 * t.val + (128 * gg.val + k.val), by omega⟩)) (2 * (C.val % 4) + 1))
          - T (ix3 ⟨2 * t.val + gg.val, by omega⟩ 0 ⟨5120 + C.val, by omega⟩))
        * T (ix3 ⟨2 * t.val + gg.val, by omega⟩ 2 ⟨5120 + C.val, by omega⟩) := by
  unfold halfTailV
  rw [pay412_left _ _ _ k C hC]
  rw [tabV_at, tabV_at]
  by_cases h : C.val < 64
  · rw [if_pos h, if_pos h, masked_low _ _ _ (C.val % 4) (by omega) (by omega) (wordsV_tail_byte G t gg k ⟨C.val, hC⟩)]
    rfl
  · rw [if_neg h, if_neg h, masked_high _ _ _ (C.val % 4) (by omega) (by omega) (wordsV_tail_byte G t gg k ⟨C.val, hC⟩)]
    rfl

/-- A tile of two halves at an index. -/
theorem pay14_at (u v : FVec Ideal S128x256 .bf16) (k C : Fin 256) :
    (k0_pay14 u v (ix2 k C) : EReal) = if h : k.val < 128 then u (ix2 ⟨k.val, h⟩ C) else v (ix2 ⟨k.val - 128, by omega⟩ C) := by
  pointwise [k0_pay14]

theorem pay507_at (u v : FVec Ideal S128x256 .bf16) (k C : Fin 256) :
    (k0_pay507 u v (ix2 k C) : EReal) = if h : k.val < 128 then u (ix2 ⟨k.val, h⟩ C) else v (ix2 ⟨k.val - 128, by omega⟩ C) := by
  pointwise [k0_pay507]

/-- A tile's entry, left columns. -/
theorem tileV_left (t : Fin 41) (b : ℕ) (hb : b < 40) (k C : Fin 256) (hC : C.val < 128) :
    (tileV T (oldV G t.val) (tripOf t) b hb (ix2 k C) : EReal)
      = (fieldE (nib (G (ix2 ⟨32 * b + C.val / 4, by omega⟩ ⟨256 * t.val + k.val, by omega⟩)) (2 * (C.val % 4)))
          - T (ix3 ⟨2 * t.val + k.val / 128, by omega⟩ 0 ⟨128 * b + C.val, by omega⟩))
        * T (ix3 ⟨2 * t.val + k.val / 128, by omega⟩ 2 ⟨128 * b + C.val, by omega⟩) := by
  unfold tileV
  rw [pay14_at]
  by_cases h : k.val < 128
  · rw [dif_pos h, halfV_left G T t b hb 0 ⟨k.val, h⟩ C hC]
    have e : k.val / 128 = 0 := by omega
    simp only [e, Fin.val_zero, Nat.mul_zero, Nat.zero_add]
  · rw [dif_neg h, halfV_left G T t b hb 1 ⟨k.val - 128, by omega⟩ C hC]
    have e : k.val / 128 = 1 := by omega
    have e' : 128 * 1 + (k.val - 128) = k.val := by omega
    simp only [e, Fin.val_one, e']

/-- A tile's entry, right columns. -/
theorem tileV_right (t : Fin 41) (b : ℕ) (hb : b < 40) (k C : Fin 256) (hC : ¬ C.val < 128) :
    (tileV T (oldV G t.val) (tripOf t) b hb (ix2 k C) : EReal)
      = (fieldE (16 * nib (G (ix2 ⟨32 * b + (C.val - 128) / 4, by omega⟩ ⟨256 * t.val + k.val, by omega⟩)) (2 * ((C.val - 128) % 4) + 1))
          - T (ix3 ⟨2 * t.val + k.val / 128, by omega⟩ 1 ⟨128 * b + (C.val - 128), by omega⟩))
        * T (ix3 ⟨2 * t.val + k.val / 128, by omega⟩ 3 ⟨128 * b + (C.val - 128), by omega⟩) := by
  unfold tileV
  rw [pay14_at]
  by_cases h : k.val < 128
  · rw [dif_pos h, halfV_right G T t b hb 0 ⟨k.val, h⟩ C hC]
    have e : k.val / 128 = 0 := by omega
    simp only [e, Fin.val_zero, Nat.mul_zero, Nat.zero_add]
  · rw [dif_neg h, halfV_right G T t b hb 1 ⟨k.val - 128, by omega⟩ C hC]
    have e : k.val / 128 = 1 := by omega
    have e' : 128 * 1 + (k.val - 128) = k.val := by omega
    simp only [e, Fin.val_one, e']

/-- An entry of the tail's tile. -/
theorem tileTailV_at (t : Fin 41) (k C : Fin 256) (hC : C.val < 128) :
    (tileTailV T (oldV G t.val) (tripOf t) (ix2 k C) : EReal)
      = (fieldE (if C.val < 64 then nib (G (ix2 ⟨1280 + C.val % 64 / 4, by omega⟩ ⟨256 * t.val + k.val, by omega⟩)) (2 * (C.val % 4))
            else 16 * nib (G (ix2 ⟨1280 + C.val % 64 / 4, by omega⟩ ⟨256 * t.val + k.val, by omega⟩)) (2 * (C.val % 4) + 1))
          - T (ix3 ⟨2 * t.val + k.val / 128, by omega⟩ 0 ⟨5120 + C.val, by omega⟩))
        * T (ix3 ⟨2 * t.val + k.val / 128, by omega⟩ 2 ⟨5120 + C.val, by omega⟩) := by
  unfold tileTailV
  rw [pay507_at]
  by_cases h : k.val < 128
  · rw [dif_pos h, halfTailV_at G T t 0 ⟨k.val, h⟩ C hC]
    have e : k.val / 128 = 0 := by omega
    simp only [e, Fin.val_zero, Nat.mul_zero, Nat.zero_add]
  · rw [dif_neg h, halfTailV_at G T t 1 ⟨k.val - 128, by omega⟩ C hC]
    have e : k.val / 128 = 1 := by omega
    have e' : 128 * 1 + (k.val - 128) = k.val := by omega
    simp only [e, Fin.val_one, e']

/-- The activations of a trip at an index. -/
theorem pay5_at (A : S41x48x256.Idx → Elt Ideal .bf16) (t : Fin 41) (r : Fin 48) (k : Fin 256) :
    (k0_pay5 (slabV A (tripOf t)) (ix2 r k) : EReal) = A (ix3 t r k) := by
  refine Eq.trans (b := slabV A (tripOf t) (ix3 0 r k)) (by pointwise [k0_pay5]) ?_
  unfold slabV
  congr 1
  funext a
  apply Fin.ext
  have h7 := off7_eq (tripOf t)
  match a with
  | ⟨0, _⟩ => show k0_off7 (tripOf t) 0 + 1 * 0 = t.val; rw [h7]; rfl
  | ⟨1, _⟩ => show k0_off7 (tripOf t) 1 + 1 * r.val = r.val; rw [h7]; show 0 + 1 * r.val = r.val; omega
  | ⟨2, _⟩ => show k0_off7 (tripOf t) 2 + 1 * k.val = k.val; rw [h7]; show 0 + 1 * k.val = k.val; omega

end

end Cert.KernelIdeal.Blocks
-- ==== Proof.Value.Field.lean ====
module

public import proofs.«01_k».proof.Proof.Value.Spec

/-! A four-bit field read by a shift and a mask, in the form a list of host lines leaves it. -/

@[expose] public section

noncomputable section

namespace Cert.Spec

open Idealize.ShloMosaic Cert.Words

/-- A shift by four times `n` and a mask read field `n`. -/
theorem field_of (w s : BitVec 32) (n q : ℕ) (hn : n < 8) (hs : s = BitVec.ofNat 32 (4 * n)) (hq : q = n) :
    (FloatOps.sitofp (F := Ideal) .bf16 (IntOp.andi (IntOp.shrsi .host w s) 15#32) : EReal) = fieldE (nib w q) := by
  subst hs hq
  exact shifted_field w q hn

/-- The same, sixteen times over. -/
theorem field16_of (w s : BitVec 32) (n q : ℕ) (hn : n < 8) (hs : s = BitVec.ofNat 32 (4 * n)) (hq : q = n) :
    (FloatOps.sitofp (F := Ideal) .bf16 (IntOp.muli (IntOp.andi (IntOp.shrsi .host w s) 15#32) 16#32) : EReal) = fieldE (16 * nib w q) := by
  subst hs hq
  exact shifted_field16 w q hn

/-- Which field each column of a word holds. -/
theorem field_cases (q : Fin 8) : (q.val = 0 ∧ fieldOf q = 0) ∨ (q.val = 1 ∧ fieldOf q = 4) ∨ (q.val = 2 ∧ fieldOf q = 1)
    ∨ (q.val = 3 ∧ fieldOf q = 5) ∨ (q.val = 4 ∧ fieldOf q = 2) ∨ (q.val = 5 ∧ fieldOf q = 6) ∨ (q.val = 6 ∧ fieldOf q = 3)
    ∨ (q.val = 7 ∧ fieldOf q = 7) := by
  revert q
  decide

/-- The same, for the field's number. -/
theorem field_cases_val (q : Fin 8) (f : ℕ) (hf : f = (fieldOf q).val) : (q.val = 0 ∧ f = 0) ∨ (q.val = 1 ∧ f = 4) ∨ (q.val = 2 ∧ f = 1)
    ∨ (q.val = 3 ∧ f = 5) ∨ (q.val = 4 ∧ f = 2) ∨ (q.val = 5 ∧ f = 6) ∨ (q.val = 6 ∧ f = 3) ∨ (q.val = 7 ∧ f = 7) := by
  subst hf
  revert q
  decide

end Cert.Spec
-- ==== Proof.Value.Host.lean ====
module

public import proofs.«01_k».proof.Proof.KernelIdeal.Frame
public import proofs.«01_k».proof.Proof.Value.Field
public import Idealize.ShloMosaic.Lib.Pointwise
public import Idealize.ShloMosaic.Lib.StableHlo.ReadAt

/-! What the host lines before the kernel leave, at an index: the activations, the transposed weights, and the table of
zero points and scales. -/

@[expose] public section

set_option maxRecDepth 16384

noncomputable section

namespace Cert.KernelIdeal.Blocks

open Cert.KernelIdeal Cert.KernelIdeal.Gen Cert.Words Cert.Spec
open Idealize.ShloMosaic Idealize.ShloMosaic.TcCoe

/-- A gather of whole columns: entry `(g, c, i)` is the operand's at the `i`-th start index. -/
theorem gather_at {α : Type} (x : S82x1296x8.Idx → α) (idx : IVec S4x1 32) (g : Fin 82) (c : Fin 1296) (i : Fin 4) :
    Host.gather gather_S82x1296x8_S4x1_S82x1296x4_01_2_n_n_2_1_8212961 x idx (ix3 g c i)
      = x (ix3 g c ⟨min (idx (ix2 i 0)).toInt.toNat 7, by omega⟩) := by
  unfold Host.gather
  congr 1
  funext a
  refine Fin.ext ?_
  show (gather_S82x1296x8_S4x1_S82x1296x4_01_2_n_n_2_1_8212961).start (ix3 g c i) idx a
    + (gather_S82x1296x8_S4x1_S82x1296x4_01_2_n_n_2_1_8212961).batchCoord (ix3 g c i) a
    + (gather_S82x1296x8_S4x1_S82x1296x4_01_2_n_n_2_1_8212961).offCoord (ix3 g c i) a = _
  rw [GatherDims.batchCoord_eq_zero _ _ _ List.not_mem_nil]
  obtain rfl | rfl | rfl : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  · unfold GatherDims.start
    rw [dif_neg (by decide)]
    show 0 + 0 + _ = g.val
    rw [Nat.zero_add]
    unfold GatherDims.offCoord
    rw [dif_pos (by decide)]
    rfl
  · unfold GatherDims.start
    rw [dif_neg (by decide)]
    show 0 + 0 + _ = c.val
    rw [Nat.zero_add]
    unfold GatherDims.offCoord
    rw [dif_pos (by decide)]
    rfl
  · rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S82x1296x8_S4x1_S82x1296x4_01_2_n_n_2_1_8212961).startIndexMap from List.mem_singleton.mpr rfl)]
    have hsi : (gather_S82x1296x8_S4x1_S82x1296x4_01_2_n_n_2_1_8212961).siIdx (ix3 g c i) ⟨List.idxOf (2 : Fin 3) (gather_S82x1296x8_S4x1_S82x1296x4_01_2_n_n_2_1_8212961).startIndexMap,
        List.idxOf_lt_length_iff.2 (List.mem_singleton.mpr rfl)⟩ = ix2 i 0 := by
      funext b; refine Fin.ext ?_
      match b with
      | ⟨0, _⟩ => rfl
      | ⟨1, _⟩ => rfl
    exact congrArg (fun u => min (idx u).toInt.toNat 7) hsi

/-- The start indices of the even fields' columns. -/
theorem starts_even : ∀ i : Fin 4, min ((broadcastInDim S4x1 ![0] bcast_S4_S4x1_0
          (select (cmpi CmpIPredicate.slt (fun i => lit0 (S4.rowMajor i)) (broadcastInDim S4 ![] bcast_S_S4 (constantI S_ 32 0#32)))
            (addi (fun i => lit0 (S4.rowMajor i)) (broadcastInDim S4 ![] bcast_S_S4 (constantI S_ 32 8#32)))
            (fun i => lit0 (S4.rowMajor i)))) (ix2 i 0)).toInt.toNat 7 = (![0, 4, 1, 5] : Fin 4 → ℕ) i := by
  decide +kernel

/-- The start indices of the odd fields' columns. -/
theorem starts_odd : ∀ i : Fin 4, min ((broadcastInDim S4x1 ![0] bcast_S4_S4x1_0
          (select
            (cmpi CmpIPredicate.slt
              (addi (fun i => lit0 (S4.rowMajor i)) (broadcastInDim S4 ![] bcast_S_S4 (constantI S_ 32 2#32)))
              (broadcastInDim S4 ![] bcast_S_S4 (constantI S_ 32 0#32)))
            (addi (addi (fun i => lit0 (S4.rowMajor i)) (broadcastInDim S4 ![] bcast_S_S4 (constantI S_ 32 2#32)))
              (broadcastInDim S4 ![] bcast_S_S4 (constantI S_ 32 8#32)))
            (addi (fun i => lit0 (S4.rowMajor i)) (broadcastInDim S4 ![] bcast_S_S4 (constantI S_ 32 2#32))))) (ix2 i 0)).toInt.toNat 7
      = (![2, 6, 3, 7] : Fin 4 → ℕ) i := by
  decide +kernel

/-- The even fields' columns, and the odd ones'. -/
theorem col_even : ∀ i : Fin 4, (![0, 4, 1, 5] : Fin 4 → ℕ) i = (colOf ⟨2 * i.val, by omega⟩).val := by decide
theorem col_odd : ∀ i : Fin 4, (![2, 6, 3, 7] : Fin 4 → ℕ) i = (colOf ⟨2 * i.val + 1, by omega⟩).val := by decide

variable (m : (ℓ : Loc nD τ sig) → Buf (Elt Ideal) ℓ) (c : Dev nD)

/-- The arguments: activations, packed weights, packed zero points, scales, activation scales. -/
abbrev argX : S48x1x10496.Idx → EReal := m ((c : Thread nD τ).loc main_arg0)
abbrev argW : S10496x1296.Idx → BitVec 32 := m ((c : Thread nD τ).loc main_arg1)
abbrev argZ : S82x1296.Idx → BitVec 32 := m ((c : Thread nD τ).loc main_arg2)
abbrev argS : S82x10368.Idx → EReal := m ((c : Thread nD τ).loc main_arg3)
abbrev argA : S10496.Idx → EReal := m ((c : Thread nD τ).loc main_arg4)

/-- The activations at an index: scaled, by blocks of 256 rows of the weights. -/
theorem hostX_at (t : Fin 41) (r : Fin 48) (k : Fin 256) :
    (V m c main_v7 (ix3 t r k) : EReal) = actAt (argX m c) (argA m c) r ⟨256 * t.val + k.val, by omega⟩ := by
  unfold V V0
  after_reads_at
  unfold actAt
  have e : t.val * 256 + k.val = 256 * t.val + k.val := by omega
  simp only [e]

/-- The weights at an index. -/
theorem hostW_at (k : Fin 10496) (r : Fin 1296) : (V m c main_v104 (ix2 r k) : BitVec 32) = argW m c (ix2 k r) := by
  unfold V V0
  after_reads_at

set_option maxHeartbeats 2000000 in
/-- The even fields' zero points at an index. -/
theorem hostZe_at (g : Fin 82) (l : Fin 5184) :
    (V m c main_v81 (ix2 g l) : EReal) = fieldE (nib (argZ m c (ix2 g ⟨l.val / 4, by omega⟩)) (2 * (l.val % 4))) := by
  have h4 : l.val % 4 = 0 ∨ l.val % 4 = 1 ∨ l.val % 4 = 2 ∨ l.val % 4 = 3 := by omega
  unfold V V0
  after_reads_at
  rcases h4 with h | h | h | h
  · rw [dif_pos (by omega)]
    after_reads_at
    exact field_of _ _ 0 _ (by omega) rfl (by omega)
  · rw [dif_neg (by omega), dif_pos (by omega)]
    after_reads_at
    exact field_of _ _ 2 _ (by omega) rfl (by omega)
  · rw [dif_neg (by omega), dif_neg (by omega), dif_pos (by omega)]
    after_reads_at
    exact field_of _ _ 4 _ (by omega) rfl (by omega)
  · rw [dif_neg (by omega), dif_neg (by omega), dif_neg (by omega)]
    after_reads_at
    exact field_of _ _ 6 _ (by omega) rfl (by omega)

set_option maxHeartbeats 2000000 in
/-- The odd fields' zero points at an index, sixteen times over. -/
theorem hostZo_at (g : Fin 82) (l : Fin 5184) :
    (V m c main_v82 (ix2 g l) : EReal) = fieldE (16 * nib (argZ m c (ix2 g ⟨l.val / 4, by omega⟩)) (2 * (l.val % 4) + 1)) := by
  have h4 : l.val % 4 = 0 ∨ l.val % 4 = 1 ∨ l.val % 4 = 2 ∨ l.val % 4 = 3 := by omega
  unfold V V0
  after_reads_at
  rcases h4 with h | h | h | h
  · rw [dif_pos (by omega)]
    after_reads_at
    exact field16_of _ _ 1 _ (by omega) rfl (by omega)
  · rw [dif_neg (by omega), dif_pos (by omega)]
    after_reads_at
    exact field16_of _ _ 3 _ (by omega) rfl (by omega)
  · rw [dif_neg (by omega), dif_neg (by omega), dif_pos (by omega)]
    after_reads_at
    exact field16_of _ _ 5 _ (by omega) rfl (by omega)
  · rw [dif_neg (by omega), dif_neg (by omega), dif_neg (by omega)]
    after_reads_at
    exact field16_of _ _ 7 _ (by omega) rfl (by omega)

/-- The even fields' scales at an index. -/
theorem hostSe_at (g : Fin 82) (l : Fin 5184) :
    (V m c main_v16 (ix2 g l) : EReal) = scaleAt (argS m c) g ⟨l.val / 4, by omega⟩ ⟨2 * (l.val % 4), by omega⟩ := by
  unfold V V0
  after_reads_at
  refine (gather_at _ _ g ⟨l.val / 4, by omega⟩ ⟨l.val % 4, by omega⟩).trans ?_
  unfold scaleAt
  have e := (starts_even ⟨l.val % 4, by omega⟩).trans (col_even ⟨l.val % 4, by omega⟩)
  refine congrArg (argS m c) ?_
  refine congrArg (ix2 g) (Fin.ext ?_)
  refine (congrArg (l.val / 4 * 8 + ·) e).trans ?_
  dsimp only
  omega

/-- The odd fields' scales at an index, a sixteenth of them. -/
theorem hostSo_at (g : Fin 82) (l : Fin 5184) :
    (V m c main_v28 (ix2 g l) : EReal)
      = scaleAt (argS m c) g ⟨l.val / 4, by omega⟩ ⟨2 * (l.val % 4) + 1, by omega⟩ * Ideal.ofBits .bf16 0x3D80#16 := by
  unfold V V0
  after_reads_at
  refine congrArg (· * Ideal.ofBits .bf16 0x3D80#16) ?_
  refine (gather_at _ _ g ⟨l.val / 4, by omega⟩ ⟨l.val % 4, by omega⟩).trans ?_
  unfold scaleAt
  have e := (starts_odd ⟨l.val % 4, by omega⟩).trans (col_odd ⟨l.val % 4, by omega⟩)
  refine congrArg (argS m c) ?_
  refine congrArg (ix2 g) (Fin.ext ?_)
  refine (congrArg (l.val / 4 * 8 + ·) e).trans ?_
  dsimp only
  omega

end Cert.KernelIdeal.Blocks
-- ==== Proof.Value.Table.lean ====
module

public import proofs.«01_k».proof.Proof.Value.Host
public import Idealize.ShloMosaic.Lib.Pointwise
public import Idealize.ShloMosaic.Lib.StableHlo.ReadAt

/-! The rows of the table: the first two hold the zero points of the even and of the odd fields, the last two the scales.
In the tail, the last 128 columns, the even and the odd halves share the first and the third row. -/

@[expose] public section

set_option maxRecDepth 16384

noncomputable section

namespace Cert.KernelIdeal.Blocks

open Cert.KernelIdeal Cert.KernelIdeal.Gen Cert.Words Cert.Spec
open Idealize.ShloMosaic Idealize.ShloMosaic.TcCoe

variable (m : (ℓ : Loc nD τ sig) → Buf (Elt Ideal) ℓ) (c : Dev nD)

set_option maxHeartbeats 1000000 in
/-- The first row of the table, before its tail: the even zero points. -/
theorem hostT_0 (g : Fin 82) (l : Fin 5248) (hl : l.val < 5120) :
    (V m c main_v103 (ix3 g 0 l) : EReal) = V m c main_v81 (ix2 g ⟨l.val, by omega⟩) := by
  unfold V V0
  after_reads_at
  after_reads_at
  rw [dif_pos hl]
  after_reads_at
  after_reads_at

set_option maxHeartbeats 1000000 in
/-- The second row: the odd zero points. -/
theorem hostT_1 (g : Fin 82) (l : Fin 5248) (hl : l.val < 5120) :
    (V m c main_v103 (ix3 g 1 l) : EReal) = V m c main_v82 (ix2 g ⟨l.val, by omega⟩) := by
  unfold V V0
  after_reads_at
  after_reads_at
  rw [dif_pos hl]
  after_reads_at
  after_reads_at

set_option maxHeartbeats 1000000 in
/-- The third row: the even scales. -/
theorem hostT_2 (g : Fin 82) (l : Fin 5248) (hl : l.val < 5120) :
    (V m c main_v103 (ix3 g 2 l) : EReal) = V m c main_v16 (ix2 g ⟨l.val, by omega⟩) := by
  unfold V V0
  after_reads_at
  after_reads_at
  rw [dif_pos hl]
  after_reads_at

set_option maxHeartbeats 1000000 in
/-- The fourth row: the odd scales. -/
theorem hostT_3 (g : Fin 82) (l : Fin 5248) (hl : l.val < 5120) :
    (V m c main_v103 (ix3 g 3 l) : EReal) = V m c main_v28 (ix2 g ⟨l.val, by omega⟩) := by
  unfold V V0
  after_reads_at
  after_reads_at
  rw [dif_pos hl]
  after_reads_at

set_option maxHeartbeats 1000000 in
/-- The first row's tail, left half: the even zero points. -/
theorem hostT_tail_0_even (g : Fin 82) (l : Fin 5248) (d : Fin 64) (hl : l.val = 5120 + d.val) :
    (V m c main_v103 (ix3 g 0 l) : EReal) = V m c main_v81 (ix2 g ⟨5120 + d.val, by omega⟩) := by
  have hd : (⟨l.val - 5120, by omega⟩ : Fin 64) = d := Fin.ext (by show l.val - 5120 = _; omega)
  unfold V V0
  after_reads_at
  after_reads_at
  rw [dif_neg (by omega), dif_pos (by omega), hd]
  after_reads_at
  after_reads_at

set_option maxHeartbeats 1000000 in
/-- The first row's tail, right half: the odd zero points. -/
theorem hostT_tail_0_odd (g : Fin 82) (l : Fin 5248) (d : Fin 64) (hl : l.val = 5184 + d.val) :
    (V m c main_v103 (ix3 g 0 l) : EReal) = V m c main_v82 (ix2 g ⟨5120 + d.val, by omega⟩) := by
  have hd : (⟨l.val - 5120 - 64, by omega⟩ : Fin 64) = d := Fin.ext (by show l.val - 5120 - 64 = _; omega)
  unfold V V0
  after_reads_at
  after_reads_at
  rw [dif_neg (by omega), dif_neg (by omega), hd]
  after_reads_at
  after_reads_at

set_option maxHeartbeats 1000000 in
/-- The third row's tail, left half: the even scales. -/
theorem hostT_tail_2_even (g : Fin 82) (l : Fin 5248) (d : Fin 64) (hl : l.val = 5120 + d.val) :
    (V m c main_v103 (ix3 g 2 l) : EReal) = V m c main_v16 (ix2 g ⟨5120 + d.val, by omega⟩) := by
  have hd : (⟨l.val - 5120, by omega⟩ : Fin 64) = d := Fin.ext (by show l.val - 5120 = _; omega)
  unfold V V0
  after_reads_at
  after_reads_at
  rw [dif_neg (by omega), dif_pos (by omega), hd]
  after_reads_at

set_option maxHeartbeats 1000000 in
/-- The third row's tail, right half: the odd scales. -/
theorem hostT_tail_2_odd (g : Fin 82) (l : Fin 5248) (d : Fin 64) (hl : l.val = 5184 + d.val) :
    (V m c main_v103 (ix3 g 2 l) : EReal) = V m c main_v28 (ix2 g ⟨5120 + d.val, by omega⟩) := by
  have hd : (⟨l.val - 5120 - 64, by omega⟩ : Fin 64) = d := Fin.ext (by show l.val - 5120 - 64 = _; omega)
  unfold V V0
  after_reads_at
  after_reads_at
  rw [dif_neg (by omega), dif_neg (by omega), hd]
  after_reads_at

end Cert.KernelIdeal.Blocks
-- ==== Proof.Value.Out.lean ====
module

public import proofs.«01_k».proof.Proof.KernelIdeal.Frame
public import proofs.«01_k».proof.Proof.Value.Field
public import Idealize.ShloMosaic.Lib.Pointwise
public import Idealize.ShloMosaic.Lib.StableHlo.ReadAt
public import Idealize.ShloMosaic.Lib.Pipeline.ValueKit.Geometry

/-! What the kernel leaves in its two results, and what the host lines after it make of them, at an index. -/

@[expose] public section

set_option maxRecDepth 16384

noncomputable section

namespace Cert.KernelIdeal.Blocks

open Cert.KernelIdeal Cert.KernelIdeal.Gen Cert.Words Cert.Spec
open Idealize.ShloMosaic Idealize.ShloMosaic.TcCoe

variable (m : (ℓ : Loc nD τ sig) → Buf (Elt Ideal) ℓ) (c : Dev nD)

/-- The table is staged whole. -/
theorem index0_eq : ∀ (t : Fin cfg0.N) (a : Fin 3), win0_0.index t a = 0 := by decide +kernel

/-- So what the kernel reads of it is the whole of it. -/
theorem Tm_eq (t : Fin cfg0.N) : Tm m c t = V m c main_v103 := by
  funext i
  unfold Tm iblk
  blk_simp
  congr 1
  funext a
  refine Fin.ext ?_
  blk_simp
  rw [index0_eq t a, Nat.zero_mul, Nat.zero_add]

/-- The activations are staged whole. -/
theorem index1_eq : ∀ (t : Fin cfg0.N) (a : Fin 3), win0_1.index t a = 0 := by decide +kernel

/-- So what the kernel reads of them is the whole of them. -/
theorem Am_eq (t : Fin cfg0.N) : Am m c t = V m c main_v7 := by
  funext i
  unfold Am iblk
  blk_simp
  congr 1
  funext a
  refine Fin.ext ?_
  blk_simp
  rw [index1_eq t a, Nat.zero_mul, Nat.zero_add]

/-- The first result, as the kernel leaves it. -/
theorem arr2 : (Blocks.dats m 0 c).arrAt 2 cfg0.N = outV (mxEnd (Gm m c) (V m c main_v103) (V m c main_v7)) := by
  rw [← Tm_eq m c ⟨0, by decide⟩, ← Am_eq m c ⟨0, by decide⟩]
  refine (Blocks.dats m 0 c).arrAt_eq_of_after_last 2 ⟨0, by decide⟩ (by decide +kernel) _ ?_
  intro j
  blk_simp
  exact congrFun (after0_2 m c ⟨0, by decide⟩) _

/-- The second result, as the kernel leaves it. -/
theorem arr3 : (Blocks.dats m 0 c).arrAt 3 cfg0.N = tailOutV (mxEnd (Gm m c) (V m c main_v103) (V m c main_v7)) := by
  rw [← Tm_eq m c ⟨0, by decide⟩, ← Am_eq m c ⟨0, by decide⟩]
  refine (Blocks.dats m 0 c).arrAt_eq_of_after_last 3 ⟨0, by decide⟩ (by decide +kernel) _ ?_
  intro j
  blk_simp
  exact congrFun (after0_3 m c ⟨0, by decide⟩) _

variable (D : (p : Fin 1) → (c : Dev nD) → Pipeline.Dat τ (Elt Ideal) Unit ℕ (Pipeline.UD sig nD τ) ℕ (cfgs p) c)

set_option maxHeartbeats 4000000 in
/-- An output column before the last 128 is a column of the kernel's first result: `f` is the field the column holds. -/
theorem out_at (r : Fin 48) (C : Fin 10368) (hC : C.val < 10240) (f : ℕ) (h2 : f < 8) (hf : f = (fieldOf ⟨C.val % 8, by omega⟩).val) :
    (Pipeline.afterTail₀ cfgs D 0 (V0 m) [hostOps1] c main_v161 (ix3 r 0 C) : EReal)
      = (D 0 c).arrAt 2 cfg0.N (ix2 r ⟨C.val / 256 * 256 + f % 2 * 128 + C.val / 8 % 32 * 4 + f / 2, by omega⟩) := by
  have h8 := field_cases_val _ f hf
  simp only at h8
  refine Eq.trans ?_ (congrFun (Pipeline.withArrays_arr spec0 (by decide) c (V0 m c) (fun w => (D 0 c).arrAt w (cfgs 0).N) 2) _)
  unfold Pipeline.afterTail₀
  after_reads_at
  rw [dif_pos hC]
  after_reads_at
  rcases h8 with ⟨h, rfl⟩ | ⟨h, rfl⟩ | ⟨h, rfl⟩ | ⟨h, rfl⟩ | ⟨h, rfl⟩ | ⟨h, rfl⟩ | ⟨h, rfl⟩ | ⟨h, rfl⟩
  all_goals
    repeat (first | rw [dif_pos (by omega)] | rw [dif_neg (by omega)])
    after_reads_at

set_option maxHeartbeats 4000000 in
/-- One of the last 128 output columns is a column of the kernel's second result. -/
theorem out_tail_at (r : Fin 48) (C : Fin 10368) (w : Fin 128) (hC : C.val = 10240 + w.val) (f : ℕ) (h2 : f < 8)
    (hf : f = (fieldOf ⟨C.val % 8, by omega⟩).val) :
    (Pipeline.afterTail₀ cfgs D 0 (V0 m) [hostOps1] c main_v161 (ix3 r 0 C) : EReal)
      = (D 0 c).arrAt 3 cfg0.N (ix2 r ⟨f % 2 * 64 + w.val / 8 * 4 + f / 2, by omega⟩) := by
  have hd : (⟨C.val - 10240, by omega⟩ : Fin 128) = w := Fin.ext (by show C.val - 10240 = _; omega)
  have h8 := field_cases_val _ f hf
  simp only at h8
  refine Eq.trans ?_ (congrFun (Pipeline.withArrays_arr spec0 (by decide) c (V0 m c) (fun w => (D 0 c).arrAt w (cfgs 0).N) 3) _)
  unfold Pipeline.afterTail₀
  after_reads_at
  rw [dif_neg (by omega), hd]
  after_reads_at
  rcases h8 with ⟨h, rfl⟩ | ⟨h, rfl⟩ | ⟨h, rfl⟩ | ⟨h, rfl⟩ | ⟨h, rfl⟩ | ⟨h, rfl⟩ | ⟨h, rfl⟩ | ⟨h, rfl⟩
  all_goals
    repeat (first | rw [dif_pos (by omega)] | rw [dif_neg (by omega)])
    after_reads_at

end Cert.KernelIdeal.Blocks
-- ==== Proof.Value.Result.lean ====
module

public import proofs.«01_k».proof.Proof.Value.Tile
public import proofs.«01_k».proof.Proof.Value.Table
public import proofs.«01_k».proof.Proof.Value.Out

/-! The kernel's result at an index: the product of the scaled activations with the dequantized weights. -/

@[expose] public section

set_option maxRecDepth 16384

noncomputable section

namespace Cert.KernelIdeal.Blocks

open Cert.KernelIdeal Cert.KernelIdeal.Gen Cert.Words Cert.Spec
open Idealize.ShloMosaic Idealize.ShloMosaic.TcCoe

variable (m : (ℓ : Loc nD τ sig) → Buf (Elt Ideal) ℓ) (c : Dev nD)

/-- The group of row `256 t + k`. -/
theorem grp_eq (t : Fin 41) (k : Fin 256) : grp ⟨256 * t.val + k.val, by omega⟩ = ⟨2 * t.val + k.val / 128, by omega⟩ :=
  Fin.ext (by show (256 * t.val + k.val) / 128 = 2 * t.val + k.val / 128; omega)

/-- An even field of a weight word, dequantized by the host's zero points and scales. -/
theorem even_at (t : Fin 41) (k : Fin 256) (l : Fin 5184) (w : Fin 1296) (n : Fin 8) (hw : w.val = l.val / 4) (hn : n.val = 2 * (l.val % 4)) :
    (fieldE (nib (V m c main_v104 (ix2 w ⟨256 * t.val + k.val, by omega⟩)) n.val)
        - (V m c main_v81 (ix2 ⟨2 * t.val + k.val / 128, by omega⟩ l) : EReal))
        * (V m c main_v16 (ix2 ⟨2 * t.val + k.val / 128, by omega⟩ l) : EReal)
      = weightAt (argW m c) (argZ m c) (argS m c) ⟨256 * t.val + k.val, by omega⟩ w n := by
  have b1 : l.val / 4 < 1296 := by omega
  have b2 : 2 * (l.val % 4) < 8 := by omega
  obtain rfl : w = ⟨l.val / 4, b1⟩ := Fin.ext hw
  obtain rfl : n = ⟨2 * (l.val % 4), b2⟩ := Fin.ext hn
  rw [hostZe_at, hostSe_at, hostW_at]
  unfold weightAt
  rw [grp_eq]

/-- An odd field: the factor sixteen of the field and of its zero point is taken back by the scale. -/
theorem odd_at (t : Fin 41) (k : Fin 256) (l : Fin 5184) (w : Fin 1296) (n : Fin 8) (hw : w.val = l.val / 4) (hn : n.val = 2 * (l.val % 4) + 1) :
    (fieldE (16 * nib (V m c main_v104 (ix2 w ⟨256 * t.val + k.val, by omega⟩)) n.val)
        - (V m c main_v82 (ix2 ⟨2 * t.val + k.val / 128, by omega⟩ l) : EReal))
        * (V m c main_v28 (ix2 ⟨2 * t.val + k.val / 128, by omega⟩ l) : EReal)
      = weightAt (argW m c) (argZ m c) (argS m c) ⟨256 * t.val + k.val, by omega⟩ w n := by
  have b1 : l.val / 4 < 1296 := by omega
  have b2 : 2 * (l.val % 4) + 1 < 8 := by omega
  obtain rfl : w = ⟨l.val / 4, b1⟩ := Fin.ext hw
  obtain rfl : n = ⟨2 * (l.val % 4) + 1, b2⟩ := Fin.ext hn
  rw [hostZo_at, hostSo_at, hostW_at, odd_field]
  unfold weightAt
  rw [grp_eq]

/-- An entry of a dequantized tile is the weight of its word and field. -/
theorem tile_weight (t : Fin 41) (b : ℕ) (hb : b < 40) (k C : Fin 256) (w : Fin 1296) (n : Fin 8)
    (hw : w.val = 32 * b + C.val % 128 / 4) (hn : n.val = 2 * (C.val % 4) + C.val / 128) :
    (tileV (V m c main_v103) (oldV (V m c main_v104) t.val) (tripOf t) b hb (ix2 k C) : EReal)
      = weightAt (argW m c) (argZ m c) (argS m c) ⟨256 * t.val + k.val, by omega⟩ w n := by
  by_cases hC : C.val < 128
  · have b1 : 32 * b + C.val / 4 < 1296 := by omega
    have b2 : 2 * (C.val % 4) < 8 := by omega
    rw [Nat.mod_eq_of_lt hC] at hw
    obtain rfl : w = ⟨32 * b + C.val / 4, b1⟩ := Fin.ext (by show w.val = 32 * b + C.val / 4; omega)
    obtain rfl : n = ⟨2 * (C.val % 4), b2⟩ := Fin.ext (by show n.val = 2 * (C.val % 4); omega)
    rw [tileV_left _ _ t b hb k C hC, hostT_0 m c _ _ (by show 128 * b + C.val < 5120; omega),
      hostT_2 m c _ _ (by show 128 * b + C.val < 5120; omega)]
    exact even_at m c t k ⟨128 * b + C.val, by omega⟩ ⟨32 * b + C.val / 4, by omega⟩ ⟨2 * (C.val % 4), by omega⟩
      (by show 32 * b + C.val / 4 = (128 * b + C.val) / 4; omega) (by show 2 * (C.val % 4) = 2 * ((128 * b + C.val) % 4); omega)
  · have b1 : 32 * b + (C.val - 128) / 4 < 1296 := by omega
    have b2 : 2 * ((C.val - 128) % 4) + 1 < 8 := by omega
    rw [show C.val % 128 = C.val - 128 from by omega] at hw
    rw [show C.val / 128 = 1 from by omega, show C.val % 4 = (C.val - 128) % 4 from by omega] at hn
    obtain rfl : w = ⟨32 * b + (C.val - 128) / 4, b1⟩ := Fin.ext (by show w.val = 32 * b + (C.val - 128) / 4; omega)
    obtain rfl : n = ⟨2 * ((C.val - 128) % 4) + 1, b2⟩ := Fin.ext hn
    rw [tileV_right _ _ t b hb k C hC, hostT_1 m c _ _ (by show 128 * b + (C.val - 128) < 5120; omega),
      hostT_3 m c _ _ (by show 128 * b + (C.val - 128) < 5120; omega)]
    exact odd_at m c t k ⟨128 * b + (C.val - 128), by omega⟩ ⟨32 * b + (C.val - 128) / 4, by omega⟩ ⟨2 * ((C.val - 128) % 4) + 1, by omega⟩
      (by show 32 * b + (C.val - 128) / 4 = (128 * b + (C.val - 128)) / 4; omega)
      (by show 2 * ((C.val - 128) % 4) + 1 = 2 * ((128 * b + (C.val - 128)) % 4) + 1; omega)

/-- An entry of the dequantized tail is the weight of its word and field. -/
theorem tail_weight (t : Fin 41) (k C : Fin 256) (hC : C.val < 128) (w : Fin 1296) (n : Fin 8)
    (hw : w.val = 1280 + C.val % 64 / 4) (hn : n.val = 2 * (C.val % 4) + C.val / 64) :
    (tileTailV (V m c main_v103) (oldV (V m c main_v104) t.val) (tripOf t) (ix2 k C) : EReal)
      = weightAt (argW m c) (argZ m c) (argS m c) ⟨256 * t.val + k.val, by omega⟩ w n := by
  have b1 : 1280 + C.val % 64 / 4 < 1296 := by omega
  have b2 : 2 * (C.val % 4) + 1 < 8 := by omega
  obtain rfl : w = ⟨1280 + C.val % 64 / 4, b1⟩ := Fin.ext hw
  rw [tileTailV_at _ _ t k C hC]
  by_cases h : C.val < 64
  · obtain rfl : n = ⟨2 * (C.val % 4), Nat.lt_of_succ_lt b2⟩ := Fin.ext (by show n.val = 2 * (C.val % 4); omega)
    rw [if_pos h, hostT_tail_0_even m c _ _ ⟨C.val, h⟩ rfl, hostT_tail_2_even m c _ _ ⟨C.val, h⟩ rfl]
    exact even_at m c t k ⟨5120 + C.val, by omega⟩ ⟨1280 + C.val % 64 / 4, by omega⟩ ⟨2 * (C.val % 4), by omega⟩
      (by show 1280 + C.val % 64 / 4 = (5120 + C.val) / 4; omega) (by show 2 * (C.val % 4) = 2 * ((5120 + C.val) % 4); omega)
  · obtain rfl : n = ⟨2 * (C.val % 4) + 1, b2⟩ := Fin.ext (by show n.val = 2 * (C.val % 4) + 1; omega)
    rw [if_neg h, hostT_tail_0_odd m c _ _ ⟨C.val - 64, by omega⟩ (by show 5120 + C.val = 5184 + (C.val - 64); omega),
      hostT_tail_2_odd m c _ _ ⟨C.val - 64, by omega⟩ (by show 5120 + C.val = 5184 + (C.val - 64); omega)]
    exact odd_at m c t k ⟨5120 + (C.val - 64), by omega⟩ ⟨1280 + C.val % 64 / 4, by omega⟩ ⟨2 * (C.val % 4) + 1, by omega⟩
      (by show 1280 + C.val % 64 / 4 = (5120 + (C.val - 64)) / 4; omega)
      (by show 2 * (C.val % 4) + 1 = 2 * ((5120 + (C.val - 64)) % 4) + 1; omega)

/-- A column of a block, and the word and the field it holds. -/
theorem block_col (h w i : ℕ) (hh : h < 2) (hw : w < 32) (hi : i < 4) :
    (h * 128 + w * 4 + i) % 128 / 4 = w ∧ 2 * ((h * 128 + w * 4 + i) % 4) + (h * 128 + w * 4 + i) / 128 = 2 * i + h := by
  obtain rfl | rfl : h = 0 ∨ h = 1 := by omega
  all_goals constructor <;> omega

/-- The same in the tail. -/
theorem tail_col (h w i : ℕ) (hh : h < 2) (hw : w < 16) (hi : i < 4) :
    (h * 64 + w * 4 + i) % 64 / 4 = w ∧ 2 * ((h * 64 + w * 4 + i) % 4) + (h * 64 + w * 4 + i) / 64 = 2 * i + h := by
  obtain rfl | rfl : h = 0 ∨ h = 1 := by omega
  all_goals constructor <;> omega

/-- The block of a column of the first result, and the column within it. -/
theorem col_block (b h w i : ℕ) (hh : h < 2) (hw : w < 32) (hi : i < 4) :
    (b * 256 + h * 128 + w * 4 + i) / 256 = b ∧ (b * 256 + h * 128 + w * 4 + i) % 256 = h * 128 + w * 4 + i := by
  constructor <;> omega

/-- Sums over the 41 trips, once their tiles hold the weights of one word's field. -/
theorem trips_sum (r : Fin 48) (C : Fin 256) (w : Fin 1296) (n : Fin 8) (v : Fin 41 → FVec Ideal (Mxu.STile 256) .bf16)
    (hv : ∀ (t : Fin 41) (k : Fin 256), (v t (ix2 k C) : EReal) = weightAt (argW m c) (argZ m c) (argS m c) ⟨256 * t.val + k.val, by omega⟩ w n) :
    ∑ t : Fin 41, dotV (k0_pay5 (slabV (V m c main_v7) (tripOf t))) (v t) r C
      = prodAt (argX m c) (argW m c) (argZ m c) (argS m c) (argA m c) r w n := by
  rw [prodAt_blocks]
  refine Finset.sum_congr rfl fun t _ => ?_
  unfold dotV
  refine Finset.sum_congr rfl fun k _ => ?_
  rw [pay5_at, hostX_at, hv t k]

/-- The kernel's result at an index: column `C` holds field `fieldOf (C % 8)` of word `C / 8`. -/
theorem result_at (r : Fin 48) (C : Fin 10368) :
    (Pipeline.afterTail₀ cfgs (dats m) 0 (V0 m) [hostOps1] c main_v161 (ix3 r 0 C) : EReal)
      = prodAt (argX m c) (argW m c) (argZ m c) (argS m c) (argA m c) r ⟨C.val / 8, by omega⟩ (fieldOf ⟨C.val % 8, by omega⟩) := by
  obtain ⟨n, hn⟩ : ∃ n : Fin 8, n = fieldOf ⟨C.val % 8, by omega⟩ := ⟨_, rfl⟩
  have h2 := n.isLt
  rw [← hn]
  by_cases hC : C.val < 10240
  · have cb := col_block (C.val / 256) (n.val % 2) (C.val / 8 % 32) (n.val / 2) (Nat.mod_lt _ (by decide)) (Nat.mod_lt _ (by decide)) (by omega)
    have bc := block_col (n.val % 2) (C.val / 8 % 32) (n.val / 2) (Nat.mod_lt _ (by decide)) (Nat.mod_lt _ (by decide)) (by omega)
    rw [out_at m c (dats m) r C hC n.val h2 (congrArg Fin.val hn), arr2]
    refine (outV_sum _ _ _ r ⟨C.val / 256 * 256 + n.val % 2 * 128 + C.val / 8 % 32 * 4 + n.val / 2, by omega⟩
      (by show (C.val / 256 * 256 + n.val % 2 * 128 + C.val / 8 % 32 * 4 + n.val / 2) / 256 < 40; omega)).trans ?_
    refine trips_sum m c r _ ⟨C.val / 8, by omega⟩ n _ fun t k => ?_
    refine tile_weight m c t _ _ k _ _ _ ?_ ?_
    · show C.val / 8 = 32 * ((C.val / 256 * 256 + n.val % 2 * 128 + C.val / 8 % 32 * 4 + n.val / 2) / 256)
        + (C.val / 256 * 256 + n.val % 2 * 128 + C.val / 8 % 32 * 4 + n.val / 2) % 256 % 128 / 4
      rw [cb.1, cb.2, bc.1]
      omega
    · show n.val = 2 * ((C.val / 256 * 256 + n.val % 2 * 128 + C.val / 8 % 32 * 4 + n.val / 2) % 256 % 4)
        + (C.val / 256 * 256 + n.val % 2 * 128 + C.val / 8 % 32 * 4 + n.val / 2) % 256 / 128
      rw [cb.2, bc.2]
      omega
  · have tc := tail_col (n.val % 2) ((C.val - 10240) / 8) (n.val / 2) (Nat.mod_lt _ (by decide)) (by omega) (by omega)
    rw [out_tail_at m c (dats m) r C ⟨C.val - 10240, by omega⟩ (by show C.val = 10240 + (C.val - 10240); omega) n.val h2 (congrArg Fin.val hn), arr3]
    refine (tailOutV_sum _ _ _ r ⟨n.val % 2 * 64 + (C.val - 10240) / 8 * 4 + n.val / 2, by omega⟩).trans ?_
    refine trips_sum m c r _ ⟨C.val / 8, by omega⟩ n _ fun t k => ?_
    refine tail_weight m c t k _ (by show n.val % 2 * 64 + (C.val - 10240) / 8 * 4 + n.val / 2 < 128; omega) _ _ ?_ ?_
    · show C.val / 8 = 1280 + (n.val % 2 * 64 + (C.val - 10240) / 8 * 4 + n.val / 2) % 64 / 4
      rw [tc.1]
      omega
    · show n.val = 2 * ((n.val % 2 * 64 + (C.val - 10240) / 8 * 4 + n.val / 2) % 4)
        + (n.val % 2 * 64 + (C.val - 10240) / 8 * 4 + n.val / 2) / 64
      rw [tc.2]
      omega

end Cert.KernelIdeal.Blocks
-- ==== Proof.Value.Ref.lean ====
module

public import proofs.«01_k».proof.Proof.Gen.ReferenceIdeal.Read
public import proofs.«01_k».proof.Proof.Value.Field
public import Idealize.ShloMosaic.Lib.Pointwise

/-! The reference at an index. -/

@[expose] public section

set_option maxRecDepth 16384

noncomputable section

namespace Cert.ReferenceIdeal.Value

open Cert.ReferenceIdeal Cert.ReferenceIdeal.Gen Cert.ReferenceIdeal.Read Cert.Words Cert.Spec
open Idealize.ShloMosaic Idealize.ShloMosaic.TcCoe

/-- The reference's weights of one field: `s` is the field's shift, `j` its column within a word. -/
def refWeight (s : BitVec 32) (j : ℕ) (h : S82x10368.SlicesBy (![0, j] : Fin 2 → Nat) ![1, 8] S82x1296)
    (x1 : S10496x1296.Idx → BitVec 32) (x2 : S82x1296.Idx → BitVec 32) (x3 : S82x10368.Idx → EReal) : S10496x1296.Idx → EReal :=
  shapeCast S10496x1296
    (mulf (F := Ideal) (φ := .bf16)
      (subf (F := Ideal) (φ := .bf16)
        (shapeCast S82x128x1296
          (sitofp (F := Ideal) .bf16 (andi (Host.shrsi x1 (broadcastInDim S10496x1296 ![] bcast_S_S10496x1296 (constantI S_ 32 s)))
            (broadcastInDim S10496x1296 ![] bcast_S_S10496x1296 (constantI S_ 32 15#32))))
          shapeCasts_S10496x1296_S82x128x1296)
        (broadcastInDim S82x128x1296 ![0, 1, 2] bcast_S82x1x1296_S82x128x1296_0_1_2
          (broadcastInDim S82x1x1296 ![0, 2] bcast_S82x1296_S82x1x1296_0_2
            (sitofp (F := Ideal) .bf16 (andi (Host.shrsi x2 (broadcastInDim S82x1296 ![] bcast_S_S82x1296 (constantI S_ 32 s)))
              (broadcastInDim S82x1296 ![] bcast_S_S82x1296 (constantI S_ 32 15#32)))))))
      (broadcastInDim S82x128x1296 ![0, 1, 2] bcast_S82x1x1296_S82x128x1296_0_1_2
        (broadcastInDim S82x1x1296 ![0, 2] bcast_S82x1296_S82x1x1296_0_2 (Host.slice S82x1296 ![0, j] ![1, 8] x3 h))))
    shapeCasts_S82x128x1296_S10496x1296

set_option maxHeartbeats 1000000 in
/-- The reference's weights at an index. -/
theorem refWeight_at (n j : Fin 8) (h : S82x10368.SlicesBy (![0, j.val] : Fin 2 → Nat) ![1, 8] S82x1296) (hj : colOf n = j)
    (x1 : S10496x1296.Idx → BitVec 32) (x2 : S82x1296.Idx → BitVec 32) (x3 : S82x10368.Idx → EReal) (k : Fin 10496) (c : Fin 1296) :
    refWeight (BitVec.ofNat 32 (4 * n.val)) j.val h x1 x2 x3 (ix2 k c) = weightAt x1 x2 x3 k c n := by
  subst hj
  pointwise [refWeight]
  unfold weightAt scaleAt
  rw [shifted_field _ n.val n.isLt, shifted_field _ n.val n.isLt]
  simp only [Nat.add_comm (colOf n).val]
  rfl

variable (x0 : S48x1x10496.Idx → EReal) (x1 : S10496x1296.Idx → BitVec 32) (x2 : S82x1296.Idx → BitVec 32)
  (x3 : S82x10368.Idx → EReal) (x4 : S10496.Idx → EReal)

/-- The reference's product over one field. -/
theorem refProd_at (n j : Fin 8) (h : S82x10368.SlicesBy (![0, j.val] : Fin 2 → Nat) ![1, 8] S82x1296) (hj : colOf n = j)
    (r : Fin 48) (z : Fin 1) (c : Fin 1296) :
    (Host.dotGeneral (F := Ideal) (φ₁ := .bf16) (φ₂ := .bf16) dot_S48x1x10496_S10496x1296_S48x1x1296_2_0_01_1_n_n none (val_main_v5 (F := Ideal) x0 x4)
      (refWeight (BitVec.ofNat 32 (4 * n.val)) j.val h x1 x2 x3) (ix3 r z c) : EReal) = prodAt x0 x1 x2 x3 x4 r c n := by
  have hz : z = 0 := Subsingleton.elim _ _
  subst hz
  pointwise [val_main_v5, val_main_v4, val_main_v3, val_main_v2, val_main_v1, val_main_v0]
  unfold prodAt actAt
  simp only [refWeight_at n j h hj]

section
variable (r : Fin 48) (z : Fin 1) (c : Fin 1296)

/-- The product over field 0. -/
theorem v25_at : val_main_v25 (F := Ideal) x0 x1 x2 x3 x4 (ix3 r z c) = prodAt x0 x1 x2 x3 x4 r c 0 :=
  refProd_at x0 x1 x2 x3 x4 0 0 slicesBy_S82x10368_S82x1296_0s1_0s8 rfl r z c
/-- The product over field 1. -/
theorem v45_at : val_main_v45 (F := Ideal) x0 x1 x2 x3 x4 (ix3 r z c) = prodAt x0 x1 x2 x3 x4 r c 1 :=
  refProd_at x0 x1 x2 x3 x4 1 2 slicesBy_S82x10368_S82x1296_0s1_2s8 rfl r z c
/-- The product over field 2. -/
theorem v65_at : val_main_v65 (F := Ideal) x0 x1 x2 x3 x4 (ix3 r z c) = prodAt x0 x1 x2 x3 x4 r c 2 :=
  refProd_at x0 x1 x2 x3 x4 2 4 slicesBy_S82x10368_S82x1296_0s1_4s8 rfl r z c
/-- The product over field 3. -/
theorem v85_at : val_main_v85 (F := Ideal) x0 x1 x2 x3 x4 (ix3 r z c) = prodAt x0 x1 x2 x3 x4 r c 3 :=
  refProd_at x0 x1 x2 x3 x4 3 6 slicesBy_S82x10368_S82x1296_0s1_6s8 rfl r z c
/-- The product over field 4. -/
theorem v105_at : val_main_v105 (F := Ideal) x0 x1 x2 x3 x4 (ix3 r z c) = prodAt x0 x1 x2 x3 x4 r c 4 :=
  refProd_at x0 x1 x2 x3 x4 4 1 slicesBy_S82x10368_S82x1296_0s1_1s8 rfl r z c
/-- The product over field 5. -/
theorem v125_at : val_main_v125 (F := Ideal) x0 x1 x2 x3 x4 (ix3 r z c) = prodAt x0 x1 x2 x3 x4 r c 5 :=
  refProd_at x0 x1 x2 x3 x4 5 3 slicesBy_S82x10368_S82x1296_0s1_3s8 rfl r z c
/-- The product over field 6. -/
theorem v145_at : val_main_v145 (F := Ideal) x0 x1 x2 x3 x4 (ix3 r z c) = prodAt x0 x1 x2 x3 x4 r c 6 :=
  refProd_at x0 x1 x2 x3 x4 6 5 slicesBy_S82x10368_S82x1296_0s1_5s8 rfl r z c
/-- The product over field 7. -/
theorem v165_at : val_main_v165 (F := Ideal) x0 x1 x2 x3 x4 (ix3 r z c) = prodAt x0 x1 x2 x3 x4 r c 7 :=
  refProd_at x0 x1 x2 x3 x4 7 7 slicesBy_S82x10368_S82x1296_0s1_7s8 rfl r z c

end

set_option maxHeartbeats 1000000 in
/-- The reference's result at an index: column `C` holds field `fieldOf (C % 8)` of word `C / 8`. -/
theorem ref_at (r : Fin 48) (C : Fin 10368) :
    (val_main_v176 (F := Ideal) x0 x1 x2 x3 x4 (ix3 r 0 C) : EReal)
      = prodAt x0 x1 x2 x3 x4 r ⟨C.val / 8, by omega⟩ (fieldOf ⟨C.val % 8, by omega⟩) := by
  have h8 := field_cases ⟨C.val % 8, by omega⟩
  simp only at h8
  pointwise [val_main_v176, val_main_v175, val_main_v174]
  rcases h8 with ⟨h, e⟩ | ⟨h, e⟩ | ⟨h, e⟩ | ⟨h, e⟩ | ⟨h, e⟩ | ⟨h, e⟩ | ⟨h, e⟩ | ⟨h, e⟩
  all_goals
    rw [e]
    repeat (first | rw [dif_pos (by omega)] | rw [dif_neg (by omega)])
    pointwise [val_main_v166, val_main_v167, val_main_v168, val_main_v169, val_main_v170, val_main_v171, val_main_v172, val_main_v173]
    simp only [v25_at, v45_at, v65_at, v85_at, v105_at, v125_at, v145_at, v165_at]

end Cert.ReferenceIdeal.Value
-- ==== Proof.Value.Algebraic.lean ====
module

public import proofs.«01_k».proof.Defs
public import proofs.«01_k».proof.Proof.Value.Result
public import proofs.«01_k».proof.Proof.Value.Ref
public import proofs.«01_k».proof.Proof.Gen.KernelIdeal
public import proofs.«01_k».proof.Proof.Gen.ReferenceIdeal

/-! The kernel and the reference end with equal results over the extended reals. -/

@[expose] public section

set_option maxRecDepth 16384

noncomputable section

namespace Cert.Proof

open Idealize.ShloMosaic Idealize.ShloMosaic.TcCoe Idealize.SL.Sem

section
open Cert.KernelIdeal Cert.KernelIdeal.Gen Cert.KernelIdeal.Blocks

/-- The result: row `r`, column `C` is the product's entry for field `fieldOf (C % 8)` of word `C / 8`. -/
def outAt (x : S48x1x10496.Idx → EReal) (qw : S10496x1296.Idx → BitVec 32) (qz : S82x1296.Idx → BitVec 32) (s : S82x10368.Idx → EReal)
    (a : S10496.Idx → EReal) : S48x1x10368.Idx → EReal := fun i =>
  Spec.prodAt x qw qz s a (i 0) ⟨(i 2).val / 8, by have h : (i 2).val < 10368 := (i 2).isLt; omega⟩
    (Spec.fieldOf ⟨(i 2).val % 8, Nat.mod_lt _ (by decide)⟩)

/-- An index of the result by its row and its column. -/
theorem idx_eq (i : S48x1x10368.Idx) : i = ix3 (i 0) 0 (i 2) := by
  funext a
  match a with
  | ⟨0, _⟩ => rfl
  | ⟨1, _⟩ => exact Subsingleton.elim (α := Fin 1) _ _
  | ⟨2, _⟩ => rfl

/-- The kernel's run: the result, and unchanged arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v161) = outAt (argX m c) (argW m c) (argZ m c) (argS m c) (argA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have keep : ∀ (c : Dev nD) (b : Ref sig .tc), b ∈ [main_arg0, main_arg1, main_arg2, main_arg3, main_arg4] →
      (∀ w, Pipeline.arrRef spec0 w ≠ b) → Gen.V m c b = m ((c : Thread nD τ).loc b) →
      Pipeline.afterTail₀ cfgs (dats m) 0 (V0 m) [hostOps1] c b = m ((c : Thread nD τ).loc b) := fun c b hb hw hV =>
    tail_eq m (dats m) c b (writes_apart _ fun op ho => writes_args op ho _ hb) hw hV
  refine (θ_run defs _ _).mono (fun r h c => ?_) (run_main m g)
  have rest := fun b hb => (h.1 c).2 b hb
  refine ⟨(rest main_v161 (Pipeline.mem_restRefs_of main_v161 (by decide) (by decide))).trans ?_,
    (rest main_arg0 (Pipeline.mem_restRefs_of main_arg0 (by decide) (by decide))).trans (keep c main_arg0 (by decide) (by decide) (V_main_arg0 m c)),
    (rest main_arg1 (Pipeline.mem_restRefs_of main_arg1 (by decide) (by decide))).trans (keep c main_arg1 (by decide) (by decide) (V_main_arg1 m c)),
    (rest main_arg2 (Pipeline.mem_restRefs_of main_arg2 (by decide) (by decide))).trans (keep c main_arg2 (by decide) (by decide) (V_main_arg2 m c)),
    (rest main_arg3 (Pipeline.mem_restRefs_of main_arg3 (by decide) (by decide))).trans (keep c main_arg3 (by decide) (by decide) (V_main_arg3 m c)),
    (rest main_arg4 (Pipeline.mem_restRefs_of main_arg4 (by decide) (by decide))).trans (keep c main_arg4 (by decide) (by decide) (V_main_arg4 m c))⟩
  funext i
  rw [idx_eq i]
  exact result_at m c (i 0) (i 2)

end

/-- The kernel and the reference, from equal arguments, end with equal results. -/
theorem algebraic : Cert.algebraic_KernelIdeal_ReferenceIdeal := by
  intro m g m' g' _ hargs
  refine ⟨fun c => outAt (Cert.KernelIdeal.Blocks.argX m c) (Cert.KernelIdeal.Blocks.argW m c) (Cert.KernelIdeal.Blocks.argZ m c)
    (Cert.KernelIdeal.Blocks.argS m c) (Cert.KernelIdeal.Blocks.argA m c), kernel_run m g, ?_⟩
  refine (θ_run Cert.ReferenceIdeal.defs _ _).mono (fun r h c => ⟨(h c).1.trans ?_, (h c).2⟩) (Cert.ReferenceIdeal.Value.run m' g')
  refine (Cert.ReferenceIdeal.Read.val_main_v176_eq (StableHlo.launchContents m' c)).trans ?_
  obtain ⟨h0, h1, h2, h3, h4⟩ := hargs c
  rw [show StableHlo.launchContents m' c (Proc.devRef .tc Cert.ReferenceIdeal.main_arg0) = Cert.KernelIdeal.Blocks.argX m c from h0,
    show StableHlo.launchContents m' c (Proc.devRef .tc Cert.ReferenceIdeal.main_arg1) = Cert.KernelIdeal.Blocks.argW m c from h1,
    show StableHlo.launchContents m' c (Proc.devRef .tc Cert.ReferenceIdeal.main_arg2) = Cert.KernelIdeal.Blocks.argZ m c from h2,
    show StableHlo.launchContents m' c (Proc.devRef .tc Cert.ReferenceIdeal.main_arg3) = Cert.KernelIdeal.Blocks.argS m c from h3,
    show StableHlo.launchContents m' c (Proc.devRef .tc Cert.ReferenceIdeal.main_arg4) = Cert.KernelIdeal.Blocks.argA m c from h4]
  funext i
  rw [idx_eq i]
  exact Cert.ReferenceIdeal.Value.ref_at _ _ _ _ _ (i 0) (i 2)

end Cert.Proof

end
-- ==== Proof.lean ====
module

public import proofs.«01_k».proof.Defs
public import proofs.«01_k».proof.Proof.Kernel.Frame
public import proofs.«01_k».proof.Proof.KernelIdeal.Frame
public import proofs.«01_k».proof.Proof.Value.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.SL.Sem

/-- The reference leaves its arguments as they were: its run (`Cert.ReferenceIdeal.Value.run`) without the result. It declares no
    semaphore, so every counter of the machine is zero. -/
theorem quiescent_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Everything the certificate states. -/
theorem claim : Cert.Claim :=
  ⟨Cert.Kernel.Gen.facts, Cert.KernelIdeal.Gen.facts, Cert.ReferenceIdeal.Gen.facts,
    fun m g _ => Cert.Kernel.Blocks.frame m g, fun m g _ => Cert.KernelIdeal.Blocks.frame m g,
    quiescent_ReferenceIdeal, trivial, algebraic⟩

end Cert.Proof

end
